-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_v7) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v7) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg3) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v13) = v2 c
          ∧ r.2.mem ((c.tc : Thread Cert.Reference22Ideal.nD Cert.Reference22Ideal.τ).loc Cert.Reference22Ideal.main_v19) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x3072 : Shape := ⟨2, ![4096, 3072]⟩
abbrev S4096x1024 : Shape := ⟨2, ![4096, 1024]⟩
abbrev S4096x6656 : Shape := ⟨2, ![4096, 6656]⟩
abbrev S_ : Shape := ⟨0, ![]⟩
abbrev S4096x4096 : Shape := ⟨2, ![4096, 4096]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)
  concatenates_S4096x3072_S4096x1024_S4096x4096_d1 : Shape.Concatenates [S4096x3072, S4096x1024] S4096x4096 1

variable [Facts]

def fn {F : FTy → Type} [FloatOps F] (main_arg0 : FVec F S4096x3072 .bf16) (main_arg1 : FVec F S4096x1024 .bf16) (main_arg2 : FVec F S4096x6656 .bf16) : IVec S4096x4096 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : IVec S4096x4096 1 := (fun a b => concatenate S4096x4096 1 [⟨S4096x3072, a⟩, ⟨S4096x1024, b⟩] concatenates_S4096x3072_S4096x1024_S4096x4096_d1) main_v2 main_v5
  main_v6
-- ==== Kernel.lean ====
abbrev S4096x3072 : Shape := ⟨2, ![4096, 3072]⟩
abbrev S4096x1024 : Shape := ⟨2, ![4096, 1024]⟩
abbrev S4096x6656 : Shape := ⟨2, ![4096, 6656]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S1x8x4096x4096 : Shape := ⟨4, ![1, 8, 4096, 4096]⟩
abbrev S2x8x4096x4096 : Shape := ⟨4, ![2, 8, 4096, 4096]⟩
abbrev S256x512 : Shape := ⟨2, ![256, 512]⟩
abbrev S4096x512 : Shape := ⟨2, ![4096, 512]⟩
abbrev S2x4x2x256x256 : Shape := ⟨5, ![2, 4, 2, 256, 256]⟩
abbrev S2 : Shape := ⟨1, ![2]⟩
abbrev S2x4096x512 : Shape := ⟨3, ![2, 4096, 512]⟩
abbrev S3 : Shape := ⟨1, ![3]⟩
abbrev S256x128 : Shape := ⟨2, ![256, 128]⟩
abbrev S256x256 : Shape := ⟨2, ![256, 256]⟩
abbrev S1 : Shape := ⟨1, ![1]⟩
abbrev S1x1x1x256x256 : Shape := ⟨5, ![1, 1, 1, 256, 256]⟩
abbrev S1x1x256x256 : Shape := ⟨4, ![1, 1, 256, 256]⟩
abbrev S256x1 : Shape := ⟨2, ![256, 1]⟩
abbrev S256 : Shape := ⟨1, ![256]⟩
abbrev S1x4096x512 : Shape := ⟨3, ![1, 4096, 512]⟩

abbrev nBuf : Space → Nat
  | .hbm => 96
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x6656, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .bf16⟩
  | .hbm, ⟨8, _⟩ => ⟨S4096x1024, .f32⟩
  | .hbm, ⟨9, _⟩ => ⟨S4096x8x128, .f32⟩
  | .hbm, ⟨10, _⟩ => ⟨S8x4096x128, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .i1⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S_, .f32⟩
  | .hbm, ⟨71, _⟩ => ⟨S8x4096x4096, .i1⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S8x4096x4096, .i1⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S1x8x4096x4096, .f32⟩
  | .hbm, ⟨92, _⟩ => ⟨S1x8x4096x4096, .f32⟩
  | .hbm, ⟨93, _⟩ => ⟨S2x8x4096x4096, .f32⟩
  | .hbm, ⟨94, _⟩ => ⟨S2x8x4096x4096, .bf16⟩
  | .hbm, ⟨95, _⟩ => ⟨S4096x6656, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S4096x512, .f32⟩
  | .local _ .vmem, ⟨7, _⟩ => ⟨S4096x512, .f32⟩
  | .local _ .vmem, ⟨8, _⟩ => ⟨S2x4x2x256x256, .bf16⟩
  | .local _ .vmem, ⟨9, _⟩ => ⟨S256x512, .bf16⟩
  | .local _ .vmem, ⟨10, _⟩ => ⟨S2x4096x512, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_call2_call0_cst : Ref sig .tc := ⟨.hbm, 46, rfl⟩
abbrev main_call2_call0_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_2 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v28 : Ref sig .tc := ⟨.hbm, 73, rfl⟩
abbrev main_call5_v0 : Ref sig .tc := ⟨.hbm, 74, rfl⟩
abbrev main_call5_call0_cst : Ref sig .tc := ⟨.hbm, 75, rfl⟩
abbrev main_call5_call0_v0 : Ref sig .tc := ⟨.hbm, 76, rfl⟩
abbrev main_call5_call0_v1 : Ref sig .tc := ⟨.hbm, 77, rfl⟩
abbrev main_call5_call0_v2 : Ref sig .tc := ⟨.hbm, 78, rfl⟩
abbrev main_call5_call0_v3 : Ref sig .tc := ⟨.hbm, 79, rfl⟩
abbrev main_call5_call0_v4 : Ref sig .tc := ⟨.hbm, 80, rfl⟩
abbrev main_call5_call0_v5 : Ref sig .tc := ⟨.hbm, 81, rfl⟩
abbrev main_call5_call0_v6 : Ref sig .tc := ⟨.hbm, 82, rfl⟩
abbrev main_call5_call0_v7 : Ref sig .tc := ⟨.hbm, 83, rfl⟩
abbrev main_call5_call0_v8 : Ref sig .tc := ⟨.hbm, 84, rfl⟩
abbrev main_call5_call0_v9 : Ref sig .tc := ⟨.hbm, 85, rfl⟩
abbrev main_call5_call0_v10 : Ref sig .tc := ⟨.hbm, 86, rfl⟩
abbrev main_call5_call0_v11 : Ref sig .tc := ⟨.hbm, 87, rfl⟩
abbrev main_call5_v1 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v20 : BitVec 32 := Scalar.muli arg1 c256_i32
  v20
def k0_mult2 : BitVec 32 :=
  let c0_i32_13 : BitVec 32 := 0#32
  c0_i32_13
def k0_off1 (i : grid0.Coords) (c0_i32_14 : BitVec 32) : Fin 4 → Nat :=
  let c0_i32_26 : BitVec 32 := 0#32
  let arg0 : BitVec 32 := BitVec.ofNat 32 (i 0).val
  let c4_i32 : BitVec 32 := 4#32
  let v23 : BitVec 32 := Scalar.muli arg0 c4_i32
  let v24 : BitVec 32 := Scalar.addi v23 c0_i32_14
  let arg1 : BitVec 32 := BitVec.ofNat 32 (i 1).val
  let c256_i32 : BitVec 32 := 256#32
  let v20 : BitVec 32 := Scalar.muli arg1 c256_i32
  let v21 : BitVec 32 := v20
  let c0_i32_13 : BitVec 32 := 0#32
  let v22 : BitVec 32 := c0_i32_13
  ![0, v24.toNat, v21.toNat, 0]
def k0_off2 (i : grid0.Coords) (c0_i32_16 : BitVec 32) : Fin 4 → Nat :=
  let c1_i32_33 : BitVec 32 := 1#32
  let arg0 : BitVec 32 := BitVec.ofNat 32 (i 0).val
  let c4_i32_15 : BitVec 32 := 4#32
  let v25 : BitVec 32 := Scalar.muli arg0 c4_i32_15
  let v26 : BitVec 32 := Scalar.addi v25 c0_i32_16
  let arg1 : BitVec 32 := BitVec.ofNat 32 (i 1).val
  let c256_i32 : BitVec 32 := 256#32
  let v20 : BitVec 32 := Scalar.muli arg1 c256_i32
  let v21 : BitVec 32 := v20
  let c0_i32_13 : BitVec 32 := 0#32
  let v22 : BitVec 32 := c0_i32_13
  ![1, v26.toNat, v21.toNat, 0]
@[reducible] def k0_t1_loop (i : grid0.Coords) : Scf.Loop 32 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_91 : BitVec 32 := 1#32
  ⟨c0_i32_89, v99, c1_i32_91⟩
def k0_cond2 (i : grid0.Coords) (k0_t1 : Fin (k0_t1_loop i).trips) : BitVec 1 :=
  let c0_i32_89 : BitVec 32 := 0#32
  let c1_i32_91 : BitVec 32 := 1#32
  let arg16 : BitVec 32 := Scf.iv c0_i32_89 c1_i32_91 k0_t1
  let arg1 : BitVec 32 := BitVec.ofNat 32 (i 1).val
  let v403 : BitVec 1 := Scalar.cmpi .slt arg16 arg1
  let v404 : BitVec 32 := Scalar.extui v403
  let c0_i32_258 : BitVec 32 := 0#32
  let v405 : BitVec 1 := Scalar.cmpi .ne v404 c0_i32_258
  v405

def k0_mult3 (i : grid0.Coords) (k0_t1 : Fin (k0_t1_loop i).trips) : BitVec 32 :=
  let c0_i32_89 : BitVec 32 := 0#32
  let c1_i32_91 : BitVec 32 := 1#32
  let arg16 : BitVec 32 := Scf.iv c0_i32_89 c1_i32_91 k0_t1
  let c1_i32_402 : BitVec 32 := 1#32
  let v655 : BitVec 32 := Scalar.addi arg16 c1_i32_402
  let c256_i32_403 : BitVec 32 := 256#32
  let v656 : BitVec 32 := Scalar.muli v655 c256_i32_403
  v656
def k0_off3 (i : grid0.Coords) (k0_t1 : Fin (k0_t1_loop i).trips) : Fin 1 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  ![v654.toNat]
def k0_off4 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c0_i32_421 : BitVec 32 := 0#32
  let c0_i32_422 : BitVec 32 := 0#32
  let c0_i32_423 : BitVec 32 := 0#32
  let c0_i32_424 : BitVec 32 := 0#32
  ![v654.toNat, 0, 0, 0, 0]
def k0_off5 (i : grid0.Coords) (k0_t1 : Fin (k0_t1_loop i).trips) (c0_i32_405 : BitVec 32) : Fin 4 → Nat :=
  let c0_i32_420 : BitVec 32 := 0#32
  let arg0 : BitVec 32 := BitVec.ofNat 32 (i 0).val
  let c4_i32_404 : BitVec 32 := 4#32
  let v658 : BitVec 32 := Scalar.muli arg0 c4_i32_404
  let v659 : BitVec 32 := Scalar.addi v658 c0_i32_405
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let c1_i32_91 : BitVec 32 := 1#32
  let arg16 : BitVec 32 := Scf.iv c0_i32_89 c1_i32_91 k0_t1
  let c1_i32_402 : BitVec 32 := 1#32
  let v655 : BitVec 32 := Scalar.addi arg16 c1_i32_402
  let c256_i32_403 : BitVec 32 := 256#32
  let v656 : BitVec 32 := Scalar.muli v655 c256_i32_403
  let v657 : BitVec 32 := v656
  ![0, v659.toNat, v21.toNat, v657.toNat]
def k0_off6 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c0_i32_426 : BitVec 32 := 0#32
  let c1_i32_427 : BitVec 32 := 1#32
  let c0_i32_428 : BitVec 32 := 0#32
  let c0_i32_429 : BitVec 32 := 0#32
  ![v654.toNat, 0, 1, 0, 0]
def k0_off7 (i : grid0.Coords) (k0_t1 : Fin (k0_t1_loop i).trips) (c0_i32_407 : BitVec 32) : Fin 4 → Nat :=
  let c1_i32_425 : BitVec 32 := 1#32
  let arg0 : BitVec 32 := BitVec.ofNat 32 (i 0).val
  let c4_i32_406 : BitVec 32 := 4#32
  let v660 : BitVec 32 := Scalar.muli arg0 c4_i32_406
  let v661 : BitVec 32 := Scalar.addi v660 c0_i32_407
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let c1_i32_91 : BitVec 32 := 1#32
  let arg16 : BitVec 32 := Scf.iv c0_i32_89 c1_i32_91 k0_t1
  let c1_i32_402 : BitVec 32 := 1#32
  let v655 : BitVec 32 := Scalar.addi arg16 c1_i32_402
  let c256_i32_403 : BitVec 32 := 256#32
  let v656 : BitVec 32 := Scalar.muli v655 c256_i32_403
  let v657 : BitVec 32 := v656
  ![1, v661.toNat, v21.toNat, v657.toNat]
def k0_off8 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c1_i32_431 : BitVec 32 := 1#32
  let c0_i32_432 : BitVec 32 := 0#32
  let c0_i32_433 : BitVec 32 := 0#32
  let c0_i32_434 : BitVec 32 := 0#32
  ![v654.toNat, 1, 0, 0, 0]
def k0_off9 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c1_i32_436 : BitVec 32 := 1#32
  let c1_i32_437 : BitVec 32 := 1#32
  let c0_i32_438 : BitVec 32 := 0#32
  let c0_i32_439 : BitVec 32 := 0#32
  ![v654.toNat, 1, 1, 0, 0]
def k0_off10 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c2_i32_441 : BitVec 32 := 2#32
  let c0_i32_442 : BitVec 32 := 0#32
  let c0_i32_443 : BitVec 32 := 0#32
  let c0_i32_444 : BitVec 32 := 0#32
  ![v654.toNat, 2, 0, 0, 0]
def k0_off11 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c2_i32_446 : BitVec 32 := 2#32
  let c1_i32_447 : BitVec 32 := 1#32
  let c0_i32_448 : BitVec 32 := 0#32
  let c0_i32_449 : BitVec 32 := 0#32
  ![v654.toNat, 2, 1, 0, 0]
def k0_off12 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c3_i32_451 : BitVec 32 := 3#32
  let c0_i32_452 : BitVec 32 := 0#32
  let c0_i32_453 : BitVec 32 := 0#32
  let c0_i32_454 : BitVec 32 := 0#32
  ![v654.toNat, 3, 0, 0, 0]
def k0_off13 (i : grid0.Coords) (k0_t1 : Fin (k0_t1_loop i).trips) : Fin 5 → Nat :=
  let c1_i32_401 : BitVec 32 := 1#32
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c3_i32_456 : BitVec 32 := 3#32
  let c1_i32_457 : BitVec 32 := 1#32
  let c0_i32_458 : BitVec 32 := 0#32
  let c0_i32_459 : BitVec 32 := 0#32
  ![v654.toNat, 3, 1, 0, 0]
def k0_mult4 (i : grid0.Coords) (k0_t1 : Fin (k0_t1_loop i).trips) : BitVec 32 :=
  let c0_i32_89 : BitVec 32 := 0#32
  let c1_i32_91 : BitVec 32 := 1#32
  let arg16 : BitVec 32 := Scf.iv c0_i32_89 c1_i32_91 k0_t1
  let c256_i32_259 : BitVec 32 := 256#32
  let v406 : BitVec 32 := Scalar.muli arg16 c256_i32_259
  v406
def k0_off14 (i : grid0.Coords) (k0_t1 : Fin (k0_t1_loop i).trips) : Fin 1 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  ![v402.toNat]
def k0_off15 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c0_i32_277 : BitVec 32 := 0#32
  let c0_i32_278 : BitVec 32 := 0#32
  let c0_i32_279 : BitVec 32 := 0#32
  let c0_i32_280 : BitVec 32 := 0#32
  ![v402.toNat, 0, 0, 0, 0]
def k0_off16 (i : grid0.Coords) (k0_t1 : Fin (k0_t1_loop i).trips) (c0_i32_261 : BitVec 32) : Fin 4 → Nat :=
  let c0_i32_276 : BitVec 32 := 0#32
  let arg0 : BitVec 32 := BitVec.ofNat 32 (i 0).val
  let c4_i32_260 : BitVec 32 := 4#32
  let v408 : BitVec 32 := Scalar.muli arg0 c4_i32_260
  let v409 : BitVec 32 := Scalar.addi v408 c0_i32_261
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let c1_i32_91 : BitVec 32 := 1#32
  let arg16 : BitVec 32 := Scf.iv c0_i32_89 c1_i32_91 k0_t1
  let c256_i32_259 : BitVec 32 := 256#32
  let v406 : BitVec 32 := Scalar.muli arg16 c256_i32_259
  let v407 : BitVec 32 := v406
  ![0, v409.toNat, v21.toNat, v407.toNat]
def k0_off17 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c0_i32_282 : BitVec 32 := 0#32
  let c1_i32_283 : BitVec 32 := 1#32
  let c0_i32_284 : BitVec 32 := 0#32
  let c0_i32_285 : BitVec 32 := 0#32
  ![v402.toNat, 0, 1, 0, 0]
def k0_off18 (i : grid0.Coords) (k0_t1 : Fin (k0_t1_loop i).trips) (c0_i32_263 : BitVec 32) : Fin 4 → Nat :=
  let c1_i32_281 : BitVec 32 := 1#32
  let arg0 : BitVec 32 := BitVec.ofNat 32 (i 0).val
  let c4_i32_262 : BitVec 32 := 4#32
  let v410 : BitVec 32 := Scalar.muli arg0 c4_i32_262
  let v411 : BitVec 32 := Scalar.addi v410 c0_i32_263
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let c1_i32_91 : BitVec 32 := 1#32
  let arg16 : BitVec 32 := Scf.iv c0_i32_89 c1_i32_91 k0_t1
  let c256_i32_259 : BitVec 32 := 256#32
  let v406 : BitVec 32 := Scalar.muli arg16 c256_i32_259
  let v407 : BitVec 32 := v406
  ![1, v411.toNat, v21.toNat, v407.toNat]
def k0_off19 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c1_i32_287 : BitVec 32 := 1#32
  let c0_i32_288 : BitVec 32 := 0#32
  let c0_i32_289 : BitVec 32 := 0#32
  let c0_i32_290 : BitVec 32 := 0#32
  ![v402.toNat, 1, 0, 0, 0]
def k0_off20 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c1_i32_292 : BitVec 32 := 1#32
  let c1_i32_293 : BitVec 32 := 1#32
  let c0_i32_294 : BitVec 32 := 0#32
  let c0_i32_295 : BitVec 32 := 0#32
  ![v402.toNat, 1, 1, 0, 0]
def k0_off21 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c2_i32_297 : BitVec 32 := 2#32
  let c0_i32_298 : BitVec 32 := 0#32
  let c0_i32_299 : BitVec 32 := 0#32
  let c0_i32_300 : BitVec 32 := 0#32
  ![v402.toNat, 2, 0, 0, 0]
def k0_off22 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c2_i32_302 : BitVec 32 := 2#32
  let c1_i32_303 : BitVec 32 := 1#32
  let c0_i32_304 : BitVec 32 := 0#32
  let c0_i32_305 : BitVec 32 := 0#32
  ![v402.toNat, 2, 1, 0, 0]
def k0_off23 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c3_i32_307 : BitVec 32 := 3#32
  let c0_i32_308 : BitVec 32 := 0#32
  let c0_i32_309 : BitVec 32 := 0#32
  let c0_i32_310 : BitVec 32 := 0#32
  ![v402.toNat, 3, 0, 0, 0]
def k0_off24 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c3_i32_312 : BitVec 32 := 3#32
  let c1_i32_313 : BitVec 32 := 1#32
  let c0_i32_314 : BitVec 32 := 0#32
  let c0_i32_315 : BitVec 32 := 0#32
  ![v402.toNat, 3, 1, 0, 0]
def k0_mult5 (i : grid0.Coords) (k0_t1 : Fin (k0_t1_loop i).trips) : BitVec 32 :=
  let c0_i32_89 : BitVec 32 := 0#32
  let c1_i32_91 : BitVec 32 := 1#32
  let arg16 : BitVec 32 := Scf.iv c0_i32_89 c1_i32_91 k0_t1
  let c256_i32_316 : BitVec 32 := 256#32
  let v472 : BitVec 32 := Scalar.muli arg16 c256_i32_316
  v472
def k0_off25 (i : grid0.Coords) (k0_t1 : Fin (k0_t1_loop i).trips) : Fin 2 → Nat :=
  let c0_i32_89 : BitVec 32 := 0#32
  let c1_i32_91 : BitVec 32 := 1#32
  let arg16 : BitVec 32 := Scf.iv c0_i32_89 c1_i32_91 k0_t1
  let c256_i32_316 : BitVec 32 := 256#32
  let v472 : BitVec 32 := Scalar.muli arg16 c256_i32_316
  let v473 : BitVec 32 := v472
  let v474 : Index := Scalar.indexCast v473
  let c0_317 : Index := 0#32
  ![v474.toNat, 0]
def k0_off26 (i : grid0.Coords) (k0_t1 : Fin (k0_t1_loop i).trips) : Fin 2 → Nat :=
  let c0_i32_89 : BitVec 32 := 0#32
  let c1_i32_91 : BitVec 32 := 1#32
  let arg16 : BitVec 32 := Scf.iv c0_i32_89 c1_i32_91 k0_t1
  let c256_i32_316 : BitVec 32 := 256#32
  let v472 : BitVec 32 := Scalar.muli arg16 c256_i32_316
  let v473 : BitVec 32 := v472
  let v476 : Index := Scalar.indexCast v473
  let c128_318 : Index := 128#32
  ![v476.toNat, 128]
def k0_off27 (i : grid0.Coords) (k0_t1 : Fin (k0_t1_loop i).trips) : Fin 2 → Nat :=
  let c0_i32_89 : BitVec 32 := 0#32
  let c1_i32_91 : BitVec 32 := 1#32
  let arg16 : BitVec 32 := Scf.iv c0_i32_89 c1_i32_91 k0_t1
  let c256_i32_316 : BitVec 32 := 256#32
  let v472 : BitVec 32 := Scalar.muli arg16 c256_i32_316
  let v473 : BitVec 32 := v472
  let v478 : Index := Scalar.indexCast v473
  let c256_319 : Index := 256#32
  ![v478.toNat, 256]
def k0_off28 (i : grid0.Coords) (k0_t1 : Fin (k0_t1_loop i).trips) : Fin 2 → Nat :=
  let c0_i32_89 : BitVec 32 := 0#32
  let c1_i32_91 : BitVec 32 := 1#32
  let arg16 : BitVec 32 := Scf.iv c0_i32_89 c1_i32_91 k0_t1
  let c256_i32_316 : BitVec 32 := 256#32
  let v472 : BitVec 32 := Scalar.muli arg16 c256_i32_316
  let v473 : BitVec 32 := v472
  let v480 : Index := Scalar.indexCast v473
  let c384_320 : Index := 384#32
  ![v480.toNat, 384]
def k0_off29 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v490 : Index := Scalar.indexCast v402
  let c0_325 : Index := 0#32
  let c0_326 : Index := 0#32
  let c0_327 : Index := 0#32
  let c0_328 : Index := 0#32
  ![v490.toNat, 0, 0, 0, 0]
def k0_off30 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v493 : Index := Scalar.indexCast v402
  let c1_329 : Index := 1#32
  let c0_330 : Index := 0#32
  let c0_331 : Index := 0#32
  let c0_332 : Index := 0#32
  ![v493.toNat, 1, 0, 0, 0]
def k0_off31 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v496 : Index := Scalar.indexCast v402
  let c2_333 : Index := 2#32
  let c0_334 : Index := 0#32
  let c0_335 : Index := 0#32
  let c0_336 : Index := 0#32
  ![v496.toNat, 2, 0, 0, 0]
def k0_off32 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v499 : Index := Scalar.indexCast v402
  let c3_337 : Index := 3#32
  let c0_338 : Index := 0#32
  let c0_339 : Index := 0#32
  let c0_340 : Index := 0#32
  ![v499.toNat, 3, 0, 0, 0]
def k0_off33 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v525 : Index := Scalar.indexCast v402
  let c0_349 : Index := 0#32
  let c1_350 : Index := 1#32
  let c0_351 : Index := 0#32
  let c0_352 : Index := 0#32
  ![v525.toNat, 0, 1, 0, 0]
def k0_off34 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v537 : Index := Scalar.indexCast v402
  let c1_354 : Index := 1#32
  let c1_355 : Index := 1#32
  let c0_356 : Index := 0#32
  let c0_357 : Index := 0#32
  ![v537.toNat, 1, 1, 0, 0]
def k0_off35 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v549 : Index := Scalar.indexCast v402
  let c2_359 : Index := 2#32
  let c1_360 : Index := 1#32
  let c0_361 : Index := 0#32
  let c0_362 : Index := 0#32
  ![v549.toNat, 2, 1, 0, 0]
def k0_off36 (i : grid0.Coords) (k0_t1 : Fin (k0_t1_loop i).trips) : Fin 5 → Nat :=
  let c0_i32_89 : BitVec 32 := 0#32
  let c1_i32_91 : BitVec 32 := 1#32
  let arg16 : BitVec 32 := Scf.iv c0_i32_89 c1_i32_91 k0_t1
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v561 : Index := Scalar.indexCast v402
  let c3_364 : Index := 3#32
  let c1_365 : Index := 1#32
  let c0_366 : Index := 0#32
  let c0_367 : Index := 0#32
  ![v561.toNat, 3, 1, 0, 0]
@[reducible] def k0_t2_loop (i : grid0.Coords) : Scf.Loop 32 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let v96 : BitVec 32 := Scalar.addi c0_i32_89 v95
  let c1_i32_92 : BitVec 32 := 1#32
  ⟨v99, v96, c1_i32_92⟩
def k0_cond3 (i : grid0.Coords) (k0_t2 : Fin (k0_t2_loop i).trips) : BitVec 1 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let v403 : BitVec 1 := Scalar.cmpi .slt arg16 arg1
  let v404 : BitVec 32 := Scalar.extui v403
  let c0_i32_258 : BitVec 32 := 0#32
  let v405 : BitVec 1 := Scalar.cmpi .ne v404 c0_i32_258
  v405

def k0_mult6 (i : grid0.Coords) (k0_t2 : Fin (k0_t2_loop i).trips) : BitVec 32 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c1_i32_402 : BitVec 32 := 1#32
  let v655 : BitVec 32 := Scalar.addi arg16 c1_i32_402
  let c256_i32_403 : BitVec 32 := 256#32
  let v656 : BitVec 32 := Scalar.muli v655 c256_i32_403
  v656
def k0_off37 (i : grid0.Coords) (k0_t2 : Fin (k0_t2_loop i).trips) : Fin 1 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  ![v654.toNat]
def k0_off38 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c0_i32_421 : BitVec 32 := 0#32
  let c0_i32_422 : BitVec 32 := 0#32
  let c0_i32_423 : BitVec 32 := 0#32
  let c0_i32_424 : BitVec 32 := 0#32
  ![v654.toNat, 0, 0, 0, 0]
def k0_off39 (i : grid0.Coords) (k0_t2 : Fin (k0_t2_loop i).trips) (c0_i32_405 : BitVec 32) : Fin 4 → Nat :=
  let c0_i32_420 : BitVec 32 := 0#32
  let arg0 : BitVec 32 := BitVec.ofNat 32 (i 0).val
  let c4_i32_404 : BitVec 32 := 4#32
  let v658 : BitVec 32 := Scalar.muli arg0 c4_i32_404
  let v659 : BitVec 32 := Scalar.addi v658 c0_i32_405
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c1_i32_402 : BitVec 32 := 1#32
  let v655 : BitVec 32 := Scalar.addi arg16 c1_i32_402
  let c256_i32_403 : BitVec 32 := 256#32
  let v656 : BitVec 32 := Scalar.muli v655 c256_i32_403
  let v657 : BitVec 32 := v656
  ![0, v659.toNat, v21.toNat, v657.toNat]
def k0_off40 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c0_i32_426 : BitVec 32 := 0#32
  let c1_i32_427 : BitVec 32 := 1#32
  let c0_i32_428 : BitVec 32 := 0#32
  let c0_i32_429 : BitVec 32 := 0#32
  ![v654.toNat, 0, 1, 0, 0]
def k0_off41 (i : grid0.Coords) (k0_t2 : Fin (k0_t2_loop i).trips) (c0_i32_407 : BitVec 32) : Fin 4 → Nat :=
  let c1_i32_425 : BitVec 32 := 1#32
  let arg0 : BitVec 32 := BitVec.ofNat 32 (i 0).val
  let c4_i32_406 : BitVec 32 := 4#32
  let v660 : BitVec 32 := Scalar.muli arg0 c4_i32_406
  let v661 : BitVec 32 := Scalar.addi v660 c0_i32_407
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c1_i32_402 : BitVec 32 := 1#32
  let v655 : BitVec 32 := Scalar.addi arg16 c1_i32_402
  let c256_i32_403 : BitVec 32 := 256#32
  let v656 : BitVec 32 := Scalar.muli v655 c256_i32_403
  let v657 : BitVec 32 := v656
  ![1, v661.toNat, v21.toNat, v657.toNat]
def k0_off42 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c1_i32_431 : BitVec 32 := 1#32
  let c0_i32_432 : BitVec 32 := 0#32
  let c0_i32_433 : BitVec 32 := 0#32
  let c0_i32_434 : BitVec 32 := 0#32
  ![v654.toNat, 1, 0, 0, 0]
def k0_off43 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c1_i32_436 : BitVec 32 := 1#32
  let c1_i32_437 : BitVec 32 := 1#32
  let c0_i32_438 : BitVec 32 := 0#32
  let c0_i32_439 : BitVec 32 := 0#32
  ![v654.toNat, 1, 1, 0, 0]
def k0_off44 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c2_i32_441 : BitVec 32 := 2#32
  let c0_i32_442 : BitVec 32 := 0#32
  let c0_i32_443 : BitVec 32 := 0#32
  let c0_i32_444 : BitVec 32 := 0#32
  ![v654.toNat, 2, 0, 0, 0]
def k0_off45 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c2_i32_446 : BitVec 32 := 2#32
  let c1_i32_447 : BitVec 32 := 1#32
  let c0_i32_448 : BitVec 32 := 0#32
  let c0_i32_449 : BitVec 32 := 0#32
  ![v654.toNat, 2, 1, 0, 0]
def k0_off46 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c3_i32_451 : BitVec 32 := 3#32
  let c0_i32_452 : BitVec 32 := 0#32
  let c0_i32_453 : BitVec 32 := 0#32
  let c0_i32_454 : BitVec 32 := 0#32
  ![v654.toNat, 3, 0, 0, 0]
def k0_off47 (i : grid0.Coords) (k0_t2 : Fin (k0_t2_loop i).trips) : Fin 5 → Nat :=
  let c1_i32_401 : BitVec 32 := 1#32
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v654 : BitVec 32 := Scalar.subi c1_i32_401 v402
  let c3_i32_456 : BitVec 32 := 3#32
  let c1_i32_457 : BitVec 32 := 1#32
  let c0_i32_458 : BitVec 32 := 0#32
  let c0_i32_459 : BitVec 32 := 0#32
  ![v654.toNat, 3, 1, 0, 0]
def k0_mult7 (i : grid0.Coords) (k0_t2 : Fin (k0_t2_loop i).trips) : BitVec 32 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_259 : BitVec 32 := 256#32
  let v406 : BitVec 32 := Scalar.muli arg16 c256_i32_259
  v406
def k0_off48 (i : grid0.Coords) (k0_t2 : Fin (k0_t2_loop i).trips) : Fin 1 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  ![v402.toNat]
def k0_off49 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c0_i32_277 : BitVec 32 := 0#32
  let c0_i32_278 : BitVec 32 := 0#32
  let c0_i32_279 : BitVec 32 := 0#32
  let c0_i32_280 : BitVec 32 := 0#32
  ![v402.toNat, 0, 0, 0, 0]
def k0_off50 (i : grid0.Coords) (k0_t2 : Fin (k0_t2_loop i).trips) (c0_i32_261 : BitVec 32) : Fin 4 → Nat :=
  let c0_i32_276 : BitVec 32 := 0#32
  let arg0 : BitVec 32 := BitVec.ofNat 32 (i 0).val
  let c4_i32_260 : BitVec 32 := 4#32
  let v408 : BitVec 32 := Scalar.muli arg0 c4_i32_260
  let v409 : BitVec 32 := Scalar.addi v408 c0_i32_261
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_259 : BitVec 32 := 256#32
  let v406 : BitVec 32 := Scalar.muli arg16 c256_i32_259
  let v407 : BitVec 32 := v406
  ![0, v409.toNat, v21.toNat, v407.toNat]
def k0_off51 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c0_i32_282 : BitVec 32 := 0#32
  let c1_i32_283 : BitVec 32 := 1#32
  let c0_i32_284 : BitVec 32 := 0#32
  let c0_i32_285 : BitVec 32 := 0#32
  ![v402.toNat, 0, 1, 0, 0]
def k0_off52 (i : grid0.Coords) (k0_t2 : Fin (k0_t2_loop i).trips) (c0_i32_263 : BitVec 32) : Fin 4 → Nat :=
  let c1_i32_281 : BitVec 32 := 1#32
  let arg0 : BitVec 32 := BitVec.ofNat 32 (i 0).val
  let c4_i32_262 : BitVec 32 := 4#32
  let v410 : BitVec 32 := Scalar.muli arg0 c4_i32_262
  let v411 : BitVec 32 := Scalar.addi v410 c0_i32_263
  let arg1 : BitVec 32 := BitVec.ofNat 32 (i 1).val
  let c256_i32 : BitVec 32 := 256#32
  let v20 : BitVec 32 := Scalar.muli arg1 c256_i32
  let v21 : BitVec 32 := v20
  let c0_i32_89 : BitVec 32 := 0#32
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_259 : BitVec 32 := 256#32
  let v406 : BitVec 32 := Scalar.muli arg16 c256_i32_259
  let v407 : BitVec 32 := v406
  ![1, v411.toNat, v21.toNat, v407.toNat]
def k0_off53 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c1_i32_287 : BitVec 32 := 1#32
  let c0_i32_288 : BitVec 32 := 0#32
  let c0_i32_289 : BitVec 32 := 0#32
  let c0_i32_290 : BitVec 32 := 0#32
  ![v402.toNat, 1, 0, 0, 0]
def k0_off54 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c1_i32_292 : BitVec 32 := 1#32
  let c1_i32_293 : BitVec 32 := 1#32
  let c0_i32_294 : BitVec 32 := 0#32
  let c0_i32_295 : BitVec 32 := 0#32
  ![v402.toNat, 1, 1, 0, 0]
def k0_off55 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c2_i32_297 : BitVec 32 := 2#32
  let c0_i32_298 : BitVec 32 := 0#32
  let c0_i32_299 : BitVec 32 := 0#32
  let c0_i32_300 : BitVec 32 := 0#32
  ![v402.toNat, 2, 0, 0, 0]
def k0_off56 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c2_i32_302 : BitVec 32 := 2#32
  let c1_i32_303 : BitVec 32 := 1#32
  let c0_i32_304 : BitVec 32 := 0#32
  let c0_i32_305 : BitVec 32 := 0#32
  ![v402.toNat, 2, 1, 0, 0]
def k0_off57 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c3_i32_307 : BitVec 32 := 3#32
  let c0_i32_308 : BitVec 32 := 0#32
  let c0_i32_309 : BitVec 32 := 0#32
  let c0_i32_310 : BitVec 32 := 0#32
  ![v402.toNat, 3, 0, 0, 0]
def k0_off58 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let c3_i32_312 : BitVec 32 := 3#32
  let c1_i32_313 : BitVec 32 := 1#32
  let c0_i32_314 : BitVec 32 := 0#32
  let c0_i32_315 : BitVec 32 := 0#32
  ![v402.toNat, 3, 1, 0, 0]
def k0_mult8 (i : grid0.Coords) (k0_t2 : Fin (k0_t2_loop i).trips) : BitVec 32 :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_316 : BitVec 32 := 256#32
  let v472 : BitVec 32 := Scalar.muli arg16 c256_i32_316
  v472
def k0_off59 (i : grid0.Coords) (k0_t2 : Fin (k0_t2_loop i).trips) : Fin 2 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_316 : BitVec 32 := 256#32
  let v472 : BitVec 32 := Scalar.muli arg16 c256_i32_316
  let v473 : BitVec 32 := v472
  let v474 : Index := Scalar.indexCast v473
  let c0_317 : Index := 0#32
  ![v474.toNat, 0]
def k0_off60 (i : grid0.Coords) (k0_t2 : Fin (k0_t2_loop i).trips) : Fin 2 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_316 : BitVec 32 := 256#32
  let v472 : BitVec 32 := Scalar.muli arg16 c256_i32_316
  let v473 : BitVec 32 := v472
  let v476 : Index := Scalar.indexCast v473
  let c128_318 : Index := 128#32
  ![v476.toNat, 128]
def k0_off61 (i : grid0.Coords) (k0_t2 : Fin (k0_t2_loop i).trips) : Fin 2 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_316 : BitVec 32 := 256#32
  let v472 : BitVec 32 := Scalar.muli arg16 c256_i32_316
  let v473 : BitVec 32 := v472
  let v478 : Index := Scalar.indexCast v473
  let c256_319 : Index := 256#32
  ![v478.toNat, 256]
def k0_off62 (i : grid0.Coords) (k0_t2 : Fin (k0_t2_loop i).trips) : Fin 2 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c256_i32_316 : BitVec 32 := 256#32
  let v472 : BitVec 32 := Scalar.muli arg16 c256_i32_316
  let v473 : BitVec 32 := v472
  let v480 : Index := Scalar.indexCast v473
  let c384_320 : Index := 384#32
  ![v480.toNat, 384]
def k0_off63 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v490 : Index := Scalar.indexCast v402
  let c0_325 : Index := 0#32
  let c0_326 : Index := 0#32
  let c0_327 : Index := 0#32
  let c0_328 : Index := 0#32
  ![v490.toNat, 0, 0, 0, 0]
def k0_off64 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v493 : Index := Scalar.indexCast v402
  let c1_329 : Index := 1#32
  let c0_330 : Index := 0#32
  let c0_331 : Index := 0#32
  let c0_332 : Index := 0#32
  ![v493.toNat, 1, 0, 0, 0]
def k0_off65 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v496 : Index := Scalar.indexCast v402
  let c2_333 : Index := 2#32
  let c0_334 : Index := 0#32
  let c0_335 : Index := 0#32
  let c0_336 : Index := 0#32
  ![v496.toNat, 2, 0, 0, 0]
def k0_off66 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v499 : Index := Scalar.indexCast v402
  let c3_337 : Index := 3#32
  let c0_338 : Index := 0#32
  let c0_339 : Index := 0#32
  let c0_340 : Index := 0#32
  ![v499.toNat, 3, 0, 0, 0]
def k0_off67 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v525 : Index := Scalar.indexCast v402
  let c0_349 : Index := 0#32
  let c1_350 : Index := 1#32
  let c0_351 : Index := 0#32
  let c0_352 : Index := 0#32
  ![v525.toNat, 0, 1, 0, 0]
def k0_off68 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v537 : Index := Scalar.indexCast v402
  let c1_354 : Index := 1#32
  let c1_355 : Index := 1#32
  let c0_356 : Index := 0#32
  let c0_357 : Index := 0#32
  ![v537.toNat, 1, 1, 0, 0]
def k0_off69 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v549 : Index := Scalar.indexCast v402
  let c2_359 : Index := 2#32
  let c1_360 : Index := 1#32
  let c0_361 : Index := 0#32
  let c0_362 : Index := 0#32
  ![v549.toNat, 2, 1, 0, 0]
def k0_off70 (i : grid0.Coords) (k0_t2 : Fin (k0_t2_loop i).trips) : Fin 5 → Nat :=
  let c0_i32_89 : BitVec 32 := 0#32
  let arg1 : BitVec 32 := BitVec.ofNat 32 (i 1).val
  let v95 : BitVec 32 := Scalar.subi arg1 c0_i32_89
  let c1_i32_90 : BitVec 32 := 1#32
  let v97 : BitVec 32 := Scalar.divsi v95 c1_i32_90
  let v98 : BitVec 32 := Scalar.muli v97 c1_i32_90
  let v99 : BitVec 32 := Scalar.addi c0_i32_89 v98
  let c1_i32_92 : BitVec 32 := 1#32
  let arg16 : BitVec 32 := Scf.iv v99 c1_i32_92 k0_t2
  let c2_i32_252 : BitVec 32 := 2#32
  let c0_i32_253 : BitVec 32 := 0#32
  let v393 : BitVec 1 := Scalar.cmpi .eq c2_i32_252 c0_i32_253
  let c1_i32_254 : BitVec 32 := 1#32
  let v394 : BitVec 32 := Scalar.select v393 c1_i32_254 c2_i32_252
  let v395 : BitVec 32 := Scalar.remsi arg16 v394
  let c0_i32_256 : BitVec 32 := 0#32
  let v397 : BitVec 1 := Scalar.cmpi .slt v395 c0_i32_256
  let c0_i32_257 : BitVec 32 := 0#32
  let v398 : BitVec 1 := Scalar.cmpi .slt v394 c0_i32_257
  let v399 : BitVec 1 := Scalar.xori v397 v398
  let c0_i32_255 : BitVec 32 := 0#32
  let v396 : BitVec 1 := Scalar.cmpi .ne v395 c0_i32_255
  let v400 : BitVec 1 := Scalar.andi v399 v396
  let v401 : BitVec 32 := Scalar.addi v395 v394
  let v402 : BitVec 32 := Scalar.select v400 v401 v395
  let v561 : Index := Scalar.indexCast v402
  let c3_364 : Index := 3#32
  let c1_365 : Index := 1#32
  let c0_366 : Index := 0#32
  let c0_367 : Index := 0#32
  ![v561.toNat, 3, 1, 0, 0]
def k0_cond4 (i : grid0.Coords) : BitVec 1 :=
  let arg1 : BitVec 32 := BitVec.ofNat 32 (i 1).val
  let v112 : BitVec 1 := Scalar.cmpi .slt arg1 arg1
  let v113 : BitVec 32 := Scalar.extui v112
  let c0_i32_99 : BitVec 32 := 0#32
  let v114 : BitVec 1 := Scalar.cmpi .ne v113 c0_i32_99
  v114

def k0_mult9 (i : grid0.Coords) : BitVec 32 :=
  let arg1 : BitVec 32 := BitVec.ofNat 32 (i 1).val
  let c1_i32_253 : BitVec 32 := 1#32
  let v394 : BitVec 32 := Scalar.addi arg1 c1_i32_253
  let c256_i32_254 : BitVec 32 := 256#32
  let v395 : BitVec 32 := Scalar.muli v394 c256_i32_254
  v395
def k0_off71 (i : grid0.Coords) : Fin 1 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  ![v393.toNat]
def k0_off72 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c0_i32_272 : BitVec 32 := 0#32
  let c0_i32_273 : BitVec 32 := 0#32
  let c0_i32_274 : BitVec 32 := 0#32
  let c0_i32_275 : BitVec 32 := 0#32
  ![v393.toNat, 0, 0, 0, 0]
def k0_off73 (i : grid0.Coords) (c0_i32_256 : BitVec 32) : Fin 4 → Nat :=
  let c0_i32_271 : BitVec 32 := 0#32
  let arg0 : BitVec 32 := BitVec.ofNat 32 (i 0).val
  let c4_i32_255 : BitVec 32 := 4#32
  let v397 : BitVec 32 := Scalar.muli arg0 c4_i32_255
  let v398 : BitVec 32 := Scalar.addi v397 c0_i32_256
  let arg1 : BitVec 32 := BitVec.ofNat 32 (i 1).val
  let c256_i32 : BitVec 32 := 256#32
  let v20 : BitVec 32 := Scalar.muli arg1 c256_i32
  let v21 : BitVec 32 := v20
  let c1_i32_253 : BitVec 32 := 1#32
  let v394 : BitVec 32 := Scalar.addi arg1 c1_i32_253
  let c256_i32_254 : BitVec 32 := 256#32
  let v395 : BitVec 32 := Scalar.muli v394 c256_i32_254
  let v396 : BitVec 32 := v395
  ![0, v398.toNat, v21.toNat, v396.toNat]
def k0_off74 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c0_i32_277 : BitVec 32 := 0#32
  let c1_i32_278 : BitVec 32 := 1#32
  let c0_i32_279 : BitVec 32 := 0#32
  let c0_i32_280 : BitVec 32 := 0#32
  ![v393.toNat, 0, 1, 0, 0]
def k0_off75 (i : grid0.Coords) (c0_i32_258 : BitVec 32) : Fin 4 → Nat :=
  let c1_i32_276 : BitVec 32 := 1#32
  let arg0 : BitVec 32 := BitVec.ofNat 32 (i 0).val
  let c4_i32_257 : BitVec 32 := 4#32
  let v399 : BitVec 32 := Scalar.muli arg0 c4_i32_257
  let v400 : BitVec 32 := Scalar.addi v399 c0_i32_258
  let arg1 : BitVec 32 := BitVec.ofNat 32 (i 1).val
  let c256_i32 : BitVec 32 := 256#32
  let v20 : BitVec 32 := Scalar.muli arg1 c256_i32
  let v21 : BitVec 32 := v20
  let c1_i32_253 : BitVec 32 := 1#32
  let v394 : BitVec 32 := Scalar.addi arg1 c1_i32_253
  let c256_i32_254 : BitVec 32 := 256#32
  let v395 : BitVec 32 := Scalar.muli v394 c256_i32_254
  let v396 : BitVec 32 := v395
  ![1, v400.toNat, v21.toNat, v396.toNat]
def k0_off76 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c1_i32_282 : BitVec 32 := 1#32
  let c0_i32_283 : BitVec 32 := 0#32
  let c0_i32_284 : BitVec 32 := 0#32
  let c0_i32_285 : BitVec 32 := 0#32
  ![v393.toNat, 1, 0, 0, 0]
def k0_off77 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c1_i32_287 : BitVec 32 := 1#32
  let c1_i32_288 : BitVec 32 := 1#32
  let c0_i32_289 : BitVec 32 := 0#32
  let c0_i32_290 : BitVec 32 := 0#32
  ![v393.toNat, 1, 1, 0, 0]
def k0_off78 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c2_i32_292 : BitVec 32 := 2#32
  let c0_i32_293 : BitVec 32 := 0#32
  let c0_i32_294 : BitVec 32 := 0#32
  let c0_i32_295 : BitVec 32 := 0#32
  ![v393.toNat, 2, 0, 0, 0]
def k0_off79 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c2_i32_297 : BitVec 32 := 2#32
  let c1_i32_298 : BitVec 32 := 1#32
  let c0_i32_299 : BitVec 32 := 0#32
  let c0_i32_300 : BitVec 32 := 0#32
  ![v393.toNat, 2, 1, 0, 0]
def k0_off80 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c3_i32_302 : BitVec 32 := 3#32
  let c0_i32_303 : BitVec 32 := 0#32
  let c0_i32_304 : BitVec 32 := 0#32
  let c0_i32_305 : BitVec 32 := 0#32
  ![v393.toNat, 3, 0, 0, 0]
def k0_off81 (i : grid0.Coords) : Fin 5 → Nat :=
  let c1_i32_252 : BitVec 32 := 1#32
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v393 : BitVec 32 := Scalar.subi c1_i32_252 v111
  let c3_i32_307 : BitVec 32 := 3#32
  let c1_i32_308 : BitVec 32 := 1#32
  let c0_i32_309 : BitVec 32 := 0#32
  let c0_i32_310 : BitVec 32 := 0#32
  ![v393.toNat, 3, 1, 0, 0]
def k0_mult10 (i : grid0.Coords) : BitVec 32 :=
  let arg1 : BitVec 32 := BitVec.ofNat 32 (i 1).val
  let c256_i32_100 : BitVec 32 := 256#32
  let v115 : BitVec 32 := Scalar.muli arg1 c256_i32_100
  v115
def k0_off82 (i : grid0.Coords) : Fin 1 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  ![v111.toNat]
def k0_off83 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c0_i32_118 : BitVec 32 := 0#32
  let c0_i32_119 : BitVec 32 := 0#32
  let c0_i32_120 : BitVec 32 := 0#32
  let c0_i32_121 : BitVec 32 := 0#32
  ![v111.toNat, 0, 0, 0, 0]
def k0_off84 (i : grid0.Coords) (c0_i32_102 : BitVec 32) : Fin 4 → Nat :=
  let c0_i32_117 : BitVec 32 := 0#32
  let arg0 : BitVec 32 := BitVec.ofNat 32 (i 0).val
  let c4_i32_101 : BitVec 32 := 4#32
  let v117 : BitVec 32 := Scalar.muli arg0 c4_i32_101
  let v118 : BitVec 32 := Scalar.addi v117 c0_i32_102
  let arg1 : BitVec 32 := BitVec.ofNat 32 (i 1).val
  let c256_i32 : BitVec 32 := 256#32
  let v20 : BitVec 32 := Scalar.muli arg1 c256_i32
  let v21 : BitVec 32 := v20
  let c256_i32_100 : BitVec 32 := 256#32
  let v115 : BitVec 32 := Scalar.muli arg1 c256_i32_100
  let v116 : BitVec 32 := v115
  ![0, v118.toNat, v21.toNat, v116.toNat]
def k0_off85 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c0_i32_123 : BitVec 32 := 0#32
  let c1_i32_124 : BitVec 32 := 1#32
  let c0_i32_125 : BitVec 32 := 0#32
  let c0_i32_126 : BitVec 32 := 0#32
  ![v111.toNat, 0, 1, 0, 0]
def k0_off86 (i : grid0.Coords) (c0_i32_104 : BitVec 32) : Fin 4 → Nat :=
  let c1_i32_122 : BitVec 32 := 1#32
  let arg0 : BitVec 32 := BitVec.ofNat 32 (i 0).val
  let c4_i32_103 : BitVec 32 := 4#32
  let v119 : BitVec 32 := Scalar.muli arg0 c4_i32_103
  let v120 : BitVec 32 := Scalar.addi v119 c0_i32_104
  let arg1 : BitVec 32 := BitVec.ofNat 32 (i 1).val
  let c256_i32 : BitVec 32 := 256#32
  let v20 : BitVec 32 := Scalar.muli arg1 c256_i32
  let v21 : BitVec 32 := v20
  let c256_i32_100 : BitVec 32 := 256#32
  let v115 : BitVec 32 := Scalar.muli arg1 c256_i32_100
  let v116 : BitVec 32 := v115
  ![1, v120.toNat, v21.toNat, v116.toNat]
def k0_off87 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c1_i32_128 : BitVec 32 := 1#32
  let c0_i32_129 : BitVec 32 := 0#32
  let c0_i32_130 : BitVec 32 := 0#32
  let c0_i32_131 : BitVec 32 := 0#32
  ![v111.toNat, 1, 0, 0, 0]
def k0_off88 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c1_i32_133 : BitVec 32 := 1#32
  let c1_i32_134 : BitVec 32 := 1#32
  let c0_i32_135 : BitVec 32 := 0#32
  let c0_i32_136 : BitVec 32 := 0#32
  ![v111.toNat, 1, 1, 0, 0]
def k0_off89 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c2_i32_138 : BitVec 32 := 2#32
  let c0_i32_139 : BitVec 32 := 0#32
  let c0_i32_140 : BitVec 32 := 0#32
  let c0_i32_141 : BitVec 32 := 0#32
  ![v111.toNat, 2, 0, 0, 0]
def k0_off90 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c2_i32_143 : BitVec 32 := 2#32
  let c1_i32_144 : BitVec 32 := 1#32
  let c0_i32_145 : BitVec 32 := 0#32
  let c0_i32_146 : BitVec 32 := 0#32
  ![v111.toNat, 2, 1, 0, 0]
def k0_off91 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c3_i32_148 : BitVec 32 := 3#32
  let c0_i32_149 : BitVec 32 := 0#32
  let c0_i32_150 : BitVec 32 := 0#32
  let c0_i32_151 : BitVec 32 := 0#32
  ![v111.toNat, 3, 0, 0, 0]
def k0_off92 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let c3_i32_153 : BitVec 32 := 3#32
  let c1_i32_154 : BitVec 32 := 1#32
  let c0_i32_155 : BitVec 32 := 0#32
  let c0_i32_156 : BitVec 32 := 0#32
  ![v111.toNat, 3, 1, 0, 0]
def k0_mult11 (i : grid0.Coords) : BitVec 32 :=
  let arg1 : BitVec 32 := BitVec.ofNat 32 (i 1).val
  let c256_i32_157 : BitVec 32 := 256#32
  let v181 : BitVec 32 := Scalar.muli arg1 c256_i32_157
  v181
def k0_off93 (i : grid0.Coords) : Fin 2 → Nat :=
  let arg1 : BitVec 32 := BitVec.ofNat 32 (i 1).val
  let c256_i32_157 : BitVec 32 := 256#32
  let v181 : BitVec 32 := Scalar.muli arg1 c256_i32_157
  let v182 : BitVec 32 := v181
  let v183 : Index := Scalar.indexCast v182
  let c0_158 : Index := 0#32
  ![v183.toNat, 0]
def k0_off94 (i : grid0.Coords) : Fin 2 → Nat :=
  let arg1 : BitVec 32 := BitVec.ofNat 32 (i 1).val
  let c256_i32_157 : BitVec 32 := 256#32
  let v181 : BitVec 32 := Scalar.muli arg1 c256_i32_157
  let v182 : BitVec 32 := v181
  let v185 : Index := Scalar.indexCast v182
  let c128_159 : Index := 128#32
  ![v185.toNat, 128]
def k0_off95 (i : grid0.Coords) : Fin 2 → Nat :=
  let arg1 : BitVec 32 := BitVec.ofNat 32 (i 1).val
  let c256_i32_157 : BitVec 32 := 256#32
  let v181 : BitVec 32 := Scalar.muli arg1 c256_i32_157
  let v182 : BitVec 32 := v181
  let v187 : Index := Scalar.indexCast v182
  let c256_160 : Index := 256#32
  ![v187.toNat, 256]
def k0_off96 (i : grid0.Coords) : Fin 2 → Nat :=
  let arg1 : BitVec 32 := BitVec.ofNat 32 (i 1).val
  let c256_i32_157 : BitVec 32 := 256#32
  let v181 : BitVec 32 := Scalar.muli arg1 c256_i32_157
  let v182 : BitVec 32 := v181
  let v189 : Index := Scalar.indexCast v182
  let c384_161 : Index := 384#32
  ![v189.toNat, 384]
def k0_off97 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v199 : Index := Scalar.indexCast v111
  let c0_166 : Index := 0#32
  let c0_167 : Index := 0#32
  let c0_168 : Index := 0#32
  let c0_169 : Index := 0#32
  ![v199.toNat, 0, 0, 0, 0]
def k0_off98 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v202 : Index := Scalar.indexCast v111
  let c1 : Index := 1#32
  let c0_170 : Index := 0#32
  let c0_171 : Index := 0#32
  let c0_172 : Index := 0#32
  ![v202.toNat, 1, 0, 0, 0]
def k0_off99 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v205 : Index := Scalar.indexCast v111
  let c2 : Index := 2#32
  let c0_173 : Index := 0#32
  let c0_174 : Index := 0#32
  let c0_175 : Index := 0#32
  ![v205.toNat, 2, 0, 0, 0]
def k0_off100 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v208 : Index := Scalar.indexCast v111
  let c3 : Index := 3#32
  let c0_176 : Index := 0#32
  let c0_177 : Index := 0#32
  let c0_178 : Index := 0#32
  ![v208.toNat, 3, 0, 0, 0]
def k0_off101 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v234 : Index := Scalar.indexCast v111
  let c0_187 : Index := 0#32
  let c1_188 : Index := 1#32
  let c0_189 : Index := 0#32
  let c0_190 : Index := 0#32
  ![v234.toNat, 0, 1, 0, 0]
def k0_off102 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v248 : Index := Scalar.indexCast v111
  let c1_193 : Index := 1#32
  let c1_194 : Index := 1#32
  let c0_195 : Index := 0#32
  let c0_196 : Index := 0#32
  ![v248.toNat, 1, 1, 0, 0]
def k0_off103 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v262 : Index := Scalar.indexCast v111
  let c2_199 : Index := 2#32
  let c1_200 : Index := 1#32
  let c0_201 : Index := 0#32
  let c0_202 : Index := 0#32
  ![v262.toNat, 2, 1, 0, 0]
def k0_off104 (i : grid0.Coords) : Fin 5 → Nat :=
  let arg1 : BitVec 32 := BitVec.ofNat 32 (i 1).val
  let c2_i32_93 : BitVec 32 := 2#32
  let c0_i32_94 : BitVec 32 := 0#32
  let v102 : BitVec 1 := Scalar.cmpi .eq c2_i32_93 c0_i32_94
  let c1_i32_95 : BitVec 32 := 1#32
  let v103 : BitVec 32 := Scalar.select v102 c1_i32_95 c2_i32_93
  let v104 : BitVec 32 := Scalar.remsi arg1 v103
  let c0_i32_97 : BitVec 32 := 0#32
  let v106 : BitVec 1 := Scalar.cmpi .slt v104 c0_i32_97
  let c0_i32_98 : BitVec 32 := 0#32
  let v107 : BitVec 1 := Scalar.cmpi .slt v103 c0_i32_98
  let v108 : BitVec 1 := Scalar.xori v106 v107
  let c0_i32_96 : BitVec 32 := 0#32
  let v105 : BitVec 1 := Scalar.cmpi .ne v104 c0_i32_96
  let v109 : BitVec 1 := Scalar.andi v108 v105
  let v110 : BitVec 32 := Scalar.addi v104 v103
  let v111 : BitVec 32 := Scalar.select v109 v110 v104
  let v276 : Index := Scalar.indexCast v111
  let c3_205 : Index := 3#32
  let c1_206 : Index := 1#32
  let c0_207 : Index := 0#32
  let c0_208 : Index := 0#32
  ![v276.toNat, 3, 1, 0, 0]
def k0_mult12 (i : grid0.Coords) : BitVec 32 :=
  let c1536_i32 : BitVec 32 := 1536#32
  let arg0 : BitVec 32 := BitVec.ofNat 32 (i 0).val
  let c512_i32 : BitVec 32 := 512#32
  let v359 : BitVec 32 := Scalar.muli arg0 c512_i32
  let v360 : BitVec 32 := Scalar.addi c1536_i32 v359
  v360
def k0_mult13 (i : grid0.Coords) : BitVec 32 :=
  let c2560_i32 : BitVec 32 := 2560#32
  let arg0 : BitVec 32 := BitVec.ofNat 32 (i 0).val
  let c512_i32_239 : BitVec 32 := 512#32
  let v362 : BitVec 32 := Scalar.muli arg0 c512_i32_239
  let v363 : BitVec 32 := Scalar.addi c2560_i32 v362
  v363
def k0_mult14 (i : grid0.Coords) : BitVec 32 :=
  let c3584_i32 : BitVec 32 := 3584#32
  let arg0 : BitVec 32 := BitVec.ofNat 32 (i 0).val
  let c512_i32_240 : BitVec 32 := 512#32
  let v365 : BitVec 32 := Scalar.muli arg0 c512_i32_240
  let v366 : BitVec 32 := Scalar.addi c3584_i32 v365
  v366
def k0_off105 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let c1536_i32 : BitVec 32 := 1536#32
  let arg0 : BitVec 32 := BitVec.ofNat 32 (i 0).val
  let c512_i32 : BitVec 32 := 512#32
  let v359 : BitVec 32 := Scalar.muli arg0 c512_i32
  let v360 : BitVec 32 := Scalar.addi c1536_i32 v359
  let v361 : BitVec 32 := v360
  ![v21.toNat, v361.toNat]
def k0_cond5 (i : grid0.Coords) : BitVec 1 :=
  let arg1 : BitVec 32 := BitVec.ofNat 32 (i 1).val
  let c15_i32 : BitVec 32 := 15#32
  let v390 : BitVec 1 := Scalar.cmpi .eq arg1 c15_i32
  let v391 : BitVec 32 := Scalar.extui v390
  let c0_i32_251 : BitVec 32 := 0#32
  let v392 : BitVec 1 := Scalar.cmpi .ne v391 c0_i32_251
  v392

def k0_off106 (i : grid0.Coords) (c2560_i32 : BitVec 32) : Fin 2 → Nat :=
  let c0_i32_264 : BitVec 32 := 0#32
  let arg0 : BitVec 32 := BitVec.ofNat 32 (i 0).val
  let c512_i32_239 : BitVec 32 := 512#32
  let v362 : BitVec 32 := Scalar.muli arg0 c512_i32_239
  let v363 : BitVec 32 := Scalar.addi c2560_i32 v362
  let v364 : BitVec 32 := v363
  ![0, v364.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x3072 : Shape := ⟨2, ![4096, 3072]⟩
abbrev S4096x1024 : Shape := ⟨2, ![4096, 1024]⟩
abbrev S4096x6656 : Shape := ⟨2, ![4096, 6656]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1536 : Shape := ⟨2, ![4096, 1536]⟩
abbrev S4096x2048 : Shape := ⟨2, ![4096, 2048]⟩

abbrev nBuf : Space → Nat
  | .hbm => 196
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x6656, .bf16⟩
  | 3 => ⟨S4096x3072, .f32⟩
  | 4 => ⟨S4096x1024, .f32⟩
  | 5 => ⟨S4096x1024, .f32⟩
  | 6 => ⟨S4096x1024, .f32⟩
  | 7 => ⟨S4096x8x128, .f32⟩
  | 8 => ⟨S8x4096x128, .f32⟩
  | 9 => ⟨S4096x8x128, .f32⟩
  | 10 => ⟨S8x4096x128, .f32⟩
  | 11 => ⟨S4096x8x128, .f32⟩
  | 12 => ⟨S8x4096x128, .f32⟩
  | 13 => ⟨S8x4096x4096, .f32⟩
  | 14 => ⟨S_, .f32⟩
  | 15 => ⟨S8x4096x4096, .f32⟩
  | 16 => ⟨S8x4096x4096, .f32⟩
  | 17 => ⟨S4096, .i32⟩
  | 18 => ⟨S1x4096, .i32⟩
  | 19 => ⟨S4096x1, .i32⟩
  | 20 => ⟨S4096x4096, .i32⟩
  | 21 => ⟨S4096x4096, .i32⟩
  | 22 => ⟨S4096x4096, .i1⟩
  | 23 => ⟨S8x4096x4096, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .i1⟩
  | 48 => ⟨S_, .f32⟩
  | 49 => ⟨S8x4096x4096, .f32⟩
  | 50 => ⟨S8x4096x4096, .f32⟩
  | 51 => ⟨S8x4096x4096, .f32⟩
  | 52 => ⟨S8x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x4096x4096, .f32⟩
  | 61 => ⟨S8x4096x4096, .i1⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S8x4096x4096, .f32⟩
  | 72 => ⟨S_, .f32⟩
  | 73 => ⟨S_, .f32⟩
  | 74 => ⟨S8x4096x4096, .i1⟩
  | 75 => ⟨S8x4096x4096, .f32⟩
  | 76 => ⟨S8x4096x4096, .f32⟩
  | 77 => ⟨S_, .f32⟩
  | 78 => ⟨S8x4096x4096, .f32⟩
  | 79 => ⟨S_, .f32⟩
  | 80 => ⟨S8x4096, .f32⟩
  | 81 => ⟨S8x4096x1, .f32⟩
  | 82 => ⟨S_, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S_, .f32⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .i1⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .i1⟩
  | 105 => ⟨S_, .f32⟩
  | 106 => ⟨S8x4096x4096, .f32⟩
  | 107 => ⟨S8x4096x4096, .f32⟩
  | 108 => ⟨S_, .f32⟩
  | 109 => ⟨S8x4096x4096, .f32⟩
  | 110 => ⟨S8x4096x4096, .i1⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S8x4096x4096, .f32⟩
  | 124 => ⟨S8x4096x4096, .i1⟩
  | 125 => ⟨S_, .f32⟩
  | 126 => ⟨S8x4096x4096, .f32⟩
  | 127 => ⟨S8x4096x4096, .f32⟩
  | _ => ⟨S4096x3072, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S8x4096x4096, .f32⟩
  | 5 => ⟨S8x4096x4096, .f32⟩
  | 6 => ⟨S8x4096x4096, .f32⟩
  | 7 => ⟨S8x4096x4096, .f32⟩
  | 8 => ⟨S8x4096x4096, .f32⟩
  | 9 => ⟨S_, .f32⟩
  | 10 => ⟨S_, .f32⟩
  | 11 => ⟨S8x4096x4096, .i1⟩
  | 12 => ⟨S8x4096x4096, .f32⟩
  | 13 => ⟨S8x4096x4096, .f32⟩
  | 14 => ⟨S_, .f32⟩
  | 15 => ⟨S8x4096x4096, .f32⟩
  | 16 => ⟨S8x4096x128, .f32⟩
  | 17 => ⟨S4096x8x128, .f32⟩
  | 18 => ⟨S4096x1024, .f32⟩
  | 19 => ⟨S4096x1024, .f32⟩
  | 20 => ⟨S4096x8x128, .f32⟩
  | 21 => ⟨S8x4096x128, .f32⟩
  | 22 => ⟨S8x128x4096, .f32⟩
  | 23 => ⟨S8x4096x128, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S8x4096, .f32⟩
  | 34 => ⟨S8x4096x1, .f32⟩
  | 35 => ⟨S8x4096x4096, .f32⟩
  | 36 => ⟨S_, .f32⟩
  | 37 => ⟨S_, .f32⟩
  | 38 => ⟨S8x4096x4096, .f32⟩
  | 39 => ⟨S_, .f32⟩
  | 40 => ⟨S8x4096, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S8x4096x4096, .f32⟩
  | 53 => ⟨S8x4096x4096, .f32⟩
  | 54 => ⟨S8x4096x128, .f32⟩
  | 55 => ⟨S8x4096x128, .f32⟩
  | 56 => ⟨S4096x8x128, .f32⟩
  | 57 => ⟨S4096x1024, .f32⟩
  | 58 => ⟨S4096x8x128, .f32⟩
  | 59 => ⟨S4096x1024, .f32⟩
  | 60 => ⟨S4096x8x128, .f32⟩
  | 61 => ⟨S4096x1024, .f32⟩
  | 62 => ⟨S4096x1536, .bf16⟩
  | 63 => ⟨S4096x1024, .bf16⟩
  | 64 => ⟨S4096x1024, .bf16⟩
  | 65 => ⟨S4096x1024, .bf16⟩
  | 66 => ⟨S4096x2048, .bf16⟩
  | 67 => ⟨S4096x6656, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_cst_0 : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_cst_1 : Ref sig .tc := ⟨.hbm, 79, rfl⟩
abbrev main_v22 : Ref sig .tc := ⟨.hbm, 80, rfl⟩
abbrev main_v23 : Ref sig .tc := ⟨.hbm, 81, rfl⟩
abbrev main_call2_call0_cst : Ref sig .tc := ⟨.hbm, 82, rfl⟩
abbrev main_call2_call0_v0 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1_0 : Ref sig .tc := ⟨.hbm, 101, rfl⟩
abbrev main_call3_call0_cst_0 : Ref sig .tc := ⟨.hbm, 102, rfl⟩
abbrev main_call3_call0_v13 : Ref sig .tc := ⟨.hbm, 103, rfl⟩
abbrev main_call3_call0_v14 : Ref sig .tc := ⟨.hbm, 104, rfl⟩
abbrev main_call3_call0_cst_1 : Ref sig .tc := ⟨.hbm, 105, rfl⟩
abbrev main_call3_call0_v15 : Ref sig .tc := ⟨.hbm, 106, rfl⟩
abbrev main_call3_call0_v16 : Ref sig .tc := ⟨.hbm, 107, rfl⟩
abbrev main_call3_call0_cst_2 : Ref sig .tc := ⟨.hbm, 108, rfl⟩
abbrev main_call3_call0_v17 : Ref sig .tc := ⟨.hbm, 109, rfl⟩
abbrev main_call3_call0_v18 : Ref sig .tc := ⟨.hbm, 110, rfl⟩
abbrev main_call3_call0_cst_3 : Ref sig .tc := ⟨.hbm, 111, rfl⟩
abbrev main_call3_call0_v19 : Ref sig .tc := ⟨.hbm, 112, rfl⟩
abbrev main_call3_call0_v20 : Ref sig .tc := ⟨.hbm, 113, rfl⟩
abbrev main_call3_call0_v21 : Ref sig .tc := ⟨.hbm, 114, rfl⟩
abbrev main_v27_1 : Ref sig .tc := ⟨.hbm, 115, rfl⟩
abbrev main_call3_call0_cst_4 : Ref sig .tc := ⟨.hbm, 116, rfl⟩
abbrev main_call3_call0_cst_5 : Ref sig .tc := ⟨.hbm, 117, rfl⟩
abbrev main_call3_call0_v23 : Ref sig .tc := ⟨.hbm, 118, rfl⟩
abbrev main_call3_call0_cst_6 : Ref sig .tc := ⟨.hbm, 119, rfl⟩
abbrev main_call3_call0_cst_7 : Ref sig .tc := ⟨.hbm, 120, rfl⟩
abbrev main_call3_call0_v24 : Ref sig .tc := ⟨.hbm, 121, rfl⟩
abbrev main_call3_call0_cst_8 : Ref sig .tc := ⟨.hbm, 122, rfl⟩
abbrev main_call3_call0_v25 : Ref sig .tc := ⟨.hbm, 123, rfl⟩
abbrev main_call3_call0_v26 : Ref sig .tc := ⟨.hbm, 124, rfl⟩
abbrev main_call3_call0_cst_9 : Ref sig .tc := ⟨.hbm, 125, rfl⟩
abbrev main_call3_call0_v27 : Ref sig .tc := ⟨.hbm, 126, rfl⟩
abbrev main_call3_call0_v28 : Ref sig .tc := ⟨.hbm, 127, rfl⟩
abbrev main_call3_call0_v29 : Ref sig .tc := ⟨.hbm, 128, rfl⟩
abbrev main_call3_call0_v30 : Ref sig .tc := ⟨.hbm, 129, rfl⟩
abbrev main_call3_call0_v31 : Ref sig .tc := ⟨.hbm, 130, rfl⟩
abbrev main_call3_call0_cst_10 : Ref sig .tc := ⟨.hbm, 131, rfl⟩
abbrev main_call3_call0_v32 : Ref sig .tc := ⟨.hbm, 132, rfl⟩
abbrev main_v27_2 : Ref sig .tc := ⟨.hbm, 133, rfl⟩
abbrev main_v27_0 : Ref sig .tc := ⟨.hbm, 134, rfl⟩
abbrev main_v28 : Ref sig .tc := ⟨.hbm, 135, rfl⟩
abbrev main_v29 : Ref sig .tc := ⟨.hbm, 136, rfl⟩
abbrev main_cst_2 : Ref sig .tc := ⟨.hbm, 137, rfl⟩
abbrev main_call4_v0 : Ref sig .tc := ⟨.hbm, 138, rfl⟩
abbrev main_v30_1 : Ref sig .tc := ⟨.hbm, 139, rfl⟩
abbrev main_call4_v2 : Ref sig .tc := ⟨.hbm, 140, rfl⟩
abbrev main_v30_0 : Ref sig .tc := ⟨.hbm, 141, rfl⟩
abbrev main_call4_cst : Ref sig .tc := ⟨.hbm, 142, rfl⟩
abbrev main_v30_2 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call5_cst : Ref sig .tc := ⟨.hbm, 153, rfl⟩
abbrev main_call5_v0 : Ref sig .tc := ⟨.hbm, 154, rfl⟩
abbrev main_v40 : Ref sig .tc := ⟨.hbm, 155, rfl⟩
abbrev main_v41 : Ref sig .tc := ⟨.hbm, 156, rfl⟩
abbrev main_call6_v0 : Ref sig .tc := ⟨.hbm, 157, rfl⟩
abbrev main_call6_v1 : Ref sig .tc := ⟨.hbm, 158, rfl⟩
abbrev main_v42 : Ref sig .tc := ⟨.hbm, 159, rfl⟩
abbrev main_cst_3 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_call7_call0_cst : Ref sig .tc := ⟨.hbm, 164, rfl⟩
abbrev main_call7_call0_v0 : Ref sig .tc := ⟨.hbm, 165, rfl⟩
abbrev main_v46 : Ref sig .tc := ⟨.hbm, 166, rfl⟩
abbrev main_cst_4 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_call8_cst : Ref sig .tc := ⟨.hbm, 171, rfl⟩
abbrev main_call8_v0 : Ref sig .tc := ⟨.hbm, 172, rfl⟩
abbrev main_v50 : Ref sig .tc := ⟨.hbm, 173, rfl⟩
abbrev main_call9_v0 : Ref sig .tc := ⟨.hbm, 174, rfl⟩
abbrev main_call9_v1 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_cst_5 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_v68 : Ref sig .tc := ⟨.hbm, 194, rfl⟩
abbrev main_v69 : Ref sig .tc := ⟨.hbm, 195, rfl⟩

abbrev nD : Nat := 1
abbrev τ : Topo := Topo.v7x

variable {F : FTy → Type} [FloatOps F]
-- ==== Kernel2.lean ====
abbrev S4096x2048 : Shape := ⟨2, ![4096, 2048]⟩
abbrev S4096x6656 : Shape := ⟨2, ![4096, 6656]⟩
abbrev S2048x6656 : Shape := ⟨2, ![2048, 6656]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6656, .bf16⟩
  | .hbm, ⟨2, _⟩ => ⟨S2048x6656, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x6656 : Shape := ⟨2, ![4096, 6656]⟩
abbrev S_ : Shape := ⟨0, ![]⟩
abbrev S2048x6656 : Shape := ⟨2, ![2048, 6656]⟩
abbrev S6656x2048 : Shape := ⟨2, ![6656, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6656, .bf16⟩
  | .hbm, ⟨2, _⟩ => ⟨S_, .f32⟩
  | .hbm, ⟨3, _⟩ => ⟨S2048x6656, .f32⟩
  | .hbm, ⟨4, _⟩ => ⟨S4096x2048, .f32⟩
  | .hbm, ⟨5, _⟩ => ⟨S4096x6656, .f32⟩
  | .hbm, ⟨6, _⟩ => ⟨S4096x6656, .f32⟩
  | .hbm, ⟨7, _⟩ => ⟨S6656x2048, .f32⟩
  | .hbm, ⟨8, _⟩ => ⟨S2048x6656, .f32⟩
  | .hbm, ⟨9, _⟩ => ⟨S2048x6656, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x6656 : Shape := ⟨2, ![4096, 6656]⟩
abbrev S2048x6656 : Shape := ⟨2, ![2048, 6656]⟩
abbrev S8x128 : Shape := ⟨2, ![8, 128]⟩
abbrev S4096x2048 : Shape := ⟨2, ![4096, 2048]⟩
abbrev S1024x3328 : Shape := ⟨2, ![1024, 3328]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x6656, .bf16⟩
  | .hbm, ⟨1, _⟩ => ⟨S2048x6656, .bf16⟩
  | .hbm, ⟨2, _⟩ => ⟨S8x128, .f32⟩
  | .hbm, ⟨3, _⟩ => ⟨S4096x2048, .bf16⟩
  | .local _ .vmem, ⟨0, _⟩ => ⟨S1024x3328, .bf16⟩
  | .local _ .vmem, ⟨1, _⟩ => ⟨S1024x3328, .bf16⟩
  | .local _ .vmem, ⟨2, _⟩ => ⟨S1024x3328, .bf16⟩
  | .local _ .vmem, ⟨3, _⟩ => ⟨S1024x3328, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x6656 : Shape := ⟨2, ![4096, 6656]⟩
abbrev S2048x6656 : Shape := ⟨2, ![2048, 6656]⟩
abbrev S8x128 : Shape := ⟨2, ![8, 128]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S2048x6656, .bf16⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S2048x6656, .f32⟩
  | .hbm, ⟨6, _⟩ => ⟨S4096x6656, .f32⟩
  | .hbm, ⟨7, _⟩ => ⟨S4096x6656, .f32⟩
  | .hbm, ⟨8, _⟩ => ⟨S4096x2048, .f32⟩
  | .hbm, ⟨9, _⟩ => ⟨S4096x2048, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S8x128, .f32⟩
  | .hbm, ⟨3, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x2048 : Shape := ⟨2, ![2048, 2048]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S8x128, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S2048x6656 : Shape := ⟨2, ![2048, 6656]⟩
abbrev S4096x1536 : Shape := ⟨2, ![4096, 1536]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x6656 : Shape := ⟨2, ![2048, 6656]⟩
abbrev S4096x6656 : Shape := ⟨2, ![4096, 6656]⟩
abbrev S4096x1536 : Shape := ⟨2, ![4096, 1536]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .hbm, ⟨3, _⟩ => ⟨S2048x6656, .f32⟩
  | .hbm, ⟨4, _⟩ => ⟨S4096x6656, .f32⟩
  | .hbm, ⟨5, _⟩ => ⟨S4096x1536, .f32⟩
  | .hbm, ⟨6, _⟩ => ⟨S4096x3072, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x6656 : Shape := ⟨2, ![2048, 6656]⟩
abbrev S4096x3072 : Shape := ⟨2, ![4096, 3072]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x6656 : Shape := ⟨2, ![2048, 6656]⟩
abbrev S4096x6656 : Shape := ⟨2, ![4096, 6656]⟩
abbrev S4096x1536 : Shape := ⟨2, ![4096, 1536]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .hbm, ⟨3, _⟩ => ⟨S2048x6656, .f32⟩
  | .hbm, ⟨4, _⟩ => ⟨S4096x6656, .f32⟩
  | .hbm, ⟨5, _⟩ => ⟨S4096x1536, .f32⟩
  | .hbm, ⟨6, _⟩ => ⟨S4096x3072, .f32⟩
  | .hbm, ⟨7, _⟩ => ⟨S4096x2048, .f32⟩
  | .hbm, ⟨8, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S2048x6656 : Shape := ⟨2, ![2048, 6656]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x6656 : Shape := ⟨2, ![2048, 6656]⟩
abbrev S4096x6656 : Shape := ⟨2, ![4096, 6656]⟩
abbrev S4096x1536 : Shape := ⟨2, ![4096, 1536]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .hbm, ⟨3, _⟩ => ⟨S2048x6656, .f32⟩
  | .hbm, ⟨4, _⟩ => ⟨S4096x6656, .f32⟩
  | .hbm, ⟨5, _⟩ => ⟨S4096x1536, .f32⟩
  | .hbm, ⟨6, _⟩ => ⟨S4096x3072, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x2048 : Shape := ⟨2, ![4096, 2048]⟩
abbrev S512x2048 : Shape := ⟨2, ![512, 2048]⟩
abbrev S8x128 : Shape := ⟨2, ![8, 128]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S8x128, .f32⟩
  | .hbm, ⟨3, _⟩ => ⟨S4096x512, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S8x128, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S512x2048 : Shape := ⟨2, ![512, 2048]⟩
abbrev S8x128 : Shape := ⟨2, ![8, 128]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .bf16⟩
  | .hbm, ⟨2, _⟩ => ⟨S8x128, .f32⟩
  | .hbm, ⟨3, _⟩ => ⟨S_, .f32⟩
  | .hbm, ⟨4, _⟩ => ⟨S4096x512, .f32⟩
  | .hbm, ⟨5, _⟩ => ⟨S512x2048, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .f32⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S2048x512, .f32⟩
  | .hbm, ⟨7, _⟩ => ⟨S512x2048, .f32⟩
  | .hbm, ⟨8, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S4096x512 : Shape := ⟨2, ![4096, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S_, .f32⟩
  | .hbm, ⟨3, _⟩ => ⟨S2048x512, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x512 : Shape := ⟨2, ![4096, 512]⟩
abbrev S2048x512 : Shape := ⟨2, ![2048, 512]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S2048x512 : Shape := ⟨2, ![2048, 512]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S_, .f32⟩
  | .hbm, ⟨3, _⟩ => ⟨S4096x2048, .f32⟩
  | .hbm, ⟨4, _⟩ => ⟨S2048x512, .f32⟩
  | .hbm, ⟨5, _⟩ => ⟨S4096x512, .f32⟩
  | .hbm, ⟨6, _⟩ => ⟨S4096x512, .f32⟩
  | .hbm, ⟨7, _⟩ => ⟨S4096x2048, .f32⟩
  | .hbm, ⟨8, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x2048, .f32⟩
  | .hbm, ⟨3, _⟩ => ⟨S2048x512, .f32⟩
  | .hbm, ⟨4, _⟩ => ⟨S4096x512, .f32⟩
  | .hbm, ⟨5, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | .hbm, ⟨5, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x2048 : Shape := ⟨2, ![4096, 2048]⟩
abbrev S2048 : Shape := ⟨1, ![2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel20.lean ====
abbrev S256x2048 : Shape := ⟨2, ![256, 2048]⟩
abbrev S2048 : Shape := ⟨1, ![2048]⟩
abbrev S1x2048 : Shape := ⟨2, ![1, 2048]⟩
abbrev S256x1 : Shape := ⟨2, ![256, 1]⟩
abbrev S256 : Shape := ⟨1, ![256]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .hbm, ⟨4, _⟩ => ⟨S256x1, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference20Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S2560x128 : Shape := ⟨2, ![2560, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2560x128 : Shape := ⟨2, ![2560, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S2560x128, .f32⟩
  | .hbm, ⟨7, _⟩ => ⟨S_, .f32⟩
  | .hbm, ⟨8, _⟩ => ⟨S2560x128, .f32⟩
  | .hbm, ⟨9, _⟩ => ⟨S2560x128, .f32⟩
  | .hbm, ⟨10, _⟩ => ⟨S2560x128, .f32⟩
  | .hbm, ⟨11, _⟩ => ⟨S_, .f32⟩
  | .hbm, ⟨12, _⟩ => ⟨S2560x128, .f32⟩
  | .hbm, ⟨13, _⟩ => ⟨S2560x128, .f32⟩
  | .hbm, ⟨14, _⟩ => ⟨S2560x128, .f32⟩
  | .hbm, ⟨15, _⟩ => ⟨S_, .f32⟩
  | .hbm, ⟨16, _⟩ => ⟨S2560x128, .f32⟩
  | .hbm, ⟨17, _⟩ => ⟨S2560x128, .f32⟩
  | .hbm, ⟨18, _⟩ => ⟨S2560x128, .f32⟩
  | .hbm, ⟨19, _⟩ => ⟨S_, .f32⟩
  | .hbm, ⟨20, _⟩ => ⟨S2560x128, .f32⟩
  | .hbm, ⟨21, _⟩ => ⟨S2560x128, .f32⟩
  | .hbm, ⟨22, _⟩ => ⟨S_, .f32⟩
  | .hbm, ⟨23, _⟩ => ⟨S2560x128, .f32⟩
  | .hbm, ⟨24, _⟩ => ⟨S2560x128, .f32⟩
  | .hbm, ⟨25, _⟩ => ⟨S2560x128, .f32⟩
  | .hbm, ⟨26, _⟩ => ⟨S_, .f32⟩
  | .hbm, ⟨27, _⟩ => ⟨S2560x128, .f32⟩
  | .hbm, ⟨28, _⟩ => ⟨S2560x128, .f32⟩
  | .hbm, ⟨29, _⟩ => ⟨S2560x128, .f32⟩
  | .hbm, ⟨30, _⟩ => ⟨S_, .f32⟩
  | .hbm, ⟨31, _⟩ => ⟨S2560x128, .f32⟩
  | .hbm, ⟨32, _⟩ => ⟨S2560x128, .f32⟩
  | .hbm, ⟨33, _⟩ => ⟨S2560x128, .f32⟩
  | .hbm, ⟨34, _⟩ => ⟨S_, .f32⟩
  | .hbm, ⟨35, _⟩ => ⟨S2560x128, .f32⟩
  | .hbm, ⟨36, _⟩ => ⟨S2560x128, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x512x512 : Shape := ⟨3, ![2, 512, 512]⟩
abbrev S512x512 : Shape := ⟨2, ![512, 512]⟩
abbrev S1x512x512 : Shape := ⟨3, ![1, 512, 512]⟩

abbrev nBuf : Space → Nat
  | .hbm => 11
  | .vmem => 22
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S512x512, .bf16⟩
  | .hbm, ⟨4, _⟩ => ⟨S512x512, .bf16⟩
  | .hbm, ⟨5, _⟩ => ⟨S512x512, .bf16⟩
  | .hbm, ⟨6, _⟩ => ⟨S512x512, .bf16⟩
  | .hbm, ⟨7, _⟩ => ⟨S2x512x512, .f32⟩
  | .hbm, ⟨8, _⟩ => ⟨S2x512x512, .f32⟩
  | .hbm, ⟨9, _⟩ => ⟨S2x512x512, .f32⟩
  | .hbm, ⟨10, _⟩ => ⟨S2x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S2x512x512 : Shape := ⟨3, ![2, 512, 512]⟩
abbrev S512x512 : Shape := ⟨2, ![512, 512]⟩
abbrev S1x512x512 : Shape := ⟨3, ![1, 512, 512]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S512x512, .bf16⟩
  | .hbm, ⟨4, _⟩ => ⟨S512x512, .bf16⟩
  | .hbm, ⟨5, _⟩ => ⟨S512x512, .bf16⟩
  | .hbm, ⟨6, _⟩ => ⟨S512x512, .bf16⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S1x512x512, .f32⟩
  | .hbm, ⟨14, _⟩ => ⟨S1x512x512, .f32⟩
  | .hbm, ⟨15, _⟩ => ⟨S2x512x512, .f32⟩
  | .hbm, ⟨16, _⟩ => ⟨S_, .f32⟩
  | .hbm, ⟨17, _⟩ => ⟨S2x512x512, .f32⟩
  | .hbm, ⟨18, _⟩ => ⟨S2x512x512, .f32⟩
  | .hbm, ⟨19, _⟩ => ⟨S_, .f32⟩
  | .hbm, ⟨20, _⟩ => ⟨S2x512x512, .f32⟩
  | .hbm, ⟨21, _⟩ => ⟨S2x512x512, .f32⟩
  | .hbm, ⟨22, _⟩ => ⟨S2x512x512, .f32⟩
  | .hbm, ⟨23, _⟩ => ⟨S_, .f32⟩
  | .hbm, ⟨24, _⟩ => ⟨S2x512x512, .f32⟩
  | .hbm, ⟨25, _⟩ => ⟨S2x512x512, .f32⟩
  | .hbm, ⟨26, _⟩ => ⟨S2x512x512, .f32⟩
  | .hbm, ⟨27, _⟩ => ⟨S_, .f32⟩
  | .hbm, ⟨28, _⟩ => ⟨S2x512x512, .f32⟩
  | .hbm, ⟨29, _⟩ => ⟨S2x512x512, .f32⟩
  | .hbm, ⟨30, _⟩ => ⟨S2x512x512, .f32⟩
  | .hbm, ⟨31, _⟩ => ⟨S_, .f32⟩
  | .hbm, ⟨32, _⟩ => ⟨S2x512x512, .f32⟩
  | .hbm, ⟨33, _⟩ => ⟨S2x512x512, .f32⟩
  | .hbm, ⟨34, _⟩ => ⟨S_, .f32⟩
  | .hbm, ⟨35, _⟩ => ⟨S2x512x512, .f32⟩
  | .hbm, ⟨36, _⟩ => ⟨S2x512x512, .f32⟩
  | .hbm, ⟨37, _⟩ => ⟨S2x512x512, .f32⟩
  | .hbm, ⟨38, _⟩ => ⟨S_, .f32⟩
  | .hbm, ⟨39, _⟩ => ⟨S2x512x512, .f32⟩
  | .hbm, ⟨40, _⟩ => ⟨S2x512x512, .f32⟩
  | .hbm, ⟨41, _⟩ => ⟨S2x512x512, .f32⟩
  | .hbm, ⟨42, _⟩ => ⟨S_, .f32⟩
  | .hbm, ⟨43, _⟩ => ⟨S2x512x512, .f32⟩
  | .hbm, ⟨44, _⟩ => ⟨S2x512x512, .f32⟩
  | .hbm, ⟨45, _⟩ => ⟨S2x512x512, .f32⟩
  | .hbm, ⟨46, _⟩ => ⟨S_, .f32⟩
  | .hbm, ⟨47, _⟩ => ⟨S2x512x512, .f32⟩
  | .hbm, ⟨48, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Prod.lean ====
module

public import Idealize.ShloMosaic.Lib.ValueIdx
public import Idealize.ShloMosaic.Lib.ValueLayout
public import Idealize.ShloMosaic.Lib.MatmulPlain
public import Idealize.ShloMosaic.Lib.IdealHost
public import Idealize.ShloMosaic.Lib.KernelVsHost

/-!
The products of two matrices at the ideal values, element by element: the rows by the rows, the columns by the columns
and the rows by the columns, in a kernel and on the host. Sums of extended reals are taken in any order, so nothing here
asks the entries to be finite.
-/

@[expose] public section

noncomputable section

namespace Cert.Prod

open Idealize.ShloMosaic Idealize.ShloMosaic.ValueIdx
open scoped BigOperators

variable {M K N : ℕ} {φ₁ φ₂ : FTy}

/-- A sum over twice as many places is the sum over the first half and the sum over the second. -/
theorem sum_halves {n N : ℕ} (h : N = n + n) (f : Fin N → EReal) :
    ∑ k, f k = (∑ k : Fin n, f ⟨k.val, by omega⟩) + ∑ k : Fin n, f ⟨n + k.val, by omega⟩ := by
  subst h
  exact Fin.sum_univ_add f

theorem origin : (![0, 0] : Fin 2 → Nat) = fun _ => 0 := funext fun a => by fin_cases a <;> rfl

/-- A pair of places is known by its two numbers. -/
theorem ix2_of_val (i : (⟨2, ![M, N]⟩ : Shape).Idx) (r : Fin M) (c : Fin N) (h0 : (i 0).val = r.val) (h1 : (i 1).val = c.val) :
    i = ix2 r c := by
  funext a
  apply Fin.ext
  match a with
  | ⟨0, _⟩ => exact h0
  | ⟨1, _⟩ => exact h1

theorem exists_ix2 (i : (⟨2, ![M, N]⟩ : Shape).Idx) : ∃ (r : Fin M) (c : Fin N), i = ix2 r c :=
  ⟨i 0, i 1, ix2_of_val i _ _ rfl rfl⟩

/-- A value at a place known by its two numbers. -/
theorem named {v : EReal} {X : (⟨2, ![M, N]⟩ : Shape).Idx → EReal} {r c : ℕ} {hr : r < M} {hc : c < N}
    (h : ∃ i, v = X i ∧ (i 0).val = r ∧ (i 1).val = c) : v = X (ix2 ⟨r, hr⟩ ⟨c, hc⟩) := by
  obtain ⟨i, rfl, h0, h1⟩ := h
  rw [ix2_of_val i ⟨r, hr⟩ ⟨c, hc⟩ h0 h1]

/-- What holds in every tile holds at every place. -/
theorem by_tiles {M N tm tn : ℕ} (hm : 0 < tm) (hn : 0 < tn) (X : (⟨2, ![M, N]⟩ : Shape).Idx → EReal) (f : Fin M → Fin N → EReal)
    (h : ∀ (p q : ℕ) (r : Fin tm) (k : Fin tn) (R : Fin M) (C : Fin N), R.val = p * tm + r.val → C.val = q * tn + k.val → X (ix2 R C) = f R C)
    (i : (⟨2, ![M, N]⟩ : Shape).Idx) : X i = f (i 0) (i 1) := by
  obtain ⟨R, C, rfl⟩ := exists_ix2 i
  exact h (R.val / tm) (C.val / tn) ⟨R.val % tm, Nat.mod_lt _ hm⟩ ⟨C.val % tn, Nat.mod_lt _ hn⟩ R C
    (Nat.div_add_mod' _ _).symm (Nat.div_add_mod' _ _).symm

/-- An array at a place of a block is the block at its element. -/
theorem at_place {α β γ : Type} {X : α → γ} {e : β → α} {Y : β → γ} (h : (fun j => X (e j)) = Y) (j : β) {i : α} (hi : e j = i)
    {v : γ} (hv : Y j = v) : X i = v := by
  rw [← hi, ← hv, ← h]

/-- Two arrays with the same value at each place are equal. -/
theorem eq_of_places {M N : ℕ} {X Y : (⟨2, ![M, N]⟩ : Shape).Idx → EReal} {f : Fin M → Fin N → EReal}
    (hX : ∀ R C, X (ix2 R C) = f R C) (hY : ∀ i, Y i = f (i 0) (i 1)) : X = Y := by
  funext i
  obtain ⟨R, C, rfl⟩ := exists_ix2 i
  exact (hX R C).trans (hY (ix2 R C)).symm

/-- The rows of `A` by the rows of `B`. -/
def byRows (A : (⟨2, ![M, K]⟩ : Shape).Idx → EReal) (B : (⟨2, ![N, K]⟩ : Shape).Idx → EReal) (r : Fin M) (c : Fin N) : EReal :=
  ∑ k : Fin K, A (ix2 r k) * B (ix2 c k)

/-- The rows of `A` by the columns of `B`. -/
def byCols (A : (⟨2, ![M, K]⟩ : Shape).Idx → EReal) (B : (⟨2, ![K, N]⟩ : Shape).Idx → EReal) (r : Fin M) (c : Fin N) : EReal :=
  ∑ k : Fin K, A (ix2 r k) * B (ix2 k c)

/-- The columns of `A` by the columns of `B`. -/
def ofCols (A : (⟨2, ![K, M]⟩ : Shape).Idx → EReal) (B : (⟨2, ![K, N]⟩ : Shape).Idx → EReal) (r : Fin M) (c : Fin N) : EReal :=
  ∑ k : Fin K, A (ix2 k r) * B (ix2 k c)

/-- Rows by rows, into zeros. -/
theorem rows_rows (w : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) (r : Fin M) (c : Fin N) :
    matmul (⟨[1], [1], [0], [0], [], [], w⟩ : DotDims _ _ _) none A B (constant ⟨2, ![M, N]⟩ .f32 0x00000000#32) (ix2 r c)
      = ∑ k : Fin K, A (ix2 r k) * B (ix2 c k) :=
  (Ideal.matmul_transposedRhs_apply none A B _ r c).trans
    (by rw [constant_apply, Ideal.ofBits_zero_f32, zero_add])

/-- Rows by columns, into zeros. -/
theorem rows_cols (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (r : Fin M) (c : Fin N) :
    matmul (⟨[1], [0], [0], [1], [], [], w⟩ : DotDims _ _ _) none A B (constant ⟨2, ![M, N]⟩ .f32 0x00000000#32) (ix2 r c)
      = ∑ k : Fin K, A (ix2 r k) * B (ix2 k c) :=
  (Ideal.matmul_plain_apply none A B _ r c).trans
    (by rw [constant_apply, Ideal.ofBits_zero_f32, zero_add])

/-- Columns by columns, into zeros. -/
theorem cols_cols (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (r : Fin M) (c : Fin N) :
    matmul (⟨[0], [0], [1], [1], [], [], w⟩ : DotDims _ _ _) none A B (constant ⟨2, ![M, N]⟩ .f32 0x00000000#32) (ix2 r c)
      = ∑ k : Fin K, A (ix2 k r) * B (ix2 k c) := by
  let D : DotDims ⟨2, ![K, M]⟩ ⟨2, ![K, N]⟩ ⟨2, ![M, N]⟩ := ⟨[0], [0], [1], [1], [], [], w⟩
  show FloatOps.matmul D none A B _ (ix2 r c) = _
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 r c) ((contrEquiv1 D K rfl rfl).symm k) = ix2 k r := by
    funext a; apply Fin.ext
    match a with
    | ⟨0, _⟩ => exact hk
    | ⟨1, _⟩ => rfl
  have er : D.rhsIdx (ix2 r c) ((contrEquiv1 D K rfl rfl).symm k) = ix2 k c := by
    funext a; apply Fin.ext
    match a with
    | ⟨0, _⟩ => exact hk
    | ⟨1, _⟩ => rfl
  rw [el, er]

/-- The same, the factors named. -/
theorem rows_rows_of (w : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) (r : Fin M) (c : Fin N) (f g : Fin K → EReal)
    (hA : ∀ k, A (ix2 r k) = f k) (hB : ∀ k, B (ix2 c k) = g k) :
    matmul (⟨[1], [1], [0], [0], [], [], w⟩ : DotDims _ _ _) none A B (constant ⟨2, ![M, N]⟩ .f32 0x00000000#32) (ix2 r c)
      = ∑ k : Fin K, f k * g k :=
  (rows_rows w A B r c).trans (Finset.sum_congr rfl fun k _ => by rw [hA, hB])

/-- The same, the factors named. -/
theorem rows_cols_of (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (r : Fin M) (c : Fin N) (f g : Fin K → EReal)
    (hA : ∀ k, A (ix2 r k) = f k) (hB : ∀ k, B (ix2 k c) = g k) :
    matmul (⟨[1], [0], [0], [1], [], [], w⟩ : DotDims _ _ _) none A B (constant ⟨2, ![M, N]⟩ .f32 0x00000000#32) (ix2 r c)
      = ∑ k : Fin K, f k * g k :=
  (rows_cols w A B r c).trans (Finset.sum_congr rfl fun k _ => by rw [hA, hB])

/-- The same, the factors named. -/
theorem cols_cols_of (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (r : Fin M) (c : Fin N) (f g : Fin K → EReal)
    (hA : ∀ k, A (ix2 k r) = f k) (hB : ∀ k, B (ix2 k c) = g k) :
    matmul (⟨[0], [0], [1], [1], [], [], w⟩ : DotDims _ _ _) none A B (constant ⟨2, ![M, N]⟩ .f32 0x00000000#32) (ix2 r c)
      = ∑ k : Fin K, f k * g k :=
  (cols_cols w A B r c).trans (Finset.sum_congr rfl fun k _ => by rw [hA, hB])

/-- A block's product is the whole product at a place, if the block's rows lie in the arrays as that place's do. -/
theorem rows_rows_at {m n : ℕ} (w : DotDims.WF ⟨2, ![m, K]⟩ ⟨2, ![n, K]⟩ ⟨2, ![m, n]⟩ [1] [1] [0] [0] [] [])
    (A : FVec Ideal ⟨2, ![m, K]⟩ φ₁) (B : FVec Ideal ⟨2, ![n, K]⟩ φ₂) (X : (⟨2, ![M, K]⟩ : Shape).Idx → EReal)
    (Y : (⟨2, ![N, K]⟩ : Shape).Idx → EReal) (r : Fin m) (c : Fin n) (R : Fin M) (C : Fin N)
    (hA : ∀ k, ∃ i, A (ix2 r k) = X i ∧ (i 0).val = R.val ∧ (i 1).val = k.val)
    (hB : ∀ k, ∃ i, B (ix2 c k) = Y i ∧ (i 0).val = C.val ∧ (i 1).val = k.val) :
    matmul (⟨[1], [1], [0], [0], [], [], w⟩ : DotDims _ _ _) none A B (constant ⟨2, ![m, n]⟩ .f32 0x00000000#32) (ix2 r c)
      = byRows X Y R C :=
  rows_rows_of w A B r c _ _ (fun k => named (hA k)) fun k => named (hB k)

/-- The same, rows by columns. -/
theorem rows_cols_at {m n : ℕ} (w : DotDims.WF ⟨2, ![m, K]⟩ ⟨2, ![K, n]⟩ ⟨2, ![m, n]⟩ [1] [0] [0] [1] [] [])
    (A : FVec Ideal ⟨2, ![m, K]⟩ φ₁) (B : FVec Ideal ⟨2, ![K, n]⟩ φ₂) (X : (⟨2, ![M, K]⟩ : Shape).Idx → EReal)
    (Y : (⟨2, ![K, N]⟩ : Shape).Idx → EReal) (r : Fin m) (c : Fin n) (R : Fin M) (C : Fin N)
    (hA : ∀ k, ∃ i, A (ix2 r k) = X i ∧ (i 0).val = R.val ∧ (i 1).val = k.val)
    (hB : ∀ k, ∃ i, B (ix2 k c) = Y i ∧ (i 0).val = k.val ∧ (i 1).val = C.val) :
    matmul (⟨[1], [0], [0], [1], [], [], w⟩ : DotDims _ _ _) none A B (constant ⟨2, ![m, n]⟩ .f32 0x00000000#32) (ix2 r c)
      = byCols X Y R C :=
  rows_cols_of w A B r c _ _ (fun k => named (hA k)) fun k => named (hB k)

/-- The same, columns by columns. -/
theorem cols_cols_at {m n : ℕ} (w : DotDims.WF ⟨2, ![K, m]⟩ ⟨2, ![K, n]⟩ ⟨2, ![m, n]⟩ [0] [0] [1] [1] [] [])
    (A : FVec Ideal ⟨2, ![K, m]⟩ φ₁) (B : FVec Ideal ⟨2, ![K, n]⟩ φ₂) (X : (⟨2, ![K, M]⟩ : Shape).Idx → EReal)
    (Y : (⟨2, ![K, N]⟩ : Shape).Idx → EReal) (r : Fin m) (c : Fin n) (R : Fin M) (C : Fin N)
    (hA : ∀ k, ∃ i, A (ix2 k r) = X i ∧ (i 0).val = k.val ∧ (i 1).val = R.val)
    (hB : ∀ k, ∃ i, B (ix2 k c) = Y i ∧ (i 0).val = k.val ∧ (i 1).val = C.val) :
    matmul (⟨[0], [0], [1], [1], [], [], w⟩ : DotDims _ _ _) none A B (constant ⟨2, ![m, n]⟩ .f32 0x00000000#32) (ix2 r c)
      = ofCols X Y R C :=
  cols_cols_of w A B r c _ _ (fun k => named (hA k)) fun k => named (hB k)

/-- Two blocks' products add up to the whole product of the columns at a place: the first has the first half of the rows
and the second the rest. -/
theorem cols_cols_halves {m n H : ℕ} (hK : K = H + H) (w : DotDims.WF ⟨2, ![H, m]⟩ ⟨2, ![H, n]⟩ ⟨2, ![m, n]⟩ [0] [0] [1] [1] [] [])
    (A A' : FVec Ideal ⟨2, ![H, m]⟩ φ₁) (B B' : FVec Ideal ⟨2, ![H, n]⟩ φ₂) (X : (⟨2, ![K, M]⟩ : Shape).Idx → EReal)
    (Y : (⟨2, ![K, N]⟩ : Shape).Idx → EReal) (r : Fin m) (c : Fin n) (R : Fin M) (C : Fin N)
    (hA : ∀ k, ∃ i, A (ix2 k r) = X i ∧ (i 0).val = k.val ∧ (i 1).val = R.val)
    (hB : ∀ k, ∃ i, B (ix2 k c) = Y i ∧ (i 0).val = k.val ∧ (i 1).val = C.val)
    (hA' : ∀ k, ∃ i, A' (ix2 k r) = X i ∧ (i 0).val = H + k.val ∧ (i 1).val = R.val)
    (hB' : ∀ k, ∃ i, B' (ix2 k c) = Y i ∧ (i 0).val = H + k.val ∧ (i 1).val = C.val) :
    (matmul (⟨[0], [0], [1], [1], [], [], w⟩ : DotDims _ _ _) none A B (constant ⟨2, ![m, n]⟩ .f32 0x00000000#32) (ix2 r c)
      + matmul (⟨[0], [0], [1], [1], [], [], w⟩ : DotDims _ _ _) none A' B' (constant ⟨2, ![m, n]⟩ .f32 0x00000000#32) (ix2 r c) : EReal)
      = ofCols X Y R C := by
  unfold ofCols
  rw [sum_halves hK]
  exact congrArg₂ (fun x y : EReal => x + y)
    (cols_cols_of w A B r c _ _ (fun k => named (hA k)) fun k => named (hB k))
    (cols_cols_of w A' B' r c _ _ (fun k => named (hA' k)) fun k => named (hB' k))

/-- Rows by rows, on the host. -/
theorem host_rows_rows (w : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) (r : Fin M) (c : Fin N) :
    Host.dotGeneral (⟨[1], [1], [0], [0], [], [], w⟩ : DotDims _ _ _) none A B (ix2 r c)
      = ∑ k : Fin K, A (ix2 r k) * B (ix2 c k) := by
  rw [← matmul_zero_eq_dotGeneral, rows_rows]

/-- Rows by columns, on the host. -/
theorem host_rows_cols (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (r : Fin M) (c : Fin N) :
    Host.dotGeneral (⟨[1], [0], [0], [1], [], [], w⟩ : DotDims _ _ _) none A B (ix2 r c)
      = ∑ k : Fin K, A (ix2 r k) * B (ix2 k c) := by
  rw [← matmul_zero_eq_dotGeneral, rows_cols]

/-- Columns by columns, on the host. -/
theorem host_cols_cols (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (r : Fin M) (c : Fin N) :
    Host.dotGeneral (⟨[0], [0], [1], [1], [], [], w⟩ : DotDims _ _ _) none A B (ix2 r c)
      = ∑ k : Fin K, A (ix2 k r) * B (ix2 k c) := by
  rw [← matmul_zero_eq_dotGeneral, cols_cols]

/-- Columns by columns on the host, the factors in the other order. -/
theorem host_cols_cols_swapped (w : DotDims.WF ⟨2, ![K, N]⟩ ⟨2, ![K, M]⟩ ⟨2, ![N, M]⟩ [0] [0] [1] [1] [] [])
    (B : FVec Ideal ⟨2, ![K, N]⟩ φ₂) (A : FVec Ideal ⟨2, ![K, M]⟩ φ₁) (r : Fin M) (c : Fin N) :
    Host.dotGeneral (⟨[0], [0], [1], [1], [], [], w⟩ : DotDims _ _ _) none B A (ix2 c r) = ofCols A B r c :=
  (host_cols_cols w B A c r).trans (Finset.sum_congr rfl fun _ _ => mul_comm _ _)

end Cert.Prod

end
-- ==== Proof.DwIn.lean ====
module

public import proofs.«01_k».proof.Defs
public import proofs.«01_k».proof.Proof.Gen.Kernel2Ideal.Value
public import proofs.«01_k».proof.Proof.Gen.Reference2Ideal.Run
public import proofs.«01_k».proof.Proof.Prod

/-!
The gradient of the fused projection's weights: the transpose of the layer's normalised input times the gradient of the
projection. The kernel makes one block of the result at each point, from whole columns; the reference makes the
transpose of the result and turns it.
-/

@[expose] public section

set_option maxRecDepth 16384

noncomputable section

namespace Cert.DwIn

open Cert.Kernel2Ideal Cert.Kernel2Ideal.Gen Cert.Kernel2Ideal.Value
open Idealize.ShloMosaic Idealize.ShloMosaic.TcCoe Idealize.SL.Sem Idealize.ShloMosaic.ValueIdx
open scoped BigOperators

theorem origin : (![0, 0] : Fin 2 → Nat) = fun _ => 0 := funext fun a => by fin_cases a <;> rfl

/-- A point leaves its block's product. -/
theorem point_value {F : FTy → Type} [FloatOps F] (c : Dev nD) (i : grid0.Coords) (a3 : Memref sig .tc .vmem S4096x1024 .bf16)
    (h3 : a3.IsWhole) (a4 : Memref sig .tc .vmem S4096x512 .bf16) (h4 : a4.IsWhole) (a5 : Memref sig .tc .vmem S1024x512 .bf16)
    (h5 : a5.IsWhole) (a6 : Memref sig .tc .vmem S1024x512 .f32) (h6 : a6.IsWhole)
    (hc0 : cond0_0 i) (hc1 : ¬cond0_1 i) (hc2 : cond0_2 i) (x0 : Vec F S4096x1024 .bf16) (x1 : Vec F S4096x512 .bf16) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero origin]
  unfold k0_pay4
  simp only [View.readCov_unit_zero (S := S1024x512) _ origin]
  unfold k0_pay2
  simp only [View.readAt_eq_ld, h3.read_unread, h4.read_unread, View.ld_unit_zero (S := S4096x1024) origin,
    View.ld_unit_zero (S := S4096x512) origin, shapeCast_self]

/-! ## Where the blocks lie -/

theorem at0 : ∀ t : Fin cfg0.N, win0_0.index t (0 : Fin 2) = 0 ∧ win0_0.index t (1 : Fin 2) = t.val / 13 :=
  (by decide +kernel : ∀ t : Fin grid0.N, _)

theorem at1 : ∀ t : Fin cfg0.N, win0_1.index t (0 : Fin 2) = 0 ∧ win0_1.index t (1 : Fin 2) = t.val % 13 :=
  (by decide +kernel : ∀ t : Fin grid0.N, _)

theorem at2 : ∀ t : Fin cfg0.N, win0_2.index t (0 : Fin 2) = t.val / 13 ∧ win0_2.index t (1 : Fin 2) = t.val % 13 :=
  (by decide +kernel : ∀ t : Fin grid0.N, _)

theorem written : ∀ t : Fin cfg0.N, (cfg0.win 2).flush t = true :=
  (by decide +kernel : ∀ t : Fin grid0.N, win0_2.flush t = true)

variable (m : (ℓ : Loc nD τ sig) → Buf (Elt Ideal) ℓ)

theorem block0 (c : Dev nD) (t : Fin cfg0.N) (k : Fin 4096) (r : Fin 1024) (R : Fin 2048) (hR : R.val = t.val / 13 * 1024 + r.val) :
    iblk m c 0 t (ix2 k r) = m ((c : Thread nD τ).loc main_arg0) (ix2 k R) := by
  obtain ⟨e0, e1⟩ := at0 t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 4096 + 1 * k.val = k.val; omega
  | ⟨1, _⟩ => show win0_0.index t (1 : Fin 2) * 1024 + 1 * r.val = R.val; omega

theorem block1 (c : Dev nD) (t : Fin cfg0.N) (k : Fin 4096) (r : Fin 512) (C : Fin 6656) (hC : C.val = t.val % 13 * 512 + r.val) :
    iblk m c 1 t (ix2 k r) = m ((c : Thread nD τ).loc main_arg1) (ix2 k C) := by
  obtain ⟨e0, e1⟩ := at1 t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 4096 + 1 * k.val = k.val; omega
  | ⟨1, _⟩ => show win0_1.index t (1 : Fin 2) * 512 + 1 * r.val = C.val; omega

/-- The whole product at a row and a column. -/
def whole (c : Dev nD) (R : Fin 2048) (C : Fin 6656) : EReal :=
  Cert.Prod.ofCols (K := 4096) (M := 2048) (N := 6656) (m ((c : Thread nD τ).loc main_arg0)) (m ((c : Thread nD τ).loc main_arg1)) R C

/-- A result array: the whole product everywhere. -/
def product (c : Dev nD) : Buf (Elt Ideal) ((c : Thread nD τ).loc main_v0) :=
  fun i : S2048x6656.Idx => (whole m c (i 0) (i 1) : EReal)

theorem point_writes (c : Dev nD) (t : Fin cfg0.N) (hf : (cfg0.win 2).flush t = true) :
    (dats m 0 c).flushed 2 t = ((cfg0.win 2).blk t).view.read (Elt Ideal) (product m c) := by
  rw [flushed2_A, point_value]
  obtain ⟨e0, e1⟩ := at2 t
  funext y
  have hy0 : (y 0).val < 1024 := (y 0).isLt
  have hy1 : (y 1).val < 512 := (y 1).isLt
  obtain ⟨r, k, rfl⟩ : ∃ (r : Fin 1024) (k : Fin 512), y = ix2 r k :=
    ⟨y 0, y 1, by funext a; match a with
      | ⟨0, _⟩ => rfl
      | ⟨1, _⟩ => rfl⟩
  rw [View.read_apply]
  have b0 : (((cfg0.win 2).blk t).view.emb (ix2 r k) 0).val = win0_2.index t (0 : Fin 2) * 1024 + 1 * r.val := rfl
  have b1 : (((cfg0.win 2).blk t).view.emb (ix2 r k) 1).val = win0_2.index t (1 : Fin 2) * 512 + 1 * k.val := rfl
  have hx : (cfg0.win 2).xinj (grid0.coords t) (ix2 r k) = ix2 r k := by
    funext a; match a with
    | ⟨0, _⟩ => rfl
    | ⟨1, _⟩ => rfl
  show k0_pay1 (iblk m c 0 t) (iblk m c 1 t) ((cfg0.win 2).xinj (grid0.coords t) (ix2 r k)) = whole m c _ _
  rw [hx]
  unfold whole Cert.Prod.ofCols
  exact Cert.Prod.cols_cols_of (φ₁ := .bf16) (φ₂ := .bf16) _ _ _ _ _ _ _
    (fun j => block0 m c t j r _ (by rw [b0]; omega)) (fun j => block1 m c t j k _ (by rw [b1]; omega))

/-- The kernel's result array. -/
theorem kernel_value (c : Dev nD) : (dats m 0 c).arrAt 2 cfg0.N = product m c :=
  (dats m 0 c).arrAt_eq_of_cover 2 _ (fun t hf => point_writes m c t hf) fun i => by
    have hi0 : (i 0).val < 2048 := (i 0).isLt
    have hi1 : (i 1).val < 6656 := (i 1).isLt
    have hN : cfg0.N = 26 := N_0
    let t : Fin cfg0.N := ⟨(i 0).val / 1024 * 13 + (i 1).val / 512, by omega⟩
    obtain ⟨e0, e1⟩ := at2 t
    have ht : t.val = (i 0).val / 1024 * 13 + (i 1).val / 512 := rfl
    refine ⟨t, written t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 512 ≤ (i 1).val ∧ (i 1).val < win0_2.index t (1 : Fin 2) * 512 + 512; omega

/-- The kernel and the reference give equal results. -/
theorem same_result : Cert.algebraic_Kernel2Ideal_Reference2Ideal := by
  intro m g m' g' _ hargs
  refine ⟨fun c => product m c, ?_, ?_⟩
  · exact (θ_run defs _ _).mono (fun r h c => ⟨(h c).1.trans (kernel_value m c), (h c).2⟩) (run_blocks m g)
  refine (θ_run Cert.Reference2Ideal.defs _ _).mono (fun r h c => ⟨(h c).1.trans ?_, (h c).2⟩) (Cert.Reference2Ideal.Value.run m' g')
  obtain ⟨e0, e1⟩ := hargs c
  rw [e0, e1]
  funext i
  obtain ⟨R, C, rfl⟩ : ∃ (R : Fin 2048) (C : Fin 6656), i = ix2 R C :=
    ⟨i 0, i 1, by funext a; match a with
      | ⟨0, _⟩ => rfl
      | ⟨1, _⟩ => rfl⟩
  show _ = whole m c R C
  unfold whole Cert.Prod.ofCols
  refine Eq.trans ?_ (Finset.sum_congr rfl fun k _ => mul_comm _ _)
  exact (transpose_ix2_apply (a := 6656) (b := 2048) _ _ R C).trans (Cert.Prod.host_cols_cols _ _ _ C R)

end Cert.DwIn

end
-- ==== Proof.DIn.lean ====
module

public import proofs.«01_k».proof.Defs
public import proofs.«01_k».proof.Proof.Gen.Kernel3Ideal.Value
public import proofs.«01_k».proof.Proof.Gen.Reference3Ideal.Run
public import proofs.«01_k».proof.Proof.Prod

/-!
The gradient of the layer's normalised input: the gradient of the fused projection times the weights' transpose. The
kernel takes the columns in two halves and adds the two products in a scratch block; the reference takes one product.
-/

@[expose] public section

set_option maxRecDepth 16384

noncomputable section

namespace Cert.DIn

open Cert.Kernel3Ideal Cert.Kernel3Ideal.Gen Cert.Kernel3Ideal.Value
open Idealize.ShloMosaic Idealize.ShloMosaic.TcCoe Idealize.SL.Sem Idealize.ShloMosaic.ValueIdx
open scoped BigOperators

section Blocks
variable {F : FTy → Type} [FloatOps F]

theorem origin : (![0, 0] : Fin 2 → Nat) = fun _ => 0 := funext fun a => by fin_cases a <;> rfl

/-- The first half leaves its product in the scratch block. -/
theorem first_half (c : Dev nD) (i : grid0.Coords) (a3 : Memref sig .tc .vmem S1024x3328 .bf16) (h3 : a3.IsWhole)
    (a4 : Memref sig .tc .vmem S1024x3328 .bf16) (h4 : a4.IsWhole) (a5 : Memref sig .tc .vmem S8x128 .f32) (h5 : a5.IsWhole)
    (a6 : Memref sig .tc .vmem S1024x1024 .bf16) (h6 : a6.IsWhole) (a7 : Memref sig .tc .vmem S1024x1024 .f32) (h7 : a7.IsWhole)
    (hc0 : cond0_0 i) (hc1 : ¬cond0_1 i) (hc2 : ¬cond0_2 i) (x0 x1 : Vec F S1024x3328 .bf16) (x2 : Vec F S8x128 .f32) :
    sout0_A_0 c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero origin]
  unfold k0_pay2
  simp only [View.readAt_eq_ld, h3.read_unread, h4.read_unread, View.ld_unit_zero (S := S1024x3328) origin, shapeCast_self]

/-- The second half adds its product and writes the sum. -/
theorem second_half (c : Dev nD) (i : grid0.Coords) (a3 : Memref sig .tc .vmem S1024x3328 .bf16) (h3 : a3.IsWhole)
    (a4 : Memref sig .tc .vmem S1024x3328 .bf16) (h4 : a4.IsWhole) (a5 : Memref sig .tc .vmem S8x128 .f32) (h5 : a5.IsWhole)
    (a6 : Memref sig .tc .vmem S1024x1024 .bf16) (h6 : a6.IsWhole) (a7 : Memref sig .tc .vmem S1024x1024 .f32) (h7 : a7.IsWhole)
    (hc0 : ¬cond0_0 i) (hc1 : cond0_1 i) (hc2 : cond0_2 i) (x0 x1 : Vec F S1024x3328 .bf16) (x2 : Vec F S8x128 .f32)
    (xs : Vec F S1024x1024 .f32) :
    out0_B_3 c i a3 h3 a4 h4 a5 h5 a6 h6 a7 h7 hc0 hc1 hc2 x0 x1 x2 xs
      = truncf .bf16 (addf xs (k0_pay1 x0 x1)) bitsLt_bf16_f32 := by
  unfold out0_B_3
  rw [View.read_writes_eq_canon _ _ _ (cover0_B_3 c i a3 h3 a4 h4 a5 h5 a6 h6 a7 h7 hc0 hc1 hc2 x0 x1 x2 xs)]
  unfold kernelRun0_B
  dsimp only
  sl_unfold_words
  rw [View.canon_unit_zero origin]
  unfold k0_pay4
  simp only [View.readCov_unit_zero (S := S1024x1024) _ origin]
  unfold k0_pay3
  simp only [View.readAt_eq_ld, h3.read_unread, h4.read_unread, h7.read_unread, View.ld_unit_zero (S := S1024x3328) origin,
    View.ld_unit_zero (S := S1024x1024) origin, shapeCast_self]

variable (m : (ℓ : Loc nD τ sig) → Buf (Elt F) ℓ)

/-- What a point of the second half leaves: the sum of the two halves' products. -/
theorem point_value (c : Dev nD) (n : ℕ) (hn : 2 * n + 1 < cfg0.N) :
    (outsAt0 m c (2 * n + 1) hn).1
      = truncf .bf16 (addf (k0_pay1 (iblk m c 0 ⟨2 * n, by omega⟩) (iblk m c 1 ⟨2 * n, by omega⟩))
          (k0_pay1 (iblk m c 0 ⟨2 * n + 1, hn⟩) (iblk m c 1 ⟨2 * n + 1, hn⟩))) bitsLt_bf16_f32 := by
  have eB := outsAt0_B m c ⟨2 * n + 1, hn⟩ (by dsimp only; omega) (by dsimp only; omega) (by dsimp only; omega)
  have eA := outsAt0_A m c ⟨2 * n, by omega⟩ (by dsimp only; omega) (by dsimp only; omega) (by dsimp only; omega)
  rw [eB]
  dsimp only
  rw [second_half]
  show truncf .bf16 (addf (outsAt0 m c (2 * n) _).2 _) _ = _
  rw [eA]
  dsimp only
  rw [first_half]

end Blocks

/-! ## Where the blocks lie -/

/-- The first input's block at a point. -/
theorem at0 : ∀ t : Fin cfg0.N, win0_0.index t (0 : Fin 2) = t.val / 4 ∧ win0_0.index t (1 : Fin 2) = t.val % 2 :=
  (by decide +kernel : ∀ t : Fin grid0.N, _)

/-- The second input's block at a point. -/
theorem at1 : ∀ t : Fin cfg0.N, win0_1.index t (0 : Fin 2) = t.val / 2 % 2 ∧ win0_1.index t (1 : Fin 2) = t.val % 2 :=
  (by decide +kernel : ∀ t : Fin grid0.N, _)

variable (m : (ℓ : Loc nD τ sig) → Buf (Elt Ideal) ℓ)

theorem block0 (c : Dev nD) (t : Fin cfg0.N) (r : Fin 1024) (k : Fin 3328) (R : Fin 4096) (K : Fin 6656)
    (hR : R.val = t.val / 4 * 1024 + r.val) (hK : K.val = t.val % 2 * 3328 + k.val) :
    iblk m c 0 t (ix2 r k) = m ((c : Thread nD τ).loc main_arg0) (ix2 R K) := by
  obtain ⟨e0, e1⟩ := at0 t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * r.val = R.val; omega
  | ⟨1, _⟩ => show win0_0.index t (1 : Fin 2) * 3328 + 1 * k.val = K.val; omega

theorem block1 (c : Dev nD) (t : Fin cfg0.N) (r : Fin 1024) (k : Fin 3328) (R : Fin 2048) (K : Fin 6656)
    (hR : R.val = t.val / 2 % 2 * 1024 + r.val) (hK : K.val = t.val % 2 * 3328 + k.val) :
    iblk m c 1 t (ix2 r k) = m ((c : Thread nD τ).loc main_arg1) (ix2 R K) := by
  obtain ⟨e0, e1⟩ := at1 t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 1024 + 1 * r.val = R.val; omega
  | ⟨1, _⟩ => show win0_1.index t (1 : Fin 2) * 3328 + 1 * k.val = K.val; omega

/-- The whole product at a row and a column. -/
def whole (c : Dev nD) (R : Fin 4096) (C : Fin 2048) : EReal :=
  Cert.Prod.byRows (M := 4096) (K := 6656) (N := 2048) (m ((c : Thread nD τ).loc main_arg0)) (m ((c : Thread nD τ).loc main_arg1)) R C

/-- The kernel's result at a row and a column. -/
theorem kernel_value (c : Dev nD) (i : S4096x2048.Idx) : G3 m c i = whole m c (i 0) (i 1) := by
  have hi0 : (i 0).val < 4096 := (i 0).isLt
  have hi1 : (i 1).val < 2048 := (i 1).isLt
  have hN : cfg0.N = 16 := N_0
  have hp : 2 * run3Of i + 1 < cfg0.N := by show 2 * (2 * ((i 0).val / 1024 - 0) + 1 * ((i 1).val / 1024 - 0)) + 1 < _; omega
  unfold G3
  rw [dif_pos hp, ← outsAt0_sweep m c (2 * run3Of i + 1) hp, point_value]
  have el : loc3Of i = ix2 (⟨(i 0).val % 1024, Nat.mod_lt _ (by decide)⟩ : Fin 1024) (⟨(i 1).val % 1024, Nat.mod_lt _ (by decide)⟩ : Fin 1024) := by
    funext a; match a with
    | ⟨0, _⟩ => rfl
    | ⟨1, _⟩ => rfl
  rw [el]
  unfold whole Cert.Prod.byRows
  rw [Cert.Prod.sum_halves (n := 3328) rfl]
  refine congrArg₂ (fun x y : EReal => x + y) ?_ ?_
  · exact Cert.Prod.rows_rows_of (φ₁ := .bf16) (φ₂ := .bf16) _ _ _ _ _ _ _
      (fun k => block0 m c _ _ _ _ _ (by show (i 0).val = 2 * (2 * ((i 0).val / 1024 - 0) + 1 * ((i 1).val / 1024 - 0)) / 4 * 1024 + (i 0).val % 1024; omega)
        (by show k.val = 2 * (2 * ((i 0).val / 1024 - 0) + 1 * ((i 1).val / 1024 - 0)) % 2 * 3328 + k.val; omega))
      (fun k => block1 m c _ _ _ _ _ (by show (i 1).val = 2 * (2 * ((i 0).val / 1024 - 0) + 1 * ((i 1).val / 1024 - 0)) / 2 % 2 * 1024 + (i 1).val % 1024; omega)
        (by show k.val = 2 * (2 * ((i 0).val / 1024 - 0) + 1 * ((i 1).val / 1024 - 0)) % 2 * 3328 + k.val; omega))
  · exact Cert.Prod.rows_rows_of (φ₁ := .bf16) (φ₂ := .bf16) _ _ _ _ _ _ _
      (fun k => block0 m c _ _ _ _ _ (by show (i 0).val = (2 * (2 * ((i 0).val / 1024 - 0) + 1 * ((i 1).val / 1024 - 0)) + 1) / 4 * 1024 + (i 0).val % 1024; omega)
        (by show 3328 + k.val = (2 * (2 * ((i 0).val / 1024 - 0) + 1 * ((i 1).val / 1024 - 0)) + 1) % 2 * 3328 + k.val; omega))
      (fun k => block1 m c _ _ _ _ _ (by show (i 1).val = (2 * (2 * ((i 0).val / 1024 - 0) + 1 * ((i 1).val / 1024 - 0)) + 1) / 2 % 2 * 1024 + (i 1).val % 1024; omega)
        (by show 3328 + k.val = (2 * (2 * ((i 0).val / 1024 - 0) + 1 * ((i 1).val / 1024 - 0)) + 1) % 2 * 3328 + k.val; omega))

/-- The kernel and the reference give equal results. -/
theorem same_result : Cert.algebraic_Kernel3Ideal_Reference3Ideal := by
  intro m g m' g' _ hargs
  refine ⟨fun c => G3 m c, run m g, ?_⟩
  refine (θ_run Cert.Reference3Ideal.defs _ _).mono (fun r h c => ⟨(h c).1.trans ?_, (h c).2⟩) (Cert.Reference3Ideal.Value.run m' g')
  obtain ⟨e0, e1, -⟩ := hargs c
  rw [e0, e1]
  funext i
  refine Eq.trans ?_ (kernel_value m c i).symm
  obtain ⟨R, C, rfl⟩ : ∃ (R : Fin 4096) (C : Fin 2048), i = ix2 R C :=
    ⟨i 0, i 1, by funext a; match a with
      | ⟨0, _⟩ => rfl
      | ⟨1, _⟩ => rfl⟩
  exact Cert.Prod.host_rows_rows _ _ _ R C

end Cert.DIn

end
-- ==== Proof.DwOut.lean ====
module

public import proofs.«01_k».proof.Defs
public import proofs.«01_k».proof.Proof.Gen.Kernel4Ideal.Value
public import proofs.«01_k».proof.Proof.Gen.Reference4Ideal.Run
public import proofs.«01_k».proof.Proof.Prod

/-!
The gradient of the output projection's weights: the transpose of the mixer's output times the gradient of the residual
stream. The kernel takes the rows in two halves and adds the two products in a scratch block.
-/

@[expose] public section

set_option maxRecDepth 16384

noncomputable section

namespace Cert.DwOut

open Cert.Kernel4Ideal Cert.Kernel4Ideal.Gen Cert.Kernel4Ideal.Value
open Idealize.ShloMosaic Idealize.ShloMosaic.TcCoe Idealize.SL.Sem Idealize.ShloMosaic.ValueIdx

section Blocks
variable {F : FTy → Type} [FloatOps F]

/-- The first half leaves its product in the scratch block. -/
theorem first_half (c : Dev nD) (i : grid0.Coords) (a3 : Memref sig .tc .vmem S2048x1024 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : ¬cond0_2 i) (x0 : Vec F S2048x1024 .bf16) (x1 : Vec F S2048x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero Cert.Prod.origin]
  unfold k0_pay2
  simp only [View.readAt_eq_ld, h3.read_unread, h4.read_unread, View.ld_unit_zero (S := S2048x1024) Cert.Prod.origin, shapeCast_self]

/-- The second half adds its product and writes the sum. -/
theorem second_half (c : Dev nD) (i : grid0.Coords) (a3 : Memref sig .tc .vmem S2048x1024 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .f32) (xs : Vec F S1024x1024 .f32) :
    out0_B_2 c i a3 h3 a4 h4 a5 h5 a6 h6 hc0 hc1 hc2 x0 x1 xs = truncf .bf16 (addf xs (k0_pay1 x0 x1)) bitsLt_bf16_f32 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero Cert.Prod.origin]
  unfold k0_pay4
  simp only [View.readCov_unit_zero (S := S1024x1024) _ Cert.Prod.origin]
  unfold k0_pay3
  simp only [View.readAt_eq_ld, h3.read_unread, h4.read_unread, h6.read_unread, View.ld_unit_zero (S := S2048x1024) Cert.Prod.origin, View.ld_unit_zero (S := S1024x1024) Cert.Prod.origin, shapeCast_self]

variable (m : (ℓ : Loc nD τ sig) → Buf (Elt F) ℓ)

/-- What a point of the second half leaves: the sum of the two halves' products. -/
theorem point_value (c : Dev nD) (n : ℕ) (hn : 2 * n + 1 < cfg0.N) :
    (outsAt0 m c (2 * n + 1) hn).1
      = truncf .bf16 (addf (k0_pay1 (iblk m c 0 ⟨2 * n, by omega⟩) (iblk m c 1 ⟨2 * n, by omega⟩))
          (k0_pay1 (iblk m c 0 ⟨2 * n + 1, hn⟩) (iblk m c 1 ⟨2 * n + 1, hn⟩))) bitsLt_bf16_f32 := by
  rw [outsAt0_B m c ⟨2 * n + 1, hn⟩ (by dsimp only; omega) (by dsimp only; omega) (by dsimp only; omega)]
  dsimp only
  rw [second_half]
  show truncf .bf16 (addf (outsAt0 m c (2 * n) _).2 _) _ = _
  rw [outsAt0_A m c ⟨2 * n, by omega⟩ (by dsimp only; omega) (by dsimp only; omega) (by dsimp only; omega)]
  dsimp only
  rw [first_half]

end Blocks

/-- Where the blocks lie. -/
theorem places : ∀ t : Fin cfg0.N, (win0_0.index t (0 : Fin 2) = t.val % 2 ∧ win0_0.index t (1 : Fin 2) = t.val / 4)
    ∧ (win0_1.index t (0 : Fin 2) = t.val % 2 ∧ win0_1.index t (1 : Fin 2) = t.val / 2 % 2) :=
  (by decide +kernel : ∀ t : Fin grid0.N, _)

variable (m : (ℓ : Loc nD τ sig) → Buf (Elt Ideal) ℓ)

/-- An element of the first input's block. -/
theorem block0 (c : Dev nD) (t : Fin cfg0.N) (j : Fin 2048) (r : Fin 1024) (J R : ℕ) (hJ : t.val % 2 * 2048 + j.val = J) (hR : t.val / 4 * 1024 + r.val = R) :
    ∃ i : (⟨2, ![4096, 2048]⟩ : Shape).Idx, iblk m c 0 t (ix2 j r) = m ((c : Thread nD τ).loc main_arg0) i ∧ (i 0).val = J ∧ (i 1).val = R := by
  obtain ⟨⟨p0, p1⟩, -⟩ := places t
  exact ⟨_, rfl, by show win0_0.index t (0 : Fin 2) * 2048 + 1 * j.val = _; omega, by show win0_0.index t (1 : Fin 2) * 1024 + 1 * r.val = _; omega⟩

/-- An element of the second input's block. -/
theorem block1 (c : Dev nD) (t : Fin cfg0.N) (j : Fin 2048) (r : Fin 1024) (J C : ℕ) (hJ : t.val % 2 * 2048 + j.val = J) (hC : t.val / 2 % 2 * 1024 + r.val = C) :
    ∃ i : (⟨2, ![4096, 2048]⟩ : Shape).Idx, iblk m c 1 t (ix2 j r) = m ((c : Thread nD τ).loc main_arg1) i ∧ (i 0).val = J ∧ (i 1).val = C := by
  obtain ⟨-, q0, q1⟩ := places t
  exact ⟨_, rfl, by show win0_1.index t (0 : Fin 2) * 2048 + 1 * j.val = _; omega, by show win0_1.index t (1 : Fin 2) * 1024 + 1 * r.val = _; omega⟩

/-- The whole product at a row and a column. -/
def whole (c : Dev nD) (R : Fin 2048) (C : Fin 2048) : EReal :=
  Cert.Prod.ofCols (K := 4096) (M := 2048) (N := 2048) (m ((c : Thread nD τ).loc main_arg0)) (m ((c : Thread nD τ).loc main_arg1)) R C

/-- The kernel's result array. -/
theorem kernel_value (c : Dev nD) (i : S2048x2048.Idx) : G2 m c i = whole m c (i 0) (i 1) :=
  Cert.Prod.by_tiles (tm := 1024) (tn := 1024) (by decide) (by decide) (fun i => G2 m c i) (whole m c) (fun p q r k R C hR hC => by
    have hN : cfg0.N = 8 := N_0
    have hr : run2Of (ix2 R C) = 2 * (R.val / 1024 - 0) + 1 * (C.val / 1024 - 0) := rfl
    have hp : 2 * run2Of (ix2 R C) + 1 < cfg0.N := by omega
    have el : loc2Of (ix2 R C) = ix2 r k :=
      Cert.Prod.ix2_of_val _ _ _ (by show R.val % 1024 = r.val; omega) (by show C.val % 1024 = k.val; omega)
    unfold G2
    rw [dif_pos hp, ← outsAt0_sweep m c (2 * run2Of (ix2 R C) + 1) hp, point_value, el]
    exact Cert.Prod.cols_cols_halves (φ₁ := .bf16) (φ₂ := .bf16) rfl _ _ _ _ _ _ _ r k R C
      (fun j => block0 m c ⟨2 * run2Of (ix2 R C), by omega⟩ j r _ _ (by dsimp only; omega) (by dsimp only; omega))
      (fun j => by
        obtain ⟨i, h, e⟩ := block1 m c ⟨2 * run2Of (ix2 R C), by omega⟩ j k j.val C.val (by dsimp only; omega) (by dsimp only; omega)
        exact ⟨i, h, e⟩)
      (fun j => block0 m c ⟨2 * run2Of (ix2 R C) + 1, hp⟩ j r _ _ (by dsimp only; omega) (by dsimp only; omega))
      (fun j => by
        obtain ⟨i, h, e⟩ := block1 m c ⟨2 * run2Of (ix2 R C) + 1, hp⟩ j k (2048 + j.val) C.val (by dsimp only; omega) (by dsimp only; omega)
        exact ⟨i, h, e⟩)) i

/-- The kernel and the reference give equal results. -/
theorem same_result : Cert.algebraic_Kernel4Ideal_Reference4Ideal := by
  intro m g m' g' _ hargs
  refine ⟨_, run m g, ?_⟩
  refine (θ_run Cert.Reference4Ideal.defs _ _).mono (fun r h c => ⟨(h c).1.trans ?_, (h c).2⟩) (Cert.Reference4Ideal.Value.run m' g')
  obtain ⟨e0, e1⟩ := hargs c
  rw [e0, e1]
  exact Cert.Prod.eq_of_places (fun R C => (transpose_ix2_apply (a := 2048) (b := 2048) _ _ R C).trans
    (Cert.Prod.host_cols_cols_swapped (φ₁ := .f32) (φ₂ := .f32) _ _ _ R C)) (kernel_value m c)

end Cert.DwOut

end
-- ==== Proof.DOut.lean ====
module

public import proofs.«01_k».proof.Defs
public import proofs.«01_k».proof.Proof.Gen.Kernel5Ideal.Value
public import proofs.«01_k».proof.Proof.Gen.Reference5Ideal.Run
public import proofs.«01_k».proof.Proof.Prod

/-!
The gradient of the mixer's output: the gradient of the residual stream times the transpose of the output projection's
weights, one block at each point.
-/

@[expose] public section

set_option maxRecDepth 16384

noncomputable section

namespace Cert.DOut

open Cert.Kernel5Ideal Cert.Kernel5Ideal.Gen Cert.Kernel5Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .f32) (h3 : a3.IsWhole)
    (a4 : Memref sig .tc .vmem S1024x2048 .bf16) (h4 : a4.IsWhole)
    (a5 : Memref sig .tc .vmem S8x128 .f32) (h5 : a5.IsWhole)
    (a6 : Memref sig .tc .vmem S1024x1024 .bf16) (h6 : a6.IsWhole)
    (a7 : Memref sig .tc .vmem S1024x1024 .f32) (h7 : a7.IsWhole)
    (hc0 : cond0_0 i) (hc1 : ¬cond0_1 i) (hc2 : cond0_2 i)
    (x0 : Vec F S1024x2048 .f32) (x1 : Vec F S1024x2048 .bf16) (x2 : Vec F S8x128 .f32) :
    out0_A_3 c i a3 h3 a4 h4 a5 h5 a6 h6 a7 h7 hc0 hc1 hc2 x0 x1 x2 = truncf .bf16 (k0_pay1 x0 x1) bitsLt_bf16_f32 := by
  unfold out0_A_3
  rw [View.read_writes_eq_canon _ _ _ (cover0_A_3 c i a3 h3 a4 h4 a5 h5 a6 h6 a7 h7 hc0 hc1 hc2 x0 x1 x2)]
  unfold kernelRun0_A
  dsimp only
  sl_unfold_words
  rw [View.canon_unit_zero Cert.Prod.origin]
  unfold k0_pay4
  simp only [View.readCov_unit_zero (S := S1024x1024) _ Cert.Prod.origin]
  unfold k0_pay2
  simp only [View.readAt_eq_ld, h3.read_unread, h4.read_unread, View.ld_unit_zero (S := S1024x2048) Cert.Prod.origin, shapeCast_self]

/-- Where the blocks lie. -/
theorem places : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_3.index t (0 : Fin 2) = t.val / 2 ∧ win0_3.index t (1 : Fin 2) = t.val % 2) ∧ win0_3.flush t = true :=
  (by decide +kernel : ∀ t : Fin grid0.N, _)

variable (m : (ℓ : Loc nD τ sig) → Buf (Elt Ideal) ℓ)

/-- The result at a row and a column. -/
def whole (c : Dev nD) : Fin 4096 → Fin 2048 → EReal :=
  Cert.Prod.byRows (M := 4096) (K := 2048) (N := 2048) (m ((c : Thread nD τ).loc main_arg0)) (m ((c : Thread nD τ).loc main_arg1))

/-- The kernel's result array. -/
theorem kernel_value (c : Dev nD) (i : S4096x2048.Idx) : (dats m 0 c).arrAt 3 cfg0.N i = whole m c (i 0) (i 1) :=
  Cert.Prod.by_tiles (tm := 1024) (tn := 1024) (by decide) (by decide) (fun i => (dats m 0 c).arrAt 3 cfg0.N i) (whole m c) (fun p q r k R C hR hC => by
    have hN : cfg0.N = 8 := N_0
    obtain ⟨t, ht⟩ : ∃ t : Fin cfg0.N, t.val = p * 2 + q := ⟨⟨p * 2 + q, by omega⟩, rfl⟩
    obtain ⟨⟨p0, p1⟩, ⟨q0, q1⟩, ⟨o0, o1⟩, hf⟩ := places t
    refine Cert.Prod.at_place (e := ((cfg0.win 3).blk t).view.emb) (blocks3 m c t hf) (ix2 r k) (Cert.Prod.ix2_of_val _ _ _ ?_ ?_) ?_
    · show win0_3.index t (0 : Fin 2) * 1024 + 1 * r.val = _; omega
    · show win0_3.index t (1 : Fin 2) * 1024 + 1 * k.val = _; omega
    rw [flushed3_A, point_value]
    exact Cert.Prod.rows_rows_at (φ₁ := .bf16) (φ₂ := .bf16) _ _ _ _ _ r k R C
      (fun j => ⟨_, rfl, by show win0_0.index t (0 : Fin 2) * 1024 + 1 * r.val = _; omega, by show win0_0.index t (1 : Fin 2) * 2048 + 1 * j.val = _; omega⟩)
      (fun j => ⟨_, rfl, by show win0_1.index t (0 : Fin 2) * 1024 + 1 * k.val = _; omega, by show win0_1.index t (1 : Fin 2) * 2048 + 1 * j.val = _; omega⟩)) i

/-- The kernel and the reference give equal results. -/
theorem same_result : Cert.algebraic_Kernel5Ideal_Reference5Ideal := by
  intro m g m' g' _ hargs
  refine ⟨_, run_blocks m g, ?_⟩
  refine (θ_run Cert.Reference5Ideal.defs _ _).mono (fun r h c => ⟨(h c).1.trans ?_, (h c).2⟩) (Cert.Reference5Ideal.Value.run m' g')
  obtain ⟨e0, e1, -⟩ := hargs c
  rw [e0, e1]
  exact Cert.Prod.eq_of_places (fun R C => Cert.Prod.host_rows_rows (φ₁ := .f32) (φ₂ := .f32) _ _ _ R C) (kernel_value m c)

end Cert.DOut

end
-- ==== Proof.InConv.lean ====
module

public import proofs.«01_k».proof.Defs
public import proofs.«01_k».proof.Proof.Gen.Kernel6Ideal.Value
public import proofs.«01_k».proof.Proof.Gen.Reference6Ideal.Run
public import proofs.«01_k».proof.Proof.Prod

/-!
The columns of the fused input projection that the convolution takes, one block at each point. The reference projects to
all columns and cuts these out.
-/

@[expose] public section

set_option maxRecDepth 16384

noncomputable section

namespace Cert.InConv

open Cert.Kernel6Ideal Cert.Kernel6Ideal.Gen Cert.Kernel6Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .bf16) (h3 : a3.IsWhole)
    (a4 : Memref sig .tc .vmem S2048x768 .bf16) (h4 : a4.IsWhole)
    (a5 : Memref sig .tc .vmem S1024x768 .f32) (h5 : a5.IsWhole)
    (a6 : Memref sig .tc .vmem S1024x768 .f32) (h6 : a6.IsWhole)
    (hc0 : cond0_0 i) (hc1 : ¬cond0_1 i) (hc2 : cond0_2 i)
    (x0 : Vec F S1024x2048 .bf16) (x1 : Vec F S2048x768 .bf16) :
    out0_A_2 c i a3 h3 a4 h4 a5 h5 a6 h6 hc0 hc1 hc2 x0 x1 = k0_pay1 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  simp only [View.readCov_unit_zero (S := S1024x768) _ Cert.Prod.origin]
  unfold k0_pay2
  simp only [View.readAt_eq_ld, h3.read_unread, h4.read_unread, View.ld_unit_zero (S := S1024x2048) Cert.Prod.origin, View.ld_unit_zero (S := S2048x768) Cert.Prod.origin, shapeCast_self]

/-- Where the blocks lie. -/
theorem places : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) ∧ win0_2.flush t = true :=
  (by decide +kernel : ∀ t : Fin grid0.N, _)

variable (m : (ℓ : Loc nD τ sig) → Buf (Elt Ideal) ℓ)

/-- The result at a row and a column. -/
def whole (c : Dev nD) (R : Fin 4096) (C : Fin 1536) : EReal :=
  Cert.Prod.byCols (M := 4096) (K := 2048) (N := 6656) (m ((c : Thread nD τ).loc main_arg0)) (m ((c : Thread nD τ).loc main_arg1)) R ⟨0 + C.val, by omega⟩

/-- The weights' block at a point. The pipeline would cut a block that overhangs the weights; none does. -/
theorem second (c : Dev nD) (t : Fin cfg0.N) (j : Fin 2048) (k : Fin 768) (C : ℕ) (hC : win0_1.index t (1 : Fin 2) * 768 + k.val = C) :
    ∃ i : (⟨2, ![2048, 6656]⟩ : Shape).Idx, X0_1 m c t (ix2 j k) = m ((c : Thread nD τ).loc main_arg1) i ∧ (i 0).val = j.val ∧ (i 1).val = C := by
  obtain ⟨-, ⟨q0, q1⟩, -⟩ := places t
  unfold X0_1 Pipeline.Window.fill
  rw [dif_pos (moved0_1 t (ix2 j k))]
  exact ⟨_, rfl, by show win0_1.index t (0 : Fin 2) * 2048 + 1 * j.val = _; omega, by show win0_1.index t (1 : Fin 2) * 768 + 1 * k.val = _; omega⟩

/-- The kernel's result array. -/
theorem kernel_value (c : Dev nD) (i : S4096x1536.Idx) : (dats m 0 c).arrAt 2 cfg0.N i = whole m c (i 0) (i 1) :=
  Cert.Prod.by_tiles (tm := 1024) (tn := 768) (by decide) (by decide) (fun i => (dats m 0 c).arrAt 2 cfg0.N i) (whole m c) (fun p q r k R C hR hC => by
    have hN : cfg0.N = 8 := N_0
    obtain ⟨t, ht⟩ : ∃ t : Fin cfg0.N, t.val = p * 2 + q := ⟨⟨p * 2 + q, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 768 + 1 * k.val = _; omega
    rw [flushed2_A, point_value]
    exact Cert.Prod.rows_cols_at (φ₁ := .bf16) (φ₂ := .bf16) _ _ _ _ _ r k R ⟨0 + C.val, by omega⟩
      (fun j => ⟨_, rfl, by show win0_0.index t (0 : Fin 2) * 1024 + 1 * r.val = _; omega, by show win0_0.index t (1 : Fin 2) * 2048 + 1 * j.val = _; omega⟩)
      (fun j => second m c t j k _ (by dsimp only; omega))) i

/-- The kernel and the reference give equal results. -/
theorem same_result : Cert.algebraic_Kernel6Ideal_Reference6Ideal := by
  intro m g m' g' _ hargs
  refine ⟨_, run_blocks m g, ?_⟩
  refine (θ_run Cert.Reference6Ideal.defs _ _).mono (fun r h c => ⟨(h c).1.trans ?_, (h c).2⟩) (Cert.Reference6Ideal.Value.run m' g')
  obtain ⟨e0, e1⟩ := hargs c
  rw [e0, e1]
  exact Cert.Prod.eq_of_places (fun R C => (slice2_axis1_apply _ _ Cert.Reference6Ideal.Gen.slices_S4096x6656_S4096x1536_0_0 R C (⟨0 + C.val, by omega⟩ : Fin 6656) rfl).trans
    (Cert.Prod.host_rows_cols (φ₁ := .f32) (φ₂ := .f32) _ _ _ R _)) (kernel_value m c)

end Cert.InConv

end
-- ==== Proof.InQkv.lean ====
module

public import proofs.«01_k».proof.Defs
public import proofs.«01_k».proof.Proof.Gen.Kernel7Ideal.Value
public import proofs.«01_k».proof.Proof.Gen.Reference7Ideal.Run
public import proofs.«01_k».proof.Proof.Prod

/-!
The columns of the fused input projection that the attention takes: the queries, keys and values.
-/

@[expose] public section

set_option maxRecDepth 16384

noncomputable section

namespace Cert.InQkv

open Cert.Kernel7Ideal Cert.Kernel7Ideal.Gen Cert.Kernel7Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .bf16) (h3 : a3.IsWhole)
    (a4 : Memref sig .tc .vmem S2048x768 .bf16) (h4 : a4.IsWhole)
    (a5 : Memref sig .tc .vmem S1024x768 .bf16) (h5 : a5.IsWhole)
    (a6 : Memref sig .tc .vmem S1024x768 .f32) (h6 : a6.IsWhole)
    (hc0 : cond0_0 i) (hc1 : ¬cond0_1 i) (hc2 : cond0_2 i)
    (x0 : Vec F S1024x2048 .bf16) (x1 : Vec F S2048x768 .bf16) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  unfold k0_pay4
  simp only [View.readCov_unit_zero (S := S1024x768) _ Cert.Prod.origin]
  unfold k0_pay2
  simp only [View.readAt_eq_ld, h3.read_unread, h4.read_unread, View.ld_unit_zero (S := S1024x2048) Cert.Prod.origin, View.ld_unit_zero (S := S2048x768) Cert.Prod.origin, shapeCast_self]

/-- Where the blocks lie. -/
theorem places : ∀ t : Fin cfg0.N, (win0_0.index t (0 : Fin 2) = t.val / 4 ∧ win0_0.index t (1 : Fin 2) = 0)
    ∧ (win0_1.index t (0 : Fin 2) = 0 ∧ win0_1.index t (1 : Fin 2) = t.val % 4 + 2)
    ∧ (win0_2.index t (0 : Fin 2) = t.val / 4 ∧ win0_2.index t (1 : Fin 2) = t.val % 4) ∧ win0_2.flush t = true :=
  (by decide +kernel : ∀ t : Fin grid0.N, _)

variable (m : (ℓ : Loc nD τ sig) → Buf (Elt Ideal) ℓ)

/-- The result at a row and a column. -/
def whole (c : Dev nD) (R : Fin 4096) (C : Fin 3072) : EReal :=
  Cert.Prod.byCols (M := 4096) (K := 2048) (N := 6656) (m ((c : Thread nD τ).loc main_arg0)) (m ((c : Thread nD τ).loc main_arg1)) R ⟨1536 + C.val, by omega⟩

/-- The weights' block at a point. The pipeline would cut a block that overhangs the weights; none does. -/
theorem second (c : Dev nD) (t : Fin cfg0.N) (j : Fin 2048) (k : Fin 768) (C : ℕ) (hC : win0_1.index t (1 : Fin 2) * 768 + k.val = C) :
    ∃ i : (⟨2, ![2048, 6656]⟩ : Shape).Idx, X0_1 m c t (ix2 j k) = m ((c : Thread nD τ).loc main_arg1) i ∧ (i 0).val = j.val ∧ (i 1).val = C := by
  obtain ⟨-, ⟨q0, q1⟩, -⟩ := places t
  unfold X0_1 Pipeline.Window.fill
  rw [dif_pos (moved0_1 t (ix2 j k))]
  exact ⟨_, rfl, by show win0_1.index t (0 : Fin 2) * 2048 + 1 * j.val = _; omega, by show win0_1.index t (1 : Fin 2) * 768 + 1 * k.val = _; omega⟩

/-- The kernel's result array. -/
theorem kernel_value (c : Dev nD) (i : S4096x3072.Idx) : (dats m 0 c).arrAt 2 cfg0.N i = whole m c (i 0) (i 1) :=
  Cert.Prod.by_tiles (tm := 1024) (tn := 768) (by decide) (by decide) (fun i => (dats m 0 c).arrAt 2 cfg0.N i) (whole m c) (fun p q r k R C hR hC => by
    have hN : cfg0.N = 16 := N_0
    obtain ⟨t, ht⟩ : ∃ t : Fin cfg0.N, t.val = p * 4 + q := ⟨⟨p * 4 + q, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 768 + 1 * k.val = _; omega
    rw [flushed2_A, point_value]
    exact Cert.Prod.rows_cols_at (φ₁ := .bf16) (φ₂ := .bf16) _ _ _ _ _ r k R ⟨1536 + C.val, by omega⟩
      (fun j => ⟨_, rfl, by show win0_0.index t (0 : Fin 2) * 1024 + 1 * r.val = _; omega, by show win0_0.index t (1 : Fin 2) * 2048 + 1 * j.val = _; omega⟩)
      (fun j => second m c t j k _ (by dsimp only; omega))) i

/-- The kernel and the reference give equal results. -/
theorem same_result : Cert.algebraic_Kernel7Ideal_Reference7Ideal := by
  intro m g m' g' _ hargs
  refine ⟨_, run_blocks m g, ?_⟩
  refine (θ_run Cert.Reference7Ideal.defs _ _).mono (fun r h c => ⟨(h c).1.trans ?_, (h c).2⟩) (Cert.Reference7Ideal.Value.run m' g')
  obtain ⟨e0, e1⟩ := hargs c
  rw [e0, e1]
  exact Cert.Prod.eq_of_places (fun R C => (slice2_axis1_apply _ _ Cert.Reference7Ideal.Gen.slices_S4096x6656_S4096x3072_0_1536 R C (⟨1536 + C.val, by omega⟩ : Fin 6656) rfl).trans
    (Cert.Prod.host_rows_cols (φ₁ := .f32) (φ₂ := .f32) _ _ _ R _)) (kernel_value m c)

end Cert.InQkv

end
-- ==== Proof.InGates.lean ====
module

public import proofs.«01_k».proof.Defs
public import proofs.«01_k».proof.Proof.Gen.Kernel8Ideal.Value
public import proofs.«01_k».proof.Proof.Gen.Reference8Ideal.Run
public import proofs.«01_k».proof.Proof.Prod

/-!
The last columns of the fused input projection: the attention's gate and what the recurrence takes.
-/

@[expose] public section

set_option maxRecDepth 16384

noncomputable section

namespace Cert.InGates

open Cert.Kernel8Ideal Cert.Kernel8Ideal.Gen Cert.Kernel8Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .bf16) (h3 : a3.IsWhole)
    (a4 : Memref sig .tc .vmem S2048x512 .bf16) (h4 : a4.IsWhole)
    (a5 : Memref sig .tc .vmem S1024x512 .f32) (h5 : a5.IsWhole)
    (a6 : Memref sig .tc .vmem S1024x512 .f32) (h6 : a6.IsWhole)
    (hc0 : cond0_0 i) (hc1 : ¬cond0_1 i) (hc2 : cond0_2 i)
    (x0 : Vec F S1024x2048 .bf16) (x1 : Vec F S2048x512 .bf16) :
    out0_A_2 c i a3 h3 a4 h4 a5 h5 a6 h6 hc0 hc1 hc2 x0 x1 = k0_pay1 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  simp only [View.readCov_unit_zero (S := S1024x512) _ Cert.Prod.origin]
  unfold k0_pay2
  simp only [View.readAt_eq_ld, h3.read_unread, h4.read_unread, View.ld_unit_zero (S := S1024x2048) Cert.Prod.origin, View.ld_unit_zero (S := S2048x512) Cert.Prod.origin, shapeCast_self]

/-- Where the blocks lie. -/
theorem places : ∀ t : Fin cfg0.N, (win0_0.index t (0 : Fin 2) = t.val / 4 ∧ win0_0.index t (1 : Fin 2) = 0)
    ∧ (win0_1.index t (0 : Fin 2) = 0 ∧ win0_1.index t (1 : Fin 2) = t.val % 4 + 9)
    ∧ (win0_2.index t (0 : Fin 2) = t.val / 4 ∧ win0_2.index t (1 : Fin 2) = t.val % 4) ∧ win0_2.flush t = true :=
  (by decide +kernel : ∀ t : Fin grid0.N, _)

variable (m : (ℓ : Loc nD τ sig) → Buf (Elt Ideal) ℓ)

/-- The result at a row and a column. -/
def whole (c : Dev nD) (R : Fin 4096) (C : Fin 2048) : EReal :=
  Cert.Prod.byCols (M := 4096) (K := 2048) (N := 6656) (m ((c : Thread nD τ).loc main_arg0)) (m ((c : Thread nD τ).loc main_arg1)) R ⟨4608 + C.val, by omega⟩

/-- The kernel's result array. -/
theorem kernel_value (c : Dev nD) (i : S4096x2048.Idx) : (dats m 0 c).arrAt 2 cfg0.N i = whole m c (i 0) (i 1) :=
  Cert.Prod.by_tiles (tm := 1024) (tn := 512) (by decide) (by decide) (fun i => (dats m 0 c).arrAt 2 cfg0.N i) (whole m c) (fun p q r k R C hR hC => by
    have hN : cfg0.N = 16 := N_0
    obtain ⟨t, ht⟩ : ∃ t : Fin cfg0.N, t.val = p * 4 + q := ⟨⟨p * 4 + q, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 512 + 1 * k.val = _; omega
    rw [flushed2_A, point_value]
    exact Cert.Prod.rows_cols_at (φ₁ := .bf16) (φ₂ := .bf16) _ _ _ _ _ r k R ⟨4608 + C.val, by omega⟩
      (fun j => ⟨_, rfl, by show win0_0.index t (0 : Fin 2) * 1024 + 1 * r.val = _; omega, by show win0_0.index t (1 : Fin 2) * 2048 + 1 * j.val = _; omega⟩)
      (fun j => ⟨_, rfl, by show win0_1.index t (0 : Fin 2) * 2048 + 1 * j.val = _; omega, by show win0_1.index t (1 : Fin 2) * 512 + 1 * k.val = 4608 + C.val; omega⟩)) i

/-- The kernel and the reference give equal results. -/
theorem same_result : Cert.algebraic_Kernel8Ideal_Reference8Ideal := by
  intro m g m' g' _ hargs
  refine ⟨_, run_blocks m g, ?_⟩
  refine (θ_run Cert.Reference8Ideal.defs _ _).mono (fun r h c => ⟨(h c).1.trans ?_, (h c).2⟩) (Cert.Reference8Ideal.Value.run m' g')
  obtain ⟨e0, e1⟩ := hargs c
  rw [e0, e1]
  exact Cert.Prod.eq_of_places (fun R C => (slice2_axis1_apply _ _ Cert.Reference8Ideal.Gen.slices_S4096x6656_S4096x2048_0_4608 R C (⟨4608 + C.val, by omega⟩ : Fin 6656) rfl).trans
    (Cert.Prod.host_rows_cols (φ₁ := .f32) (φ₂ := .f32) _ _ _ R _)) (kernel_value m c)

end Cert.InGates

end
-- ==== Proof.OutProj.lean ====
module

public import proofs.«01_k».proof.Defs
public import proofs.«01_k».proof.Proof.Gen.Kernel9Ideal.Value
public import proofs.«01_k».proof.Proof.Gen.Reference9Ideal.Run
public import proofs.«01_k».proof.Proof.Prod

/-!
The output projection, added to the residual stream.
-/

@[expose] public section

set_option maxRecDepth 16384

noncomputable section

namespace Cert.OutProj

open Cert.Kernel9Ideal Cert.Kernel9Ideal.Gen Cert.Kernel9Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .bf16) (h3 : a3.IsWhole)
    (a4 : Memref sig .tc .vmem S2048x1024 .bf16) (h4 : a4.IsWhole)
    (a5 : Memref sig .tc .vmem S1024x1024 .f32) (h5 : a5.IsWhole)
    (a6 : Memref sig .tc .vmem S1024x1024 .f32) (h6 : a6.IsWhole)
    (a7 : Memref sig .tc .vmem S1024x1024 .f32) (h7 : a7.IsWhole)
    (hc0 : cond0_0 i) (hc1 : ¬cond0_1 i) (hc2 : cond0_2 i)
    (x0 : Vec F S1024x2048 .bf16) (x1 : Vec F S2048x1024 .bf16) (x2 : Vec F S1024x1024 .f32) :
    out0_A_3 c i a3 h3 a4 h4 a5 h5 a6 h6 a7 h7 hc0 hc1 hc2 x0 x1 x2 = addf (k0_pay1 x0 x1) x2 := by
  unfold out0_A_3
  rw [View.read_writes_eq_canon _ _ _ (cover0_A_3 c i a3 h3 a4 h4 a5 h5 a6 h6 a7 h7 hc0 hc1 hc2 x0 x1 x2)]
  unfold kernelRun0_A
  dsimp only
  sl_unfold_words
  rw [View.canon_unit_zero Cert.Prod.origin]
  unfold k0_pay4
  simp only [View.readCov_unit_zero (S := S1024x1024) _ Cert.Prod.origin]
  unfold k0_pay2
  simp only [View.readAt_eq_ld, h3.read_unread, h4.read_unread, h5.read_unread, View.ld_unit_zero (S := S1024x2048) Cert.Prod.origin, View.ld_unit_zero (S := S2048x1024) Cert.Prod.origin, View.ld_unit_zero (S := S1024x1024) Cert.Prod.origin, shapeCast_self]

/-- Where the blocks lie. -/
theorem places : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) ∧ win0_3.flush t = true :=
  (by decide +kernel : ∀ t : Fin grid0.N, _)

variable (m : (ℓ : Loc nD τ sig) → Buf (Elt Ideal) ℓ)

/-- The result at a row and a column. -/
def whole (c : Dev nD) (R : Fin 4096) (C : Fin 2048) : EReal :=
  Cert.Prod.byCols (M := 4096) (K := 2048) (N := 2048) (m ((c : Thread nD τ).loc main_arg0)) (m ((c : Thread nD τ).loc main_arg1)) R C
    + (m ((c : Thread nD τ).loc main_arg2) : (⟨2, ![4096, 2048]⟩ : Shape).Idx → EReal) (ix2 R C)

/-- The kernel's result array. -/
theorem kernel_value (c : Dev nD) (i : S4096x2048.Idx) : (dats m 0 c).arrAt 3 cfg0.N i = whole m c (i 0) (i 1) :=
  Cert.Prod.by_tiles (tm := 1024) (tn := 1024) (by decide) (by decide) (fun i => (dats m 0 c).arrAt 3 cfg0.N i) (whole m c) (fun p q r k R C hR hC => by
    have hN : cfg0.N = 8 := N_0
    obtain ⟨t, ht⟩ : ∃ t : Fin cfg0.N, t.val = p * 2 + q := ⟨⟨p * 2 + q, by omega⟩, rfl⟩
    obtain ⟨⟨p0, p1⟩, ⟨q0, q1⟩, ⟨s0, s1⟩, ⟨o0, o1⟩, hf⟩ := places t
    refine Cert.Prod.at_place (e := ((cfg0.win 3).blk t).view.emb) (blocks3 m c t hf) (ix2 r k) (Cert.Prod.ix2_of_val _ _ _ ?_ ?_) ?_
    · show win0_3.index t (0 : Fin 2) * 1024 + 1 * r.val = _; omega
    · show win0_3.index t (1 : Fin 2) * 1024 + 1 * k.val = _; omega
    rw [flushed3_A, point_value]
    exact congrArg₂ (fun x y : EReal => x + y) (Cert.Prod.rows_cols_at (φ₁ := .bf16) (φ₂ := .bf16) _ _ _ _ _ r k R C
      (fun j => ⟨_, rfl, by show win0_0.index t (0 : Fin 2) * 1024 + 1 * r.val = _; omega, by show win0_0.index t (1 : Fin 2) * 2048 + 1 * j.val = _; omega⟩)
      (fun j => ⟨_, rfl, by show win0_1.index t (0 : Fin 2) * 2048 + 1 * j.val = _; omega, by show win0_1.index t (1 : Fin 2) * 1024 + 1 * k.val = _; omega⟩))
      (congrArg (m ((c : Thread nD τ).loc main_arg2)) (Cert.Prod.ix2_of_val _ _ _ (by show win0_2.index t (0 : Fin 2) * 1024 + 1 * r.val = _; omega) (by show win0_2.index t (1 : Fin 2) * 1024 + 1 * k.val = _; omega)))) i

/-- The kernel and the reference give equal results. -/
theorem same_result : Cert.algebraic_Kernel9Ideal_Reference9Ideal := by
  intro m g m' g' _ hargs
  refine ⟨_, run_blocks m g, ?_⟩
  refine (θ_run Cert.Reference9Ideal.defs _ _).mono (fun r h c => ⟨(h c).1.trans ?_, (h c).2⟩) (Cert.Reference9Ideal.Value.run m' g')
  obtain ⟨e0, e1, e2⟩ := hargs c
  rw [e0, e1, e2]
  exact Cert.Prod.eq_of_places (fun R C => (add_comm _ _).trans (congrArg (fun x : EReal => x + _) (Cert.Prod.host_rows_cols (φ₁ := .f32) (φ₂ := .f32) _ _ _ R C))) (kernel_value m c)

end Cert.OutProj

end
-- ==== Proof.DCross.lean ====
module

public import proofs.«01_k».proof.Defs
public import proofs.«01_k».proof.Proof.Gen.Kernel10Ideal.Value
public import proofs.«01_k».proof.Proof.Gen.Reference10Ideal.Run
public import proofs.«01_k».proof.Proof.Prod

/-!
The gradient of the cross-attention's output: the gradient of the residual stream times the transpose of its output
projection's weights.
-/

@[expose] public section

set_option maxRecDepth 16384

noncomputable section

namespace Cert.DCross

open Cert.Kernel10Ideal Cert.Kernel10Ideal.Gen Cert.Kernel10Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .f32) (h3 : a3.IsWhole)
    (a4 : Memref sig .tc .vmem S512x2048 .bf16) (h4 : a4.IsWhole)
    (a5 : Memref sig .tc .vmem S8x128 .f32) (h5 : a5.IsWhole)
    (a6 : Memref sig .tc .vmem S1024x512 .bf16) (h6 : a6.IsWhole)
    (a7 : Memref sig .tc .vmem S1024x512 .f32) (h7 : a7.IsWhole)
    (hc0 : cond0_0 i) (hc1 : ¬cond0_1 i) (hc2 : cond0_2 i)
    (x0 : Vec F S1024x2048 .f32) (x1 : Vec F S512x2048 .bf16) (x2 : Vec F S8x128 .f32) :
    out0_A_3 c i a3 h3 a4 h4 a5 h5 a6 h6 a7 h7 hc0 hc1 hc2 x0 x1 x2 = truncf .bf16 (k0_pay1 x0 x1) bitsLt_bf16_f32 := by
  unfold out0_A_3
  rw [View.read_writes_eq_canon _ _ _ (cover0_A_3 c i a3 h3 a4 h4 a5 h5 a6 h6 a7 h7 hc0 hc1 hc2 x0 x1 x2)]
  unfold kernelRun0_A
  dsimp only
  sl_unfold_words
  rw [View.canon_unit_zero Cert.Prod.origin]
  unfold k0_pay4
  simp only [View.readCov_unit_zero (S := S1024x512) _ Cert.Prod.origin]
  unfold k0_pay2
  simp only [View.readAt_eq_ld, h3.read_unread, h4.read_unread, View.ld_unit_zero (S := S1024x2048) Cert.Prod.origin, View.ld_unit_zero (S := S512x2048) Cert.Prod.origin, shapeCast_self]

/-- Where the blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_3.index t (0 : Fin 2) = t.val ∧ win0_3.index t (1 : Fin 2) = 0) ∧ win0_3.flush t = true :=
  (by decide +kernel : ∀ t : Fin grid0.N, _)

variable (m : (ℓ : Loc nD τ sig) → Buf (Elt Ideal) ℓ)

/-- The result at a row and a column. -/
def whole (c : Dev nD) (R : Fin 4096) (C : Fin 512) : EReal :=
  Cert.Prod.byRows (M := 4096) (K := 2048) (N := 512) (m ((c : Thread nD τ).loc main_arg0)) (m ((c : Thread nD τ).loc main_arg1)) R C

/-- The kernel's result array. -/
theorem kernel_value (c : Dev nD) (i : S4096x512.Idx) : (dats m 0 c).arrAt 3 cfg0.N i = whole m c (i 0) (i 1) :=
  Cert.Prod.by_tiles (tm := 1024) (tn := 512) (by decide) (by decide) (fun i => (dats m 0 c).arrAt 3 cfg0.N i) (whole m c) (fun p q r k R C hR hC => by
    have hN : cfg0.N = 4 := N_0
    obtain ⟨t, ht⟩ : ∃ t : Fin cfg0.N, t.val = p := ⟨⟨p, by omega⟩, rfl⟩
    obtain ⟨⟨p0, p1⟩, ⟨q0, q1⟩, ⟨o0, o1⟩, hf⟩ := places t
    refine Cert.Prod.at_place (e := ((cfg0.win 3).blk t).view.emb) (blocks3 m c t hf) (ix2 r k) (Cert.Prod.ix2_of_val _ _ _ ?_ ?_) ?_
    · show win0_3.index t (0 : Fin 2) * 1024 + 1 * r.val = _; omega
    · show win0_3.index t (1 : Fin 2) * 512 + 1 * k.val = _; omega
    rw [flushed3_A, point_value]
    exact Cert.Prod.rows_rows_at (φ₁ := .bf16) (φ₂ := .bf16) _ _ _ _ _ r k R C
      (fun j => ⟨_, rfl, by show win0_0.index t (0 : Fin 2) * 1024 + 1 * r.val = _; omega, by show win0_0.index t (1 : Fin 2) * 2048 + 1 * j.val = _; omega⟩)
      (fun j => ⟨_, rfl, by show win0_1.index t (0 : Fin 2) * 512 + 1 * k.val = _; omega, by show win0_1.index t (1 : Fin 2) * 2048 + 1 * j.val = _; omega⟩)) i

/-- The kernel and the reference give equal results. -/
theorem same_result : Cert.algebraic_Kernel10Ideal_Reference10Ideal := by
  intro m g m' g' _ hargs
  refine ⟨_, run_blocks m g, ?_⟩
  refine (θ_run Cert.Reference10Ideal.defs _ _).mono (fun r h c => ⟨(h c).1.trans ?_, (h c).2⟩) (Cert.Reference10Ideal.Value.run m' g')
  obtain ⟨e0, e1, -⟩ := hargs c
  rw [e0, e1]
  exact Cert.Prod.eq_of_places (fun R C => Cert.Prod.host_rows_rows (φ₁ := .f32) (φ₂ := .f32) _ _ _ R C) (kernel_value m c)

end Cert.DCross

end
-- ==== Proof.DwCross.lean ====
module

public import proofs.«01_k».proof.Defs
public import proofs.«01_k».proof.Proof.Gen.Kernel11Ideal.Value
public import proofs.«01_k».proof.Proof.Gen.Reference11Ideal.Run
public import proofs.«01_k».proof.Proof.Prod

/-!
The gradient of the weights of the cross-attention's output projection, its rows in two halves.
-/

@[expose] public section

set_option maxRecDepth 16384

noncomputable section

namespace Cert.DwCross

open Cert.Kernel11Ideal Cert.Kernel11Ideal.Gen Cert.Kernel11Ideal.Value
open Idealize.ShloMosaic Idealize.ShloMosaic.TcCoe Idealize.SL.Sem Idealize.ShloMosaic.ValueIdx

section Blocks
variable {F : FTy → Type} [FloatOps F]

/-- The first half leaves its product in the scratch block. -/
theorem first_half (c : Dev nD) (i : grid0.Coords) (a3 : Memref sig .tc .vmem S2048x512 .bf16) (h3 : a3.IsWhole)
    (a4 : Memref sig .tc .vmem S2048x1024 .f32) (h4 : a4.IsWhole) (a5 : Memref sig .tc .vmem S512x1024 .bf16) (h5 : a5.IsWhole)
    (a6 : Memref sig .tc .vmem S512x1024 .f32) (h6 : a6.IsWhole)
    (hc0 : cond0_0 i) (hc1 : ¬cond0_1 i) (hc2 : ¬cond0_2 i) (x0 : Vec F S2048x512 .bf16) (x1 : Vec F S2048x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero Cert.Prod.origin]
  unfold k0_pay2
  simp only [View.readAt_eq_ld, h3.read_unread, h4.read_unread, View.ld_unit_zero (S := S2048x512) Cert.Prod.origin, View.ld_unit_zero (S := S2048x1024) Cert.Prod.origin, shapeCast_self]

/-- The second half adds its product and writes the sum. -/
theorem second_half (c : Dev nD) (i : grid0.Coords) (a3 : Memref sig .tc .vmem S2048x512 .bf16) (h3 : a3.IsWhole)
    (a4 : Memref sig .tc .vmem S2048x1024 .f32) (h4 : a4.IsWhole) (a5 : Memref sig .tc .vmem S512x1024 .bf16) (h5 : a5.IsWhole)
    (a6 : Memref sig .tc .vmem S512x1024 .f32) (h6 : a6.IsWhole)
    (hc0 : ¬cond0_0 i) (hc1 : cond0_1 i) (hc2 : cond0_2 i) (x0 : Vec F S2048x512 .bf16) (x1 : Vec F S2048x1024 .f32) (xs : Vec F S512x1024 .f32) :
    out0_B_2 c i a3 h3 a4 h4 a5 h5 a6 h6 hc0 hc1 hc2 x0 x1 xs = truncf .bf16 (addf xs (k0_pay1 x0 x1)) bitsLt_bf16_f32 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero Cert.Prod.origin]
  unfold k0_pay4
  simp only [View.readCov_unit_zero (S := S512x1024) _ Cert.Prod.origin]
  unfold k0_pay3
  simp only [View.readAt_eq_ld, h3.read_unread, h4.read_unread, h6.read_unread, View.ld_unit_zero (S := S2048x512) Cert.Prod.origin, View.ld_unit_zero (S := S2048x1024) Cert.Prod.origin, View.ld_unit_zero (S := S512x1024) Cert.Prod.origin, shapeCast_self]

variable (m : (ℓ : Loc nD τ sig) → Buf (Elt F) ℓ)

/-- What a point of the second half leaves: the sum of the two halves' products. -/
theorem point_value (c : Dev nD) (n : ℕ) (hn : 2 * n + 1 < cfg0.N) :
    (outsAt0 m c (2 * n + 1) hn).1
      = truncf .bf16 (addf (k0_pay1 (iblk m c 0 ⟨2 * n, by omega⟩) (iblk m c 1 ⟨2 * n, by omega⟩))
          (k0_pay1 (iblk m c 0 ⟨2 * n + 1, hn⟩) (iblk m c 1 ⟨2 * n + 1, hn⟩))) bitsLt_bf16_f32 := by
  rw [outsAt0_B m c ⟨2 * n + 1, hn⟩ (by dsimp only; omega) (by dsimp only; omega) (by dsimp only; omega)]
  dsimp only
  rw [second_half]
  show truncf .bf16 (addf (outsAt0 m c (2 * n) _).2 _) _ = _
  rw [outsAt0_A m c ⟨2 * n, by omega⟩ (by dsimp only; omega) (by dsimp only; omega) (by dsimp only; omega)]
  dsimp only
  rw [first_half]

end Blocks

/-- Where the blocks lie. -/
theorem places : ∀ t : Fin cfg0.N, (win0_0.index t (0 : Fin 2) = t.val % 2 ∧ win0_0.index t (1 : Fin 2) = 0)
    ∧ (win0_1.index t (0 : Fin 2) = t.val % 2 ∧ win0_1.index t (1 : Fin 2) = t.val / 2) :=
  (by decide +kernel : ∀ t : Fin grid0.N, _)

variable (m : (ℓ : Loc nD τ sig) → Buf (Elt Ideal) ℓ)

/-- An element of the first input's block. -/
theorem block0 (c : Dev nD) (t : Fin cfg0.N) (j : Fin 2048) (r : Fin 512) (J R : ℕ) (hJ : t.val % 2 * 2048 + j.val = J) (hR : r.val = R) :
    ∃ i : (⟨2, ![4096, 512]⟩ : Shape).Idx, iblk m c 0 t (ix2 j r) = m ((c : Thread nD τ).loc main_arg0) i ∧ (i 0).val = J ∧ (i 1).val = R := by
  obtain ⟨⟨p0, p1⟩, -⟩ := places t
  exact ⟨_, rfl, by show win0_0.index t (0 : Fin 2) * 2048 + 1 * j.val = _; omega, by show win0_0.index t (1 : Fin 2) * 512 + 1 * r.val = _; omega⟩

/-- An element of the second input's block. -/
theorem block1 (c : Dev nD) (t : Fin cfg0.N) (j : Fin 2048) (r : Fin 1024) (J C : ℕ) (hJ : t.val % 2 * 2048 + j.val = J) (hC : t.val / 2 * 1024 + r.val = C) :
    ∃ i : (⟨2, ![4096, 2048]⟩ : Shape).Idx, iblk m c 1 t (ix2 j r) = m ((c : Thread nD τ).loc main_arg1) i ∧ (i 0).val = J ∧ (i 1).val = C := by
  obtain ⟨-, q0, q1⟩ := places t
  exact ⟨_, rfl, by show win0_1.index t (0 : Fin 2) * 2048 + 1 * j.val = _; omega, by show win0_1.index t (1 : Fin 2) * 1024 + 1 * r.val = _; omega⟩

/-- The whole product at a row and a column. -/
def whole (c : Dev nD) (R : Fin 512) (C : Fin 2048) : EReal :=
  Cert.Prod.ofCols (K := 4096) (M := 512) (N := 2048) (m ((c : Thread nD τ).loc main_arg0)) (m ((c : Thread nD τ).loc main_arg1)) R C

/-- The kernel's result array. -/
theorem kernel_value (c : Dev nD) (i : S512x2048.Idx) : G2 m c i = whole m c (i 0) (i 1) :=
  Cert.Prod.by_tiles (tm := 512) (tn := 1024) (by decide) (by decide) (fun i => G2 m c i) (whole m c) (fun p q r k R C hR hC => by
    have hN : cfg0.N = 4 := N_0
    have hr : run2Of (ix2 R C) = 2 * (R.val / 512 - 0) + 1 * (C.val / 1024 - 0) := rfl
    have hp : 2 * run2Of (ix2 R C) + 1 < cfg0.N := by omega
    have el : loc2Of (ix2 R C) = ix2 r k :=
      Cert.Prod.ix2_of_val _ _ _ (by show R.val % 512 = r.val; omega) (by show C.val % 1024 = k.val; omega)
    unfold G2
    rw [dif_pos hp, ← outsAt0_sweep m c (2 * run2Of (ix2 R C) + 1) hp, point_value, el]
    exact Cert.Prod.cols_cols_halves (φ₁ := .bf16) (φ₂ := .bf16) rfl _ _ _ _ _ _ _ r k R C
      (fun j => block0 m c ⟨2 * run2Of (ix2 R C), by omega⟩ j r _ _ (by dsimp only; omega) (by omega))
      (fun j => by
        obtain ⟨i, h, e⟩ := block1 m c ⟨2 * run2Of (ix2 R C), by omega⟩ j k j.val C.val (by dsimp only; omega) (by dsimp only; omega)
        exact ⟨i, h, e⟩)
      (fun j => block0 m c ⟨2 * run2Of (ix2 R C) + 1, hp⟩ j r _ _ (by dsimp only; omega) (by omega))
      (fun j => by
        obtain ⟨i, h, e⟩ := block1 m c ⟨2 * run2Of (ix2 R C) + 1, hp⟩ j k (2048 + j.val) C.val (by dsimp only; omega) (by dsimp only; omega)
        exact ⟨i, h, e⟩)) i

/-- The kernel and the reference give equal results. -/
theorem same_result : Cert.algebraic_Kernel11Ideal_Reference11Ideal := by
  intro m g m' g' _ hargs
  refine ⟨_, run m g, ?_⟩
  refine (θ_run Cert.Reference11Ideal.defs _ _).mono (fun r h c => ⟨(h c).1.trans ?_, (h c).2⟩) (Cert.Reference11Ideal.Value.run m' g')
  obtain ⟨e0, e1⟩ := hargs c
  rw [e0, e1]
  exact Cert.Prod.eq_of_places (fun R C => (transpose_ix2_apply (a := 2048) (b := 512) _ _ R C).trans
    (Cert.Prod.host_cols_cols_swapped (φ₁ := .f32) (φ₂ := .f32) _ _ _ R C)) (kernel_value m c)

end Cert.DwCross

end
-- ==== Proof.DwQuery.lean ====
module

public import proofs.«01_k».proof.Defs
public import proofs.«01_k».proof.Proof.Gen.Kernel12Ideal.Value
public import proofs.«01_k».proof.Proof.Gen.Reference12Ideal.Run
public import proofs.«01_k».proof.Proof.Prod

/-!
The gradient of the weights that project the cross-attention's queries, its rows in two halves.
-/

@[expose] public section

set_option maxRecDepth 16384

noncomputable section

namespace Cert.DwQuery

open Cert.Kernel12Ideal Cert.Kernel12Ideal.Gen Cert.Kernel12Ideal.Value
open Idealize.ShloMosaic Idealize.ShloMosaic.TcCoe Idealize.SL.Sem Idealize.ShloMosaic.ValueIdx

section Blocks
variable {F : FTy → Type} [FloatOps F]

/-- The first half leaves its product in the scratch block. -/
theorem first_half (c : Dev nD) (i : grid0.Coords) (a3 : Memref sig .tc .vmem S2048x1024 .bf16) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .f32) (h6 : a6.IsWhole)
    (hc0 : cond0_0 i) (hc1 : ¬cond0_1 i) (hc2 : ¬cond0_2 i) (x0 : Vec F S2048x1024 .bf16) (x1 : Vec F S2048x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero Cert.Prod.origin]
  unfold k0_pay2
  simp only [View.readAt_eq_ld, h3.read_unread, h4.read_unread, View.ld_unit_zero (S := S2048x1024) Cert.Prod.origin, View.ld_unit_zero (S := S2048x512) Cert.Prod.origin, shapeCast_self]

/-- The second half adds its product and writes the sum. -/
theorem second_half (c : Dev nD) (i : grid0.Coords) (a3 : Memref sig .tc .vmem S2048x1024 .bf16) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .f32) (h6 : a6.IsWhole)
    (hc0 : ¬cond0_0 i) (hc1 : cond0_1 i) (hc2 : cond0_2 i) (x0 : Vec F S2048x1024 .bf16) (x1 : Vec F S2048x512 .bf16) (xs : Vec F S1024x512 .f32) :
    out0_B_2 c i a3 h3 a4 h4 a5 h5 a6 h6 hc0 hc1 hc2 x0 x1 xs = truncf .bf16 (addf xs (k0_pay1 x0 x1)) bitsLt_bf16_f32 := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero Cert.Prod.origin]
  unfold k0_pay4
  simp only [View.readCov_unit_zero (S := S1024x512) _ Cert.Prod.origin]
  unfold k0_pay3
  simp only [View.readAt_eq_ld, h3.read_unread, h4.read_unread, h6.read_unread, View.ld_unit_zero (S := S2048x1024) Cert.Prod.origin, View.ld_unit_zero (S := S2048x512) Cert.Prod.origin, View.ld_unit_zero (S := S1024x512) Cert.Prod.origin, shapeCast_self]

variable (m : (ℓ : Loc nD τ sig) → Buf (Elt F) ℓ)

/-- What a point of the second half leaves: the sum of the two halves' products. -/
theorem point_value (c : Dev nD) (n : ℕ) (hn : 2 * n + 1 < cfg0.N) :
    (outsAt0 m c (2 * n + 1) hn).1
      = truncf .bf16 (addf (k0_pay1 (iblk m c 0 ⟨2 * n, by omega⟩) (iblk m c 1 ⟨2 * n, by omega⟩))
          (k0_pay1 (iblk m c 0 ⟨2 * n + 1, hn⟩) (iblk m c 1 ⟨2 * n + 1, hn⟩))) bitsLt_bf16_f32 := by
  rw [outsAt0_B m c ⟨2 * n + 1, hn⟩ (by dsimp only; omega) (by dsimp only; omega) (by dsimp only; omega)]
  dsimp only
  rw [second_half]
  show truncf .bf16 (addf (outsAt0 m c (2 * n) _).2 _) _ = _
  rw [outsAt0_A m c ⟨2 * n, by omega⟩ (by dsimp only; omega) (by dsimp only; omega) (by dsimp only; omega)]
  dsimp only
  rw [first_half]

end Blocks

/-- Where the blocks lie. -/
theorem places : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0) :=
  (by decide +kernel : ∀ t : Fin grid0.N, _)

variable (m : (ℓ : Loc nD τ sig) → Buf (Elt Ideal) ℓ)

/-- An element of the first input's block. -/
theorem block0 (c : Dev nD) (t : Fin cfg0.N) (j : Fin 2048) (r : Fin 1024) (J R : ℕ) (hJ : t.val % 2 * 2048 + j.val = J) (hR : t.val / 2 * 1024 + r.val = R) :
    ∃ i : (⟨2, ![4096, 2048]⟩ : Shape).Idx, iblk m c 0 t (ix2 j r) = m ((c : Thread nD τ).loc main_arg0) i ∧ (i 0).val = J ∧ (i 1).val = R := by
  obtain ⟨⟨p0, p1⟩, -⟩ := places t
  exact ⟨_, rfl, by show win0_0.index t (0 : Fin 2) * 2048 + 1 * j.val = _; omega, by show win0_0.index t (1 : Fin 2) * 1024 + 1 * r.val = _; omega⟩

/-- An element of the second input's block. -/
theorem block1 (c : Dev nD) (t : Fin cfg0.N) (j : Fin 2048) (r : Fin 512) (J C : ℕ) (hJ : t.val % 2 * 2048 + j.val = J) (hC : r.val = C) :
    ∃ i : (⟨2, ![4096, 512]⟩ : Shape).Idx, iblk m c 1 t (ix2 j r) = m ((c : Thread nD τ).loc main_arg1) i ∧ (i 0).val = J ∧ (i 1).val = C := by
  obtain ⟨-, q0, q1⟩ := places t
  exact ⟨_, rfl, by show win0_1.index t (0 : Fin 2) * 2048 + 1 * j.val = _; omega, by show win0_1.index t (1 : Fin 2) * 512 + 1 * r.val = _; omega⟩

/-- The whole product at a row and a column. -/
def whole (c : Dev nD) (R : Fin 2048) (C : Fin 512) : EReal :=
  Cert.Prod.ofCols (K := 4096) (M := 2048) (N := 512) (m ((c : Thread nD τ).loc main_arg0)) (m ((c : Thread nD τ).loc main_arg1)) R C

/-- The kernel's result array. -/
theorem kernel_value (c : Dev nD) (i : S2048x512.Idx) : G2 m c i = whole m c (i 0) (i 1) :=
  Cert.Prod.by_tiles (tm := 1024) (tn := 512) (by decide) (by decide) (fun i => G2 m c i) (whole m c) (fun p q r k R C hR hC => by
    have hN : cfg0.N = 4 := N_0
    have hr : run2Of (ix2 R C) = 1 * (R.val / 1024 - 0) + 1 * (C.val / 512 - 0) := rfl
    have hp : 2 * run2Of (ix2 R C) + 1 < cfg0.N := by omega
    have el : loc2Of (ix2 R C) = ix2 r k :=
      Cert.Prod.ix2_of_val _ _ _ (by show R.val % 1024 = r.val; omega) (by show C.val % 512 = k.val; omega)
    unfold G2
    rw [dif_pos hp, ← outsAt0_sweep m c (2 * run2Of (ix2 R C) + 1) hp, point_value, el]
    exact Cert.Prod.cols_cols_halves (φ₁ := .bf16) (φ₂ := .bf16) rfl _ _ _ _ _ _ _ r k R C
      (fun j => block0 m c ⟨2 * run2Of (ix2 R C), by omega⟩ j r _ _ (by dsimp only; omega) (by dsimp only; omega))
      (fun j => by
        obtain ⟨i, h, e⟩ := block1 m c ⟨2 * run2Of (ix2 R C), by omega⟩ j k j.val C.val (by dsimp only; omega) (by omega)
        exact ⟨i, h, e⟩)
      (fun j => block0 m c ⟨2 * run2Of (ix2 R C) + 1, hp⟩ j r _ _ (by dsimp only; omega) (by dsimp only; omega))
      (fun j => by
        obtain ⟨i, h, e⟩ := block1 m c ⟨2 * run2Of (ix2 R C) + 1, hp⟩ j k (2048 + j.val) C.val (by dsimp only; omega) (by omega)
        exact ⟨i, h, e⟩)) i

/-- The kernel and the reference give equal results. -/
theorem same_result : Cert.algebraic_Kernel12Ideal_Reference12Ideal := by
  intro m g m' g' _ hargs
  refine ⟨_, run m g, ?_⟩
  refine (θ_run Cert.Reference12Ideal.defs _ _).mono (fun r h c => ⟨(h c).1.trans ?_, (h c).2⟩) (Cert.Reference12Ideal.Value.run m' g')
  obtain ⟨e0, e1⟩ := hargs c
  rw [e0, e1]
  exact Cert.Prod.eq_of_places (fun R C => (transpose_ix2_apply (a := 512) (b := 2048) _ _ R C).trans
    (Cert.Prod.host_cols_cols_swapped (φ₁ := .f32) (φ₂ := .f32) _ _ _ R C)) (kernel_value m c)

end Cert.DwQuery

end
-- ==== Proof.DQuery.lean ====
module

public import proofs.«01_k».proof.Defs
public import proofs.«01_k».proof.Proof.Gen.Kernel13Ideal.Value
public import proofs.«01_k».proof.Proof.Gen.Reference13Ideal.Run
public import proofs.«01_k».proof.Proof.Prod

/-!
The gradient of what the cross-attention's queries are projected from.
-/

@[expose] public section

set_option maxRecDepth 16384

noncomputable section

namespace Cert.DQuery

open Cert.Kernel13Ideal Cert.Kernel13Ideal.Gen Cert.Kernel13Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x512 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : cond0_2 i)
    (x0 : Vec F S1024x512 .bf16) (x1 : Vec F S1024x512 .bf16) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  unfold k0_pay4
  simp only [View.readCov_unit_zero (S := S1024x1024) _ Cert.Prod.origin]
  unfold k0_pay2
  simp only [View.readAt_eq_ld, h3.read_unread, h4.read_unread, View.ld_unit_zero (S := S1024x512) Cert.Prod.origin, shapeCast_self]

/-- Where the blocks lie. -/
theorem places : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) ∧ win0_2.flush t = true :=
  (by decide +kernel : ∀ t : Fin grid0.N, _)

variable (m : (ℓ : Loc nD τ sig) → Buf (Elt Ideal) ℓ)

/-- The result at a row and a column. -/
def whole (c : Dev nD) (R : Fin 4096) (C : Fin 2048) : EReal :=
  Cert.Prod.byRows (M := 4096) (K := 512) (N := 2048) (m ((c : Thread nD τ).loc main_arg0)) (m ((c : Thread nD τ).loc main_arg1)) R C

/-- The kernel's result array. -/
theorem kernel_value (c : Dev nD) (i : S4096x2048.Idx) : (dats m 0 c).arrAt 2 cfg0.N i = whole m c (i 0) (i 1) :=
  Cert.Prod.by_tiles (tm := 1024) (tn := 1024) (by decide) (by decide) (fun i => (dats m 0 c).arrAt 2 cfg0.N i) (whole m c) (fun p q r k R C hR hC => by
    have hN : cfg0.N = 8 := N_0
    obtain ⟨t, ht⟩ : ∃ t : Fin cfg0.N, t.val = p * 2 + q := ⟨⟨p * 2 + q, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 1024 + 1 * k.val = _; omega
    rw [flushed2_A, point_value]
    exact Cert.Prod.rows_rows_at (φ₁ := .bf16) (φ₂ := .bf16) _ _ _ _ _ r k R C
      (fun j => ⟨_, rfl, by show win0_0.index t (0 : Fin 2) * 1024 + 1 * r.val = _; omega, by show win0_0.index t (1 : Fin 2) * 512 + 1 * j.val = _; omega⟩)
      (fun j => ⟨_, rfl, by show win0_1.index t (0 : Fin 2) * 1024 + 1 * k.val = _; omega, by show win0_1.index t (1 : Fin 2) * 512 + 1 * j.val = _; omega⟩)) i

/-- The kernel and the reference give equal results. -/
theorem same_result : Cert.algebraic_Kernel13Ideal_Reference13Ideal := by
  intro m g m' g' _ hargs
  refine ⟨_, run_blocks m g, ?_⟩
  refine (θ_run Cert.Reference13Ideal.defs _ _).mono (fun r h c => ⟨(h c).1.trans ?_, (h c).2⟩) (Cert.Reference13Ideal.Value.run m' g')
  obtain ⟨e0, e1⟩ := hargs c
  rw [e0, e1]
  exact Cert.Prod.eq_of_places (fun R C => Cert.Prod.host_rows_rows (φ₁ := .f32) (φ₂ := .f32) _ _ _ R C) (kernel_value m c)

end Cert.DQuery

end
-- ==== Proof.Query.lean ====
module

public import proofs.«01_k».proof.Defs
public import proofs.«01_k».proof.Proof.Gen.Kernel14Ideal.Value
public import proofs.«01_k».proof.Proof.Gen.Reference14Ideal.Run
public import proofs.«01_k».proof.Proof.Prod

/-!
The cross-attention's projection of the queries.
-/

@[expose] public section

set_option maxRecDepth 16384

noncomputable section

namespace Cert.Query

open Cert.Kernel14Ideal Cert.Kernel14Ideal.Gen Cert.Kernel14Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x2048 .bf16) (h3 : a3.IsWhole)
    (a4 : Memref sig .tc .vmem S2048x512 .bf16) (h4 : a4.IsWhole)
    (a5 : Memref sig .tc .vmem S1024x512 .bf16) (h5 : a5.IsWhole)
    (a6 : Memref sig .tc .vmem S1024x512 .f32) (h6 : a6.IsWhole)
    (hc0 : cond0_0 i) (hc1 : ¬cond0_1 i) (hc2 : cond0_2 i)
    (x0 : Vec F S1024x2048 .bf16) (x1 : Vec F S2048x512 .bf16) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  unfold k0_pay4
  simp only [View.readCov_unit_zero (S := S1024x512) _ Cert.Prod.origin]
  unfold k0_pay2
  simp only [View.readAt_eq_ld, h3.read_unread, h4.read_unread, View.ld_unit_zero (S := S1024x2048) Cert.Prod.origin, View.ld_unit_zero (S := S2048x512) Cert.Prod.origin, shapeCast_self]

/-- Where the blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

variable (m : (ℓ : Loc nD τ sig) → Buf (Elt Ideal) ℓ)

/-- The result at a row and a column. -/
def whole (c : Dev nD) (R : Fin 4096) (C : Fin 512) : EReal :=
  Cert.Prod.byCols (M := 4096) (K := 2048) (N := 512) (m ((c : Thread nD τ).loc main_arg0)) (m ((c : Thread nD τ).loc main_arg1)) R C

/-- The kernel's result array. -/
theorem kernel_value (c : Dev nD) (i : S4096x512.Idx) : (dats m 0 c).arrAt 2 cfg0.N i = whole m c (i 0) (i 1) :=
  Cert.Prod.by_tiles (tm := 1024) (tn := 512) (by decide) (by decide) (fun i => (dats m 0 c).arrAt 2 cfg0.N i) (whole m c) (fun p q r k R C hR hC => by
    have hN : cfg0.N = 4 := N_0
    obtain ⟨t, ht⟩ : ∃ t : Fin cfg0.N, t.val = p := ⟨⟨p, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 512 + 1 * k.val = _; omega
    rw [flushed2_A, point_value]
    exact Cert.Prod.rows_cols_at (φ₁ := .bf16) (φ₂ := .bf16) _ _ _ _ _ r k R C
      (fun j => ⟨_, rfl, by show win0_0.index t (0 : Fin 2) * 1024 + 1 * r.val = _; omega, by show win0_0.index t (1 : Fin 2) * 2048 + 1 * j.val = _; omega⟩)
      (fun j => ⟨_, rfl, by show win0_1.index t (0 : Fin 2) * 2048 + 1 * j.val = _; omega, by show win0_1.index t (1 : Fin 2) * 512 + 1 * k.val = _; omega⟩)) i

/-- The kernel and the reference give equal results. -/
theorem same_result : Cert.algebraic_Kernel14Ideal_Reference14Ideal := by
  intro m g m' g' _ hargs
  refine ⟨_, run_blocks m g, ?_⟩
  refine (θ_run Cert.Reference14Ideal.defs _ _).mono (fun r h c => ⟨(h c).1.trans ?_, (h c).2⟩) (Cert.Reference14Ideal.Value.run m' g')
  obtain ⟨e0, e1⟩ := hargs c
  rw [e0, e1]
  exact Cert.Prod.eq_of_places (fun R C => Cert.Prod.host_rows_cols (φ₁ := .f32) (φ₂ := .f32) _ _ _ R C) (kernel_value m c)

end Cert.Query

end
-- ==== Proof.Cross.lean ====
module

public import proofs.«01_k».proof.Defs
public import proofs.«01_k».proof.Proof.Gen.Kernel15Ideal.Value
public import proofs.«01_k».proof.Proof.Gen.Reference15Ideal.Run
public import proofs.«01_k».proof.Proof.Prod

/-!
The cross-attention's output projection, added to the residual stream.
-/

@[expose] public section

set_option maxRecDepth 16384

noncomputable section

namespace Cert.Cross

open Cert.Kernel15Ideal Cert.Kernel15Ideal.Gen Cert.Kernel15Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S1024x512 .bf16) (h3 : a3.IsWhole)
    (a4 : Memref sig .tc .vmem S512x1024 .bf16) (h4 : a4.IsWhole)
    (a5 : Memref sig .tc .vmem S1024x1024 .f32) (h5 : a5.IsWhole)
    (a6 : Memref sig .tc .vmem S1024x1024 .f32) (h6 : a6.IsWhole)
    (a7 : Memref sig .tc .vmem S1024x1024 .f32) (h7 : a7.IsWhole)
    (hc0 : cond0_0 i) (hc1 : ¬cond0_1 i) (hc2 : cond0_2 i)
    (x0 : Vec F S1024x512 .bf16) (x1 : Vec F S512x1024 .bf16) (x2 : Vec F S1024x1024 .f32) :
    out0_A_3 c i a3 h3 a4 h4 a5 h5 a6 h6 a7 h7 hc0 hc1 hc2 x0 x1 x2 = addf (k0_pay1 x0 x1) x2 := by
  unfold out0_A_3
  rw [View.read_writes_eq_canon _ _ _ (cover0_A_3 c i a3 h3 a4 h4 a5 h5 a6 h6 a7 h7 hc0 hc1 hc2 x0 x1 x2)]
  unfold kernelRun0_A
  dsimp only
  sl_unfold_words
  rw [View.canon_unit_zero Cert.Prod.origin]
  unfold k0_pay4
  simp only [View.readCov_unit_zero (S := S1024x1024) _ Cert.Prod.origin]
  unfold k0_pay2
  simp only [View.readAt_eq_ld, h3.read_unread, h4.read_unread, h5.read_unread, View.ld_unit_zero (S := S1024x512) Cert.Prod.origin, View.ld_unit_zero (S := S512x1024) Cert.Prod.origin, View.ld_unit_zero (S := S1024x1024) Cert.Prod.origin, shapeCast_self]

/-- Where the blocks lie. -/
theorem places : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) ∧ win0_3.flush t = true :=
  (by decide +kernel : ∀ t : Fin grid0.N, _)

variable (m : (ℓ : Loc nD τ sig) → Buf (Elt Ideal) ℓ)

/-- The result at a row and a column. -/
def whole (c : Dev nD) (R : Fin 4096) (C : Fin 2048) : EReal :=
  Cert.Prod.byCols (M := 4096) (K := 512) (N := 2048) (m ((c : Thread nD τ).loc main_arg0)) (m ((c : Thread nD τ).loc main_arg1)) R C
    + (m ((c : Thread nD τ).loc main_arg2) : (⟨2, ![4096, 2048]⟩ : Shape).Idx → EReal) (ix2 R C)

/-- The kernel's result array. -/
theorem kernel_value (c : Dev nD) (i : S4096x2048.Idx) : (dats m 0 c).arrAt 3 cfg0.N i = whole m c (i 0) (i 1) :=
  Cert.Prod.by_tiles (tm := 1024) (tn := 1024) (by decide) (by decide) (fun i => (dats m 0 c).arrAt 3 cfg0.N i) (whole m c) (fun p q r k R C hR hC => by
    have hN : cfg0.N = 8 := N_0
    obtain ⟨t, ht⟩ : ∃ t : Fin cfg0.N, t.val = p * 2 + q := ⟨⟨p * 2 + q, by omega⟩, rfl⟩
    obtain ⟨⟨p0, p1⟩, ⟨q0, q1⟩, ⟨s0, s1⟩, ⟨o0, o1⟩, hf⟩ := places t
    refine Cert.Prod.at_place (e := ((cfg0.win 3).blk t).view.emb) (blocks3 m c t hf) (ix2 r k) (Cert.Prod.ix2_of_val _ _ _ ?_ ?_) ?_
    · show win0_3.index t (0 : Fin 2) * 1024 + 1 * r.val = _; omega
    · show win0_3.index t (1 : Fin 2) * 1024 + 1 * k.val = _; omega
    rw [flushed3_A, point_value]
    exact congrArg₂ (fun x y : EReal => x + y) (Cert.Prod.rows_cols_at (φ₁ := .bf16) (φ₂ := .bf16) _ _ _ _ _ r k R C
      (fun j => ⟨_, rfl, by show win0_0.index t (0 : Fin 2) * 1024 + 1 * r.val = _; omega, by show win0_0.index t (1 : Fin 2) * 512 + 1 * j.val = _; omega⟩)
      (fun j => ⟨_, rfl, by show win0_1.index t (0 : Fin 2) * 512 + 1 * j.val = _; omega, by show win0_1.index t (1 : Fin 2) * 1024 + 1 * k.val = _; omega⟩))
      (congrArg (m ((c : Thread nD τ).loc main_arg2)) (Cert.Prod.ix2_of_val _ _ _ (by show win0_2.index t (0 : Fin 2) * 1024 + 1 * r.val = _; omega) (by show win0_2.index t (1 : Fin 2) * 1024 + 1 * k.val = _; omega)))) i

/-- The kernel and the reference give equal results. -/
theorem same_result : Cert.algebraic_Kernel15Ideal_Reference15Ideal := by
  intro m g m' g' _ hargs
  refine ⟨_, run_blocks m g, ?_⟩
  refine (θ_run Cert.Reference15Ideal.defs _ _).mono (fun r h c => ⟨(h c).1.trans ?_, (h c).2⟩) (Cert.Reference15Ideal.Value.run m' g')
  obtain ⟨e0, e1, e2⟩ := hargs c
  rw [e0, e1, e2]
  exact Cert.Prod.eq_of_places (fun R C => (add_comm _ _).trans (congrArg (fun x : EReal => x + _) (Cert.Prod.host_rows_cols (φ₁ := .f32) (φ₂ := .f32) _ _ _ R C))) (kernel_value m c)

end Cert.Cross

end
-- ==== Proof.Names.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Ring
public import Idealize.ShloMosaic.Lib.Exec
public import Idealize.ShloMosaic.Lib.Tactic

/-!
The names of the windows the kernel copies between: the eight windows of one slot of its staging buffer (head `h`,
array `u`, numbered `2 h + u`), the eight tiles of the saved arrays that belong to one column block `j` of the row
block and group of heads of a grid point, and the two counting cells. The offsets the kernel computes are those of
these windows (decided over the grid and the trips of its loop), and the windows it slices are these.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

variable {F : FTy → Type} [FloatOps F]

abbrev savedM : Memref sig .tc .hbm S2x8x4096x4096 .bf16 := Memref.whole main_v34
abbrev duM : Memref sig .tc .hbm S4096x6656 .bf16 := Memref.whole main_v35
abbrev dkM : Memref sig .tc .vmem S4096x512 .f32 := Memref.whole cc0_scratch0
abbrev dvM : Memref sig .tc .vmem S4096x512 .f32 := Memref.whole cc0_scratch1
abbrev stM : Memref sig .tc .vmem S2x4x2x256x256 .bf16 := Memref.whole cc0_scratch2
abbrev dqM : Memref sig .tc .vmem S256x512 .bf16 := Memref.whole cc0_scratch4
abbrev dkvM : Memref sig .tc .vmem S2x4096x512 .bf16 := Memref.whole cc0_scratch5

/-- Offsets of window `t` of slot `s` of the staging buffer. -/
abbrev stOff (s : Fin 2) (t : Fin 8) : Fin 5 → Nat := ![s.val, t.val / 2, t.val % 2, 0, 0]
/-- Offsets of tile `t` of column block `j`, at the row block and group of the point `i`. -/
abbrev tlOff (i : grid0.Coords) (t : Fin 8) (j : Fin 16) : Fin 4 → Nat := ![t.val % 2, 4 * (i 0).val + t.val / 2, 256 * (i 1).val, 256 * j.val]
def semOff (s : Fin 2) : Fin 1 → Nat := ![s.val]
/-- Offsets of head `h`'s columns of row block `n` in the whole key/value arrays. -/
abbrev kvOff (n : Fin 16) (h : Fin 4) : Fin 2 → Nat := ![256 * n.val, 128 * h.val]

theorem stOff_inb (s : Fin 2) (t : Fin 8) : ∀ a, stOff s t a + S1x1x1x256x256.size a ≤ S2x4x2x256x256.size a := by
  revert s t; decide +kernel
theorem tlOff_inb : ∀ (i : grid0.Coords) (t : Fin 8) (j : Fin 16), ∀ a, tlOff i t j a + S1x1x256x256.size a ≤ S2x8x4096x4096.size a := by
  decide +kernel
theorem semOff_inb (s : Fin 2) : ∀ a, semOff s a + S1.size a ≤ S2.size a := by
  revert s; decide +kernel

/-- Window `t` of slot `s` of the staging buffer. -/
def rslot (s : Fin 2) (t : Fin 8) : Memref sig .tc .vmem S256x256 .bf16 :=
  (stM.slice (Rect.unit (s := S2x4x2x256x256) (stOff s t) S1x1x1x256x256.size (stOff_inb s t)) (fun _ => rfl)).squeeze S256x256 squeezes_S1x1x1x256x256_S256x256
/-- Tile `t` of column block `j`. -/
def tile (i : grid0.Coords) (t : Fin 8) (j : Fin 16) : Memref sig .tc .hbm S256x256 .bf16 :=
  (savedM.slice (Rect.unit (s := S2x8x4096x4096) (tlOff i t j) S1x1x256x256.size (tlOff_inb i t j)) (fun _ => rfl)).squeeze S256x256 squeezes_S1x1x256x256_S256x256
/-- Slot `s`'s counting cell. -/
def csm (s : Fin 2) : DmaSems sig S_ := (cc0_scratch3.slice (Rect.unit (s := S2) (semOff s) S1.size (semOff_inb s))).squeeze S_ squeezes_S1_S_

theorem rslot_congr {off : Fin 5 → Nat} {s : Fin 2} {t : Fin 8} (e : off = stOff s t) (hh hs) :
    (stM.slice (Rect.unit (s := S2x4x2x256x256) off S1x1x1x256x256.size hh) hs).squeeze S256x256 squeezes_S1x1x1x256x256_S256x256 = rslot s t :=
  congrArg (fun M : Memref sig .tc .vmem S1x1x1x256x256 .bf16 => M.squeeze S256x256 squeezes_S1x1x1x256x256_S256x256) (Memref.slice_unit_congr _ e _ _ _ _)
theorem tile_congr {i : grid0.Coords} {off : Fin 4 → Nat} {t : Fin 8} {j : Fin 16} (e : off = tlOff i t j) (hh hs) :
    (savedM.slice (Rect.unit (s := S2x8x4096x4096) off S1x1x256x256.size hh) hs).squeeze S256x256 squeezes_S1x1x256x256_S256x256 = tile i t j :=
  congrArg (fun M : Memref sig .tc .hbm S1x1x256x256 .bf16 => M.squeeze S256x256 squeezes_S1x1x256x256_S256x256) (Memref.slice_unit_congr _ e _ _ _ _)
theorem csm_congr {off : Fin 1 → Nat} {s : Fin 2} (e : off = semOff s) (hh) :
    (cc0_scratch3.slice (Rect.unit (s := S2) off S1.size hh)).squeeze S_ squeezes_S1_S_ = csm s :=
  congrArg (fun M : DmaSems sig S1 => M.squeeze S_ squeezes_S1_S_) (SemArray.slice_unit_congr _ e _ _)

instance (s : Fin 2) : ClosedOff (stOff s ⟨0, by decide⟩) := ⟨![s.val, 0, 0, 0, 0], rfl⟩
instance (s : Fin 2) : ClosedOff (stOff s ⟨1, by decide⟩) := ⟨![s.val, 0, 1, 0, 0], rfl⟩
instance (s : Fin 2) : ClosedOff (stOff s ⟨2, by decide⟩) := ⟨![s.val, 1, 0, 0, 0], rfl⟩
instance (s : Fin 2) : ClosedOff (stOff s ⟨3, by decide⟩) := ⟨![s.val, 1, 1, 0, 0], rfl⟩
instance (s : Fin 2) : ClosedOff (stOff s ⟨4, by decide⟩) := ⟨![s.val, 2, 0, 0, 0], rfl⟩
instance (s : Fin 2) : ClosedOff (stOff s ⟨5, by decide⟩) := ⟨![s.val, 2, 1, 0, 0], rfl⟩
instance (s : Fin 2) : ClosedOff (stOff s ⟨6, by decide⟩) := ⟨![s.val, 3, 0, 0, 0], rfl⟩
instance (s : Fin 2) : ClosedOff (stOff s ⟨7, by decide⟩) := ⟨![s.val, 3, 1, 0, 0], rfl⟩
instance (i : grid0.Coords) (t : Fin 8) (j : Fin 16) : ClosedOff (tlOff i t j) := ⟨tlOff i t j, rfl⟩

/-- The row block's number, as the loop's number of trips. -/
theorem trips1_eq : ∀ i : grid0.Coords, (k0_t1_loop i).trips = (i 1).val := by decide +kernel
/-- The remainder loop makes no trip. -/
theorem trips2_eq : ∀ i : grid0.Coords, (k0_t2_loop i).trips = 0 := by decide +kernel
theorem cond2_eq : ∀ (i : grid0.Coords) (k : Fin (k0_t1_loop i).trips), k0_cond2 i k = 1#1 := by decide +kernel
theorem cond4_eq : ∀ i : grid0.Coords, k0_cond4 i = 0#1 := by decide +kernel

/-! The windows of the copies a trip issues: the next column block, into the other slot. -/

theorem off4_eq : ∀ (i : grid0.Coords) (k : Fin (k0_t1_loop i).trips), k0_off4 i k = stOff (Ring.sl 2 (k.val + 1)) 0 := by decide +kernel
theorem off6_eq : ∀ (i : grid0.Coords) (k : Fin (k0_t1_loop i).trips), k0_off6 i k = stOff (Ring.sl 2 (k.val + 1)) 1 := by decide +kernel
theorem off8_eq : ∀ (i : grid0.Coords) (k : Fin (k0_t1_loop i).trips), k0_off8 i k = stOff (Ring.sl 2 (k.val + 1)) 2 := by decide +kernel
theorem off9_eq : ∀ (i : grid0.Coords) (k : Fin (k0_t1_loop i).trips), k0_off9 i k = stOff (Ring.sl 2 (k.val + 1)) 3 := by decide +kernel
theorem off10_eq : ∀ (i : grid0.Coords) (k : Fin (k0_t1_loop i).trips), k0_off10 i k = stOff (Ring.sl 2 (k.val + 1)) 4 := by decide +kernel
theorem off11_eq : ∀ (i : grid0.Coords) (k : Fin (k0_t1_loop i).trips), k0_off11 i k = stOff (Ring.sl 2 (k.val + 1)) 5 := by decide +kernel
theorem off12_eq : ∀ (i : grid0.Coords) (k : Fin (k0_t1_loop i).trips), k0_off12 i k = stOff (Ring.sl 2 (k.val + 1)) 6 := by decide +kernel
theorem off13_eq : ∀ (i : grid0.Coords) (k : Fin (k0_t1_loop i).trips), k0_off13 i k = stOff (Ring.sl 2 (k.val + 1)) 7 := by decide +kernel
theorem off5_0_eq : ∀ (i : grid0.Coords) (k : Fin (k0_t1_loop i).trips), k0_off5 i k 0#32 = tlOff i 0 (Ring.bk 16 (k.val + 1)) := by decide +kernel
theorem off7_0_eq : ∀ (i : grid0.Coords) (k : Fin (k0_t1_loop i).trips), k0_off7 i k 0#32 = tlOff i 1 (Ring.bk 16 (k.val + 1)) := by decide +kernel
theorem off5_1_eq : ∀ (i : grid0.Coords) (k : Fin (k0_t1_loop i).trips), k0_off5 i k 1#32 = tlOff i 2 (Ring.bk 16 (k.val + 1)) := by decide +kernel
theorem off7_1_eq : ∀ (i : grid0.Coords) (k : Fin (k0_t1_loop i).trips), k0_off7 i k 1#32 = tlOff i 3 (Ring.bk 16 (k.val + 1)) := by decide +kernel
theorem off5_2_eq : ∀ (i : grid0.Coords) (k : Fin (k0_t1_loop i).trips), k0_off5 i k 2#32 = tlOff i 4 (Ring.bk 16 (k.val + 1)) := by decide +kernel
theorem off7_2_eq : ∀ (i : grid0.Coords) (k : Fin (k0_t1_loop i).trips), k0_off7 i k 2#32 = tlOff i 5 (Ring.bk 16 (k.val + 1)) := by decide +kernel
theorem off5_3_eq : ∀ (i : grid0.Coords) (k : Fin (k0_t1_loop i).trips), k0_off5 i k 3#32 = tlOff i 6 (Ring.bk 16 (k.val + 1)) := by decide +kernel
theorem off7_3_eq : ∀ (i : grid0.Coords) (k : Fin (k0_t1_loop i).trips), k0_off7 i k 3#32 = tlOff i 7 (Ring.bk 16 (k.val + 1)) := by decide +kernel
theorem off3_eq : ∀ (i : grid0.Coords) (k : Fin (k0_t1_loop i).trips), k0_off3 i k = semOff (Ring.sl 2 (k.val + 1)) := by decide +kernel

@[sl_canon] theorem slot4 (i : grid0.Coords) (k : Fin (k0_t1_loop i).trips) (hh hs) :
    (stM.slice (Rect.unit (s := S2x4x2x256x256) (k0_off4 i k) S1x1x1x256x256.size hh) hs).squeeze S256x256 squeezes_S1x1x1x256x256_S256x256 = rslot (Ring.sl 2 (k.val + 1)) 0 := rslot_congr (off4_eq i k) _ _
@[sl_canon] theorem slot6 (i : grid0.Coords) (k : Fin (k0_t1_loop i).trips) (hh hs) :
    (stM.slice (Rect.unit (s := S2x4x2x256x256) (k0_off6 i k) S1x1x1x256x256.size hh) hs).squeeze S256x256 squeezes_S1x1x1x256x256_S256x256 = rslot (Ring.sl 2 (k.val + 1)) 1 := rslot_congr (off6_eq i k) _ _
@[sl_canon] theorem slot8 (i : grid0.Coords) (k : Fin (k0_t1_loop i).trips) (hh hs) :
    (stM.slice (Rect.unit (s := S2x4x2x256x256) (k0_off8 i k) S1x1x1x256x256.size hh) hs).squeeze S256x256 squeezes_S1x1x1x256x256_S256x256 = rslot (Ring.sl 2 (k.val + 1)) 2 := rslot_congr (off8_eq i k) _ _
@[sl_canon] theorem slot9 (i : grid0.Coords) (k : Fin (k0_t1_loop i).trips) (hh hs) :
    (stM.slice (Rect.unit (s := S2x4x2x256x256) (k0_off9 i k) S1x1x1x256x256.size hh) hs).squeeze S256x256 squeezes_S1x1x1x256x256_S256x256 = rslot (Ring.sl 2 (k.val + 1)) 3 := rslot_congr (off9_eq i k) _ _
@[sl_canon] theorem slot10 (i : grid0.Coords) (k : Fin (k0_t1_loop i).trips) (hh hs) :
    (stM.slice (Rect.unit (s := S2x4x2x256x256) (k0_off10 i k) S1x1x1x256x256.size hh) hs).squeeze S256x256 squeezes_S1x1x1x256x256_S256x256 = rslot (Ring.sl 2 (k.val + 1)) 4 := rslot_congr (off10_eq i k) _ _
@[sl_canon] theorem slot11 (i : grid0.Coords) (k : Fin (k0_t1_loop i).trips) (hh hs) :
    (stM.slice (Rect.unit (s := S2x4x2x256x256) (k0_off11 i k) S1x1x1x256x256.size hh) hs).squeeze S256x256 squeezes_S1x1x1x256x256_S256x256 = rslot (Ring.sl 2 (k.val + 1)) 5 := rslot_congr (off11_eq i k) _ _
@[sl_canon] theorem slot12 (i : grid0.Coords) (k : Fin (k0_t1_loop i).trips) (hh hs) :
    (stM.slice (Rect.unit (s := S2x4x2x256x256) (k0_off12 i k) S1x1x1x256x256.size hh) hs).squeeze S256x256 squeezes_S1x1x1x256x256_S256x256 = rslot (Ring.sl 2 (k.val + 1)) 6 := rslot_congr (off12_eq i k) _ _
@[sl_canon] theorem slot13 (i : grid0.Coords) (k : Fin (k0_t1_loop i).trips) (hh hs) :
    (stM.slice (Rect.unit (s := S2x4x2x256x256) (k0_off13 i k) S1x1x1x256x256.size hh) hs).squeeze S256x256 squeezes_S1x1x1x256x256_S256x256 = rslot (Ring.sl 2 (k.val + 1)) 7 := rslot_congr (off13_eq i k) _ _
@[sl_canon] theorem tile5_0 (i : grid0.Coords) (k : Fin (k0_t1_loop i).trips) (hh hs) :
    (savedM.slice (Rect.unit (s := S2x8x4096x4096) (k0_off5 i k 0#32) S1x1x256x256.size hh) hs).squeeze S256x256 squeezes_S1x1x256x256_S256x256 = tile i 0 (Ring.bk 16 (k.val + 1)) := tile_congr (off5_0_eq i k) _ _
@[sl_canon] theorem tile7_0 (i : grid0.Coords) (k : Fin (k0_t1_loop i).trips) (hh hs) :
    (savedM.slice (Rect.unit (s := S2x8x4096x4096) (k0_off7 i k 0#32) S1x1x256x256.size hh) hs).squeeze S256x256 squeezes_S1x1x256x256_S256x256 = tile i 1 (Ring.bk 16 (k.val + 1)) := tile_congr (off7_0_eq i k) _ _
@[sl_canon] theorem tile5_1 (i : grid0.Coords) (k : Fin (k0_t1_loop i).trips) (hh hs) :
    (savedM.slice (Rect.unit (s := S2x8x4096x4096) (k0_off5 i k 1#32) S1x1x256x256.size hh) hs).squeeze S256x256 squeezes_S1x1x256x256_S256x256 = tile i 2 (Ring.bk 16 (k.val + 1)) := tile_congr (off5_1_eq i k) _ _
@[sl_canon] theorem tile7_1 (i : grid0.Coords) (k : Fin (k0_t1_loop i).trips) (hh hs) :
    (savedM.slice (Rect.unit (s := S2x8x4096x4096) (k0_off7 i k 1#32) S1x1x256x256.size hh) hs).squeeze S256x256 squeezes_S1x1x256x256_S256x256 = tile i 3 (Ring.bk 16 (k.val + 1)) := tile_congr (off7_1_eq i k) _ _
@[sl_canon] theorem tile5_2 (i : grid0.Coords) (k : Fin (k0_t1_loop i).trips) (hh hs) :
    (savedM.slice (Rect.unit (s := S2x8x4096x4096) (k0_off5 i k 2#32) S1x1x256x256.size hh) hs).squeeze S256x256 squeezes_S1x1x256x256_S256x256 = tile i 4 (Ring.bk 16 (k.val + 1)) := tile_congr (off5_2_eq i k) _ _
@[sl_canon] theorem tile7_2 (i : grid0.Coords) (k : Fin (k0_t1_loop i).trips) (hh hs) :
    (savedM.slice (Rect.unit (s := S2x8x4096x4096) (k0_off7 i k 2#32) S1x1x256x256.size hh) hs).squeeze S256x256 squeezes_S1x1x256x256_S256x256 = tile i 5 (Ring.bk 16 (k.val + 1)) := tile_congr (off7_2_eq i k) _ _
@[sl_canon] theorem tile5_3 (i : grid0.Coords) (k : Fin (k0_t1_loop i).trips) (hh hs) :
    (savedM.slice (Rect.unit (s := S2x8x4096x4096) (k0_off5 i k 3#32) S1x1x256x256.size hh) hs).squeeze S256x256 squeezes_S1x1x256x256_S256x256 = tile i 6 (Ring.bk 16 (k.val + 1)) := tile_congr (off5_3_eq i k) _ _
@[sl_canon] theorem tile7_3 (i : grid0.Coords) (k : Fin (k0_t1_loop i).trips) (hh hs) :
    (savedM.slice (Rect.unit (s := S2x8x4096x4096) (k0_off7 i k 3#32) S1x1x256x256.size hh) hs).squeeze S256x256 squeezes_S1x1x256x256_S256x256 = tile i 7 (Ring.bk 16 (k.val + 1)) := tile_congr (off7_3_eq i k) _ _
@[sl_canon] theorem sem3 (i : grid0.Coords) (k : Fin (k0_t1_loop i).trips) (hh) :
    (cc0_scratch3.slice (Rect.unit (s := S2) (k0_off3 i k) S1.size hh)).squeeze S_ squeezes_S1_S_ = csm (Ring.sl 2 (k.val + 1)) := csm_congr (off3_eq i k) _

/-! The windows of the copies a trip waits for: its own column block, in its slot. -/

theorem off15_eq : ∀ (i : grid0.Coords) (k : Fin (k0_t1_loop i).trips), k0_off15 i k = stOff (Ring.sl 2 k.val) 0 := by decide +kernel
theorem off17_eq : ∀ (i : grid0.Coords) (k : Fin (k0_t1_loop i).trips), k0_off17 i k = stOff (Ring.sl 2 k.val) 1 := by decide +kernel
theorem off19_eq : ∀ (i : grid0.Coords) (k : Fin (k0_t1_loop i).trips), k0_off19 i k = stOff (Ring.sl 2 k.val) 2 := by decide +kernel
theorem off20_eq : ∀ (i : grid0.Coords) (k : Fin (k0_t1_loop i).trips), k0_off20 i k = stOff (Ring.sl 2 k.val) 3 := by decide +kernel
theorem off21_eq : ∀ (i : grid0.Coords) (k : Fin (k0_t1_loop i).trips), k0_off21 i k = stOff (Ring.sl 2 k.val) 4 := by decide +kernel
theorem off22_eq : ∀ (i : grid0.Coords) (k : Fin (k0_t1_loop i).trips), k0_off22 i k = stOff (Ring.sl 2 k.val) 5 := by decide +kernel
theorem off23_eq : ∀ (i : grid0.Coords) (k : Fin (k0_t1_loop i).trips), k0_off23 i k = stOff (Ring.sl 2 k.val) 6 := by decide +kernel
theorem off24_eq : ∀ (i : grid0.Coords) (k : Fin (k0_t1_loop i).trips), k0_off24 i k = stOff (Ring.sl 2 k.val) 7 := by decide +kernel
theorem off16_0_eq : ∀ (i : grid0.Coords) (k : Fin (k0_t1_loop i).trips), k0_off16 i k 0#32 = tlOff i 0 (Ring.bk 16 k.val) := by decide +kernel
theorem off18_0_eq : ∀ (i : grid0.Coords) (k : Fin (k0_t1_loop i).trips), k0_off18 i k 0#32 = tlOff i 1 (Ring.bk 16 k.val) := by decide +kernel
theorem off16_1_eq : ∀ (i : grid0.Coords) (k : Fin (k0_t1_loop i).trips), k0_off16 i k 1#32 = tlOff i 2 (Ring.bk 16 k.val) := by decide +kernel
theorem off18_1_eq : ∀ (i : grid0.Coords) (k : Fin (k0_t1_loop i).trips), k0_off18 i k 1#32 = tlOff i 3 (Ring.bk 16 k.val) := by decide +kernel
theorem off16_2_eq : ∀ (i : grid0.Coords) (k : Fin (k0_t1_loop i).trips), k0_off16 i k 2#32 = tlOff i 4 (Ring.bk 16 k.val) := by decide +kernel
theorem off18_2_eq : ∀ (i : grid0.Coords) (k : Fin (k0_t1_loop i).trips), k0_off18 i k 2#32 = tlOff i 5 (Ring.bk 16 k.val) := by decide +kernel
theorem off16_3_eq : ∀ (i : grid0.Coords) (k : Fin (k0_t1_loop i).trips), k0_off16 i k 3#32 = tlOff i 6 (Ring.bk 16 k.val) := by decide +kernel
theorem off18_3_eq : ∀ (i : grid0.Coords) (k : Fin (k0_t1_loop i).trips), k0_off18 i k 3#32 = tlOff i 7 (Ring.bk 16 k.val) := by decide +kernel
theorem off14_eq : ∀ (i : grid0.Coords) (k : Fin (k0_t1_loop i).trips), k0_off14 i k = semOff (Ring.sl 2 k.val) := by decide +kernel

@[sl_canon] theorem slot15 (i : grid0.Coords) (k : Fin (k0_t1_loop i).trips) (hh hs) :
    (stM.slice (Rect.unit (s := S2x4x2x256x256) (k0_off15 i k) S1x1x1x256x256.size hh) hs).squeeze S256x256 squeezes_S1x1x1x256x256_S256x256 = rslot (Ring.sl 2 k.val) 0 := rslot_congr (off15_eq i k) _ _
@[sl_canon] theorem slot17 (i : grid0.Coords) (k : Fin (k0_t1_loop i).trips) (hh hs) :
    (stM.slice (Rect.unit (s := S2x4x2x256x256) (k0_off17 i k) S1x1x1x256x256.size hh) hs).squeeze S256x256 squeezes_S1x1x1x256x256_S256x256 = rslot (Ring.sl 2 k.val) 1 := rslot_congr (off17_eq i k) _ _
@[sl_canon] theorem slot19 (i : grid0.Coords) (k : Fin (k0_t1_loop i).trips) (hh hs) :
    (stM.slice (Rect.unit (s := S2x4x2x256x256) (k0_off19 i k) S1x1x1x256x256.size hh) hs).squeeze S256x256 squeezes_S1x1x1x256x256_S256x256 = rslot (Ring.sl 2 k.val) 2 := rslot_congr (off19_eq i k) _ _
@[sl_canon] theorem slot20 (i : grid0.Coords) (k : Fin (k0_t1_loop i).trips) (hh hs) :
    (stM.slice (Rect.unit (s := S2x4x2x256x256) (k0_off20 i k) S1x1x1x256x256.size hh) hs).squeeze S256x256 squeezes_S1x1x1x256x256_S256x256 = rslot (Ring.sl 2 k.val) 3 := rslot_congr (off20_eq i k) _ _
@[sl_canon] theorem slot21 (i : grid0.Coords) (k : Fin (k0_t1_loop i).trips) (hh hs) :
    (stM.slice (Rect.unit (s := S2x4x2x256x256) (k0_off21 i k) S1x1x1x256x256.size hh) hs).squeeze S256x256 squeezes_S1x1x1x256x256_S256x256 = rslot (Ring.sl 2 k.val) 4 := rslot_congr (off21_eq i k) _ _
@[sl_canon] theorem slot22 (i : grid0.Coords) (k : Fin (k0_t1_loop i).trips) (hh hs) :
    (stM.slice (Rect.unit (s := S2x4x2x256x256) (k0_off22 i k) S1x1x1x256x256.size hh) hs).squeeze S256x256 squeezes_S1x1x1x256x256_S256x256 = rslot (Ring.sl 2 k.val) 5 := rslot_congr (off22_eq i k) _ _
@[sl_canon] theorem slot23 (i : grid0.Coords) (k : Fin (k0_t1_loop i).trips) (hh hs) :
    (stM.slice (Rect.unit (s := S2x4x2x256x256) (k0_off23 i k) S1x1x1x256x256.size hh) hs).squeeze S256x256 squeezes_S1x1x1x256x256_S256x256 = rslot (Ring.sl 2 k.val) 6 := rslot_congr (off23_eq i k) _ _
@[sl_canon] theorem slot24 (i : grid0.Coords) (k : Fin (k0_t1_loop i).trips) (hh hs) :
    (stM.slice (Rect.unit (s := S2x4x2x256x256) (k0_off24 i k) S1x1x1x256x256.size hh) hs).squeeze S256x256 squeezes_S1x1x1x256x256_S256x256 = rslot (Ring.sl 2 k.val) 7 := rslot_congr (off24_eq i k) _ _
@[sl_canon] theorem tile16_0 (i : grid0.Coords) (k : Fin (k0_t1_loop i).trips) (hh hs) :
    (savedM.slice (Rect.unit (s := S2x8x4096x4096) (k0_off16 i k 0#32) S1x1x256x256.size hh) hs).squeeze S256x256 squeezes_S1x1x256x256_S256x256 = tile i 0 (Ring.bk 16 k.val) := tile_congr (off16_0_eq i k) _ _
@[sl_canon] theorem tile18_0 (i : grid0.Coords) (k : Fin (k0_t1_loop i).trips) (hh hs) :
    (savedM.slice (Rect.unit (s := S2x8x4096x4096) (k0_off18 i k 0#32) S1x1x256x256.size hh) hs).squeeze S256x256 squeezes_S1x1x256x256_S256x256 = tile i 1 (Ring.bk 16 k.val) := tile_congr (off18_0_eq i k) _ _
@[sl_canon] theorem tile16_1 (i : grid0.Coords) (k : Fin (k0_t1_loop i).trips) (hh hs) :
    (savedM.slice (Rect.unit (s := S2x8x4096x4096) (k0_off16 i k 1#32) S1x1x256x256.size hh) hs).squeeze S256x256 squeezes_S1x1x256x256_S256x256 = tile i 2 (Ring.bk 16 k.val) := tile_congr (off16_1_eq i k) _ _
@[sl_canon] theorem tile18_1 (i : grid0.Coords) (k : Fin (k0_t1_loop i).trips) (hh hs) :
    (savedM.slice (Rect.unit (s := S2x8x4096x4096) (k0_off18 i k 1#32) S1x1x256x256.size hh) hs).squeeze S256x256 squeezes_S1x1x256x256_S256x256 = tile i 3 (Ring.bk 16 k.val) := tile_congr (off18_1_eq i k) _ _
@[sl_canon] theorem tile16_2 (i : grid0.Coords) (k : Fin (k0_t1_loop i).trips) (hh hs) :
    (savedM.slice (Rect.unit (s := S2x8x4096x4096) (k0_off16 i k 2#32) S1x1x256x256.size hh) hs).squeeze S256x256 squeezes_S1x1x256x256_S256x256 = tile i 4 (Ring.bk 16 k.val) := tile_congr (off16_2_eq i k) _ _
@[sl_canon] theorem tile18_2 (i : grid0.Coords) (k : Fin (k0_t1_loop i).trips) (hh hs) :
    (savedM.slice (Rect.unit (s := S2x8x4096x4096) (k0_off18 i k 2#32) S1x1x256x256.size hh) hs).squeeze S256x256 squeezes_S1x1x256x256_S256x256 = tile i 5 (Ring.bk 16 k.val) := tile_congr (off18_2_eq i k) _ _
@[sl_canon] theorem tile16_3 (i : grid0.Coords) (k : Fin (k0_t1_loop i).trips) (hh hs) :
    (savedM.slice (Rect.unit (s := S2x8x4096x4096) (k0_off16 i k 3#32) S1x1x256x256.size hh) hs).squeeze S256x256 squeezes_S1x1x256x256_S256x256 = tile i 6 (Ring.bk 16 k.val) := tile_congr (off16_3_eq i k) _ _
@[sl_canon] theorem tile18_3 (i : grid0.Coords) (k : Fin (k0_t1_loop i).trips) (hh hs) :
    (savedM.slice (Rect.unit (s := S2x8x4096x4096) (k0_off18 i k 3#32) S1x1x256x256.size hh) hs).squeeze S256x256 squeezes_S1x1x256x256_S256x256 = tile i 7 (Ring.bk 16 k.val) := tile_congr (off18_3_eq i k) _ _
@[sl_canon] theorem sem14 (i : grid0.Coords) (k : Fin (k0_t1_loop i).trips) (hh) :
    (cc0_scratch3.slice (Rect.unit (s := S2) (k0_off14 i k) S1.size hh)).squeeze S_ squeezes_S1_S_ = csm (Ring.sl 2 k.val) := csm_congr (off14_eq i k) _

/-! The windows of the copies waited for after the loop: the diagonal's column block. -/

theorem off83_eq : ∀ (i : grid0.Coords), k0_off83 i = stOff (Ring.sl 2 (k0_t1_loop i).trips) 0 := by decide +kernel
theorem off85_eq : ∀ (i : grid0.Coords), k0_off85 i = stOff (Ring.sl 2 (k0_t1_loop i).trips) 1 := by decide +kernel
theorem off87_eq : ∀ (i : grid0.Coords), k0_off87 i = stOff (Ring.sl 2 (k0_t1_loop i).trips) 2 := by decide +kernel
theorem off88_eq : ∀ (i : grid0.Coords), k0_off88 i = stOff (Ring.sl 2 (k0_t1_loop i).trips) 3 := by decide +kernel
theorem off89_eq : ∀ (i : grid0.Coords), k0_off89 i = stOff (Ring.sl 2 (k0_t1_loop i).trips) 4 := by decide +kernel
theorem off90_eq : ∀ (i : grid0.Coords), k0_off90 i = stOff (Ring.sl 2 (k0_t1_loop i).trips) 5 := by decide +kernel
theorem off91_eq : ∀ (i : grid0.Coords), k0_off91 i = stOff (Ring.sl 2 (k0_t1_loop i).trips) 6 := by decide +kernel
theorem off92_eq : ∀ (i : grid0.Coords), k0_off92 i = stOff (Ring.sl 2 (k0_t1_loop i).trips) 7 := by decide +kernel
theorem off84_0_eq : ∀ (i : grid0.Coords), k0_off84 i 0#32 = tlOff i 0 (Ring.bk 16 (k0_t1_loop i).trips) := by decide +kernel
theorem off86_0_eq : ∀ (i : grid0.Coords), k0_off86 i 0#32 = tlOff i 1 (Ring.bk 16 (k0_t1_loop i).trips) := by decide +kernel
theorem off84_1_eq : ∀ (i : grid0.Coords), k0_off84 i 1#32 = tlOff i 2 (Ring.bk 16 (k0_t1_loop i).trips) := by decide +kernel
theorem off86_1_eq : ∀ (i : grid0.Coords), k0_off86 i 1#32 = tlOff i 3 (Ring.bk 16 (k0_t1_loop i).trips) := by decide +kernel
theorem off84_2_eq : ∀ (i : grid0.Coords), k0_off84 i 2#32 = tlOff i 4 (Ring.bk 16 (k0_t1_loop i).trips) := by decide +kernel
theorem off86_2_eq : ∀ (i : grid0.Coords), k0_off86 i 2#32 = tlOff i 5 (Ring.bk 16 (k0_t1_loop i).trips) := by decide +kernel
theorem off84_3_eq : ∀ (i : grid0.Coords), k0_off84 i 3#32 = tlOff i 6 (Ring.bk 16 (k0_t1_loop i).trips) := by decide +kernel
theorem off86_3_eq : ∀ (i : grid0.Coords), k0_off86 i 3#32 = tlOff i 7 (Ring.bk 16 (k0_t1_loop i).trips) := by decide +kernel
theorem off82_eq : ∀ (i : grid0.Coords), k0_off82 i = semOff (Ring.sl 2 (k0_t1_loop i).trips) := by decide +kernel

@[sl_canon] theorem slot83 (i : grid0.Coords) (hh hs) :
    (stM.slice (Rect.unit (s := S2x4x2x256x256) (k0_off83 i) S1x1x1x256x256.size hh) hs).squeeze S256x256 squeezes_S1x1x1x256x256_S256x256 = rslot (Ring.sl 2 (k0_t1_loop i).trips) 0 := rslot_congr (off83_eq i) _ _
@[sl_canon] theorem slot85 (i : grid0.Coords) (hh hs) :
    (stM.slice (Rect.unit (s := S2x4x2x256x256) (k0_off85 i) S1x1x1x256x256.size hh) hs).squeeze S256x256 squeezes_S1x1x1x256x256_S256x256 = rslot (Ring.sl 2 (k0_t1_loop i).trips) 1 := rslot_congr (off85_eq i) _ _
@[sl_canon] theorem slot87 (i : grid0.Coords) (hh hs) :
    (stM.slice (Rect.unit (s := S2x4x2x256x256) (k0_off87 i) S1x1x1x256x256.size hh) hs).squeeze S256x256 squeezes_S1x1x1x256x256_S256x256 = rslot (Ring.sl 2 (k0_t1_loop i).trips) 2 := rslot_congr (off87_eq i) _ _
@[sl_canon] theorem slot88 (i : grid0.Coords) (hh hs) :
    (stM.slice (Rect.unit (s := S2x4x2x256x256) (k0_off88 i) S1x1x1x256x256.size hh) hs).squeeze S256x256 squeezes_S1x1x1x256x256_S256x256 = rslot (Ring.sl 2 (k0_t1_loop i).trips) 3 := rslot_congr (off88_eq i) _ _
@[sl_canon] theorem slot89 (i : grid0.Coords) (hh hs) :
    (stM.slice (Rect.unit (s := S2x4x2x256x256) (k0_off89 i) S1x1x1x256x256.size hh) hs).squeeze S256x256 squeezes_S1x1x1x256x256_S256x256 = rslot (Ring.sl 2 (k0_t1_loop i).trips) 4 := rslot_congr (off89_eq i) _ _
@[sl_canon] theorem slot90 (i : grid0.Coords) (hh hs) :
    (stM.slice (Rect.unit (s := S2x4x2x256x256) (k0_off90 i) S1x1x1x256x256.size hh) hs).squeeze S256x256 squeezes_S1x1x1x256x256_S256x256 = rslot (Ring.sl 2 (k0_t1_loop i).trips) 5 := rslot_congr (off90_eq i) _ _
@[sl_canon] theorem slot91 (i : grid0.Coords) (hh hs) :
    (stM.slice (Rect.unit (s := S2x4x2x256x256) (k0_off91 i) S1x1x1x256x256.size hh) hs).squeeze S256x256 squeezes_S1x1x1x256x256_S256x256 = rslot (Ring.sl 2 (k0_t1_loop i).trips) 6 := rslot_congr (off91_eq i) _ _
@[sl_canon] theorem slot92 (i : grid0.Coords) (hh hs) :
    (stM.slice (Rect.unit (s := S2x4x2x256x256) (k0_off92 i) S1x1x1x256x256.size hh) hs).squeeze S256x256 squeezes_S1x1x1x256x256_S256x256 = rslot (Ring.sl 2 (k0_t1_loop i).trips) 7 := rslot_congr (off92_eq i) _ _
@[sl_canon] theorem tile84_0 (i : grid0.Coords) (hh hs) :
    (savedM.slice (Rect.unit (s := S2x8x4096x4096) (k0_off84 i 0#32) S1x1x256x256.size hh) hs).squeeze S256x256 squeezes_S1x1x256x256_S256x256 = tile i 0 (Ring.bk 16 (k0_t1_loop i).trips) := tile_congr (off84_0_eq i) _ _
@[sl_canon] theorem tile86_0 (i : grid0.Coords) (hh hs) :
    (savedM.slice (Rect.unit (s := S2x8x4096x4096) (k0_off86 i 0#32) S1x1x256x256.size hh) hs).squeeze S256x256 squeezes_S1x1x256x256_S256x256 = tile i 1 (Ring.bk 16 (k0_t1_loop i).trips) := tile_congr (off86_0_eq i) _ _
@[sl_canon] theorem tile84_1 (i : grid0.Coords) (hh hs) :
    (savedM.slice (Rect.unit (s := S2x8x4096x4096) (k0_off84 i 1#32) S1x1x256x256.size hh) hs).squeeze S256x256 squeezes_S1x1x256x256_S256x256 = tile i 2 (Ring.bk 16 (k0_t1_loop i).trips) := tile_congr (off84_1_eq i) _ _
@[sl_canon] theorem tile86_1 (i : grid0.Coords) (hh hs) :
    (savedM.slice (Rect.unit (s := S2x8x4096x4096) (k0_off86 i 1#32) S1x1x256x256.size hh) hs).squeeze S256x256 squeezes_S1x1x256x256_S256x256 = tile i 3 (Ring.bk 16 (k0_t1_loop i).trips) := tile_congr (off86_1_eq i) _ _
@[sl_canon] theorem tile84_2 (i : grid0.Coords) (hh hs) :
    (savedM.slice (Rect.unit (s := S2x8x4096x4096) (k0_off84 i 2#32) S1x1x256x256.size hh) hs).squeeze S256x256 squeezes_S1x1x256x256_S256x256 = tile i 4 (Ring.bk 16 (k0_t1_loop i).trips) := tile_congr (off84_2_eq i) _ _
@[sl_canon] theorem tile86_2 (i : grid0.Coords) (hh hs) :
    (savedM.slice (Rect.unit (s := S2x8x4096x4096) (k0_off86 i 2#32) S1x1x256x256.size hh) hs).squeeze S256x256 squeezes_S1x1x256x256_S256x256 = tile i 5 (Ring.bk 16 (k0_t1_loop i).trips) := tile_congr (off86_2_eq i) _ _
@[sl_canon] theorem tile84_3 (i : grid0.Coords) (hh hs) :
    (savedM.slice (Rect.unit (s := S2x8x4096x4096) (k0_off84 i 3#32) S1x1x256x256.size hh) hs).squeeze S256x256 squeezes_S1x1x256x256_S256x256 = tile i 6 (Ring.bk 16 (k0_t1_loop i).trips) := tile_congr (off84_3_eq i) _ _
@[sl_canon] theorem tile86_3 (i : grid0.Coords) (hh hs) :
    (savedM.slice (Rect.unit (s := S2x8x4096x4096) (k0_off86 i 3#32) S1x1x256x256.size hh) hs).squeeze S256x256 squeezes_S1x1x256x256_S256x256 = tile i 7 (Ring.bk 16 (k0_t1_loop i).trips) := tile_congr (off86_3_eq i) _ _
@[sl_canon] theorem sem82 (i : grid0.Coords) (hh) :
    (cc0_scratch3.slice (Rect.unit (s := S2) (k0_off82 i) S1.size hh)).squeeze S_ squeezes_S1_S_ = csm (Ring.sl 2 (k0_t1_loop i).trips) := csm_congr (off82_eq i) _

/-! The windows of the first copies: column block 0, into slot 0. -/

@[sl_canon] theorem slotL0 (hh hs) :
    (stM.slice (Rect.unit (s := S2x4x2x256x256) (![0, 0, 0, 0, 0]) S1x1x1x256x256.size hh) hs).squeeze S256x256 squeezes_S1x1x1x256x256_S256x256 = rslot (Ring.sl 2 0) 0 := rslot_congr (by decide) _ _
@[sl_canon] theorem slotL1 (hh hs) :
    (stM.slice (Rect.unit (s := S2x4x2x256x256) (![0, 0, 1, 0, 0]) S1x1x1x256x256.size hh) hs).squeeze S256x256 squeezes_S1x1x1x256x256_S256x256 = rslot (Ring.sl 2 0) 1 := rslot_congr (by decide) _ _
@[sl_canon] theorem slotL2 (hh hs) :
    (stM.slice (Rect.unit (s := S2x4x2x256x256) (![0, 1, 0, 0, 0]) S1x1x1x256x256.size hh) hs).squeeze S256x256 squeezes_S1x1x1x256x256_S256x256 = rslot (Ring.sl 2 0) 2 := rslot_congr (by decide) _ _
@[sl_canon] theorem slotL3 (hh hs) :
    (stM.slice (Rect.unit (s := S2x4x2x256x256) (![0, 1, 1, 0, 0]) S1x1x1x256x256.size hh) hs).squeeze S256x256 squeezes_S1x1x1x256x256_S256x256 = rslot (Ring.sl 2 0) 3 := rslot_congr (by decide) _ _
@[sl_canon] theorem slotL4 (hh hs) :
    (stM.slice (Rect.unit (s := S2x4x2x256x256) (![0, 2, 0, 0, 0]) S1x1x1x256x256.size hh) hs).squeeze S256x256 squeezes_S1x1x1x256x256_S256x256 = rslot (Ring.sl 2 0) 4 := rslot_congr (by decide) _ _
@[sl_canon] theorem slotL5 (hh hs) :
    (stM.slice (Rect.unit (s := S2x4x2x256x256) (![0, 2, 1, 0, 0]) S1x1x1x256x256.size hh) hs).squeeze S256x256 squeezes_S1x1x1x256x256_S256x256 = rslot (Ring.sl 2 0) 5 := rslot_congr (by decide) _ _
@[sl_canon] theorem slotL6 (hh hs) :
    (stM.slice (Rect.unit (s := S2x4x2x256x256) (![0, 3, 0, 0, 0]) S1x1x1x256x256.size hh) hs).squeeze S256x256 squeezes_S1x1x1x256x256_S256x256 = rslot (Ring.sl 2 0) 6 := rslot_congr (by decide) _ _
@[sl_canon] theorem slotL7 (hh hs) :
    (stM.slice (Rect.unit (s := S2x4x2x256x256) (![0, 3, 1, 0, 0]) S1x1x1x256x256.size hh) hs).squeeze S256x256 squeezes_S1x1x1x256x256_S256x256 = rslot (Ring.sl 2 0) 7 := rslot_congr (by decide) _ _
theorem off1_0_eq : ∀ i : grid0.Coords, k0_off1 i 0#32 = tlOff i 0 (Ring.bk 16 0) := by decide +kernel
@[sl_canon] theorem tileL0 (i : grid0.Coords) (hh hs) :
    (savedM.slice (Rect.unit (s := S2x8x4096x4096) (k0_off1 i 0#32) S1x1x256x256.size hh) hs).squeeze S256x256 squeezes_S1x1x256x256_S256x256 = tile i 0 (Ring.bk 16 0) := tile_congr (off1_0_eq i) _ _
theorem off2_0_eq : ∀ i : grid0.Coords, k0_off2 i 0#32 = tlOff i 1 (Ring.bk 16 0) := by decide +kernel
@[sl_canon] theorem tileL1 (i : grid0.Coords) (hh hs) :
    (savedM.slice (Rect.unit (s := S2x8x4096x4096) (k0_off2 i 0#32) S1x1x256x256.size hh) hs).squeeze S256x256 squeezes_S1x1x256x256_S256x256 = tile i 1 (Ring.bk 16 0) := tile_congr (off2_0_eq i) _ _
theorem off1_1_eq : ∀ i : grid0.Coords, k0_off1 i 1#32 = tlOff i 2 (Ring.bk 16 0) := by decide +kernel
@[sl_canon] theorem tileL2 (i : grid0.Coords) (hh hs) :
    (savedM.slice (Rect.unit (s := S2x8x4096x4096) (k0_off1 i 1#32) S1x1x256x256.size hh) hs).squeeze S256x256 squeezes_S1x1x256x256_S256x256 = tile i 2 (Ring.bk 16 0) := tile_congr (off1_1_eq i) _ _
theorem off2_1_eq : ∀ i : grid0.Coords, k0_off2 i 1#32 = tlOff i 3 (Ring.bk 16 0) := by decide +kernel
@[sl_canon] theorem tileL3 (i : grid0.Coords) (hh hs) :
    (savedM.slice (Rect.unit (s := S2x8x4096x4096) (k0_off2 i 1#32) S1x1x256x256.size hh) hs).squeeze S256x256 squeezes_S1x1x256x256_S256x256 = tile i 3 (Ring.bk 16 0) := tile_congr (off2_1_eq i) _ _
theorem off1_2_eq : ∀ i : grid0.Coords, k0_off1 i 2#32 = tlOff i 4 (Ring.bk 16 0) := by decide +kernel
@[sl_canon] theorem tileL4 (i : grid0.Coords) (hh hs) :
    (savedM.slice (Rect.unit (s := S2x8x4096x4096) (k0_off1 i 2#32) S1x1x256x256.size hh) hs).squeeze S256x256 squeezes_S1x1x256x256_S256x256 = tile i 4 (Ring.bk 16 0) := tile_congr (off1_2_eq i) _ _
theorem off2_2_eq : ∀ i : grid0.Coords, k0_off2 i 2#32 = tlOff i 5 (Ring.bk 16 0) := by decide +kernel
@[sl_canon] theorem tileL5 (i : grid0.Coords) (hh hs) :
    (savedM.slice (Rect.unit (s := S2x8x4096x4096) (k0_off2 i 2#32) S1x1x256x256.size hh) hs).squeeze S256x256 squeezes_S1x1x256x256_S256x256 = tile i 5 (Ring.bk 16 0) := tile_congr (off2_2_eq i) _ _
theorem off1_3_eq : ∀ i : grid0.Coords, k0_off1 i 3#32 = tlOff i 6 (Ring.bk 16 0) := by decide +kernel
@[sl_canon] theorem tileL6 (i : grid0.Coords) (hh hs) :
    (savedM.slice (Rect.unit (s := S2x8x4096x4096) (k0_off1 i 3#32) S1x1x256x256.size hh) hs).squeeze S256x256 squeezes_S1x1x256x256_S256x256 = tile i 6 (Ring.bk 16 0) := tile_congr (off1_3_eq i) _ _
theorem off2_3_eq : ∀ i : grid0.Coords, k0_off2 i 3#32 = tlOff i 7 (Ring.bk 16 0) := by decide +kernel
@[sl_canon] theorem tileL7 (i : grid0.Coords) (hh hs) :
    (savedM.slice (Rect.unit (s := S2x8x4096x4096) (k0_off2 i 3#32) S1x1x256x256.size hh) hs).squeeze S256x256 squeezes_S1x1x256x256_S256x256 = tile i 7 (Ring.bk 16 0) := tile_congr (off2_3_eq i) _ _
@[sl_canon] theorem semL0 (hh) :
    (cc0_scratch3.slice (Rect.unit (s := S2) (![0]) S1.size hh)).squeeze S_ squeezes_S1_S_ = csm (Ring.sl 2 0) := csm_congr (by decide) _

/-! The boxes of the loads through the whole staging buffer lie within these windows. -/

theorem off29_eq : ∀ (i : grid0.Coords) (k : Fin (k0_t1_loop i).trips), k0_off29 i k = stOff (Ring.sl 2 k.val) 0 := by decide +kernel
instance (i : grid0.Coords) (k : Fin (k0_t1_loop i).trips) : ClosedOff (k0_off29 i k) := ⟨![(Ring.sl 2 k.val).val, 0, 0, 0, 0], off29_eq i k⟩
theorem off30_eq : ∀ (i : grid0.Coords) (k : Fin (k0_t1_loop i).trips), k0_off30 i k = stOff (Ring.sl 2 k.val) 2 := by decide +kernel
instance (i : grid0.Coords) (k : Fin (k0_t1_loop i).trips) : ClosedOff (k0_off30 i k) := ⟨![(Ring.sl 2 k.val).val, 1, 0, 0, 0], off30_eq i k⟩
theorem off31_eq : ∀ (i : grid0.Coords) (k : Fin (k0_t1_loop i).trips), k0_off31 i k = stOff (Ring.sl 2 k.val) 4 := by decide +kernel
instance (i : grid0.Coords) (k : Fin (k0_t1_loop i).trips) : ClosedOff (k0_off31 i k) := ⟨![(Ring.sl 2 k.val).val, 2, 0, 0, 0], off31_eq i k⟩
theorem off32_eq : ∀ (i : grid0.Coords) (k : Fin (k0_t1_loop i).trips), k0_off32 i k = stOff (Ring.sl 2 k.val) 6 := by decide +kernel
instance (i : grid0.Coords) (k : Fin (k0_t1_loop i).trips) : ClosedOff (k0_off32 i k) := ⟨![(Ring.sl 2 k.val).val, 3, 0, 0, 0], off32_eq i k⟩
theorem off33_eq : ∀ (i : grid0.Coords) (k : Fin (k0_t1_loop i).trips), k0_off33 i k = stOff (Ring.sl 2 k.val) 1 := by decide +kernel
instance (i : grid0.Coords) (k : Fin (k0_t1_loop i).trips) : ClosedOff (k0_off33 i k) := ⟨![(Ring.sl 2 k.val).val, 0, 1, 0, 0], off33_eq i k⟩
theorem off34_eq : ∀ (i : grid0.Coords) (k : Fin (k0_t1_loop i).trips), k0_off34 i k = stOff (Ring.sl 2 k.val) 3 := by decide +kernel
instance (i : grid0.Coords) (k : Fin (k0_t1_loop i).trips) : ClosedOff (k0_off34 i k) := ⟨![(Ring.sl 2 k.val).val, 1, 1, 0, 0], off34_eq i k⟩
theorem off35_eq : ∀ (i : grid0.Coords) (k : Fin (k0_t1_loop i).trips), k0_off35 i k = stOff (Ring.sl 2 k.val) 5 := by decide +kernel
instance (i : grid0.Coords) (k : Fin (k0_t1_loop i).trips) : ClosedOff (k0_off35 i k) := ⟨![(Ring.sl 2 k.val).val, 2, 1, 0, 0], off35_eq i k⟩
theorem off36_eq : ∀ (i : grid0.Coords) (k : Fin (k0_t1_loop i).trips), k0_off36 i k = stOff (Ring.sl 2 k.val) 7 := by decide +kernel
instance (i : grid0.Coords) (k : Fin (k0_t1_loop i).trips) : ClosedOff (k0_off36 i k) := ⟨![(Ring.sl 2 k.val).val, 3, 1, 0, 0], off36_eq i k⟩
theorem off97_eq : ∀ (i : grid0.Coords), k0_off97 i = stOff (Ring.sl 2 (k0_t1_loop i).trips) 0 := by decide +kernel
instance (i : grid0.Coords) : ClosedOff (k0_off97 i) := ⟨![(Ring.sl 2 (k0_t1_loop i).trips).val, 0, 0, 0, 0], off97_eq i⟩
theorem off98_eq : ∀ (i : grid0.Coords), k0_off98 i = stOff (Ring.sl 2 (k0_t1_loop i).trips) 2 := by decide +kernel
instance (i : grid0.Coords) : ClosedOff (k0_off98 i) := ⟨![(Ring.sl 2 (k0_t1_loop i).trips).val, 1, 0, 0, 0], off98_eq i⟩
theorem off99_eq : ∀ (i : grid0.Coords), k0_off99 i = stOff (Ring.sl 2 (k0_t1_loop i).trips) 4 := by decide +kernel
instance (i : grid0.Coords) : ClosedOff (k0_off99 i) := ⟨![(Ring.sl 2 (k0_t1_loop i).trips).val, 2, 0, 0, 0], off99_eq i⟩
theorem off100_eq : ∀ (i : grid0.Coords), k0_off100 i = stOff (Ring.sl 2 (k0_t1_loop i).trips) 6 := by decide +kernel
instance (i : grid0.Coords) : ClosedOff (k0_off100 i) := ⟨![(Ring.sl 2 (k0_t1_loop i).trips).val, 3, 0, 0, 0], off100_eq i⟩
theorem off101_eq : ∀ (i : grid0.Coords), k0_off101 i = stOff (Ring.sl 2 (k0_t1_loop i).trips) 1 := by decide +kernel
instance (i : grid0.Coords) : ClosedOff (k0_off101 i) := ⟨![(Ring.sl 2 (k0_t1_loop i).trips).val, 0, 1, 0, 0], off101_eq i⟩
theorem off102_eq : ∀ (i : grid0.Coords), k0_off102 i = stOff (Ring.sl 2 (k0_t1_loop i).trips) 3 := by decide +kernel
instance (i : grid0.Coords) : ClosedOff (k0_off102 i) := ⟨![(Ring.sl 2 (k0_t1_loop i).trips).val, 1, 1, 0, 0], off102_eq i⟩
theorem off103_eq : ∀ (i : grid0.Coords), k0_off103 i = stOff (Ring.sl 2 (k0_t1_loop i).trips) 5 := by decide +kernel
instance (i : grid0.Coords) : ClosedOff (k0_off103 i) := ⟨![(Ring.sl 2 (k0_t1_loop i).trips).val, 2, 1, 0, 0], off103_eq i⟩
theorem off104_eq : ∀ (i : grid0.Coords), k0_off104 i = stOff (Ring.sl 2 (k0_t1_loop i).trips) 7 := by decide +kernel
instance (i : grid0.Coords) : ClosedOff (k0_off104 i) := ⟨![(Ring.sl 2 (k0_t1_loop i).trips).val, 3, 1, 0, 0], off104_eq i⟩

/-! The boxes of the loads and stores through the whole key and value arrays. -/

theorem off25_eq : ∀ (i : grid0.Coords) (k : Fin (k0_t1_loop i).trips), k0_off25 i k = kvOff (Ring.bk 16 k.val) 0 := by decide +kernel
theorem off26_eq : ∀ (i : grid0.Coords) (k : Fin (k0_t1_loop i).trips), k0_off26 i k = kvOff (Ring.bk 16 k.val) 1 := by decide +kernel
theorem off27_eq : ∀ (i : grid0.Coords) (k : Fin (k0_t1_loop i).trips), k0_off27 i k = kvOff (Ring.bk 16 k.val) 2 := by decide +kernel
theorem off28_eq : ∀ (i : grid0.Coords) (k : Fin (k0_t1_loop i).trips), k0_off28 i k = kvOff (Ring.bk 16 k.val) 3 := by decide +kernel
theorem off93_eq : ∀ (i : grid0.Coords), k0_off93 i = kvOff (i 1) 0 := by decide +kernel
theorem off94_eq : ∀ (i : grid0.Coords), k0_off94 i = kvOff (i 1) 1 := by decide +kernel
theorem off95_eq : ∀ (i : grid0.Coords), k0_off95 i = kvOff (i 1) 2 := by decide +kernel
theorem off96_eq : ∀ (i : grid0.Coords), k0_off96 i = kvOff (i 1) 3 := by decide +kernel

theorem off105_eq : ∀ i : grid0.Coords, k0_off105 i = ![256 * (i 1).val, 1536 + 512 * (i 0).val] := by decide +kernel
theorem off106_dk_eq : ∀ i : grid0.Coords, k0_off106 i 2560#32 = ![0, 2560 + 512 * (i 0).val] := by decide +kernel
theorem off106_dv_eq : ∀ i : grid0.Coords, k0_off106 i 3584#32 = ![0, 3584 + 512 * (i 0).val] := by decide +kernel

end Cert.KernelIdeal.Sb

end
-- ==== Proof.Trip.lean ====
module

public import proofs.«01_k».proof.Proof.Names
public import Idealize.ShloMosaic.Lib.Pipeline.KitQuiescent
public import Idealize.ShloMosaic.Lib.Batch

/-!
One trip of the kernel's loop over the column blocks below the diagonal. Before trip `k` the eight tiles of column block
`k` are on their way into slot `k mod 2` (or landed there), the other slot is free, and every other tile of the row
block is at home. The trip sends for column block `k + 1`, waits for its own eight tiles and works on them.
-/

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev 𝒱₀ : Variants := Variants.none
local notation "𝕄" => MT nD τ sig Unit (Elt F) ℕ (UU nD τ) ℕ

section Pieces
variable (c : Dev nD) (i : grid0.Coords) (XS : Buf (Elt F) (savedM.view.loc (c : Thread nD τ)))

abbrev cellP (s : Fin 2) : sProp 𝕄 := semVal ((c : Thread nD τ), SemLoc.dma (csm s).sem) 0
abbrev slotP (s : Fin 2) (t : Fin 8) (f : Buf (Elt F) ((rslot s t).view.loc (c : Thread nD τ))) : sProp 𝕄 :=
  (rslot s t).view.loc (c : Thread nD τ) ↦[(rslot s t).view.set]{fullShare} f
/-- One tile at home. -/
abbrev tileP (t : Fin 8) (j : Fin 16) : sProp 𝕄 := (tile i t j).view.loc (c : Thread nD τ) ↦[(tile i t j).view.set]{fullShare} XS
/-- What a tile's copy leaves in its window. -/
abbrev landed (s : Fin 2) (t : Fin 8) (j : Fin 16) : Buf (Elt F) ((rslot s t).view.loc (c : Thread nD τ)) :=
  (rslot s t).view.writes (Elt F) (rslot s t).view.junk [⟨Rect.whole S256x256, ReadAs.same.apply ((tile i t j).view.read (Elt F) XS)⟩]
/-- What one copy delivers: its window holding the tile, and the tile back. -/
def deliv (s : Fin 2) (j : Fin 16) (t : Fin 8) : sProp 𝕄 := iprop(slotP c s t (landed c i XS s t j) ∗ tileP c i XS t j)

instance (s : Fin 2) (j : Fin 16) (t : Fin 8) : Storable (upEmb : UEmb _ 𝕄) (deliv c i XS s j t) := by
  have h : Storable (upEmb : UEmb _ 𝕄) (tileP c i XS t j) := Region.storable_held _ _ _ _
  unfold deliv; infer_instance

/-- The eight copies of column block `j` into slot `s`, all begun and none waited for. -/
abbrev flightP (s : Fin 2) (j : Fin 16) : sProp 𝕄 :=
  Transfers.Batch countersEmb (c : Thread nD τ) (SemLoc.dma (csm s).sem) () 4096 (deliv c i XS s j) 8 0
/-- Slot `s` free: its eight windows at some contents and its cell at zero. -/
abbrev freeP (s : Fin 2) : sProp 𝕄 :=
  iprop((∃ f, slotP c s 0 f) ∗ (∃ f, slotP c s 1 f) ∗ (∃ f, slotP c s 2 f) ∗ (∃ f, slotP c s 3 f)
    ∗ (∃ f, slotP c s 4 f) ∗ (∃ f, slotP c s 5 f) ∗ (∃ f, slotP c s 6 f) ∗ (∃ f, slotP c s 7 f) ∗ cellP c s)
/-- The eight tiles of column block `j` at home. -/
abbrev homeP (j : Fin 16) : sProp 𝕄 :=
  iprop(tileP c i XS 0 j ∗ tileP c i XS 1 j ∗ tileP c i XS 2 j ∗ tileP c i XS 3 j ∗ tileP c i XS 4 j ∗ tileP c i XS 5 j ∗ tileP c i XS 6 j ∗ tileP c i XS 7 j)

theorem homes_here (k : ℕ) (hk : k + 1 < 16) :
    bigSep (Ring.homeSet 1 k) (homeP c i XS) = iprop(homeP c i XS (Ring.bk 16 (k + 1)) ∗ bigSep ((Ring.homeSet 1 k).erase (Ring.bk 16 (k + 1))) (homeP c i XS)) := by
  conv_lhs => rw [Ring.homeSet_out 1 k hk, bigSep_insert (Ring.bkL_not_mem_erase 1 k)]
  rfl
theorem homes_next (k : ℕ) (hk : k + 1 < 16) :
    bigSep (Ring.homeSet 1 (k + 1)) (homeP c i XS) = iprop(homeP c i XS (Ring.bk 16 k) ∗ bigSep ((Ring.homeSet 1 k).erase (Ring.bk 16 (k + 1))) (homeP c i XS)) := by
  conv_lhs => rw [Ring.homeSet_succ 1 k hk, bigSep_insert (Ring.bk_not_mem_erase 1 k (by omega) (by decide))]
  rfl
omit [FloatOps F] in
theorem sl2_add2 (k : ℕ) : Ring.sl 2 (k + 1 + 1) = Ring.sl 2 k := by rw [show k + 1 + 1 = k + 2 from rfl, Ring.sl_add]

end Pieces

section Trip

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g3 : Buf (Elt F) (arg3.view.loc (c : Thread nD τ))) (g4 : Buf (Elt F) (arg4.view.loc (c : Thread nD τ)))
  (arg0 arg1 : BitVec 32) (v3 v4 v5 v6 v7 v8 v9 v10 : Vec F S256x128 .bf16) (v16 : FVec F S256x256 .bf16)

/-- What the loop carries: per head, the row block's gradient of the queries and the running sums of `G`. -/
abbrev Acc (F : FTy → Type) : Type :=
  FVec F S256x128 .f32 × FVec F S256x1 .f32 × FVec F S256x128 .f32 × FVec F S256x1 .f32 × FVec F S256x128 .f32 × FVec F S256x1 .f32 × FVec F S256x128 .f32 × FVec F S256x1 .f32
/-- What the trips change: the carried values and the two accumulators. -/
abbrev TripSt (F : FTy → Type) (c : Dev nD) : Type :=
  Acc F × Buf (Elt F) (dkM.view.loc (c : Thread nD τ)) × Buf (Elt F) (dvM.view.loc (c : Thread nD τ))

/-- The resources before trip `k`. -/
def resAt (k : ℕ) (fk : Buf (Elt F) (dkM.view.loc (c : Thread nD τ))) (fv : Buf (Elt F) (dvM.view.loc (c : Thread nD τ))) : sProp 𝕄 :=
  iprop((arg3.view.loc (c : Thread nD τ) ↦[arg3.view.set]{fullShare} g3)
    ∗ (arg4.view.loc (c : Thread nD τ) ↦[arg4.view.set]{fullShare} g4)
    ∗ (dkM.view.loc (c : Thread nD τ) ↦[dkM.view.set]{fullShare} fk)
    ∗ (dvM.view.loc (c : Thread nD τ) ↦[dvM.view.set]{fullShare} fv)
    ∗ (∃ W, owes (c : Thread nD τ) 0 W)
    ∗ bigSep (Ring.homeSet 1 k) (homeP c i XS)
    ∗ flightP c i XS (Ring.sl 2 k) (Ring.bk 16 k)
    ∗ freeP c (Ring.sl 2 (k + 1)))

abbrev tripG (k : Fin (k0_t1_loop i).trips) (acc : Acc F) : Prog (TpuEff nD τ sig (Elt F) Λ₀ .tc) (Acc F) :=
  k0_t1_body (F := F) i arg2 harg2 arg3 harg3 arg4 harg4 arg5 harg5 savedM (Memref.isWhole_whole _) duM (Memref.isWhole_whole _) duM (Memref.isWhole_whole _)
    dkM (Memref.isWhole_whole _) dvM (Memref.isWhole_whole _) stM (Memref.isWhole_whole _) cc0_scratch3 dqM (Memref.isWhole_whole _) dkvM (Memref.isWhole_whole _) cc0_scratch6
    arg0 arg1 v3 v4 v5 v6 v7 v8 v9 v10 v16 k acc

set_option backward.proofsInPublic true in
/-- One trip at a symbolic `k`; the values it leaves are found by the run. -/
def tripRun (k : Fin (k0_t1_loop i).trips) (st : TripSt F c) :
    { w : TripSt F c //
      resAt c i XS arg3 arg4 g3 g4 k.val st.2.1 st.2.2
        ⊢ wp frame (wpE (defs₀ (F := F)) 𝒱₀ (c : Thread nD τ) none) Set.univ (tripG i arg2 harg2 arg3 harg3 arg4 harg4 arg5 harg5 arg0 arg1 v3 v4 v5 v6 v7 v8 v9 v10 v16 k st.1)
        (fun acc => iprop(⌜acc = w.1⌝ ∗ resAt c i XS arg3 arg4 g3 g4 (k.val + 1) w.2.1 w.2.2)) } := by
  obtain ⟨⟨a17, a18, a19, a20, a21, a22, a23, a24⟩, fk, fv⟩ := st
  refine ⟨⟨⟨?_, ?_, ?_, ?_, ?_, ?_, ?_, ?_⟩, ?_, ?_⟩, ?run⟩
  case run =>
    have hk : k.val + 1 < 16 := by
      have h1 := lt_of_lt_of_eq k.isLt (trips1_eq i); have h2 : (i 1).val < 16 := (i 1).isLt; omega
    have hc2 := cond2_eq i k
    dsimp only [tripG]
    unfold resAt
    rw [homes_here c i XS k.val hk, homes_next c i XS k.val hk, sl2_add2]
    iintro ⟨H3, H4, HK, HV, ⟨%W, HW⟩, ⟨⟨T0, T1, T2, T3, T4, T5, T6, T7⟩, Hrest⟩, HB0,
      ⟨%f0, S0⟩, ⟨%f1, S1⟩, ⟨%f2, S2⟩, ⟨%f3, S3⟩, ⟨%f4, S4⟩, ⟨%f5, S5⟩, ⟨%f6, S6⟩, ⟨%f7, S7⟩, Hcell⟩
    imod (Transfers.batch_alloc' (Lvl := ℕ) (countersEmb (U := UU nD τ)) (c : Thread nD τ) () 4096 (deliv c i XS (Ring.sl 2 (k.val + 1)) (Ring.bk 16 (k.val + 1)))
      (sm := SemLoc.dma (csm (Ring.sl 2 (k.val + 1))).sem) (E := Set.univ)) $$ Hcell with HB1
    unfold flightP deliv slotP tileP landed
    sl_unfold [k0_t1_body]
    sl_exec
    sl_step
    isplitr; · ipureintro; rfl
    isplitl [H3]; · iexact H3
    isplitl [H4]; · iexact H4
    isplitl [HK]; · iexact HK
    isplitl [HV]; · iexact HV
    isplitl [HW]; · iexists _; iexact HW
    isplitl [HB0_src0 HB0_src1 HB0_src2 HB0_src3 HB0_src4 HB0_src5 HB0_src6 HB0_src7 Hrest]
    · isplitl [HB0_src0 HB0_src1 HB0_src2 HB0_src3 HB0_src4 HB0_src5 HB0_src6 HB0_src7]
      · isplitl [HB0_src0]; · iexact HB0_src0
        isplitl [HB0_src1]; · iexact HB0_src1
        isplitl [HB0_src2]; · iexact HB0_src2
        isplitl [HB0_src3]; · iexact HB0_src3
        isplitl [HB0_src4]; · iexact HB0_src4
        isplitl [HB0_src5]; · iexact HB0_src5
        isplitl [HB0_src6]; · iexact HB0_src6
        iexact HB0_src7
      iexact Hrest
    isplitl [HB1]; · iexact HB1
    isplitl [HB0_dst0]; · iexists _; iexact HB0_dst0
    isplitl [HB0_dst1]; · iexists _; iexact HB0_dst1
    isplitl [HB0_dst2]; · iexists _; iexact HB0_dst2
    isplitl [HB0_dst3]; · iexists _; iexact HB0_dst3
    isplitl [HB0_dst4]; · iexists _; iexact HB0_dst4
    isplitl [HB0_dst5]; · iexists _; iexact HB0_dst5
    isplitl [HB0_dst6]; · iexists _; iexact HB0_dst6
    isplitl [HB0_dst7]; · iexists _; iexact HB0_dst7
    iexact HB0

end Trip

end Cert.KernelIdeal.Sb

end
-- ==== Proof.Body.lean ====
module

public import proofs.«01_k».proof.Proof.Trip

/-!
The kernel's body at one grid point: the loops' invariants, and the run of the whole body from the staged windows, the
two accumulators, the gradient array and the tiles of the row block to the same at the contents that the run leaves.
-/

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Loops

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g3 : Buf (Elt F) (arg3.view.loc (c : Thread nD τ))) (g4 : Buf (Elt F) (arg4.view.loc (c : Thread nD τ)))
  (arg0 arg1 : BitVec 32) (v3 v4 v5 v6 v7 v8 v9 v10 : Vec F S256x128 .bf16) (v16 : FVec F S256x256 .bf16)

/-- The carried values and the accumulators before trip `k`. -/
def stAt (acc0 : Acc F) (fk0 : Buf (Elt F) (dkM.view.loc (c : Thread nD τ))) (fv0 : Buf (Elt F) (dvM.view.loc (c : Thread nD τ))) : ℕ → TripSt F c
  | 0 => (acc0, fk0, fv0)
  | k + 1 =>
    if h : k < (k0_t1_loop i).trips then
      (tripRun c i XS arg2 harg2 arg3 harg3 arg4 harg4 arg5 harg5 g3 g4 arg0 arg1 v3 v4 v5 v6 v7 v8 v9 v10 v16 ⟨k, h⟩ (stAt acc0 fk0 fv0 k)).1
    else stAt acc0 fk0 fv0 k

/-- The carried values at the loop's start: all zero. -/
abbrev acc00 : Acc F := (k0_pay75 (F := F), k0_pay76 (F := F), k0_pay77 (F := F), k0_pay78 (F := F), k0_pay79 (F := F), k0_pay80 (F := F), k0_pay81 (F := F), k0_pay82 (F := F))

set_option warn.classDefReducibility false in
/-- The loop's invariant: the resources of `resAt` at the contents of `stAt`, the carried values being `stAt`'s. -/
@[sl_loop] def loopInv1 (fk0 : Buf (Elt F) (dkM.view.loc (c : Thread nD τ))) (fv0 : Buf (Elt F) (dvM.view.loc (c : Thread nD τ))) :
    LoopInvTy_k0_t1 (F := F) Unit ℕ (UU nD τ) ℕ 𝒱₀ c none Set.univ i arg2 harg2 arg3 harg3 arg4 harg4 arg5 harg5 savedM (Memref.isWhole_whole _) duM (Memref.isWhole_whole _) duM (Memref.isWhole_whole _)
      dkM (Memref.isWhole_whole _) dvM (Memref.isWhole_whole _) stM (Memref.isWhole_whole _) cc0_scratch3 dqM (Memref.isWhole_whole _) dkvM (Memref.isWhole_whole _) cc0_scratch6
      arg0 arg1 v3 v4 v5 v6 v7 v8 v9 v10 v16 acc00 where
  inv k acc := iprop(⌜acc = (stAt c i XS arg2 harg2 arg3 harg3 arg4 harg4 arg5 harg5 g3 g4 arg0 arg1 v3 v4 v5 v6 v7 v8 v9 v10 v16 acc00 fk0 fv0 k).1⌝
    ∗ resAt c i XS arg3 arg4 g3 g4 k
      (stAt c i XS arg2 harg2 arg3 harg3 arg4 harg4 arg5 harg5 g3 g4 arg0 arg1 v3 v4 v5 v6 v7 v8 v9 v10 v16 acc00 fk0 fv0 k).2.1
      (stAt c i XS arg2 harg2 arg3 harg3 arg4 harg4 arg5 harg5 g3 g4 arg0 arg1 v3 v4 v5 v6 v7 v8 v9 v10 v16 acc00 fk0 fv0 k).2.2)
  step k acc := by
    have e : stAt c i XS arg2 harg2 arg3 harg3 arg4 harg4 arg5 harg5 g3 g4 arg0 arg1 v3 v4 v5 v6 v7 v8 v9 v10 v16 acc00 fk0 fv0 (k.val + 1)
        = (tripRun c i XS arg2 harg2 arg3 harg3 arg4 harg4 arg5 harg5 g3 g4 arg0 arg1 v3 v4 v5 v6 v7 v8 v9 v10 v16 k
            (stAt c i XS arg2 harg2 arg3 harg3 arg4 harg4 arg5 harg5 g3 g4 arg0 arg1 v3 v4 v5 v6 v7 v8 v9 v10 v16 acc00 fk0 fv0 k.val)).1 := by
      rw [stAt, dif_pos k.isLt]
    rw [e]
    iintro ⟨%he, H⟩
    subst he
    iapply (tripRun c i XS arg2 harg2 arg3 harg3 arg4 harg4 arg5 harg5 g3 g4 arg0 arg1 v3 v4 v5 v6 v7 v8 v9 v10 v16 k _).2
    iexact H

set_option warn.classDefReducibility false in
/-- The remainder loop makes no trip: its invariant is the main loop's at its end. -/
@[sl_loop] def loopInv2 (v99 : BitVec 32) (acc : Acc F) (fk : Buf (Elt F) (dkM.view.loc (c : Thread nD τ))) (fv : Buf (Elt F) (dvM.view.loc (c : Thread nD τ))) :
    LoopInvTy_k0_t2 (F := F) Unit ℕ (UU nD τ) ℕ 𝒱₀ c none Set.univ i arg2 harg2 arg3 harg3 arg4 harg4 arg5 harg5 savedM (Memref.isWhole_whole _) duM (Memref.isWhole_whole _) duM (Memref.isWhole_whole _)
      dkM (Memref.isWhole_whole _) dvM (Memref.isWhole_whole _) stM (Memref.isWhole_whole _) cc0_scratch3 dqM (Memref.isWhole_whole _) dkvM (Memref.isWhole_whole _) cc0_scratch6
      arg0 arg1 v3 v4 v5 v6 v7 v8 v9 v10 v16 v99 acc where
  inv _ a := iprop(⌜a = acc⌝ ∗ resAt c i XS arg3 arg4 g3 g4 (k0_t1_loop i).trips fk fv)
  step k _ := (Nat.not_lt_zero _ (Nat.lt_of_lt_of_eq k.isLt (trips2_eq i))).elim

end Loops

section Body

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))

/-- The body on the given staged windows, the other buffers being its own. -/
abbrev bodyG : Prog (TpuEff nD τ sig (Elt F) Λ₀ .tc) PUnit :=
  cc0_sb_bwd (F := F) i arg2 harg2 arg3 harg3 arg4 harg4 arg5 harg5 savedM (Memref.isWhole_whole _) duM (Memref.isWhole_whole _) duM (Memref.isWhole_whole _)
    dkM (Memref.isWhole_whole _) dvM (Memref.isWhole_whole _) stM (Memref.isWhole_whole _) cc0_scratch3 dqM (Memref.isWhole_whole _) dkvM (Memref.isWhole_whole _) cc0_scratch6

/-- What a grid point changes: the accumulators, the array of gradients and the two buffers it is copied from. -/
abbrev BodySt (F : FTy → Type) (c : Dev nD) : Type :=
  Buf (Elt F) (dkM.view.loc (c : Thread nD τ)) × Buf (Elt F) (dvM.view.loc (c : Thread nD τ)) × Buf (Elt F) (duM.view.loc (c : Thread nD τ))
    × Buf (Elt F) (dqM.view.loc (c : Thread nD τ)) × Buf (Elt F) (dkvM.view.loc (c : Thread nD τ))

/-- What a grid point changes, held at the contents `fk`, `fv`, `fu`, `fdq`, `fdkv`, with the copies' cells at zero. -/
def stateP (fk : Buf (Elt F) (dkM.view.loc (c : Thread nD τ))) (fv : Buf (Elt F) (dvM.view.loc (c : Thread nD τ)))
    (fu : Buf (Elt F) (duM.view.loc (c : Thread nD τ))) (fdq : Buf (Elt F) (dqM.view.loc (c : Thread nD τ)))
    (fdkv : Buf (Elt F) (dkvM.view.loc (c : Thread nD τ))) : sProp 𝕄 :=
  iprop((dkM.view.loc (c : Thread nD τ) ↦[dkM.view.set]{fullShare} fk)
    ∗ (dvM.view.loc (c : Thread nD τ) ↦[dvM.view.set]{fullShare} fv)
    ∗ (duM.view.loc (c : Thread nD τ) ↦[duM.view.set]{fullShare} fu)
    ∗ (dqM.view.loc (c : Thread nD τ) ↦[dqM.view.set]{fullShare} fdq)
    ∗ (dkvM.view.loc (c : Thread nD τ) ↦[dkvM.view.set]{fullShare} fdkv)
    ∗ semVal ((c : Thread nD τ), SemLoc.dma 8) 0 ∗ semVal ((c : Thread nD τ), SemLoc.dma 9) 0 ∗ semVal ((c : Thread nD τ), SemLoc.dma 10) 0)

/-- The four staged windows, at their contents. -/
def winsP : sProp 𝕄 :=
  iprop((arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5))

/-- What moves between the saved array and the staging buffer, `k` column blocks having been staged. -/
abbrev tilesP (k : ℕ) : sProp 𝕄 :=
  iprop(homeP c i XS (Ring.bk 16 k) ∗ bigSep (Ring.homeSet 1 k) (homeP c i XS) ∗ freeP c (Ring.sl 2 k) ∗ freeP c (Ring.sl 2 (k + 1)))

set_option backward.proofsInPublic true in
/-- The body at one point: from the state `σ` to the state that the run finds. -/
def bodyRun (σ : BodySt F c) :
    { w : BodySt F c //
      iprop(winsP c arg2 arg3 arg4 arg5 g2 g3 g4 g5 ∗ stateP c σ.1 σ.2.1 σ.2.2.1 σ.2.2.2.1 σ.2.2.2.2 ∗ tilesP c i XS 0
          ∗ (∃ W, owes (c : Thread nD τ) 0 W))
        ⊢ wp frame (wpE (defs₀ (F := F)) 𝒱₀ (c : Thread nD τ) none) Set.univ (bodyG i arg2 harg2 arg3 harg3 arg4 harg4 arg5 harg5)
          (fun _ => iprop(winsP c arg2 arg3 arg4 arg5 g2 g3 g4 g5 ∗ stateP c w.1 w.2.1 w.2.2.1 w.2.2.2.1 w.2.2.2.2
            ∗ tilesP c i XS (k0_t1_loop i).trips ∗ (∃ W, owes (c : Thread nD τ) 0 W))) } := by
  obtain ⟨fk, fv, fu, fdq, fdkv⟩ := σ
  refine ⟨⟨?_, ?_, ?_, ?_, ?_⟩, ?run⟩
  case run =>
    have hc4 : ¬ (k0_cond4 i = 1#1) := by rw [cond4_eq i]; decide
    dsimp only [bodyG]
    unfold winsP stateP tilesP
    iintro ⟨⟨H2, H3, H4, H5⟩, ⟨HK, HV, HU, HDQ, HDKV, Hs8, Hs9, Hs10⟩, ⟨⟨T0, T1, T2, T3, T4, T5, T6, T7⟩, Hrest,
      ⟨⟨%f0, S0⟩, ⟨%f1, S1⟩, ⟨%f2, S2⟩, ⟨%f3, S3⟩, ⟨%f4, S4⟩, ⟨%f5, S5⟩, ⟨%f6, S6⟩, ⟨%f7, S7⟩, Hcell⟩,
      ⟨⟨%e0, R0⟩, ⟨%e1, R1⟩, ⟨%e2, R2⟩, ⟨%e3, R3⟩, ⟨%e4, R4⟩, ⟨%e5, R5⟩, ⟨%e6, R6⟩, ⟨%e7, R7⟩, Hcell'⟩⟩, ⟨%W, HW⟩⟩
    imod (Transfers.batch_alloc' (Lvl := ℕ) (countersEmb (U := UU nD τ)) (c : Thread nD τ) () 4096 (deliv c i XS (Ring.sl 2 0) (Ring.bk 16 0))
      (sm := SemLoc.dma (csm (Ring.sl 2 0)).sem) (E := Set.univ)) $$ Hcell with HB0
    sl_exec
    sl_step
    isplitl [H2 H3 H4 H5]
    · isplitl [H2]; · iexact H2
      isplitl [H3]; · iexact H3
      isplitl [H4]; · iexact H4
      iexact H5
    isplitl [HK HV HU HDQ HDKV Hs8 Hs9 Hs10]
    · isplitl [HK]; · iexact HK
      isplitl [HV]; · iexact HV
      isplitl [HU]; · iexact HU
      isplitl [HDQ]; · iexact HDQ
      isplitl [HDKV]; · iexact HDKV
      isplitl [Hs8]; · iexact Hs8
      isplitl [Hs9]; · iexact Hs9
      iexact Hs10
    isplitr [HW]
    · isplitl [HB0_src0 HB0_src1 HB0_src2 HB0_src3 HB0_src4 HB0_src5 HB0_src6 HB0_src7]
      · isplitl [HB0_src0]; · iexact HB0_src0
        isplitl [HB0_src1]; · iexact HB0_src1
        isplitl [HB0_src2]; · iexact HB0_src2
        isplitl [HB0_src3]; · iexact HB0_src3
        isplitl [HB0_src4]; · iexact HB0_src4
        isplitl [HB0_src5]; · iexact HB0_src5
        isplitl [HB0_src6]; · iexact HB0_src6
        iexact HB0_src7
      isplitl [Hrest]; · iexact Hrest
      isplitl [HB0_dst0 HB0_dst1 HB0_dst2 HB0_dst3 HB0_dst4 HB0_dst5 HB0_dst6 HB0_dst7 HB0]
      · isplitl [HB0_dst0]; · iexists _; iexact HB0_dst0
        isplitl [HB0_dst1]; · iexists _; iexact HB0_dst1
        isplitl [HB0_dst2]; · iexists _; iexact HB0_dst2
        isplitl [HB0_dst3]; · iexists _; iexact HB0_dst3
        isplitl [HB0_dst4]; · iexists _; iexact HB0_dst4
        isplitl [HB0_dst5]; · iexists _; iexact HB0_dst5
        isplitl [HB0_dst6]; · iexists _; iexact HB0_dst6
        isplitl [HB0_dst7]; · iexists _; iexact HB0_dst7
        iexact HB0
      isplitl [R0]; · iexists _; iexact R0
      isplitl [R1]; · iexists _; iexact R1
      isplitl [R2]; · iexists _; iexact R2
      isplitl [R3]; · iexists _; iexact R3
      isplitl [R4]; · iexists _; iexact R4
      isplitl [R5]; · iexists _; iexact R5
      isplitl [R6]; · iexists _; iexact R6
      isplitl [R7]; · iexists _; iexact R7
      iexact Hcell'
    iexists _; iexact HW

end Body

end Cert.KernelIdeal.Sb

end
-- ==== Proof.Tiles.lean ====
module

public import proofs.«01_k».proof.Proof.Body
public import Idealize.ShloMosaic.Lib.Ring.FamCut

/-!
The buffers the kernel copies between, cut into the windows the body holds: the saved arrays into the tiles of one row
block and group (and what is left), the staging buffer into its sixteen windows; and the joins back.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The elements of the windows -/

abbrev tlRect (i : grid0.Coords) (b : Fin 16 × Fin 8) : Finset S2x8x4096x4096.Idx :=
  (Rect.unit (s := S2x8x4096x4096) (tlOff i b.2 b.1) S1x1x256x256.size (tlOff_inb i b.2 b.1)).set
abbrev stRect (b : Fin 2 × Fin 8) : Finset S2x4x2x256x256.Idx :=
  (Rect.unit (s := S2x4x2x256x256) (stOff b.1 b.2) S1x1x1x256x256.size (stOff_inb b.1 b.2)).set

theorem tile_set (i : grid0.Coords) (b : Fin 16 × Fin 8) : (tile i b.2 b.1).view.set = tlRect i b := (View.set_reshape _ _).trans (View.set_slice_whole _ _)
theorem rslot_set (b : Fin 2 × Fin 8) : (rslot b.1 b.2).view.set = stRect b := (View.set_reshape _ _).trans (View.set_slice_whole _ _)

theorem tlRect_mem (i : grid0.Coords) (b : Fin 16 × Fin 8) (y : S2x8x4096x4096.Idx) (h : y ∈ tlRect i b) :
    (y 0).val = b.2.val % 2 ∧ (y 1).val = 4 * (i 0).val + b.2.val / 2 ∧ (y 3).val / 256 = b.1.val := by
  rw [Rect.mem_set_unit] at h
  have h0 : b.2.val % 2 ≤ (y 0).val ∧ (y 0).val < b.2.val % 2 + 1 := h 0
  have h1 : 4 * (i 0).val + b.2.val / 2 ≤ (y 1).val ∧ (y 1).val < 4 * (i 0).val + b.2.val / 2 + 1 := h 1
  have h3 : 256 * b.1.val ≤ (y 3).val ∧ (y 3).val < 256 * b.1.val + 256 := h 3
  omega
theorem tlRect_disjoint (i : grid0.Coords) (b b' : Fin 16 × Fin 8) (hne : b ≠ b') : Disjoint (tlRect i b) (tlRect i b') := by
  rw [Finset.disjoint_left]; intro y hy hy'
  have h := tlRect_mem i b y hy; have h' := tlRect_mem i b' y hy'
  exact hne (Prod.ext (Fin.ext (by omega)) (Fin.ext (by omega)))
theorem stRect_mem (b : Fin 2 × Fin 8) (y : S2x4x2x256x256.Idx) (h : y ∈ stRect b) :
    (y 0).val = b.1.val ∧ (y 1).val = b.2.val / 2 ∧ (y 2).val = b.2.val % 2 := by
  rw [Rect.mem_set_unit] at h
  have h0 : b.1.val ≤ (y 0).val ∧ (y 0).val < b.1.val + 1 := h 0
  have h1 : b.2.val / 2 ≤ (y 1).val ∧ (y 1).val < b.2.val / 2 + 1 := h 1
  have h2 : b.2.val % 2 ≤ (y 2).val ∧ (y 2).val < b.2.val % 2 + 1 := h 2
  omega
theorem stRect_disjoint (b b' : Fin 2 × Fin 8) (hne : b ≠ b') : Disjoint (stRect b) (stRect b') := by
  rw [Finset.disjoint_left]; intro y hy hy'
  have h := stRect_mem b y hy; have h' := stRect_mem b' y hy'
  exact hne (Prod.ext (Fin.ext (by omega)) (Fin.ext (by omega)))

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-! ## The saved arrays -/

section Saved
variable (c : Dev nD) (i : grid0.Coords) (XS : Buf (Elt F) (savedM.view.loc (c : Thread nD τ)))

/-- What the tiles of a point leave of the saved arrays. -/
def savedRest : sProp 𝕄 := ((c : Thread nD τ).loc main_v34) ↦[Ring.restOf (ℓ := (c : Thread nD τ).loc main_v34) (tlRect i)]{fullShare} XS

theorem tiles_eq : bigSep Finset.univ (fun b : Fin 16 × Fin 8 => (((c : Thread nD τ).loc main_v34) ↦[tlRect i b]{fullShare} XS : sProp 𝕄))
    = bigSep Finset.univ (homeP c i XS) := by
  rw [bigSep_univ_prod]
  refine bigSep_congr fun j _ => ?_
  rw [bigSep_fin8]
  simp only [← tile_set]; rfl

/-- The saved arrays whole are the tiles of a point and what they leave. -/
theorem saved_eq : (((c : Thread nD τ).loc main_v34) ↦{fullShare} XS : sProp 𝕄) ⊣⊢ iprop(bigSep Finset.univ (homeP c i XS) ∗ savedRest c i XS) := by
  rw [← tiles_eq]
  refine (pointsTo_split_subset (ℓ := (c : Thread nD τ).loc main_v34) (Finset.subset_univ (Finset.univ.biUnion (tlRect i)))).trans ?_
  exact BiEntails.of_eq (congrArg (fun P => iprop(P ∗ savedRest c i XS))
    (pointsTo_biUnion (ℓ := (c : Thread nD τ).loc main_v34) Finset.univ (tlRect i) (fun b _ b' _ h => tlRect_disjoint i b b' h)))

/-- One column block's tiles apart from the others'. -/
theorem homes_at (k : ℕ) (hk : k < 16) :
    bigSep Finset.univ (homeP c i XS) = iprop(homeP c i XS (Ring.bk 16 k) ∗ bigSep (Ring.homeSet 1 k) (homeP c i XS)) := by
  have e : (Finset.univ : Finset (Fin 16)) = insert (Ring.bk 16 k) (Ring.homeSet (NB := 16) 1 k) := by
    ext b
    simp only [Finset.mem_univ, Finset.mem_insert, Ring.mem_homeSet, true_iff, Fin.ext_iff, Ring.bk_val hk]
    omega
  have h1 : Ring.bk 16 k ∉ Ring.homeSet (NB := 16) 1 k := by rw [Ring.mem_homeSet, Ring.bk_val hk]; omega
  rw [e, bigSep_insert h1]; rfl

end Saved

/-! ## The staging buffer -/

section Stage
variable (c : Dev nD)

/-- What the sixteen windows leave of the staging buffer (nothing), at some contents. -/
def stageRest : sProp 𝕄 := iprop(∃ f, ((c : Thread nD τ).loc cc0_scratch2) ↦[Ring.restOf (ℓ := (c : Thread nD τ).loc cc0_scratch2) stRect]{fullShare} f)
/-- The staging buffer whole, at some contents. -/
abbrev stageP : sProp 𝕄 := iprop(∃ f : Buf (Elt F) ((c : Thread nD τ).loc cc0_scratch2), ((c : Thread nD τ).loc cc0_scratch2) ↦{fullShare} f)

theorem slots_eq : bigSep Finset.univ (fun b : Fin 2 × Fin 8 => iprop(∃ f, (((c : Thread nD τ).loc cc0_scratch2) ↦[stRect b]{fullShare} f : sProp 𝕄)))
    = iprop(bigSep Finset.univ (fun t => iprop(∃ f, slotP (F := F) c 0 t f)) ∗ bigSep Finset.univ (fun t => iprop(∃ f, slotP (F := F) c 1 t f))) := by
  rw [bigSep_univ_prod, bigSep_fin2]
  simp only [← rslot_set]; rfl

theorem stage_split : iprop(stageP c ∗ cellP c 0 ∗ cellP c 1) ⊢ (iprop(freeP c 0 ∗ freeP c 1 ∗ stageRest c) : sProp 𝕄) := by
  iintro ⟨H, C0, C1⟩
  ihave H' := (Ring.fam_split_ex (Ix := Unit) (Name := ℕ) (U := UU nD τ) (Lvl := ℕ) (ℓ := (c : Thread nD τ).loc cc0_scratch2) (q := fullShare) stRect stRect_disjoint) $$ H
  icases H' with ⟨HS, HR⟩
  ihave HS' := (Entails.of_eq (slots_eq c)) $$ HS
  icases HS' with ⟨H0, H1⟩
  ihave H0' := (Entails.of_eq (bigSep_fin8 _)) $$ H0
  icases H0' with ⟨A0, A1, A2, A3, A4, A5, A6, A7⟩
  ihave H1' := (Entails.of_eq (bigSep_fin8 _)) $$ H1
  icases H1' with ⟨B0, B1, B2, B3, B4, B5, B6, B7⟩
  isplitl [A0 A1 A2 A3 A4 A5 A6 A7 C0]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact C0
  isplitr [HR]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact C1
  unfold stageRest; iexact HR

theorem stage_join : (iprop(freeP c 0 ∗ freeP c 1 ∗ stageRest c) : sProp 𝕄) ⊢ iprop(stageP c ∗ cellP c 0 ∗ cellP c 1) := by
  unfold stageRest
  iintro ⟨⟨A0, A1, A2, A3, A4, A5, A6, A7, C0⟩, ⟨B0, B1, B2, B3, B4, B5, B6, B7, C1⟩, ⟨%f, HR⟩⟩
  isplitr [C0 C1]
  · iapply (Ring.fam_join (Ix := Unit) (Name := ℕ) (U := UU nD τ) (Lvl := ℕ) (ℓ := (c : Thread nD τ).loc cc0_scratch2) (q := fullShare) stRect stRect_disjoint f)
    isplitr [HR]
    · iapply (Entails.of_eq (slots_eq c).symm)
      isplitl [A0 A1 A2 A3 A4 A5 A6 A7]
      · iapply (Entails.of_eq (bigSep_fin8 _).symm)
        isplitl [A0]; · iexact A0
        isplitl [A1]; · iexact A1
        isplitl [A2]; · iexact A2
        isplitl [A3]; · iexact A3
        isplitl [A4]; · iexact A4
        isplitl [A5]; · iexact A5
        isplitl [A6]; · iexact A6
        iexact A7
      iapply (Entails.of_eq (bigSep_fin8 _).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    iexists f; iexact HR
  isplitl [C0]; · iexact C0
  iexact C1

/-- The slots of two consecutive trips are slots 0 and 1. -/
theorem roles (P : Fin 2 → sProp 𝕄) (T : ℕ) : iprop(P (Ring.sl 2 T) ∗ P (Ring.sl 2 (T + 1))) ⊢ iprop(P 0 ∗ P 1) := by
  rcases Nat.mod_two_eq_zero_or_one T with h | h
  · rw [show Ring.sl 2 T = 0 from Fin.ext (by simp [Ring.sl, Fin.ofNat, h]), show Ring.sl 2 (T + 1) = 1 from Fin.ext (by simp [Ring.sl, Fin.ofNat]; omega)]
  · rw [show Ring.sl 2 T = 1 from Fin.ext (by simp [Ring.sl, Fin.ofNat, h]), show Ring.sl 2 (T + 1) = 0 from Fin.ext (by simp [Ring.sl, Fin.ofNat]; omega)]
    iintro ⟨H1, H0⟩; isplitl [H0] <;> iassumption
end Stage

/-! ## What the body takes, from the whole buffers, and back -/

section Both
variable (c : Dev nD) (i : grid0.Coords) (XS : Buf (Elt F) (savedM.view.loc (c : Thread nD τ)))

/-- The saved arrays and the staging buffer whole, the two counting cells at zero. -/
def buffersP : sProp 𝕄 := iprop((((c : Thread nD τ).loc main_v34) ↦{fullShare} XS) ∗ stageP c ∗ cellP c 0 ∗ cellP c 1)

theorem buffers_split : buffersP c XS ⊢ iprop(tilesP c i XS 0 ∗ savedRest c i XS ∗ stageRest c) := by
  unfold buffersP
  iintro ⟨HS, Hst⟩
  ihave HS' := (saved_eq c i XS).1 $$ HS
  icases HS' with ⟨HT, HR⟩
  ihave HT' := (Entails.of_eq (homes_at c i XS 0 (by decide))) $$ HT
  icases HT' with ⟨HH, HB⟩
  ihave Hst' := (stage_split c) $$ Hst
  icases Hst' with ⟨F0, F1, Hsr⟩
  isplitr [HR Hsr]
  · isplitl [HH]; · iexact HH
    isplitl [HB]; · iexact HB
    isplitl [F0]; · iexact F0
    iexact F1
  isplitl [HR]; · iexact HR
  iexact Hsr

theorem buffers_join (k : ℕ) (hk : k < 16) : iprop(tilesP c i XS k ∗ savedRest c i XS ∗ stageRest c) ⊢ buffersP c XS := by
  unfold buffersP
  iintro ⟨⟨HH, HB, FA, FB⟩, HR, Hsr⟩
  isplitl [HH HB HR]
  · iapply (saved_eq c i XS).2
    isplitr [HR]
    · iapply (Entails.of_eq (homes_at c i XS k hk).symm)
      isplitl [HH]; · iexact HH
      iexact HB
    iexact HR
  iapply (stage_join c)
  ihave HF := (roles (fun s => freeP (F := F) c s) k) $$ [FA FB]
  · isplitl [FA]; · iexact FA
    iexact FB
  icases HF with ⟨F0, F1⟩
  isplitl [F0]; · iexact F0
  isplitl [F1]; · iexact F1
  iexact Hsr
end Both

end Cert.KernelIdeal.Sb

end
-- ==== Proof.Run.lean ====
module

public import proofs.«01_k».proof.Proof.Tiles
public import proofs.«01_k».proof.Proof.Gen.KernelIdeal.Frame
public import Idealize.ShloMosaic.Lib.Pipeline.FrameValue
public import Idealize.ShloMosaic.Lib.Pipeline.FrameBody

/-!
The run of the program: the kernel's grid points one after another, each from the state the last one left, from any
contents of the scratch buffers; and its frame.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The states -/

abbrev XS (c : Dev nD) : Buf (Elt F) (savedM.view.loc (c : Thread nD τ)) := V m c main_v34

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)

/-- The state that point `t` leaves, from the state it finds. -/
def stepAt (c : Dev nD) (t : Fin cfg0.N) (σ : BodySt F c) : BodySt F c :=
  (bodyRun c (grid0.coords t) (XS m c) (st0_0 t) (hs0 t) (st0_1 t) (hs1 t) (st0_2 t) (hs2 t) (st0_3 t) (hs3 t)
    ((st0_0 t).view.rep (iblk m c 0 t)) ((st0_1 t).view.rep (iblk m c 1 t)) ((st0_2 t).view.rep (iblk m c 2 t)) ((st0_3 t).view.rep (iblk m c 3 t)) σ).1

/-- The state before point `n`, from the state `σ` before the first. -/
def stGrid (c : Dev nD) (σ : BodySt F c) : ℕ → BodySt F c
  | 0 => σ
  | n + 1 => if h : n < cfg0.N then stepAt m c ⟨n, h⟩ (stGrid c σ n) else stGrid c σ n

theorem stGrid_zero (c : Dev nD) (σ : BodySt F c) : stGrid m c σ 0 = σ := by rw [stGrid]
theorem stGrid_succ (c : Dev nD) (σ : BodySt F c) (t : Fin cfg0.N) : stGrid m c σ (t.val + 1) = stepAt m c t (stGrid m c σ t.val) := by
  rw [stGrid, dif_pos t.isLt]

/-- A state held. -/
abbrev stP (c : Dev nD) (σ : BodySt F c) : sProp 𝕄 := stateP c σ.1 σ.2.1 σ.2.2.1 σ.2.2.2.1 σ.2.2.2.2

/-- The invariant before point `n`: the state reached from some contents of the scratch buffers and the entry contents of
    the gradients' array. -/
def Φ (c : Dev nD) (n : ℕ) : sProp 𝕄 :=
  iprop(∃ σ : BodySt F c, ⌜σ.2.2.1 = V m c main_v35⌝ ∗ stP c (stGrid m c σ n) ∗ buffersP c (XS m c) ∗ ∃ r, prngReg c r)

def dats (_ : Fin 1) (c : Dev nD) : Dat τ (Elt F) Unit ℕ (UU nD τ) ℕ cfg0 c where
  A w := V m c (Pipeline.arrRef spec0 w)
  after w := match w with
    | ⟨0, _⟩ => fun t => iblk m c 0 t
    | ⟨1, _⟩ => fun t => iblk m c 1 t
    | ⟨2, _⟩ => fun t => iblk m c 2 t
    | ⟨3, _⟩ => fun t => iblk m c 3 t
  Φ t := Φ m c t.val
  q w := Pipeline.shareOf spec0 w
  owed _ := 0

theorem A_eq (c : Dev nD) (w : Fin cfg0.W) : (dats m 0 c).A w = V m c (Pipeline.arrRef spec0 w) := by dsimp only [dats]
theorem after0_eq (c : Dev nD) (t : Fin cfg0.N) : (dats m 0 c).after 0 t = iblk m c 0 t := rfl
theorem after1_eq (c : Dev nD) (t : Fin cfg0.N) : (dats m 0 c).after 1 t = iblk m c 1 t := rfl
theorem after2_eq (c : Dev nD) (t : Fin cfg0.N) : (dats m 0 c).after 2 t = iblk m c 2 t := rfl
theorem after3_eq (c : Dev nD) (t : Fin cfg0.N) : (dats m 0 c).after 3 t = iblk m c 3 t := rfl
theorem before0_eq (c : Dev nD) (t : Fin cfg0.N) (d) : (dats m 0 c).before 0 t d = iblk m c 0 t :=
  ((dats m 0 c).before_in_eq_fetched 0 rfl (fun _ => rfl) (fun _ _ _ => rfl) (fun t => by rw [after0_eq]; unfold Dat.blockOf iblk; rw [A_eq]; try rfl) t d).trans
    (by unfold Dat.fetched Dat.blockOf iblk; rw [A_eq]; try rfl)
theorem before1_eq (c : Dev nD) (t : Fin cfg0.N) (d) : (dats m 0 c).before 1 t d = iblk m c 1 t :=
  ((dats m 0 c).before_in_eq_fetched 1 rfl (fun _ => rfl) (fun _ _ _ => rfl) (fun t => by rw [after1_eq]; unfold Dat.blockOf iblk; rw [A_eq]; try rfl) t d).trans
    (by unfold Dat.fetched Dat.blockOf iblk; rw [A_eq]; try rfl)
theorem before2_eq (c : Dev nD) (t : Fin cfg0.N) (d) : (dats m 0 c).before 2 t d = iblk m c 2 t :=
  ((dats m 0 c).before_in_eq_fetched 2 rfl (fun _ => rfl) (fun _ _ _ => rfl) (fun t => by rw [after2_eq]; unfold Dat.blockOf iblk; rw [A_eq]; try rfl) t d).trans
    (by unfold Dat.fetched Dat.blockOf iblk; rw [A_eq]; try rfl)
theorem before3_eq (c : Dev nD) (t : Fin cfg0.N) (d) : (dats m 0 c).before 3 t d = iblk m c 3 t :=
  ((dats m 0 c).before_in_eq_fetched 3 rfl (fun _ => rfl) (fun _ _ _ => rfl) (fun t => by rw [after3_eq]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem bodyAt_eq (t : Fin cfg0.N) : bodyAt0 (F := F) t = bodyG (grid0.coords t) (st0_0 t) (hs0 t) (st0_1 t) (hs1 t) (st0_2 t) (hs2 t) (st0_3 t) (hs3 t) := rfl

/-- The four staged windows at a point, at the blocks of their arrays. -/
abbrev winsT (c : Dev nD) (t : Fin cfg0.N) : sProp 𝕄 :=
  winsP c (st0_0 t) (st0_1 t) (st0_2 t) (st0_3 t) ((st0_0 t).view.rep (iblk m c 0 t)) ((st0_1 t).view.rep (iblk m c 1 t)) ((st0_2 t).view.rep (iblk m c 2 t)) ((st0_3 t).view.rep (iblk m c 3 t))

theorem step_run (c : Dev nD) (t : Fin cfg0.N) (σ : BodySt F c) :
    iprop(winsT m c t ∗ stP c σ ∗ tilesP c (grid0.coords t) (XS m c) 0 ∗ (∃ W, owes (c : Thread nD τ) 0 W))
      ⊢ wp frame (wpE (defs₀ (F := F)) Variants.none c none) Set.univ (bodyG (grid0.coords t) (st0_0 t) (hs0 t) (st0_1 t) (hs1 t) (st0_2 t) (hs2 t) (st0_3 t) (hs3 t))
        (fun _ => iprop(winsT m c t ∗ stP c (stepAt m c t σ) ∗ tilesP c (grid0.coords t) (XS m c) (k0_t1_loop (grid0.coords t)).trips ∗ (∃ W, owes (c : Thread nD τ) 0 W))) :=
  (bodyRun c (grid0.coords t) (XS m c) (st0_0 t) (hs0 t) (st0_1 t) (hs1 t) (st0_2 t) (hs2 t) (st0_3 t) (hs3 t)
    ((st0_0 t).view.rep (iblk m c 0 t)) ((st0_1 t).view.rep (iblk m c 1 t)) ((st0_2 t).view.rep (iblk m c 2 t)) ((st0_3 t).view.rep (iblk m c 3 t)) σ).2

attribute [local irreducible] bodyRun stepAt stGrid

theorem sound_body (c : Dev nD) (t : Fin cfg0.N) :
    bodyPre m c t ⊢ wp frame (wpE (defs₀ (F := F)) Variants.none c none) Set.univ (bodyAt0 t) (fun _ => bodyPost m c t) := by
  have hk : (k0_t1_loop (grid0.coords t)).trips < 16 := by
    rw [trips1_eq]; exact (grid0.coords t 1).isLt
  rw [bodyAt_eq]
  unfold bodyPre bodyPost
  simp only [before0_eq, before1_eq, before2_eq, before3_eq, after0_eq, after1_eq, after2_eq, after3_eq]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ owns
  iintro ⟨⟨%σ, %hσ, Hst, Hbuf, Hp⟩, ⟨%W, -, HW⟩, ⟨%d0, %g0, %e0, H0⟩, ⟨%d1, %g1, %e1, H1⟩, ⟨%d2, %g2, %e2, H2⟩, ⟨%d3, %g3, %e3, H3⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  rw [e0, e1, e2, e3]
  ihave HT := (buffers_split c (grid0.coords t) (XS m c)) $$ Hbuf
  icases HT with ⟨HT, HR1, HR2⟩
  iapply (wp_wand_r frame (wpE (defs₀ (F := F)) Variants.none (c : Thread nD τ) none) Set.univ)
  isplitl [H0' H1' H2' H3' Hst HT HW]
  · iapply (step_run m c t (stGrid m c σ t.val))
    dsimp only [winsT]; unfold winsP
    isplitl [H0' H1' H2' H3']
    · isplitl [H0']; · iexact H0'
      isplitl [H1']; · iexact H1'
      isplitl [H2']; · iexact H2'
      iexact H3'
    isplitl [Hst]; · iexact Hst
    isplitl [HT]; · iexact HT
    iexists W; iexact HW
  dsimp only [winsT]; unfold winsP
  iintro %u ⟨⟨H0, H1, H2, H3⟩, Hst, HT, ⟨%W', HW⟩⟩
  isplitl [Hst HT HR1 HR2 Hp]
  · iexists σ
    isplitr; · ipureintro; exact hσ
    rw [stGrid_succ]
    isplitl [Hst]; · iexact Hst
    isplitr [Hp]
    · iapply (buffers_join c (grid0.coords t) (XS m c) _ hk)
      isplitl [HT]; · iexact HT
      isplitl [HR1]; · iexact HR1
      iexact HR2
    iexact Hp
  isplitl [HW]
  · iexists W'; isplitr; · ipureintro; exact fun _ _ => Or.inl trivial
    iexact HW
  isplitl [H0]; · iexists _; isplitr; · ipureintro; exact View.read_rep _ _
                  iexact H0
  isplitl [H1]; · iexists _; isplitr; · ipureintro; exact View.read_rep _ _
                  iexact H1
  isplitl [H2]; · iexists _; isplitr; · ipureintro; exact View.read_rep _ _
                  iexact H2
  iexists _; isplitr; · ipureintro; exact View.read_rep _ _
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's own cells: the two slots' and the three of the copies out. -/
abbrev osem0 : Fin 5 → SemLoc sig := fun j => (![SemLoc.dma 6, SemLoc.dma 7, SemLoc.dma 8, SemLoc.dma 9, SemLoc.dma 10] : Fin 5 → SemLoc sig) j
theorem ownSemFacts0 : Pipeline.OwnSemFacts spec0 osem0 := by decide
theorem ownSems00_eq (c : Dev nD) :
    (Pipeline.ownSems0 (Ix := Unit) (Name := ℕ) (U := UU nD τ) (Lvl := ℕ) (Val := Elt F) (τ := τ) osem0 c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4] (by decide) (by decide)]; rfl
theorem cell0_eq (c : Dev nD) : (cellP (F := F) c 0 : sProp 𝕄) = semVal ((c : Thread nD τ), SemLoc.dma 6) 0 := rfl
theorem cell1_eq (c : Dev nD) : (cellP (F := F) c 1 : sProp 𝕄) = semVal ((c : Thread nD τ), SemLoc.dma 7) 0 := rfl

/-- The saved arrays are read, the gradients' array is written. -/
abbrev H0 : Finset (Ref sig .tc) := {main_v34}
abbrev R0 : Finset (Ref sig .tc) := {main_v35}

theorem H0_sub : H0 ⊆ Pipeline.restRefs sig spec0 :=
  Finset.singleton_subset_iff.mpr (Pipeline.mem_restRefs_of main_v34 (by decide) (by decide))
theorem R0_sub : R0 ⊆ Pipeline.restRefs sig spec0 \ H0 :=
  Finset.singleton_subset_iff.mpr (Finset.mem_sdiff.mpr ⟨Pipeline.mem_restRefs_of main_v35 (by decide) (by decide), by decide⟩)

/-- The gradients' array ends at a state reached from some contents of the scratch buffers. -/
def Ends (c : Dev nD) (W : (b : Ref sig .tc) → Buf (Elt F) ((c.tc : Thread nD τ).loc b)) : Prop :=
  ∃ σ : BodySt F c, σ.2.2.1 = V m c main_v35 ∧ W main_v35 = (stGrid m c σ cfg0.N).2.2.1

theorem hmain0 (𝒱 : Variants) : Pipeline.HMain (Ix := Unit) (Name := ℕ) (U := UU nD τ) (Lvl := ℕ) cfgs 0 defs₀ 𝒱 m (main (F := F)) (V m) :=
  Pipeline.hmain_prefixes cfgs 0 defs₀ 𝒱 m main [hostOps0, hostOps0_1, hostOps0_2, hostOps0_3, hostOps0_4, hostOps0_5, hostOps0_6, hostOps0_7, hostOps0_8, hostOps0_9, hostOps0_10, hostOps0_11]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

theorem dkM_set : dkM.view.set = Finset.univ := View.set_whole _
theorem dvM_set : dvM.view.set = Finset.univ := View.set_whole _
theorem duM_set : duM.view.set = Finset.univ := View.set_whole _
theorem dqM_set : dqM.view.set = Finset.univ := View.set_whole _
theorem dkvM_set : dkvM.view.set = Finset.univ := View.set_whole _

theorem sep_eq {P P' Q Q' : sProp 𝕄} (h : P = P') (h' : Q = Q') : iprop(P ∗ Q) = iprop(P' ∗ Q') := by rw [h, h']
/-- A state held, its buffers whole. -/
theorem stateP_eq (c : Dev nD) (fk : Buf (Elt F) (dkM.view.loc (c : Thread nD τ))) (fv : Buf (Elt F) (dvM.view.loc (c : Thread nD τ)))
    (fu : Buf (Elt F) (duM.view.loc (c : Thread nD τ))) (fdq : Buf (Elt F) (dqM.view.loc (c : Thread nD τ))) (fdkv : Buf (Elt F) (dkvM.view.loc (c : Thread nD τ))) :
    (stateP c fk fv fu fdq fdkv : sProp 𝕄)
      = iprop((dkM.view.loc (c : Thread nD τ) ↦{fullShare} fk) ∗ (dvM.view.loc (c : Thread nD τ) ↦{fullShare} fv) ∗ (duM.view.loc (c : Thread nD τ) ↦{fullShare} fu)
        ∗ (dqM.view.loc (c : Thread nD τ) ↦{fullShare} fdq) ∗ (dkvM.view.loc (c : Thread nD τ) ↦{fullShare} fdkv)
        ∗ semVal ((c : Thread nD τ), SemLoc.dma 8) 0 ∗ semVal ((c : Thread nD τ), SemLoc.dma 9) 0 ∗ semVal ((c : Thread nD τ), SemLoc.dma 10) 0) := by
  unfold stateP
  exact sep_eq (by rw [dkM_set]) (sep_eq (by rw [dvM_set]) (sep_eq (by rw [duM_set]) (sep_eq (by rw [dqM_set]) (sep_eq (by rw [dkvM_set]) rfl))))

theorem hin0 (c : Dev nD) : Pipeline.ΦDRG osem0 spec0 H0 R0 (V m) (V m) c ⊢ Φ m c 0 := by
  rw [Pipeline.ΦDRG_eq, scopedRest0_eq, ownSems00_eq, Pipeline.routed_singleton, bigSep_singleton]
  unfold Φ buffersP; dsimp only [stP]
  iintro ⟨⟨⟨%fk, HK⟩, ⟨%fv, HV⟩, HS, ⟨%fdq, HDQ⟩, ⟨%fdkv, HDKV⟩⟩, Hp, ⟨C0, C1, S8, S9, S10⟩, HX, HU⟩
  iexists (fk, fv, V m c main_v35, fdq, fdkv)
  isplitr; · ipureintro; rfl
  isplitl [HK HV HU HDQ HDKV S8 S9 S10]
  · rw [stGrid_zero, stateP_eq]
    isplitl [HK]; · iexact HK
    isplitl [HV]; · iexact HV
    isplitl [HU]; · iexact HU
    isplitl [HDQ]; · iexact HDQ
    isplitl [HDKV]; · iexact HDKV
    isplitl [S8]; · iexact S8
    isplitl [S9]; · iexact S9
    iexact S10
  isplitr [Hp]
  · isplitl [HX]; · iexact HX
    isplitl [HS]; · iexact HS
    isplitl [C0]; · iexact C0
    iexact C1
  iexact Hp

theorem hout0 (c : Dev nD) : Φ m c cfg0.N ⊢ iprop(Pipeline.ΦD osem0 spec0 H0 (V m) c ∗ Pipeline.routedSat R0 c (Ends m c)) := by
  rw [Pipeline.ΦD_eq, scopedRest0_eq, ownSems00_eq, bigSep_singleton]
  unfold Φ buffersP Pipeline.routedSat; dsimp only [stP]
  iintro ⟨%σ, %hσ, HST, ⟨HX, HS, C0, C1⟩, Hp⟩
  ihave HST' := (Entails.of_eq (stateP_eq c _ _ _ _ _)) $$ HST
  icases HST' with ⟨HK, HV, HU, HDQ, HDKV, S8, S9, S10⟩
  isplitr [HU]
  · isplitl [HK HV HS HDQ HDKV]
    · isplitl [HK]; · iexists _; iexact HK
      isplitl [HV]; · iexists _; iexact HV
      isplitl [HS]; · iexact HS
      isplitl [HDQ]; · iexists _; iexact HDQ
      iexists _; iexact HDKV
    isplitl [Hp]; · iexact Hp
    isplitr [HX]
    · isplitl [C0]; · iexact C0
      isplitl [C1]; · iexact C1
      isplitl [S8]; · iexact S8
      isplitl [S9]; · iexact S9
      iexact S10
    iexact HX
  iexists (Function.update (V m c) main_v35 (stGrid m c σ cfg0.N).2.2.1)
  isplitr
  · ipureintro; exact ⟨σ, hσ, Function.update_self ..⟩
  rw [Pipeline.routed_singleton, Function.update_self]
  iexact HU

set_option maxHeartbeats 800000 in
set_option backward.isDefEq.respectTransparency.types false in
/-- The program runs from any memory: the arrays staged end as they were, the gradients' array at a state reached,
    every other array as the region found it, and every counter at zero. -/
theorem run_main : θ_run defs (onTc (τ := τ) (main (F := F))) (s₀ m ρ) (fun r => (Pipeline.RDat.FramePostR cfg0 (fun c => (dats m 0 c).toR) R0 (V m) r
      ∧ ∀ c : Dev nD, ∃ W : (b : Ref sig .tc) → Buf (Elt F) ((c.tc : Thread nD τ).loc b), Ends m c W ∧ ∀ b ∈ R0, r.2.mem ((c.tc : Thread nD τ).loc b) = W b)
      ∧ r.2.sem = fun _ => 0) :=
  Pipeline.RDat.θ_run_frameP_dmaRSat_shared (Q' := _) (fun p => (cfgs p).toPCfg) (fun p => (cfgs p).toPCfg_adm) (0 : Fin 1) launch₀0.toP osem0 defs₀ Variants.none
    (fun c => (dats m 0 c).toR) ownSemFacts0 H0 R0
    H0_sub R0_sub m ρ main
    (fun c => (body_obligation m c).loose.toR) (fun _ _ _ => rfl) (fun _ _ => rfl) (V m) (hmain0 m Variants.none) (A_eq m) (fun _ k => k.elim0)
    (Ends m) (fun c => sep_elim_left.trans (hin0 m c)) (fun c => hout0 m c)

/-- The program's post: the gradients' array ends at a state reached, the arguments as they were, every counter at zero. -/
theorem run_values : θ_run defs (onTc (τ := τ) (main (F := F))) (s₀ m ρ) (fun r => (∀ c : Dev nD,
      (∃ W : (b : Ref sig .tc) → Buf (Elt F) ((c.tc : Thread nD τ).loc b), Ends m c W ∧ r.2.mem ((c.tc : Thread nD τ).loc main_v35) = W main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => by
    have h1 := (Pipeline.RDat.FramePostR.toDat cfgs (dats m) 0 R0 (V m) r h.1.1)
    obtain ⟨W, hW, hr⟩ := h.1.2 c
    exact ⟨⟨W, hW, hr main_v35 (Finset.mem_singleton_self _)⟩,
      ((h1 c).1 2).trans (((dats m 0 c).arrAt_in 2 rfl _).trans ((A_eq m c 2).trans (V_main_arg0 m c))),
      ((h1 c).1 3).trans (((dats m 0 c).arrAt_in 3 rfl _).trans ((A_eq m c 3).trans (V_main_arg1 m c))),
      ((h1 c).2 main_arg2 (Finset.mem_sdiff.mpr ⟨Pipeline.mem_restRefs_of main_arg2 (by decide) (by decide), by decide⟩)).trans (V_main_arg2 m c)⟩, h.2⟩) (run_main m ρ)

theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_values m ρ)

end Cert.KernelIdeal.Sb

end
-- ==== Proof.Same.lean ====
module

public import proofs.«01_k».proof.Defs
public import proofs.«01_k».proof.Proof.Gen.Kernel
public import proofs.«01_k».proof.Proof.Gen.KernelIdeal

/-!
The two readings of the kernel's program, as printed and as idealized, are one program: no operation was rewritten.
-/

@[expose] public section

noncomputable section
namespace Cert.Proof

open Idealize.ShloMosaic Idealize.SL.Sem

variable {F : FTy → Type} [FloatOps F]

set_option maxHeartbeats 2000000
theorem ebody : @Cert.Kernel.cc0_sb_bwd F _ Cert.Kernel.Gen.facts = @Cert.KernelIdeal.cc0_sb_bwd F _ Cert.KernelIdeal.Gen.facts := rfl
theorem edefs0 : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  obtain ⟨l, hl⟩ := l
  obtain _ | l := l
  · obtain ⟨t, s⟩ := a
    rfl
  · omega
theorem edefs : @Cert.Kernel.defs F _ Cert.Kernel.Gen.facts = @Cert.KernelIdeal.defs F _ Cert.KernelIdeal.Gen.facts := by
  unfold Cert.Kernel.defs Cert.KernelIdeal.defs
  exact congrArg (Pipeline.defs (nD := Cert.Kernel.nD) (τ := Cert.Kernel.τ) Cert.Kernel.pcfgs) edefs0
theorem emain : @Cert.Kernel.main F _ Cert.Kernel.Gen.facts = @Cert.KernelIdeal.main F _ Cert.KernelIdeal.Gen.facts := rfl
end Cert.Proof

end
-- ==== Proof.Tile.lean ====
module

public import proofs.«01_k».proof.Proof.Gen.KernelIdeal
public import proofs.«01_k».proof.Proof.Gen.KernelIdeal.Skeleton
public import Idealize.ShloMosaic.Lib.ValueIdx
public import Idealize.ShloMosaic.Lib.ValueLayoutCasts
public import Idealize.ShloMosaic.Lib.MatmulPlain
public import Idealize.ShloMosaic.Lib.IdealHost

/-!
The arithmetic of one column block and one head, over the reals: what each product, running sum and gradient of a block
is at a row and a column, when the blocks it is computed from hold real numbers. A block is read by a function of two
natural numbers, its row and its column.
-/

@[expose] public section

set_option maxRecDepth 16384

noncomputable section

namespace Cert.KernelIdeal.Sb

open Cert.KernelIdeal Cert.KernelIdeal.Gen
open Idealize.ShloMosaic Idealize.ShloMosaic.ValueIdx
open scoped BigOperators

/-- A finite sum of real numbers, taken in the extended reals. -/
theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : (∑ x : Fin n, (f x.val : EReal)) = ((∑ x ∈ Finset.range n, f x : ℝ) : EReal) := by
  rw [coe_sum, Finset.sum_range]

/-- The matrix `v` holds the real numbers `f`. -/
def Holds {m n : ℕ} (v : (⟨2, ![m, n]⟩ : Shape).Idx → EReal) (f : ℕ → ℕ → ℝ) : Prop :=
  ∀ (r : Fin m) (c : Fin n), v (ix2 r c) = (f r.val c.val : EReal)

theorem Holds.congr {m n : ℕ} {v : (⟨2, ![m, n]⟩ : Shape).Idx → EReal} {f g : ℕ → ℕ → ℝ} (h : Holds v f)
    (e : ∀ r c, r < m → c < n → f r c = g r c) : Holds v g :=
  fun r c => (h r c).trans (congrArg _ (e _ _ r.isLt c.isLt))

/-! ## The products -/

theorem mm_rows {D V acc f g h} (hD : Holds (m := 256) (n := 128) D f) (hV : Holds (m := 256) (n := 128) V g)
    (ha : Holds (m := 256) (n := 256) acc h) :
    Holds (m := 256) (n := 256) (FloatOps.matmul (F := Ideal) (φ₁ := .bf16) (φ₂ := .bf16) dot_S256x128_S256x128_S256x256_1_1_0_0_n_n none D V acc)
      (fun r c => h r c + ∑ d ∈ Finset.range 128, f r d * g c d) := by
  intro r c
  refine (Ideal.matmul_transposedRhs_apply (φ₁ := .bf16) (φ₂ := .bf16) (M := 256) (K := 128) (N := 256) none D V acc r c).trans ?_
  rw [ha, EReal.coe_add, ← coe_sum_fin]
  refine congrArg _ (Finset.sum_congr rfl fun d _ => ?_)
  rw [hD, hV, EReal.coe_mul]

theorem mm_square {D V acc f g h} (hD : Holds (m := 256) (n := 256) D f) (hV : Holds (m := 256) (n := 256) V g)
    (ha : Holds (m := 256) (n := 256) acc h) :
    Holds (m := 256) (n := 256) (FloatOps.matmul (F := Ideal) (φ₁ := .bf16) (φ₂ := .bf16) dot_S256x256_S256x256_S256x256_1_0_0_1_n_n none D V acc)
      (fun r c => h r c + ∑ s ∈ Finset.range 256, f r s * g s c) := by
  intro r c
  refine (Ideal.matmul_plain_apply (φ₁ := .bf16) (φ₂ := .bf16) (M := 256) (K := 256) (N := 256) none D V acc r c).trans ?_
  rw [ha, EReal.coe_add, ← coe_sum_fin]
  refine congrArg _ (Finset.sum_congr rfl fun d _ => ?_)
  rw [hD, hV, EReal.coe_mul]

theorem mm_out {D V acc f g h} (hD : Holds (m := 256) (n := 256) D f) (hV : Holds (m := 256) (n := 128) V g)
    (ha : Holds (m := 256) (n := 128) acc h) :
    Holds (m := 256) (n := 128) (FloatOps.matmul (F := Ideal) (φ₁ := .bf16) (φ₂ := .bf16) dot_S256x256_S256x128_S256x128_1_0_0_1_n_n none D V acc)
      (fun r c => h r c + ∑ s ∈ Finset.range 256, f r s * g s c) := by
  intro r c
  refine (Ideal.matmul_plain_apply (φ₁ := .bf16) (φ₂ := .bf16) (M := 256) (K := 256) (N := 128) none D V acc r c).trans ?_
  rw [ha, EReal.coe_add, ← coe_sum_fin]
  refine congrArg _ (Finset.sum_congr rfl fun d _ => ?_)
  rw [hD, hV, EReal.coe_mul]

theorem mm_cols {D V acc f g h} (hD : Holds (m := 256) (n := 256) D f) (hV : Holds (m := 256) (n := 128) V g)
    (ha : Holds (m := 256) (n := 128) acc h) :
    Holds (m := 256) (n := 128) (FloatOps.matmul (F := Ideal) (φ₁ := .bf16) (φ₂ := .bf16) dot_S256x256_S256x128_S256x128_0_0_1_1_n_n none D V acc)
      (fun r c => h r c + ∑ t ∈ Finset.range 256, f t r * g t c) := by
  intro r c
  rw [Ideal.matmul_apply, ← Equiv.sum_comp (contrEquiv1 dot_S256x256_S256x128_S256x128_0_0_1_1_n_n 256 rfl rfl).symm]
  rw [ha, EReal.coe_add, ← coe_sum_fin]
  refine congrArg _ (Finset.sum_congr rfl fun k _ => ?_)
  have hk := contrEquiv1_symm_val dot_S256x256_S256x128_S256x128_0_0_1_1_n_n 256 rfl rfl k
  have el : dot_S256x256_S256x128_S256x128_0_0_1_1_n_n.lhsIdx (ix2 r c) ((contrEquiv1 dot_S256x256_S256x128_S256x128_0_0_1_1_n_n 256 rfl rfl).symm k) = ix2 k r := by
    funext a; apply Fin.ext
    match a with
    | ⟨0, _⟩ => exact hk
    | ⟨1, _⟩ => rfl
  have er : dot_S256x256_S256x128_S256x128_0_0_1_1_n_n.rhsIdx (ix2 r c) ((contrEquiv1 dot_S256x256_S256x128_S256x128_0_0_1_1_n_n 256 rfl rfl).symm k) = ix2 k c := by
    funext a; apply Fin.ext
    match a with
    | ⟨0, _⟩ => exact hk
    | ⟨1, _⟩ => rfl
  rw [el, er, hD, hV, EReal.coe_mul]

theorem zeros_hold {m n : ℕ} : Holds (m := m) (n := n) (constant (F := Ideal) ⟨2, ![m, n]⟩ .f32 0x00000000#32) (fun _ _ => 0) :=
  fun r c => (constant_apply _ _).trans (by rw [Ideal.ofBits_zero_f32]; simp)

/-! ## The masks -/

theorem toInt_small (n : ℕ) (h : n < 256) : (BitVec.ofNat 32 n).toInt = (n : Int) := by
  rw [BitVec.toInt_eq_toNat_of_lt (by rw [BitVec.toNat_ofNat]; omega), BitVec.toNat_ofNat]
  congr 1
  omega

theorem lt_word (r s : Fin 256) :
    IntOp.cmpi .slt (BitVec.ofNat 32 r.val) (BitVec.ofNat 32 s.val) = if r.val < s.val then 1#1 else 0#1 := by
  have e : IntOp.cmpi .slt (BitVec.ofNat 32 r.val) (BitVec.ofNat 32 s.val) =
      BitVec.ofBool (decide ((BitVec.ofNat 32 r.val).toInt < (BitVec.ofNat 32 s.val).toInt)) := rfl
  rw [e, toInt_small _ r.isLt, toInt_small _ s.isLt]
  by_cases h : r.val < s.val
  · rw [if_pos h, decide_eq_true (by exact_mod_cast h)]; rfl
  · rw [if_neg h, decide_eq_false (by exact_mod_cast h)]; rfl

/-- The matrix that sums the columns before a column. -/
theorem tri_holds : Holds (m := 256) (n := 256) (k0_pay73 (F := Ideal)) (fun r c => if r < c then 1 else 0) := by
  intro r c
  show FloatOps.sitofp (F := Ideal) .f32 ((IntOp.cmpi .slt (BitVec.ofNat 32 (0 * 256 + r.val)) (BitVec.ofNat 32 (0 * 256 + c.val))).setWidth 32) = _
  rw [Nat.zero_mul, Nat.zero_add, Nat.zero_add, lt_word]
  by_cases h : r.val < c.val
  · rw [if_pos h]
    show ((((1#1).setWidth 32).toInt : ℝ) : EReal) = ((if r.val < c.val then 1 else 0 : ℝ) : EReal)
    rw [if_pos h]
    norm_num
  · rw [if_neg h]
    show ((((0#1).setWidth 32).toInt : ℝ) : EReal) = ((if r.val < c.val then 1 else 0 : ℝ) : EReal)
    rw [if_neg h]
    norm_num

theorem diag_at (r c : Fin 256) : k0_pay74 (ix2 r c) = if c.val < r.val then 1#1 else 0#1 := by
  show IntOp.cmpi .slt (BitVec.ofNat 32 (0 * 256 + c.val)) (BitVec.ofNat 32 (0 * 256 + r.val)) = _
  rw [Nat.zero_mul, Nat.zero_add, Nat.zero_add, lt_word]

/-! ## One block -/

section Any

variable {F : FTy → Type} [FloatOps F]

/-- A saved tile as a matrix. -/
def cT (x : Vec F S1x1x1x256x256 .bf16) : FVec F S256x256 .bf16 := shapeCast S256x256 x shapeCasts_S1x1x1x256x256_S256x256

/-- The weights times the products of the output's gradient with the values. -/
def gB (D V : FVec F S256x128 .bf16) (A : FVec F S256x256 .bf16) : FVec F S256x256 .f32 :=
  mulf (extf .f32 A bitsLt_bf16_f32)
    (matmul dot_S256x128_S256x128_S256x256_1_1_0_0_n_n none D V (constant S256x256 .f32 0x00000000#32))

/-- The gradient of the scores before the mask. -/
def dzB (cg : FVec F S256x1 .f32) (g : FVec F S256x256 .f32) (B : FVec F S256x256 .bf16) : FVec F S256x256 .f32 :=
  mulf (subf g (mulf (addf g (addf (matmul dot_S256x256_S256x256_S256x256_1_0_0_1_n_n none (truncf .bf16 g bitsLt_bf16_f32)
      k0_pay73 (constant S256x256 .f32 0x00000000#32)) (broadcastTo S256x256 cg broadcasts_S256x1_S256x256)))
      (extf .f32 B bitsLt_bf16_f32)))
    (broadcast S256x256 (Scalar.ofBits .f32 0x3DB504F3#32))

/-- The gradient of the scores of a block left of the diagonal. -/
def dzL (cg : FVec F S256x1 .f32) (g : FVec F S256x256 .f32) (B : FVec F S256x256 .bf16) : FVec F S256x256 .bf16 :=
  truncf .bf16 (dzB cg g B) bitsLt_bf16_f32

/-- The gradient of the scores of the block on the diagonal. -/
def dzD (cg : FVec F S256x1 .f32) (g : FVec F S256x256 .f32) (B : FVec F S256x256 .bf16) : FVec F S256x256 .bf16 :=
  truncf .bf16 (select k0_pay74 (dzB cg g B) (broadcast S256x256 (Scalar.ofBits .f32 0x00000000#32))) bitsLt_bf16_f32

/-- The queries' gradient with a block's part added. -/
def dqB (dq : FVec F S256x128 .f32) (K : FVec F S256x128 .bf16) (dz : FVec F S256x256 .bf16) : FVec F S256x128 .f32 :=
  addf dq (matmul dot_S256x256_S256x128_S256x128_1_0_0_1_n_n none dz K (constant S256x128 .f32 0x00000000#32))

/-- The running row sums with a block's part added. -/
def cgB (cg : FVec F S256x1 .f32) (g : FVec F S256x256 .f32) : FVec F S256x1 .f32 :=
  addf cg (shapeCast S256x1 (multiReduction .add [1] S256 g 0x00000000#32 reduces_S256x256_S256 (.inl rfl) rfl) shapeCasts_S256_S256x1)

/-- The keys' or values' gradient of a column block with a row block's part added. -/
def kvB (X : FVec F S256x128 .bf16) (W : FVec F S256x256 .bf16) (old : FVec F S256x128 .f32) : FVec F S256x128 .f32 :=
  shapeCast S256x128 (addf old (matmul dot_S256x256_S256x128_S256x128_0_0_1_1_n_n none W X (constant S256x128 .f32 0x00000000#32)))
    shapeCasts_S256x128_S256x128

end Any

/-- The scale of the scores. -/
def kap : ℝ := (Ideal.ofBits .f32 0x3DB504F3#32).toReal

theorem kap_coe : Ideal.ofBits .f32 0x3DB504F3#32 = (kap : EReal) := by
  have h : ∃ x : ℝ, Ideal.ofBits .f32 0x3DB504F3#32 = (x : EReal) := by
    simp only [Ideal.ofBits, Ideal.ieee]
    norm_num [-EReal.coe_mul]
    exact ⟨_, rfl⟩
  obtain ⟨x, hx⟩ := h
  rw [kap, hx, EReal.toReal_coe]

theorem cT_at (x : Vec Ideal S1x1x1x256x256 .bf16) (r c : Fin 256) : cT (F := Ideal) x (ix2 r c) = x (ix5 0 0 0 r c) := by
  refine shapeCast_apply x _ _ _ ?_
  rw [Shape.rowMajor_val_five, Shape.rowMajor_val_two]
  show ((((0 * 1 + 0) * 1 + 0) * 256 + r.val) * 256 + c.val) = r.val * 256 + c.val
  omega

theorem gB_holds {D V A f g a} (hD : Holds (m := 256) (n := 128) D f) (hV : Holds (m := 256) (n := 128) V g)
    (hA : Holds (m := 256) (n := 256) A a) :
    Holds (m := 256) (n := 256) (gB (F := Ideal) D V A) (fun r c => a r c * ∑ d ∈ Finset.range 128, f r d * g c d) := by
  intro r c
  show A (ix2 r c) * _ = _
  rw [hA, EReal.coe_mul]
  refine congrArg _ ((mm_rows hD hV zeros_hold r c).trans ?_)
  simp only [zero_add]

theorem sum_before (f : ℕ → ℝ) (c : ℕ) (hc : c ≤ 256) :
    (∑ s ∈ Finset.range 256, f s * (if s < c then 1 else 0)) = ∑ s ∈ Finset.range c, f s := by
  simp only [mul_ite, mul_one, mul_zero]
  rw [← Finset.sum_filter]
  refine Finset.sum_congr (Finset.ext fun s => ?_) fun _ _ => rfl
  simp only [Finset.mem_filter, Finset.mem_range]
  omega

theorem dzB_holds {cg g B} {u : ℕ → ℝ} {v b} (hc : Holds (m := 256) (n := 1) cg (fun r _ => u r)) (hg : Holds (m := 256) (n := 256) g v)
    (hB : Holds (m := 256) (n := 256) B b) :
    Holds (m := 256) (n := 256) (dzB (F := Ideal) cg g B)
      (fun r c => (v r c - (v r c + (∑ s ∈ Finset.range c, v r s + u r)) * b r c) * kap) := by
  intro r c
  have e1 : matmul dot_S256x256_S256x256_S256x256_1_0_0_1_n_n none (truncf (F := Ideal) .bf16 g bitsLt_bf16_f32)
      k0_pay73 (constant S256x256 .f32 0x00000000#32) (ix2 r c) = ((0 + ∑ s ∈ Finset.range 256, v r s * (if s < c.val then 1 else 0) : ℝ) : EReal) :=
    mm_square (D := truncf (F := Ideal) .bf16 g bitsLt_bf16_f32) (f := v) hg tri_holds zeros_hold r c
  have e2 : broadcastTo S256x256 cg broadcasts_S256x1_S256x256 (ix2 r c) = ((u r.val : ℝ) : EReal) := by
    rw [broadcastTo_apply cg _ (ix2 r c) (ix2 r 0) (fun a => by match a with | ⟨0, _⟩ => rfl | ⟨1, _⟩ => rfl)]
    exact hc r 0
  have e3 : dzB (F := Ideal) cg g B (ix2 r c) = (g (ix2 r c) - (g (ix2 r c) + (matmul dot_S256x256_S256x256_S256x256_1_0_0_1_n_n none
      (truncf (F := Ideal) .bf16 g bitsLt_bf16_f32) k0_pay73 (constant S256x256 .f32 0x00000000#32) (ix2 r c)
      + broadcastTo S256x256 cg broadcasts_S256x1_S256x256 (ix2 r c))) * B (ix2 r c)) * Ideal.ofBits .f32 0x3DB504F3#32 := rfl
  rw [e3]
  rw [e1, e2, hg, hB, kap_coe, sum_before _ _ c.isLt.le, zero_add]
  simp only [EReal.coe_mul, EReal.coe_sub, EReal.coe_add]

theorem dzL_holds {cg g B} {u : ℕ → ℝ} {v b} (hc : Holds (m := 256) (n := 1) cg (fun r _ => u r)) (hg : Holds (m := 256) (n := 256) g v)
    (hB : Holds (m := 256) (n := 256) B b) :
    Holds (m := 256) (n := 256) (dzL (F := Ideal) cg g B)
      (fun r c => (v r c - (v r c + (∑ s ∈ Finset.range c, v r s + u r)) * b r c) * kap) :=
  dzB_holds hc hg hB

theorem dzD_holds {cg g B} {u : ℕ → ℝ} {v b} (hc : Holds (m := 256) (n := 1) cg (fun r _ => u r)) (hg : Holds (m := 256) (n := 256) g v)
    (hB : Holds (m := 256) (n := 256) B b) :
    Holds (m := 256) (n := 256) (dzD (F := Ideal) cg g B)
      (fun r c => if c < r then (v r c - (v r c + (∑ s ∈ Finset.range c, v r s + u r)) * b r c) * kap else 0) := by
  intro r c
  show Scalar.select (k0_pay74 (ix2 r c)) (dzB (F := Ideal) cg g B (ix2 r c)) (Ideal.ofBits .f32 0x00000000#32) = _
  rw [diag_at, dzB_holds hc hg hB, Ideal.ofBits_zero_f32]
  by_cases h : c.val < r.val
  · simp only [if_pos h]; rfl
  · simp only [if_neg h]; rfl

theorem dqB_holds {dq K dz o k z} (hq : Holds (m := 256) (n := 128) dq o) (hK : Holds (m := 256) (n := 128) K k)
    (hz : Holds (m := 256) (n := 256) dz z) :
    Holds (m := 256) (n := 128) (dqB (F := Ideal) dq K dz) (fun r d => o r d + ∑ s ∈ Finset.range 256, z r s * k s d) := by
  intro r d
  show dq (ix2 r d) + _ = _
  rw [hq, EReal.coe_add]
  refine congrArg _ ((mm_out hz hK zeros_hold r d).trans ?_)
  simp only [zero_add]

theorem cgB_holds {cg g} {u : ℕ → ℝ} {v} (hc : Holds (m := 256) (n := 1) cg (fun r _ => u r)) (hg : Holds (m := 256) (n := 256) g v) :
    Holds (m := 256) (n := 1) (cgB (F := Ideal) cg g) (fun r _ => u r + ∑ s ∈ Finset.range 256, v r s) := by
  intro r c
  have e : shapeCast S256x1 (multiReduction (F := Ideal) .add [1] S256 g 0x00000000#32 reduces_S256x256_S256 (.inl rfl) rfl) shapeCasts_S256_S256x1 (ix2 r c)
      = ((∑ s ∈ Finset.range 256, v r.val s : ℝ) : EReal) := by
    refine (shapeCast_a_a1_apply (multiReduction (F := Ideal) .add [1] S256 g 0x00000000#32 reduces_S256x256_S256 (.inl rfl) rfl) shapeCasts_S256_S256x1 r c).trans ?_
    refine (Ideal.multiReduction_add_single g _ _ _ _ _).trans ?_
    rw [← coe_sum_fin]
    refine Finset.sum_congr rfl fun s _ => ?_
    refine Eq.trans (congrArg g ?_) (hg r s)
    funext a; apply Fin.ext
    match a with
    | ⟨0, _⟩ => rfl
    | ⟨1, _⟩ => rfl
  show cg (ix2 r c) + _ = _
  rw [hc, EReal.coe_add]
  exact congrArg _ e

theorem kvB_holds {X W old o x w} (hX : Holds (m := 256) (n := 128) X x) (hW : Holds (m := 256) (n := 256) W w)
    (ho : Holds (m := 256) (n := 128) old o) :
    Holds (m := 256) (n := 128) (kvB (F := Ideal) X W old) (fun r d => o r d + ∑ t ∈ Finset.range 256, w t r * x t d) := by
  intro r d
  unfold kvB
  rw [shapeCast_self]
  show old (ix2 r d) + _ = _
  rw [ho, EReal.coe_add]
  refine congrArg _ ((mm_cols hW hX zeros_hold r d).trans ?_)
  simp only [zero_add]

end Cert.KernelIdeal.Sb
-- ==== Proof.HostOps.lean ====
module

public import proofs.«01_k».proof.Proof.Tile
public import Idealize.ShloMosaic.Lib.StackMember
public import Idealize.ShloMosaic.Lib.StableHlo.Predicate

/-!
The host's operations on arrays indexed by a head, a row and a column, at an index: the products by head, the running
sums along the columns, the mask, the logarithm of one plus the exponential.
-/

@[expose] public section

set_option maxRecDepth 16384

noncomputable section

namespace Cert.KernelIdeal.Sb

open Idealize.ShloMosaic Idealize.ShloMosaic.ValueIdx
open scoped BigOperators

/-- The array `v`, indexed by a head, a row and a column, holds the real numbers `f`. -/
def Holds3 {g m n : ℕ} (v : (⟨3, ![g, m, n]⟩ : Shape).Idx → EReal) (f : ℕ → ℕ → ℕ → ℝ) : Prop :=
  ∀ (h : Fin g) (r : Fin m) (c : Fin n), v (ix3 h r c) = (f h.val r.val c.val : EReal)

theorem Holds3.congr {g m n : ℕ} {v : (⟨3, ![g, m, n]⟩ : Shape).Idx → EReal} {f f' : ℕ → ℕ → ℕ → ℝ} (h : Holds3 v f)
    (e : ∀ h r c, h < g → r < m → c < n → f h r c = f' h r c) : Holds3 v f' :=
  fun a r c => (h a r c).trans (congrArg _ (e _ _ _ a.isLt r.isLt c.isLt))

section Dots

variable {G m n k : ℕ}

/-- By head, the product of a matrix with another's transpose. -/
theorem dot_22 (w : DotDims.WF ⟨3, ![G, m, k]⟩ ⟨3, ![G, n, k]⟩ ⟨3, ![G, m, n]⟩ [2] [2] [1] [1] [0] [0])
    (A : FVec Ideal ⟨3, ![G, m, k]⟩ .f32) (B : FVec Ideal ⟨3, ![G, n, k]⟩ .f32) (g : Fin G) (a : Fin m) (b : Fin n) :
    Host.dotGeneral (⟨[2], [2], [1], [1], [0], [0], w⟩ : DotDims _ _ _) none A B (ix3 g a b)
      = ∑ c : Fin k, A (ix3 g a c) * B (ix3 g b c) := by
  show FloatOps.dotGeneral _ none _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- By head, the product of a matrix's transpose with another. -/
theorem dot_11 (w : DotDims.WF ⟨3, ![G, k, m]⟩ ⟨3, ![G, k, n]⟩ ⟨3, ![G, m, n]⟩ [1] [1] [2] [2] [0] [0])
    (A : FVec Ideal ⟨3, ![G, k, m]⟩ .f32) (B : FVec Ideal ⟨3, ![G, k, n]⟩ .f32) (g : Fin G) (a : Fin m) (b : Fin n) :
    Host.dotGeneral (⟨[1], [1], [2], [2], [0], [0], w⟩ : DotDims _ _ _) none A B (ix3 g a b)
      = ∑ c : Fin k, A (ix3 g c a) * B (ix3 g c b) := by
  show FloatOps.dotGeneral _ none _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

variable {x y : ℕ → ℕ → ℕ → ℝ}

theorem prod_sum (f : Fin k → EReal) (g : Fin k → EReal) (x y : ℕ → ℝ) (hf : ∀ c, f c = (x c.val : EReal)) (hg : ∀ c, g c = (y c.val : EReal)) :
    ∑ c : Fin k, f c * g c = ((∑ c ∈ Finset.range k, x c * y c : ℝ) : EReal) := by
  rw [← coe_sum_fin]
  refine Finset.sum_congr rfl fun c _ => ?_
  rw [hf, hg, EReal.coe_mul]

theorem dot_22_holds (w : DotDims.WF ⟨3, ![G, m, k]⟩ ⟨3, ![G, n, k]⟩ ⟨3, ![G, m, n]⟩ [2] [2] [1] [1] [0] [0])
    {A : FVec Ideal ⟨3, ![G, m, k]⟩ .f32} {B : FVec Ideal ⟨3, ![G, n, k]⟩ .f32} (hA : Holds3 A x) (hB : Holds3 B y) :
    Holds3 (g := G) (m := m) (n := n) (Host.dotGeneral (⟨[2], [2], [1], [1], [0], [0], w⟩ : DotDims _ _ _) none A B)
      (fun h t s => ∑ d ∈ Finset.range k, x h t d * y h s d) :=
  fun g a b => (dot_22 w A B g a b).trans (prod_sum _ _ (fun d => x g.val a.val d) (fun d => y g.val b.val d) (fun c => hA g a c) (fun c => hB g b c))

theorem dot_11_holds (w : DotDims.WF ⟨3, ![G, k, m]⟩ ⟨3, ![G, k, n]⟩ ⟨3, ![G, m, n]⟩ [1] [1] [2] [2] [0] [0])
    {A : FVec Ideal ⟨3, ![G, k, m]⟩ .f32} {B : FVec Ideal ⟨3, ![G, k, n]⟩ .f32} (hA : Holds3 A x) (hB : Holds3 B y) :
    Holds3 (g := G) (m := m) (n := n) (Host.dotGeneral (⟨[1], [1], [2], [2], [0], [0], w⟩ : DotDims _ _ _) none A B)
      (fun h a b => ∑ t ∈ Finset.range k, x h t a * y h t b) :=
  fun g a b => (dot_11 w A B g a b).trans (prod_sum _ _ (fun t => x g.val t a.val) (fun t => y g.val t b.val) (fun c => hA g c a) (fun c => hB g c b))

theorem dot_21_holds (w : DotDims.WF ⟨3, ![G, m, k]⟩ ⟨3, ![G, k, n]⟩ ⟨3, ![G, m, n]⟩ [2] [1] [1] [2] [0] [0])
    {A : FVec Ideal ⟨3, ![G, m, k]⟩ .f32} {B : FVec Ideal ⟨3, ![G, k, n]⟩ .f32} (hA : Holds3 A x) (hB : Holds3 B y) :
    Holds3 (g := G) (m := m) (n := n) (Host.dotGeneral (⟨[2], [1], [1], [2], [0], [0], w⟩ : DotDims _ _ _) none A B)
      (fun h t d => ∑ s ∈ Finset.range k, x h t s * y h s d) :=
  fun g a b => (StackMember.dotGeneral_stack_apply w none A B g a b).trans
    (prod_sum _ _ (fun s => x g.val a.val s) (fun s => y g.val s b.val) (fun c => hA g a c) (fun c => hB g c b))

end Dots

section Heads

variable {α : Type}

/-- A matrix of the heads' columns side by side, cut by head. -/
theorem heads_at (y : (⟨2, ![4096, 1024]⟩ : Shape).Idx → α) (h1 : (⟨2, ![4096, 1024]⟩ : Shape).ShapeCasts ⟨3, ![4096, 8, 128]⟩)
    (h2 : (⟨3, ![4096, 8, 128]⟩ : Shape).Transposes [1, 0, 2] ⟨3, ![8, 4096, 128]⟩) (h : Fin 8) (t : Fin 4096) (d : Fin 128) :
    transpose ⟨3, ![8, 4096, 128]⟩ [1, 0, 2] (shapeCast ⟨3, ![4096, 8, 128]⟩ y h1) h2 (ix3 h t d)
      = y (ix2 t ⟨128 * h.val + d.val, by omega⟩) := by
  rw [transpose_apply [1, 0, 2] _ h2 (ix3 h t d) (ix3 t h d) (fun b => by
    match b with
    | ⟨0, _⟩ => rfl
    | ⟨1, _⟩ => rfl
    | ⟨2, _⟩ => rfl)]
  refine shapeCast_apply y h1 _ _ ?_
  rw [Shape.rowMajor_val_two, Shape.rowMajor_val_three]
  show t.val * 1024 + (128 * h.val + d.val) = (t.val * 8 + h.val) * 128 + d.val
  omega

/-- The heads' matrices side by side again. -/
theorem unheads_at (y : (⟨3, ![8, 4096, 128]⟩ : Shape).Idx → α) (h2 : (⟨3, ![8, 4096, 128]⟩ : Shape).Transposes [1, 0, 2] ⟨3, ![4096, 8, 128]⟩)
    (h1 : (⟨3, ![4096, 8, 128]⟩ : Shape).ShapeCasts ⟨2, ![4096, 1024]⟩) (t : Fin 4096) (c : Fin 1024) :
    shapeCast ⟨2, ![4096, 1024]⟩ (transpose ⟨3, ![4096, 8, 128]⟩ [1, 0, 2] y h2) h1 (ix2 t c)
      = y (ix3 (⟨c.val / 128, by omega⟩ : Fin 8) t (⟨c.val % 128, by omega⟩ : Fin 128)) := by
  rw [shapeCast_apply _ h1 (ix2 t c) (ix3 t (⟨c.val / 128, by omega⟩ : Fin 8) (⟨c.val % 128, by omega⟩ : Fin 128)) (by
    rw [Shape.rowMajor_val_two, Shape.rowMajor_val_three]
    show (t.val * 8 + c.val / 128) * 128 + c.val % 128 = t.val * 1024 + c.val
    omega)]
  refine transpose_apply [1, 0, 2] y h2 _ _ (fun b => ?_)
  match b with
  | ⟨0, _⟩ => rfl
  | ⟨1, _⟩ => rfl
  | ⟨2, _⟩ => rfl

theorem heads_holds {y : (⟨2, ![4096, 1024]⟩ : Shape).Idx → EReal} {f : ℕ → ℕ → ℝ} (hy : Holds (m := 4096) (n := 1024) y f)
    (h1 : (⟨2, ![4096, 1024]⟩ : Shape).ShapeCasts ⟨3, ![4096, 8, 128]⟩)
    (h2 : (⟨3, ![4096, 8, 128]⟩ : Shape).Transposes [1, 0, 2] ⟨3, ![8, 4096, 128]⟩) :
    Holds3 (g := 8) (m := 4096) (n := 128) (transpose ⟨3, ![8, 4096, 128]⟩ [1, 0, 2] (shapeCast ⟨3, ![4096, 8, 128]⟩ y h1) h2)
      (fun h t d => f t (128 * h + d)) :=
  fun h t d => (heads_at y h1 h2 h t d).trans (hy _ _)

theorem unheads_holds {y : (⟨3, ![8, 4096, 128]⟩ : Shape).Idx → EReal} {f : ℕ → ℕ → ℕ → ℝ} (hy : Holds3 (g := 8) (m := 4096) (n := 128) y f)
    (h2 : (⟨3, ![8, 4096, 128]⟩ : Shape).Transposes [1, 0, 2] ⟨3, ![4096, 8, 128]⟩)
    (h1 : (⟨3, ![4096, 8, 128]⟩ : Shape).ShapeCasts ⟨2, ![4096, 1024]⟩) :
    Holds (m := 4096) (n := 1024) (shapeCast ⟨2, ![4096, 1024]⟩ (transpose ⟨3, ![4096, 8, 128]⟩ [1, 0, 2] y h2) h1)
      (fun t c => f (c / 128) t (c % 128)) :=
  fun t c => (unheads_at y h2 h1 t c).trans (hy _ _ _)

theorem cut_holds {n : ℕ} {x : (⟨2, ![4096, n]⟩ : Shape).Idx → EReal} {f : ℕ → ℕ → ℝ} (hx : Holds (m := 4096) (n := n) x f) (o : ℕ)
    (hs : (⟨2, ![4096, n]⟩ : Shape).Slices ![0, o] ⟨2, ![4096, 1024]⟩) (ho : o + 1024 ≤ n) :
    Holds (m := 4096) (n := 1024) (extractStridedSlice ⟨2, ![4096, 1024]⟩ ![0, o] x hs) (fun t c => f t (o + c)) := by
  intro t c
  refine (extractStridedSlice_apply ![0, o] x hs (ix2 t c) (ix2 t ⟨o + c.val, by omega⟩) (fun a => ?_)).trans (hx _ _)
  match a with
  | ⟨0, _⟩ => show t.val = 0 + t.val; omega
  | ⟨1, _⟩ => rfl

end Heads

section Sums

theorem foldl_sum {ι : Type} (g : ι → EReal) (l : List ι) (v : EReal) : l.foldl (fun r k => r + g k) v = v + (l.map g).sum := by
  induction l generalizing v with
  | nil => simp
  | cons a l ih => rw [List.foldl_cons, ih, List.map_cons, List.sum_cons, add_assoc]

/-- A window along the columns has one position per column. -/
def rowPos (n : ℕ) : (⟨3, ![1, 1, n]⟩ : Shape).Idx ≃ Fin n where
  toFun p := p 2
  invFun k := ix3 0 0 k
  left_inv p := by
    funext a
    match a with
    | ⟨0, _⟩ => exact (Subsingleton.elim (α := Fin 1) _ _)
    | ⟨1, _⟩ => exact (Subsingleton.elim (α := Fin 1) _ _)
    | ⟨2, _⟩ => rfl
  right_inv k := rfl

variable {g m n : ℕ}

/-- A window sum along the columns, with `lo` columns of padding before. -/
theorem window_at (lo hi : ℕ) (x : FVec Ideal ⟨3, ![g, m, n]⟩ .f32) (init : (⟨0, ![]⟩ : Shape).Idx → EReal)
    (w : Shape.ReduceWindows ⟨3, ![g, m, n]⟩ ![1, 1, n] ![1, 1, 1] ![0, 0, lo] ![0, 0, hi] ⟨3, ![g, m, n]⟩) (hu : 0 < (⟨0, ![]⟩ : Shape).numel)
    (h0 : ∀ j, init j = 0) (h : Fin g) (r : Fin m) (c : Fin n) (f : ℕ → ℝ) (hx : ∀ c : Fin n, x (ix3 h r c) = (f c.val : EReal)) :
    Host.reduceWindowAdd (F := Ideal) (φ := .f32) ![1, 1, n] ![1, 1, 1] ![0, 0, lo] ![0, 0, hi] x init w hu (ix3 h r c)
      = ((∑ k ∈ Finset.range n, if lo ≤ c.val + k ∧ c.val + k - lo < n then f (c.val + k - lo) else 0 : ℝ) : EReal) := by
  show (List.finRange (⟨3, ![1, 1, n]⟩ : Shape).numel).foldl _ (init _) = _
  rw [h0]
  refine (foldl_sum _ _ _).trans ?_
  rw [zero_add, ← Fin.sum_univ_def, ← coe_sum_fin, ← Equiv.sum_comp (⟨3, ![1, 1, n]⟩ : Shape).rowMajor, ← Equiv.sum_comp (rowPos n).symm]
  refine Finset.sum_congr rfl fun k _ => ?_
  have hP : (⟨3, ![1, 1, n]⟩ : Shape).rowMajor.symm ((⟨3, ![1, 1, n]⟩ : Shape).rowMajor ((rowPos n).symm k)) = ix3 (0 : Fin 1) (0 : Fin 1) k :=
    Equiv.symm_apply_apply _ _
  generalize hPd : (⟨3, ![1, 1, n]⟩ : Shape).rowMajor ((rowPos n).symm k) = q at hP ⊢
  have p0 : ((⟨3, ![1, 1, n]⟩ : Shape).rowMajor.symm q (0 : Fin 3)).val = 0 := by rw [hP]; rfl
  have p1 : ((⟨3, ![1, 1, n]⟩ : Shape).rowMajor.symm q (1 : Fin 3)).val = 0 := by rw [hP]; rfl
  have p2 : ((⟨3, ![1, 1, n]⟩ : Shape).rowMajor.symm q (2 : Fin 3)).val = k.val := by rw [hP]
  by_cases hc : lo ≤ c.val + k.val ∧ c.val + k.val - lo < n
  · rw [if_pos hc]
    refine (dif_pos (fun a => ?_)).trans ((congrArg x ?_).trans (hx ⟨c.val + k.val - lo, hc.2⟩))
    · match a with
      | ⟨0, _⟩ =>
        show 0 ≤ h.val * 1 + ((⟨3, ![1, 1, n]⟩ : Shape).rowMajor.symm q (0 : Fin 3)).val
          ∧ h.val * 1 + ((⟨3, ![1, 1, n]⟩ : Shape).rowMajor.symm q (0 : Fin 3)).val - 0 < g
        rw [p0]; omega
      | ⟨1, _⟩ =>
        show 0 ≤ r.val * 1 + ((⟨3, ![1, 1, n]⟩ : Shape).rowMajor.symm q (1 : Fin 3)).val
          ∧ r.val * 1 + ((⟨3, ![1, 1, n]⟩ : Shape).rowMajor.symm q (1 : Fin 3)).val - 0 < m
        rw [p1]; omega
      | ⟨2, _⟩ =>
        show lo ≤ c.val * 1 + ((⟨3, ![1, 1, n]⟩ : Shape).rowMajor.symm q (2 : Fin 3)).val
          ∧ c.val * 1 + ((⟨3, ![1, 1, n]⟩ : Shape).rowMajor.symm q (2 : Fin 3)).val - lo < n
        rw [p2]; omega
    · funext a; apply Fin.ext
      match a with
      | ⟨0, _⟩ =>
        show h.val * 1 + ((⟨3, ![1, 1, n]⟩ : Shape).rowMajor.symm q (0 : Fin 3)).val - 0 = h.val
        rw [p0]; omega
      | ⟨1, _⟩ =>
        show r.val * 1 + ((⟨3, ![1, 1, n]⟩ : Shape).rowMajor.symm q (1 : Fin 3)).val - 0 = r.val
        rw [p1]; omega
      | ⟨2, _⟩ =>
        show c.val * 1 + ((⟨3, ![1, 1, n]⟩ : Shape).rowMajor.symm q (2 : Fin 3)).val - lo = c.val + k.val - lo
        rw [p2, Nat.mul_one]
  · rw [if_neg hc]
    refine (dif_neg fun hin => hc ?_).trans EReal.coe_zero.symm
    have h2 : lo ≤ c.val * 1 + ((⟨3, ![1, 1, n]⟩ : Shape).rowMajor.symm q (2 : Fin 3)).val
      ∧ c.val * 1 + ((⟨3, ![1, 1, n]⟩ : Shape).rowMajor.symm q (2 : Fin 3)).val - lo < n := hin 2
    rw [p2] at h2; omega

/-- The running sum along the columns. -/
theorem cumsum_holds {x : FVec Ideal ⟨3, ![g, m, n]⟩ .f32} {f : ℕ → ℕ → ℕ → ℝ} (hx : Holds3 x f) (lo : ℕ) (hl : lo + 1 = n) (init : (⟨0, ![]⟩ : Shape).Idx → EReal)
    (w : Shape.ReduceWindows ⟨3, ![g, m, n]⟩ ![1, 1, n] ![1, 1, 1] ![0, 0, lo] ![0, 0, 0] ⟨3, ![g, m, n]⟩) (hu : 0 < (⟨0, ![]⟩ : Shape).numel)
    (h0 : ∀ j, init j = 0) :
    Holds3 (Host.reduceWindowAdd (F := Ideal) (φ := .f32) ![1, 1, n] ![1, 1, 1] ![0, 0, lo] ![0, 0, 0] x init w hu)
      (fun h r c => ∑ s ∈ Finset.range (c + 1), f h r s) := by
  intro h r c
  refine (window_at lo 0 x init w hu h0 h r c (fun s => f h.val r.val s) (fun c => hx h r c)).trans (congrArg _ ?_)
  have hc := c.isLt
  rw [← Finset.sum_filter]
  refine Finset.sum_nbij' (fun k => c.val + k - lo) (fun s => s + lo - c.val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; show c.val + k - lo + lo - c.val = k; omega
  · intro k hk; simp only [Finset.mem_range] at hk; show c.val + (k + lo - c.val) - lo = k; omega
  · intro k hk; rfl

/-- The running sum from the right. -/
theorem revsum_holds {x : FVec Ideal ⟨3, ![g, m, n]⟩ .f32} {f : ℕ → ℕ → ℕ → ℝ} (hx : Holds3 x f) (hi : ℕ) (init : (⟨0, ![]⟩ : Shape).Idx → EReal)
    (w : Shape.ReduceWindows ⟨3, ![g, m, n]⟩ ![1, 1, n] ![1, 1, 1] ![0, 0, 0] ![0, 0, hi] ⟨3, ![g, m, n]⟩) (hu : 0 < (⟨0, ![]⟩ : Shape).numel)
    (h0 : ∀ j, init j = 0) :
    Holds3 (Host.reduceWindowAdd (F := Ideal) (φ := .f32) ![1, 1, n] ![1, 1, 1] ![0, 0, 0] ![0, 0, hi] x init w hu)
      (fun h r c => ∑ s ∈ Finset.range n, f h r s - ∑ s ∈ Finset.range c, f h r s) := by
  intro h r c
  refine (window_at 0 hi x init w hu h0 h r c (fun s => f h.val r.val s) (fun c => hx h r c)).trans (congrArg _ ?_)
  have hc := c.isLt
  rw [← Finset.sum_filter, eq_sub_iff_add_eq, ← Finset.sum_filter_add_sum_filter_not (Finset.range n) (fun s => c.val ≤ s)]
  congr 1
  · refine Finset.sum_nbij' (fun k => c.val + k - 0) (fun s => s - c.val) ?_ ?_ ?_ ?_ ?_
    · intro k hk; simp only [Finset.mem_filter, Finset.mem_range] at hk ⊢; omega
    · intro k hk; simp only [Finset.mem_filter, Finset.mem_range] at hk ⊢; omega
    · intro k hk; simp only [Finset.mem_filter, Finset.mem_range] at hk; show c.val + k - 0 - c.val = k; omega
    · intro k hk; simp only [Finset.mem_filter, Finset.mem_range] at hk; show c.val + (k - c.val) - 0 = k; omega
    · intro k hk; rfl
  · refine Finset.sum_congr ?_ fun _ _ => rfl
    ext s
    simp only [Finset.mem_filter, Finset.mem_range]
    omega

/-- The sum over the columns. -/
theorem total_holds {x : FVec Ideal ⟨3, ![g, m, n]⟩ .f32} {f : ℕ → ℕ → ℕ → ℝ} (hx : Holds3 x f) (init : (⟨0, ![]⟩ : Shape).Idx → EReal)
    (w : Shape.ReducesTo ⟨3, ![g, m, n]⟩ [2] ⟨2, ![g, m]⟩) (w' : Shape.Reduces ⟨3, ![g, m, n]⟩ [2] ⟨2, ![g, m]⟩) (hu : 0 < (⟨0, ![]⟩ : Shape).numel)
    (h0 : ∀ j, init j = 0) :
    Holds (m := g) (n := m) (Host.reduceAdd (F := Ideal) (φ := .f32) x init w hu) (fun h r => ∑ s ∈ Finset.range n, f h r s) := by
  intro h r
  refine (Ideal.hostReduceAdd_single w w' x _ (ix2 h r)).trans ?_
  rw [h0, zero_add, ← coe_sum_fin]
  refine Finset.sum_congr rfl fun k _ => (congrArg x ?_).trans (hx h r k)
  funext a
  match a with
  | ⟨0, _⟩ => rfl
  | ⟨1, _⟩ => rfl
  | ⟨2, _⟩ => rfl

end Sums

section Scalars

theorem zero32 : Ideal.ofBits .f32 0x00000000#32 = 0 := Ideal.ofBits_zero_f32
theorem inf32 : Ideal.ofBits .f32 0x7F800000#32 = ⊤ := by simp [Ideal.ofBits, Ideal.ieee]

/-- The logarithm of one plus the exponential. -/
def sp (x : ℝ) : ℝ := max x 0 + Real.log (1 + Real.exp (-|x|))

theorem sp_eq (x : ℝ) : sp x = Real.log (1 + Real.exp x) := by
  unfold sp
  rcases le_total 0 x with h | h
  · rw [max_eq_left h, abs_of_nonneg h]
    have e : 1 + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

theorem exp_neg_sp (x : ℝ) : Real.exp (-sp x) = (1 + Real.exp x)⁻¹ := by
  rw [sp_eq, Real.exp_neg, Real.exp_log (by positivity)]

theorem exp_sub_sp (x : ℝ) : Real.exp (x - sp x) = Real.exp (-sp (-x)) := by
  rw [exp_neg_sp, sub_eq_add_neg, Real.exp_add, exp_neg_sp, Real.exp_neg]
  have h := (Real.exp_pos x).ne'
  have h1 : (1 + Real.exp x) ≠ 0 := by positivity
  field_simp
  ring

theorem exp_sub_sp_neg (x : ℝ) : Real.exp (-x - sp (-x)) = 1 - Real.exp (-sp (-x)) := by
  rw [exp_sub_sp, neg_neg, exp_neg_sp, exp_neg_sp, Real.exp_neg]
  have h := (Real.exp_pos x).ne'
  have h1 : (1 + Real.exp x) ≠ 0 := by positivity
  field_simp
  ring

theorem exp_coe (r : ℝ) : Ideal.exp (r : EReal) = (Real.exp r : EReal) := rfl
theorem log1p_coe (r : ℝ) (h : 0 < 1 + r) : Ideal.log1p (r : EReal) = (Real.log (1 + r) : EReal) := by
  unfold Ideal.log1p
  rw [← EReal.coe_one, ← EReal.coe_add]
  show (if 1 + r ≤ 0 then ⊥ else (Real.log (1 + r) : EReal)) = _
  rw [if_neg (not_le.mpr h)]

theorem max_coe (a b : ℝ) : max (a : EReal) (b : EReal) = ((max a b : ℝ) : EReal) := (EReal.coe_strictMono.monotone.map_max).symm

variable {s : Shape}

/-- The program's text for it, at an index where its operand is a real number. -/
theorem sp_at (x Z : FVec Ideal s .f32) (i : s.Idx) (r : ℝ) (hx : x i = (r : EReal)) (hZ : Z i = 0) :
    select (cmpf .une (subf x Z) (subf x Z)) (addf x Z)
      (addf (maximumf x Z) (Host.log1p (Host.exp (Host.negf (Host.absf (subf x Z)))))) i = (sp r : EReal) := by
  show Scalar.select (Ideal.cmp .une (x i - Z i) (x i - Z i)) (x i + Z i)
    (max (x i) (Z i) + Ideal.log1p (Ideal.exp (-(max (x i - Z i) (-(x i - Z i)))))) = _
  have hc : Ideal.cmp .une (x i - Z i) (x i - Z i) = 0#1 := by simp [Ideal.cmp]
  rw [hc, select_zero, hx, hZ, sub_zero, ← EReal.coe_neg, max_coe, ← EReal.coe_neg, exp_coe, log1p_coe _ (by positivity), ← EReal.coe_zero, max_coe,
    ← EReal.coe_add]
  rfl

/-- The exponential of a difference of two real numbers, as the program guards it against infinities. -/
theorem guard_at (x y Z I : FVec Ideal s .f32) (i : s.Idx) (r q : ℝ) (hx : x i = (r : EReal)) (hy : y i = (q : EReal)) (hI : I i = ⊤) :
    Host.exp (subf (select (cmpf .oeq x I) Z x) (select (cmpf .oeq y I) Z y)) i = (Real.exp (r - q) : EReal) := by
  show Ideal.exp (Scalar.select (Ideal.cmp .oeq (x i) (I i)) (Z i) (x i) - Scalar.select (Ideal.cmp .oeq (y i) (I i)) (Z i) (y i)) = _
  have hc : ∀ a : ℝ, Ideal.cmp .oeq (a : EReal) ⊤ = 0#1 := fun a => by simp [Ideal.cmp]
  rw [hI, hx, hy, hc, hc, select_zero, select_zero, ← EReal.coe_sub, exp_coe]

/-- The column is before the row. -/
theorem mask_at (t s : ℕ) (ht : t < 4096) (hs : s < 4096) :
    IntOp.cmpi .slt (BitVec.ofNat 32 s) (BitVec.ofNat 32 t) = if s < t then 1#1 else 0#1 := by
  have h := StableHlo.Predicate.slt_ofNat_iff s t (by omega) (by omega)
  by_cases hst : s < t
  · rw [if_pos hst]; exact h.mpr hst
  · rw [if_neg hst]; exact eq_zero_of_ne_one fun hh => hst (h.mp hh)

end Scalars

end Cert.KernelIdeal.Sb
-- ==== Proof.TripVal.lean ====
module

public import proofs.«01_k».proof.Proof.Trip
import all proofs.«01_k».proof.Proof.Trip
public import proofs.«01_k».proof.Proof.Tile
public import Idealize.ShloMosaic.Lib.WritesUnit

/-!
What one trip of the kernel's loop leaves, as the arithmetic of a block for each of the four heads.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

section Any

variable {F : FTy → Type} [FloatOps F]

/-- A block of 256 rows and 128 columns of a buffer of 4096 rows. -/
abbrev ldB {sp : Space} {φ : EltTy} (v : View sig .tc sp S4096x512 φ) (off : Fin 2 → ℕ) (inb : ∀ a, off a + S256x128.size a ≤ S4096x512.size a)
    (f : v.ty.Contents (Elt F)) : S256x128.Idx → Elt F φ :=
  View.readAt (Elt F) v (Rect.unit (s := S4096x512) off S256x128.size inb).toLoadRect f

/-- The tile that the staging buffer holds at window `t` of slot `s`, as a matrix. -/
abbrev stT (c : Dev nD) (i : grid0.Coords) (XS : Buf (Elt F) (savedM.view.loc (c : Thread nD τ))) (s : Fin 2) (t : Fin 8) (j : Fin 16)
    (off : Fin 5 → ℕ) (inb : ∀ a, off a + S1x1x1x256x256.size a ≤ S2x4x2x256x256.size a) : FVec F S256x256 .bf16 :=
  cT (View.readAt (Elt F) stM.view (Rect.unit (s := S2x4x2x256x256) off S1x1x1x256x256.size inb).toLoadRect (landed c i XS s t j))

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g3 : Buf (Elt F) (arg3.view.loc (c : Thread nD τ))) (g4 : Buf (Elt F) (arg4.view.loc (c : Thread nD τ)))
  (arg0 arg1 : BitVec 32) (v3 v4 v5 v6 v7 v8 v9 v10 : Vec F S256x128 .bf16)

/-- The carried values and accumulators that a trip leaves, head by head. -/
theorem trip_eq (k : Fin (k0_t1_loop i).trips) (a17 : FVec F S256x128 .f32) (a18 : FVec F S256x1 .f32) (a19 : FVec F S256x128 .f32)
    (a20 : FVec F S256x1 .f32) (a21 : FVec F S256x128 .f32) (a22 : FVec F S256x1 .f32) (a23 : FVec F S256x128 .f32) (a24 : FVec F S256x1 .f32)
    (fk : Buf (Elt F) (dkM.view.loc (c : Thread nD τ))) (fv : Buf (Elt F) (dvM.view.loc (c : Thread nD τ))) :
    (tripRun c i XS arg2 harg2 arg3 harg3 arg4 harg4 arg5 harg5 g3 g4 arg0 arg1 v3 v4 v5 v6 v7 v8 v9 v10 k0_pay73 k
      ((a17, a18, a19, a20, a21, a22, a23, a24), fk, fv)).1 =
    (let s := Ring.sl 2 k.val
     let j := Ring.bk 16 k.val
     let A0 := stT c i XS s 0 j (k0_off29 i k) (k0_off29_inb i k)
     let A1 := stT c i XS s 2 j (k0_off30 i k) (k0_off30_inb i k)
     let A2 := stT c i XS s 4 j (k0_off31 i k) (k0_off31_inb i k)
     let A3 := stT c i XS s 6 j (k0_off32 i k) (k0_off32_inb i k)
     let g0 := gB v7 (ldB arg4.view (k0_off25 i k) (k0_off25_inb i k) g4) A0
     let g1 := gB v8 (ldB arg4.view (k0_off26 i k) (k0_off26_inb i k) g4) A1
     let g2 := gB v9 (ldB arg4.view (k0_off27 i k) (k0_off27_inb i k) g4) A2
     let g3' := gB v10 (ldB arg4.view (k0_off28 i k) (k0_off28_inb i k) g4) A3
     let z0 := dzL a18 g0 (stT c i XS s 1 j (k0_off33 i k) (k0_off33_inb i k))
     let z1 := dzL a20 g1 (stT c i XS s 3 j (k0_off34 i k) (k0_off34_inb i k))
     let z2 := dzL a22 g2 (stT c i XS s 5 j (k0_off35 i k) (k0_off35_inb i k))
     let z3 := dzL a24 g3' (stT c i XS s 7 j (k0_off36 i k) (k0_off36_inb i k))
     ((dqB a17 (ldB arg3.view (k0_off25 i k) (k0_off25_inb i k) g3) z0, cgB a18 g0,
       dqB a19 (ldB arg3.view (k0_off26 i k) (k0_off26_inb i k) g3) z1, cgB a20 g1,
       dqB a21 (ldB arg3.view (k0_off27 i k) (k0_off27_inb i k) g3) z2, cgB a22 g2,
       dqB a23 (ldB arg3.view (k0_off28 i k) (k0_off28_inb i k) g3) z3, cgB a24 g3'),
      dkM.view.writes (Elt F) fk
        [⟨Rect.unit (s := S4096x512) (k0_off28 i k) S256x128.size (k0_off28_inb i k), kvB v6 z3 (ldB dkM.view (k0_off28 i k) (k0_off28_inb i k) fk)⟩,
         ⟨Rect.unit (s := S4096x512) (k0_off27 i k) S256x128.size (k0_off27_inb i k), kvB v5 z2 (ldB dkM.view (k0_off27 i k) (k0_off27_inb i k) fk)⟩,
         ⟨Rect.unit (s := S4096x512) (k0_off26 i k) S256x128.size (k0_off26_inb i k), kvB v4 z1 (ldB dkM.view (k0_off26 i k) (k0_off26_inb i k) fk)⟩,
         ⟨Rect.unit (s := S4096x512) (k0_off25 i k) S256x128.size (k0_off25_inb i k), kvB v3 z0 (ldB dkM.view (k0_off25 i k) (k0_off25_inb i k) fk)⟩],
      dvM.view.writes (Elt F) fv
        [⟨Rect.unit (s := S4096x512) (k0_off28 i k) S256x128.size (k0_off28_inb i k), kvB v10 A3 (ldB dvM.view (k0_off28 i k) (k0_off28_inb i k) fv)⟩,
         ⟨Rect.unit (s := S4096x512) (k0_off27 i k) S256x128.size (k0_off27_inb i k), kvB v9 A2 (ldB dvM.view (k0_off27 i k) (k0_off27_inb i k) fv)⟩,
         ⟨Rect.unit (s := S4096x512) (k0_off26 i k) S256x128.size (k0_off26_inb i k), kvB v8 A1 (ldB dvM.view (k0_off26 i k) (k0_off26_inb i k) fv)⟩,
         ⟨Rect.unit (s := S4096x512) (k0_off25 i k) S256x128.size (k0_off25_inb i k), kvB v7 A0 (ldB dvM.view (k0_off25 i k) (k0_off25_inb i k) fv)⟩])) := rfl

end Any

end Cert.KernelIdeal.Sb
-- ==== Proof.Sums.lean ====
module

public import proofs.«01_k».proof.Proof.TripVal

/-!
The gradients as sums of real numbers, and what one trip adds to them. A row block's part of the queries' gradient
grows by a column block at a time, the keys' and values' gradients by a row block at a time.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

/-- The real inputs: queries, keys, values and the output's gradient by row and column, the weights and the stop
    probabilities by head, row and column. -/
structure Inp where
  q : ℕ → ℕ → ℝ
  k : ℕ → ℕ → ℝ
  v : ℕ → ℕ → ℝ
  o : ℕ → ℕ → ℝ
  a : ℕ → ℕ → ℕ → ℝ
  b : ℕ → ℕ → ℕ → ℝ

namespace Inp

variable (X : Inp)

/-- The weights times their gradient. -/
def G (h t s : ℕ) : ℝ := X.a h t s * ∑ d ∈ Finset.range 128, X.o t (128 * h + d) * X.v s (128 * h + d)
/-- The gradient of the scores. -/
def Z (h t s : ℕ) : ℝ := if s < t then (X.G h t s - (X.G h t s + ∑ s' ∈ Finset.range s, X.G h t s') * X.b h t s) * kap else 0
/-- The queries' gradient from the first `S` columns. -/
def DQ (S t c : ℕ) : ℝ := ∑ s ∈ Finset.range S, X.Z (c / 128) t s * X.k s c
/-- The keys' gradient from the first `T` rows. -/
def DK (T s c : ℕ) : ℝ := ∑ t ∈ Finset.range T, X.Z (c / 128) t s * X.q t c
/-- The values' gradient from the first `T` rows. -/
def DV (T s c : ℕ) : ℝ := ∑ t ∈ Finset.range T, X.a (c / 128) t s * X.o t c

theorem head_col (h d : ℕ) (hd : d < 128) : (128 * h + d) / 128 = h := by omega

end Inp

/-- The blocks that one head of a trip works on hold the inputs' row block `i`, column block `j`, head `h`. -/
structure Blocks (X : Inp) (h i j : ℕ) (Q D K V : FVec Ideal S256x128 .bf16) (A B : FVec Ideal S256x256 .bf16) : Prop where
  hQ : Holds (m := 256) (n := 128) Q (fun r d => X.q (256 * i + r) (128 * h + d))
  hD : Holds (m := 256) (n := 128) D (fun r d => X.o (256 * i + r) (128 * h + d))
  hK : Holds (m := 256) (n := 128) K (fun r d => X.k (256 * j + r) (128 * h + d))
  hV : Holds (m := 256) (n := 128) V (fun r d => X.v (256 * j + r) (128 * h + d))
  hA : Holds (m := 256) (n := 256) A (fun r s => X.a h (256 * i + r) (256 * j + s))
  hB : Holds (m := 256) (n := 256) B (fun r s => X.b h (256 * i + r) (256 * j + s))

/-- The carried values of head `h` before column block `j`. -/
structure Carried (X : Inp) (h i j : ℕ) (dq : FVec Ideal S256x128 .f32) (cg : FVec Ideal S256x1 .f32) : Prop where
  hq : Holds (m := 256) (n := 128) dq (fun r d => X.DQ (256 * j) (256 * i + r) (128 * h + d))
  hc : Holds (m := 256) (n := 1) cg (fun r _ => ∑ s ∈ Finset.range (256 * j), X.G h (256 * i + r) s)

section Head

variable {X : Inp} {h i j : ℕ} {Q D K V : FVec Ideal S256x128 .bf16} {A B : FVec Ideal S256x256 .bf16}
  {dq : FVec Ideal S256x128 .f32} {cg : FVec Ideal S256x1 .f32}

theorem g_holds (hb : Blocks X h i j Q D K V A B) :
    Holds (m := 256) (n := 256) (gB D V A) (fun r s => X.G h (256 * i + r) (256 * j + s)) :=
  gB_holds hb.hD hb.hV hb.hA

theorem sum_block (f : ℕ → ℝ) (j c : ℕ) :
    ∑ s ∈ Finset.range c, f (256 * j + s) + ∑ s ∈ Finset.range (256 * j), f s = ∑ s ∈ Finset.range (256 * j + c), f s := by
  rw [Finset.sum_range_add, add_comm]

theorem sum_next (f : ℕ → ℝ) (j : ℕ) :
    ∑ s ∈ Finset.range (256 * j), f s + ∑ s ∈ Finset.range 256, f (256 * j + s) = ∑ s ∈ Finset.range (256 * (j + 1)), f s := by
  rw [Nat.mul_add, Finset.sum_range_add]

/-- The gradient of the scores of a block left of the diagonal. -/
theorem zL_holds (hb : Blocks X h i j Q D K V A B) (hc : Carried X h i j dq cg) (hj : j < i) :
    Holds (m := 256) (n := 256) (dzL cg (gB D V A) B) (fun r s => X.Z h (256 * i + r) (256 * j + s)) :=
  (dzL_holds hc.hc (g_holds hb) hb.hB).congr fun r s hr hs => by
    rw [sum_block (X.G h (256 * i + r)) j s, Inp.Z, if_pos (by omega)]

/-- The gradient of the scores of the diagonal block. -/
theorem zD_holds (hb : Blocks X h i i Q D K V A B) (hc : Carried X h i i dq cg) :
    Holds (m := 256) (n := 256) (dzD cg (gB D V A) B) (fun r s => X.Z h (256 * i + r) (256 * i + s)) :=
  (dzD_holds hc.hc (g_holds hb) hb.hB).congr fun r s hr hs => by
    rw [sum_block (X.G h (256 * i + r)) i s, Inp.Z]
    by_cases hh : s < r
    · rw [if_pos hh, if_pos (by omega)]
    · rw [if_neg hh, if_neg (by omega)]

theorem dq_holds (hb : Blocks X h i j Q D K V A B) (hc : Carried X h i j dq cg) {z : FVec Ideal S256x256 .bf16}
    (hz : Holds (m := 256) (n := 256) z (fun r s => X.Z h (256 * i + r) (256 * j + s))) :
    Holds (m := 256) (n := 128) (dqB dq K z) (fun r d => X.DQ (256 * (j + 1)) (256 * i + r) (128 * h + d)) :=
  (dqB_holds hc.hq hb.hK hz).congr fun r d hr hd => by
    dsimp only [Inp.DQ]
    rw [Inp.head_col h d hd]
    exact sum_next (fun s => X.Z h (256 * i + r) s * X.k s (128 * h + d)) j

theorem carried_next (hb : Blocks X h i j Q D K V A B) (hc : Carried X h i j dq cg) (hj : j < i) :
    Carried X h i (j + 1) (dqB dq K (dzL cg (gB D V A) B)) (cgB cg (gB D V A)) where
  hq := dq_holds hb hc (zL_holds hb hc hj)
  hc := (cgB_holds hc.hc (g_holds hb)).congr fun r s hr hs => sum_next (X.G h (256 * i + r)) j

theorem dk_holds (hb : Blocks X h i j Q D K V A B) {z : FVec Ideal S256x256 .bf16} {old : FVec Ideal S256x128 .f32}
    (hz : Holds (m := 256) (n := 256) z (fun r s => X.Z h (256 * i + r) (256 * j + s)))
    (ho : Holds (m := 256) (n := 128) old (fun r d => X.DK (256 * i) (256 * j + r) (128 * h + d))) :
    Holds (m := 256) (n := 128) (kvB Q z old) (fun r d => X.DK (256 * (i + 1)) (256 * j + r) (128 * h + d)) :=
  (kvB_holds hb.hQ hz ho).congr fun r d hr hd => by
    dsimp only [Inp.DK]
    rw [Inp.head_col h d hd]
    exact sum_next (fun t => X.Z h t (256 * j + r) * X.q t (128 * h + d)) i

theorem dv_holds (hb : Blocks X h i j Q D K V A B) {old : FVec Ideal S256x128 .f32}
    (ho : Holds (m := 256) (n := 128) old (fun r d => X.DV (256 * i) (256 * j + r) (128 * h + d))) :
    Holds (m := 256) (n := 128) (kvB D A old) (fun r d => X.DV (256 * (i + 1)) (256 * j + r) (128 * h + d)) :=
  (kvB_holds hb.hD hb.hA ho).congr fun r d hr hd => by
    dsimp only [Inp.DV]
    rw [Inp.head_col h d hd]
    exact sum_next (fun t => X.a h t (256 * j + r) * X.o t (128 * h + d)) i

end Head

/-! ## Reading and writing the buffers of four heads -/

/-- A head's block of a buffer of four heads at a row and a column. -/
theorem ldB_apply {F : FTy → Type} [FloatOps F] {sp : Space} {φ : EltTy} (v : View sig .tc sp S4096x512 φ) (off : Fin 2 → ℕ) (inb) (f : v.ty.Contents (Elt F))
    (n : Fin 16) (p : Fin 4) (e : off = kvOff n p) (r : Fin 256) (d : Fin 128) :
    ldB v off inb f (ix2 r d) = View.read (Elt F) v f (ix2 (⟨256 * n.val + r.val, by omega⟩ : Fin 4096) (⟨128 * p.val + d.val, by omega⟩ : Fin 512)) := by
  subst e
  refine congrArg (View.read (Elt F) v f) ?_
  funext a; apply Fin.ext
  match a with
  | ⟨0, _⟩ => show 256 * n.val + 1 * r.val = 256 * n.val + r.val; omega
  | ⟨1, _⟩ => show 128 * p.val + 1 * d.val = 128 * p.val + d.val; omega

/-- A head's block of a buffer of four heads holds the buffer's rows and columns. -/
theorem ldB_holds {sp : Space} (v : View sig .tc sp S4096x512 .bf16) (off : Fin 2 → ℕ) (inb) (f : v.ty.Contents (Elt Ideal))
    (n : Fin 16) (p : Fin 4) (e : off = kvOff n p) {x : ℕ → ℕ → ℝ}
    (hx : Holds (m := 4096) (n := 512) (View.read (Elt Ideal) v f) x) :
    Holds (m := 256) (n := 128) (ldB (F := Ideal) v off inb f) (fun r d => x (256 * n.val + r) (128 * p.val + d)) :=
  fun r d => (ldB_apply (F := Ideal) v off inb f n p e r d).trans (hx _ _)
theorem ldB_holds32 {sp : Space} (v : View sig .tc sp S4096x512 .f32) (off : Fin 2 → ℕ) (inb) (f : v.ty.Contents (Elt Ideal))
    (n : Fin 16) (p : Fin 4) (e : off = kvOff n p) {x : ℕ → ℕ → ℝ}
    (hx : Holds (m := 4096) (n := 512) (View.read (Elt Ideal) v f) x) :
    Holds (m := 256) (n := 128) (ldB (F := Ideal) v off inb f) (fun r d => x (256 * n.val + r) (128 * p.val + d)) :=
  fun r d => (ldB_apply (F := Ideal) v off inb f n p e r d).trans (hx _ _)

/-- Four heads' blocks of rows `256 n …` written into a buffer. -/
theorem writes_holds {sp : Space} (v : View sig .tc sp S4096x512 .f32) (f : v.ty.Contents (Elt Ideal)) (n : Fin 16)
    (o0 o1 o2 o3 : Fin 2 → ℕ) (i0 i1 i2 i3) (e0 : o0 = kvOff n 0) (e1 : o1 = kvOff n 1) (e2 : o2 = kvOff n 2) (e3 : o3 = kvOff n 3)
    (w0 w1 w2 w3 : FVec Ideal S256x128 .f32) {x y : ℕ → ℕ → ℝ}
    (hx : Holds (m := 4096) (n := 512) (View.read (Elt Ideal) v f) x)
    (h0 : Holds (m := 256) (n := 128) w0 (fun r d => y (256 * n.val + r) d))
    (h1 : Holds (m := 256) (n := 128) w1 (fun r d => y (256 * n.val + r) (128 + d)))
    (h2 : Holds (m := 256) (n := 128) w2 (fun r d => y (256 * n.val + r) (256 + d)))
    (h3 : Holds (m := 256) (n := 128) w3 (fun r d => y (256 * n.val + r) (384 + d))) :
    Holds (m := 4096) (n := 512) (View.read (Elt Ideal) v (v.writes (Elt Ideal) f
        [⟨Rect.unit (s := S4096x512) o3 S256x128.size i3, w3⟩, ⟨Rect.unit (s := S4096x512) o2 S256x128.size i2, w2⟩,
         ⟨Rect.unit (s := S4096x512) o1 S256x128.size i1, w1⟩, ⟨Rect.unit (s := S4096x512) o0 S256x128.size i0, w0⟩]))
      (fun s c => if s / 256 = n.val then y s c else x s c) := by
  intro s c
  have hs := s.isLt
  have hc := c.isLt
  dsimp only
  by_cases hn : s.val / 256 = n.val
  · rw [if_pos hn]
    have hr : s.val = 256 * n.val + (s.val - 256 * n.val) := by omega
    have hr' : s.val - 256 * n.val < 256 := by omega
    by_cases c3 : 384 ≤ c.val
    · refine (View.read_writes_cons_unit_of_mem v f i3 w3 _ (ix2 s c) (ix2 ⟨s.val - 256 * n.val, hr'⟩ ⟨c.val - 384, by omega⟩) e3
        (Fin.forall_fin_two.mpr ⟨hr, by show c.val = 128 * 3 + (c.val - 384); omega⟩)).trans ((h3 _ _).trans ?_)
      show ((y (256 * n.val + (s.val - 256 * n.val)) (384 + (c.val - 384)) : ℝ) : EReal) = _
      rw [← hr, Nat.add_sub_cancel' c3]
    rw [View.read_writes_cons_unit_of_not_mem v f i3 w3 _ (ix2 s c) e3 1 (Or.inl (by show c.val < 128 * 3; omega))]
    by_cases c2 : 256 ≤ c.val
    · refine (View.read_writes_cons_unit_of_mem v f i2 w2 _ (ix2 s c) (ix2 ⟨s.val - 256 * n.val, hr'⟩ ⟨c.val - 256, by omega⟩) e2
        (Fin.forall_fin_two.mpr ⟨hr, by show c.val = 128 * 2 + (c.val - 256); omega⟩)).trans ((h2 _ _).trans ?_)
      show ((y (256 * n.val + (s.val - 256 * n.val)) (256 + (c.val - 256)) : ℝ) : EReal) = _
      rw [← hr, Nat.add_sub_cancel' c2]
    rw [View.read_writes_cons_unit_of_not_mem v f i2 w2 _ (ix2 s c) e2 1 (Or.inl (by show c.val < 128 * 2; omega))]
    by_cases c1 : 128 ≤ c.val
    · refine (View.read_writes_cons_unit_of_mem v f i1 w1 _ (ix2 s c) (ix2 ⟨s.val - 256 * n.val, hr'⟩ ⟨c.val - 128, by omega⟩) e1
        (Fin.forall_fin_two.mpr ⟨hr, by show c.val = 128 * 1 + (c.val - 128); omega⟩)).trans ((h1 _ _).trans ?_)
      show ((y (256 * n.val + (s.val - 256 * n.val)) (128 + (c.val - 128)) : ℝ) : EReal) = _
      rw [← hr, Nat.add_sub_cancel' c1]
    rw [View.read_writes_cons_unit_of_not_mem v f i1 w1 _ (ix2 s c) e1 1 (Or.inl (by show c.val < 128 * 1; omega))]
    refine (View.read_writes_cons_unit_of_mem v f i0 w0 _ (ix2 s c) (ix2 ⟨s.val - 256 * n.val, hr'⟩ ⟨c.val, by omega⟩) e0
      (Fin.forall_fin_two.mpr ⟨hr, by show c.val = 128 * 0 + c.val; omega⟩)).trans ((h0 _ _).trans ?_)
    show ((y (256 * n.val + (s.val - 256 * n.val)) c.val : ℝ) : EReal) = _
    rw [← hr]
  · rw [if_neg hn]
    have hr : s.val < 256 * n.val ∨ 256 * n.val + 256 ≤ s.val := by omega
    rw [View.read_writes_cons_unit_of_not_mem v f i3 w3 _ (ix2 s c) e3 0 hr,
      View.read_writes_cons_unit_of_not_mem v f i2 w2 _ (ix2 s c) e2 0 hr,
      View.read_writes_cons_unit_of_not_mem v f i1 w1 _ (ix2 s c) e1 0 hr,
      View.read_writes_cons_unit_of_not_mem v f i0 w0 _ (ix2 s c) e0 0 hr]
    exact hx s c

/-! ## The tiles -/

/-- A staged tile holds the saved arrays' values at its row block, column block and head. -/
theorem stT_holds (c : Dev nD) (i : grid0.Coords) (XS : Buf (Elt Ideal) (savedM.view.loc (c : Thread nD τ))) (s : Fin 2) (t : Fin 8)
    (j : Fin 16) (off : Fin 5 → ℕ) (inb) (e : off = stOff s t) {x : ℕ → ℕ → ℝ}
    (hx : ∀ (r u : Fin 256), View.read (Elt Ideal) savedM.view XS (ix4 (⟨t.val % 2, by omega⟩ : Fin 2)
        (⟨4 * (i 0).val + t.val / 2, by have h : (i 0).val < 2 := (i 0).isLt; omega⟩ : Fin 8)
        (⟨256 * (i 1).val + r.val, by have h : (i 1).val < 16 := (i 1).isLt; omega⟩ : Fin 4096)
        (⟨256 * j.val + u.val, by omega⟩ : Fin 4096)) = (x r.val u.val : EReal)) :
    Holds (m := 256) (n := 256) (stT c i XS s t j off inb) x := by
  intro r u
  subst e
  have h1 : stT c i XS s t j (stOff s t) inb = View.read (Elt Ideal) (rslot s t).view (landed c i XS s t j) := rfl
  rw [h1, View.read_writes_whole]
  refine Eq.trans ?_ (hx r u)
  have h2 : ∀ y, View.read (Elt Ideal) (tile i t j).view XS y
      = View.read (Elt Ideal) savedM.view XS ((Rect.unit (s := S2x8x4096x4096) (tlOff i t j) S1x1x256x256.size (tlOff_inb i t j)).emb
          (Shape.reshapeEquiv (squeezes_S1x1x256x256_S256x256.numel_eq) y)) := fun _ => rfl
  refine (h2 _).trans (congrArg _ ?_)
  rw [reshapeEquiv_ix2_11ab]
  funext a; apply Fin.ext
  match a with
  | ⟨0, _⟩ => show t.val % 2 + 1 * 0 = t.val % 2; omega
  | ⟨1, _⟩ => show 4 * (i 0).val + t.val / 2 + 1 * 0 = 4 * (i 0).val + t.val / 2; omega
  | ⟨2, _⟩ => show 256 * (i 1).val + 1 * r.val = 256 * (i 1).val + r.val; omega
  | ⟨3, _⟩ => show 256 * j.val + 1 * u.val = 256 * j.val + u.val; omega

end Cert.KernelIdeal.Sb
-- ==== Proof.Stages.lean ====
module

public import proofs.«01_k».proof.Proof.HostOps
public import proofs.«01_k».proof.Proof.Sums

/-!
The weights and the gradients as functions of the inputs, over the reals, and the host's operations on arrays that hold
real numbers.
-/

@[expose] public section

set_option maxRecDepth 16384

noncomputable section

namespace Cert.KernelIdeal.Sb

open Idealize.ShloMosaic Idealize.ShloMosaic.ValueIdx
open scoped BigOperators

/-! ## Over the reals -/

/-- The scores. -/
def zf (q k : ℕ → ℕ → ℝ) (h t s : ℕ) : ℝ := (∑ d ∈ Finset.range 128, q t (128 * h + d) * k s (128 * h + d)) * kap
/-- The logarithm of the probability of not stopping at a column before the row. -/
def lf (z : ℕ → ℕ → ℕ → ℝ) (h t s : ℕ) : ℝ := if s < t then -sp (z h t s) else 0
/-- The weight of a column before the row. -/
def wf (z : ℕ → ℕ → ℕ → ℝ) (h t s : ℕ) : ℝ :=
  Real.exp (-sp (-z h t s) + (∑ s' ∈ Finset.range 4096, lf z h t s' - ∑ s' ∈ Finset.range (s + 1), lf z h t s'))

/-- The inputs with the weights and the stop probabilities computed from them. -/
def inp (q k v o : ℕ → ℕ → ℝ) : Inp where
  q := q
  k := k
  v := v
  o := o
  a h t s := if s < t then wf (zf q k) h t s else 0
  b h t s := Real.exp (-sp (-zf q k h t s))

theorem inp_future (q k v o : ℕ → ℕ → ℝ) (h t s : ℕ) (hs : t < s) : (inp q k v o).a h t s = 0 := if_neg (by omega)

theorem inp_G (q k v o : ℕ → ℕ → ℝ) (h t s : ℕ) :
    (if s < t then ∑ d ∈ Finset.range 128, o t (128 * h + d) * v s (128 * h + d) else 0) * wf (zf q k) h t s = (inp q k v o).G h t s := by
  unfold Inp.G inp
  by_cases hs : s < t
  · simp only [if_pos hs]; exact mul_comm _ _
  · simp only [if_neg hs, zero_mul]

theorem inp_Z (q k v o : ℕ → ℕ → ℝ) (h t s : ℕ) :
    (-(-(inp q k v o).G h t s * Real.exp (-zf q k h t s - sp (-zf q k h t s)))
      + -(-(-(if s < t then (∑ c ∈ Finset.range 4096, -(inp q k v o).G h t c - ∑ c ∈ Finset.range s, -(inp q k v o).G h t c)
            + ∑ c ∈ Finset.range 4096, (inp q k v o).G h t c else 0) * Real.exp (zf q k h t s - sp (zf q k h t s))))) * kap
      = (inp q k v o).Z h t s := by
  rw [exp_sub_sp_neg, exp_sub_sp]
  have hb : (inp q k v o).b h t s = Real.exp (-sp (-zf q k h t s)) := rfl
  unfold Inp.Z
  rw [hb]
  by_cases hs : s < t
  · rw [if_pos hs, if_pos hs, Finset.sum_neg_distrib, Finset.sum_neg_distrib]; ring
  · have hG : (inp q k v o).G h t s = 0 := by
      rw [← inp_G, if_neg hs, zero_mul]
    rw [if_neg hs, if_neg hs, hG]; ring

/-- The inputs of two arrays of real numbers: the queries, keys and values side by side, and the output's gradient. -/
def inpOf (x o : ℕ → ℕ → ℝ) : Inp := inp x (fun t c => x t (1024 + c)) (fun t c => x t (2048 + c)) o

/-- Their scores. -/
def scores (x : ℕ → ℕ → ℝ) : ℕ → ℕ → ℕ → ℝ := zf x (fun t c => x t (1024 + c))

/-! ## Arrays that hold real numbers -/

/-- The real numbers of an array. -/
def real2 {m n : ℕ} (x : (⟨2, ![m, n]⟩ : Shape).Idx → EReal) (r c : ℕ) : ℝ :=
  if h : r < m ∧ c < n then (x (ix2 ⟨r, h.1⟩ ⟨c, h.2⟩)).toReal else 0

theorem real2_holds {m n : ℕ} (x : (⟨2, ![m, n]⟩ : Shape).Idx → EReal) (hx : ∀ i, ∃ r : ℝ, x i = (r : EReal)) : Holds x (real2 x) := by
  intro r c
  unfold real2
  rw [dif_pos ⟨r.isLt, c.isLt⟩]
  obtain ⟨y, hy⟩ := hx (ix2 r c)
  show x (ix2 r c) = ((x (ix2 r c)).toReal : EReal)
  rw [hy, EReal.toReal_coe]

section Ops

variable {g m n : ℕ} {x y : FVec Ideal ⟨3, ![g, m, n]⟩ .f32} {f f' : ℕ → ℕ → ℕ → ℝ}

theorem neg_holds (hx : Holds3 x f) : Holds3 (Host.negf x) (fun h t s => -f h t s) := fun h t s =>
  (congrArg Neg.neg (hx h t s)).trans (EReal.coe_neg _).symm
theorem mul_holds (hx : Holds3 x f) (hy : Holds3 y f') : Holds3 (mulf x y) (fun h t s => f h t s * f' h t s) := fun h t s =>
  (congrArg₂ (· * ·) (hx h t s) (hy h t s)).trans (EReal.coe_mul _ _).symm
theorem add_holds (hx : Holds3 x f) (hy : Holds3 y f') : Holds3 (addf x y) (fun h t s => f h t s + f' h t s) := fun h t s =>
  (congrArg₂ (· + ·) (hx h t s) (hy h t s)).trans (EReal.coe_add _ _).symm
theorem sub_holds (hx : Holds3 x f) (hy : Holds3 y f') : Holds3 (subf x y) (fun h t s => f h t s - f' h t s) := fun h t s =>
  (congrArg₂ (· - ·) (hx h t s) (hy h t s)).trans (EReal.coe_sub _ _).symm
theorem exp_holds (hx : Holds3 x f) : Holds3 (Host.exp x) (fun h t s => Real.exp (f h t s)) := fun h t s =>
  (congrArg Ideal.exp (hx h t s)).trans (exp_coe _)

theorem sp_holds (hx : Holds3 x f) (Z : FVec Ideal ⟨3, ![g, m, n]⟩ .f32) (hZ : ∀ i, Z i = 0) :
    Holds3 (select (cmpf .une (subf x Z) (subf x Z)) (addf x Z)
      (addf (maximumf x Z) (Host.log1p (Host.exp (Host.negf (Host.absf (subf x Z))))))) (fun h t s => sp (f h t s)) :=
  fun h t s => sp_at x Z _ _ (hx h t s) (hZ _)

theorem guard_holds (hx : Holds3 x f) (hy : Holds3 y f') (Z I : FVec Ideal ⟨3, ![g, m, n]⟩ .f32) (hI : ∀ i, I i = ⊤) :
    Holds3 (Host.exp (subf (select (cmpf .oeq x I) Z x) (select (cmpf .oeq y I) Z y))) (fun h t s => Real.exp (f h t s - f' h t s)) :=
  fun h t s => guard_at x y Z I _ _ _ (hx h t s) (hy h t s) (hI _)

/-- The mask of the columns before the row. -/
def Mask (M : IVec ⟨3, ![g, m, n]⟩ 1) : Prop :=
  ∀ (h : Fin g) (t : Fin m) (s : Fin n), M (ix3 h t s) = if s.val < t.val then 1#1 else 0#1

theorem sel_holds {M : IVec ⟨3, ![g, m, n]⟩ 1} (hM : Mask M) (hx : Holds3 x f) (Z : FVec Ideal ⟨3, ![g, m, n]⟩ .f32) (hZ : ∀ i, Z i = 0) :
    Holds3 (select M x Z) (fun h t s => if s < t then f h t s else 0) := by
  intro h t s
  show Scalar.select (M (ix3 h t s)) (x (ix3 h t s)) (Z (ix3 h t s)) = _
  rw [hM h t s, hx h t s, hZ]
  by_cases hs : s.val < t.val
  · simp only [if_pos hs]; exact select_one _ _
  · simp only [if_neg hs]; exact (select_zero _ _).trans EReal.coe_zero.symm

theorem zeros (s : Shape) (w) (i : s.Idx) :
    broadcastInDim s ![] w (constant (F := Ideal) (⟨0, ![]⟩ : Shape) .f32 0x00000000#32) i = 0 :=
  (broadcastInDim_scalar_apply _ _ _).trans zero32
theorem zero_init (w) (i : (⟨0, ![]⟩ : Shape).Idx) :
    broadcastInDim (⟨0, ![]⟩ : Shape) ![] w (constant (F := Ideal) (⟨0, ![]⟩ : Shape) .f32 0x00000000#32) i = 0 := zeros _ w i
theorem infs (s : Shape) (w) (i : s.Idx) :
    broadcastInDim s ![] w (constant (F := Ideal) (⟨0, ![]⟩ : Shape) .f32 0x7F800000#32) i = ⊤ :=
  (broadcastInDim_scalar_apply _ _ _).trans inf32

theorem scale_holds (hx : Holds3 x f) (w) :
    Holds3 (mulf x (broadcastInDim ⟨3, ![g, m, n]⟩ ![] w (constant (F := Ideal) (⟨0, ![]⟩ : Shape) .f32 0x3DB504F3#32))) (fun h t s => f h t s * kap) :=
  mul_holds hx fun h t s => (broadcastInDim_scalar_apply _ _ _).trans kap_coe

end Ops

section Shapes

theorem slt_at {s : Shape} (x y : IVec s 32) (i : s.Idx) (a b : BitVec 32) (hx : x i = a) (hy : y i = b) :
    cmpi .slt x y i = IntOp.cmpi .slt a b := congrArg₂ (IntOp.cmpi .slt) hx hy

/-- The columns' numbers. -/
theorem cols_at (w1 w2) (t s : Fin 4096) :
    broadcastInDim (⟨2, ![4096, 4096]⟩ : Shape) ![0, 1] w2 (broadcastInDim (⟨2, ![1, 4096]⟩ : Shape) ![1] w1 (iotaInDim (⟨1, ![4096]⟩ : Shape) 32 0)) (ix2 t s)
      = BitVec.ofNat 32 s.val := by
  rw [broadcastInDim_apply ![0, 1] w2 _ (ix2 t s) (ix2 (0 : Fin 1) s) (fun a => by
      match a with
      | ⟨0, _⟩ => rfl
      | ⟨1, _⟩ => rfl),
    broadcastInDim_apply ![1] w1 _ (ix2 (0 : Fin 1) s) (ix1 s) (fun a => by
      match a with
      | ⟨0, _⟩ => rfl), iotaInDim_apply]

/-- The rows' numbers. -/
theorem rows_at (w3 w4) (t s : Fin 4096) :
    broadcastInDim (⟨2, ![4096, 4096]⟩ : Shape) ![0, 1] w4 (broadcastInDim (⟨2, ![4096, 1]⟩ : Shape) ![0] w3 (iotaInDim (⟨1, ![4096]⟩ : Shape) 32 0)) (ix2 t s)
      = BitVec.ofNat 32 t.val := by
  rw [broadcastInDim_apply ![0, 1] w4 _ (ix2 t s) (ix2 t (0 : Fin 1)) (fun a => by
      match a with
      | ⟨0, _⟩ => rfl
      | ⟨1, _⟩ => rfl),
    broadcastInDim_apply ![0] w3 _ (ix2 t (0 : Fin 1)) (ix1 t) (fun a => by
      match a with
      | ⟨0, _⟩ => rfl), iotaInDim_apply]

/-- The mask, as the program computes it. -/
theorem mask_holds (w1 w2 w3 w4 w5) :
    Mask (g := 8) (m := 4096) (n := 4096) (broadcastInDim ⟨3, ![8, 4096, 4096]⟩ ![1, 2] w5
      (cmpi .slt (broadcastInDim (⟨2, ![4096, 4096]⟩ : Shape) ![0, 1] w2 (broadcastInDim (⟨2, ![1, 4096]⟩ : Shape) ![1] w1 (iotaInDim (⟨1, ![4096]⟩ : Shape) 32 0)))
        (broadcastInDim (⟨2, ![4096, 4096]⟩ : Shape) ![0, 1] w4 (broadcastInDim (⟨2, ![4096, 1]⟩ : Shape) ![0] w3 (iotaInDim (⟨1, ![4096]⟩ : Shape) 32 0))))) := by
  intro h t s
  refine (broadcastInDim_apply ![1, 2] w5 _ (ix3 h t s) (ix2 t s) (fun a => by
    match a with
    | ⟨0, _⟩ => rfl
    | ⟨1, _⟩ => rfl)).trans ?_
  exact (slt_at _ _ _ _ _ (cols_at w1 w2 t s) (rows_at w3 w4 t s)).trans (mask_at t.val s.val t.isLt s.isLt)

theorem spread_holds {y : FVec Ideal ⟨2, ![8, 4096]⟩ .f32} {f : ℕ → ℕ → ℝ} (hy : Holds (m := 8) (n := 4096) y f) (w) :
    Holds3 (g := 8) (m := 4096) (n := 4096) (broadcastInDim ⟨3, ![8, 4096, 4096]⟩ ![0, 1] w y) (fun h t _ => f h t) := fun h t s =>
  (broadcastInDim_apply ![0, 1] w y (ix3 h t s) (ix2 h t) (fun a => by
    match a with
    | ⟨0, _⟩ => rfl
    | ⟨1, _⟩ => rfl)).trans (hy h t)

theorem rows1_holds {y : FVec Ideal ⟨2, ![8, 4096]⟩ .f32} {f : ℕ → ℕ → ℝ} (hy : Holds (m := 8) (n := 4096) y f) (w w') :
    Holds3 (g := 8) (m := 4096) (n := 4096) (broadcastInDim ⟨3, ![8, 4096, 4096]⟩ ![0, 1, 2] w (broadcastInDim ⟨3, ![8, 4096, 1]⟩ ![0, 1] w' y))
      (fun h t _ => f h t) := fun h t s =>
  (broadcastInDim_apply ![0, 1, 2] w _ (ix3 h t s) (ix3 h t (0 : Fin 1)) (fun a => by
    match a with
    | ⟨0, _⟩ => rfl
    | ⟨1, _⟩ => rfl
    | ⟨2, _⟩ => rfl)).trans ((broadcastInDim_apply ![0, 1] w' y (ix3 h t (0 : Fin 1)) (ix2 h t) (fun a => by
    match a with
    | ⟨0, _⟩ => rfl
    | ⟨1, _⟩ => rfl)).trans (hy h t))

theorem keep_holds {y : FVec Ideal ⟨2, ![8, 4096]⟩ .f32} {f : ℕ → ℕ → ℝ} (hy : Holds (m := 8) (n := 4096) y f) (hc) (init : (⟨0, ![]⟩ : Shape).Idx → EReal)
    (w : Shape.ReducesTo ⟨3, ![8, 4096, 1]⟩ [2] ⟨2, ![8, 4096]⟩) (hu : 0 < (⟨0, ![]⟩ : Shape).numel) (h0 : ∀ j, init j = 0) :
    Holds (m := 8) (n := 4096) (Host.reduceAdd (F := Ideal) (φ := .f32) (shapeCast ⟨3, ![8, 4096, 1]⟩ y hc) init w hu) f := by
  refine (total_holds (g := 8) (m := 4096) (n := 1) (f := fun h t _ => f h t) (fun h t s => ?_) init w (by decide) hu h0).congr
    fun h t _ _ => by rw [Finset.sum_range_one]
  refine (shapeCast_apply y hc _ (ix2 h t) ?_).trans (hy h t)
  rw [Shape.rowMajor_val_two, Shape.rowMajor_val_three]
  show h.val * 4096 + t.val = (h.val * 4096 + t.val) * 1 + s.val
  omega

end Shapes

end Cert.KernelIdeal.Sb

end
-- ==== Proof.RefVal.lean ====
module

public import proofs.«01_k».proof.Proof.Stages
public import proofs.«01_k».proof.Proof.Gen.ReferenceIdeal.Run

/-!
The reference's intermediate arrays and gradients, over the reals, when its inputs are real numbers.
-/

@[expose] public section

set_option maxRecDepth 16384

noncomputable section

namespace Cert.RefVal

open Cert.KernelIdeal.Sb Cert.ReferenceIdeal Cert.ReferenceIdeal.Gen Cert.ReferenceIdeal.Value
open Idealize.ShloMosaic Idealize.ShloMosaic.TcCoe Idealize.ShloMosaic.ValueIdx Idealize.ShloMosaic.StableHlo
open scoped BigOperators

variable {x o : ℕ → ℕ → ℝ} (L : Valuation τ sig (Elt Ideal))

section Ref

variable (hx : Holds (m := 4096) (n := 3072) (L (Proc.devRef .tc main_arg0)) x)
  (ho : Holds (m := 4096) (n := 1024) (L (Proc.devRef .tc main_arg1)) o)

include hx in
theorem ref_v5 : Holds3 (g := 8) (m := 4096) (n := 128) (res_main_v5 L) (fun h t d => x t (128 * h + d)) := by
  unfold res_main_v5
  exact (heads_holds (cut_holds (n := 3072) hx 0 _ (by omega)) _ _).congr fun h t d _ _ _ => by rw [zero_add]
include hx in
theorem ref_v7 : Holds3 (g := 8) (m := 4096) (n := 128) (res_main_v7 L) (fun h t d => x t (1024 + (128 * h + d))) := by
  unfold res_main_v7
  exact heads_holds (cut_holds (n := 3072) hx 1024 _ (by omega)) _ _
include hx in
theorem ref_v9 : Holds3 (g := 8) (m := 4096) (n := 128) (res_main_v9 L) (fun h t d => x t (2048 + (128 * h + d))) := by
  unfold res_main_v9
  exact heads_holds (cut_holds (n := 3072) hx 2048 _ (by omega)) _ _
include ho in
theorem ref_v36 : Holds3 (g := 8) (m := 4096) (n := 128) (res_main_v36 L) (fun h t d => o t (128 * h + d)) := by
  unfold res_main_v36
  exact heads_holds ho _ _

include hx in
theorem ref_v12 : Holds3 (g := 8) (m := 4096) (n := 4096) (res_main_v12 L) (scores x) := by
  unfold res_main_v12
  exact scale_holds (dot_22_holds _ (ref_v5 L hx) (ref_v7 L hx)) _

include hx in
theorem ref_call0_v0 : Holds3 (g := 8) (m := 4096) (n := 4096) (res_main_call0_v0 L) (scores x) := by
  unfold res_main_call0_v0
  exact (neg_holds (neg_holds (ref_v12 L hx))).congr fun h t s _ _ _ => neg_neg _
include hx in
theorem ref_call0_v1 : Holds3 (g := 8) (m := 4096) (n := 4096) (res_main_call0_v1_0 L) (fun h t s => sp (scores x h t s)) := by
  unfold res_main_call0_v1_0 res_main_call0_call0_v3 res_main_call0_call0_cst
  exact sp_holds (ref_call0_v0 L hx) _ fun i => zeros _ _ i

theorem ref_mask : Mask (g := 8) (m := 4096) (n := 4096) (res_main_v21_1 L) := by
  unfold res_main_v21_1 res_main_v18 res_main_v13
  exact mask_holds _ _ _ _ _
theorem ref_mask' : Mask (g := 8) (m := 4096) (n := 4096) (res_main_v30_1 L) := by
  unfold res_main_v30_1 res_main_v18 res_main_v13
  exact mask_holds _ _ _ _ _

include hx in
theorem ref_v21 : Holds3 (g := 8) (m := 4096) (n := 4096) (res_main_v21_0 L) (lf (scores x)) := by
  unfold res_main_v21_0
  exact sel_holds (ref_mask L) (neg_holds (ref_call0_v1 L hx)) _ fun i => zeros _ _ i

include hx in
theorem ref_call3_v0 : Holds3 (g := 8) (m := 4096) (n := 4096) (res_main_call3_v0 L) (fun h t s => -scores x h t s) := by
  unfold res_main_call3_v0
  exact neg_holds (ref_v12 L hx)
include hx in
theorem ref_call3_v1 : Holds3 (g := 8) (m := 4096) (n := 4096) (res_main_call3_v1_0 L) (fun h t s => sp (-scores x h t s)) := by
  unfold res_main_call3_v1_0 res_main_call3_call0_v3 res_main_call3_call0_cst
  exact sp_holds (ref_call3_v0 L hx) _ fun i => zeros _ _ i

include hx in
theorem ref_v29 : Holds3 (g := 8) (m := 4096) (n := 4096) (res_main_v29 L) (wf (scores x)) := by
  unfold res_main_v29
  exact exp_holds (add_holds (neg_holds (ref_call3_v1 L hx))
    (sub_holds (rows1_holds (total_holds (ref_v21 L hx) _ _ (by decide) _ fun _ => zero32) _ _)
      (cumsum_holds (ref_v21 L hx) 4095 rfl _ _ _ fun i => zero_init _ i)))

include hx in
theorem ref_v30 : Holds3 (g := 8) (m := 4096) (n := 4096) (res_main_v30_0 L) (inpOf x o).a := by
  unfold res_main_v30_0
  exact sel_holds (ref_mask' L) (ref_v29 L hx) _ fun i => zeros _ _ i

include hx ho in
theorem ref_v41 : Holds3 (g := 8) (m := 4096) (n := 4096) (res_main_v41 L) (inpOf x o).G := by
  unfold res_main_v41
  exact (mul_holds (sel_holds (ref_mask' L) (dot_22_holds _ (ref_v36 L ho) (ref_v9 L hx)) _ fun i => zeros _ _ i) (ref_v29 L hx)).congr
    fun h t s _ _ _ => inp_G x (fun t c => x t (1024 + c)) (fun t c => x t (2048 + c)) o h t s

include hx ho in
theorem ref_v55 : Holds3 (g := 8) (m := 4096) (n := 4096) (res_main_v55 L) (inpOf x o).Z := by
  unfold res_main_v55
  have hG := ref_v41 L hx ho
  have hR := revsum_holds (neg_holds hG) 4095 _ reduceWindows_S8x4096x4096_S8x4096x4096_w1s1p0_0_w1s1p0_0_w4096s1p0_4095 h_S_
    (fun i => zero_init bcast_S_S_ i)
  have hT := spread_holds (keep_holds (total_holds hG (constant (F := Ideal) S_ .f32 0x00000000#32) reducesTo_S8x4096x4096_S8x4096_d2 (by decide) h_S_ fun _ => zero32)
    shapeCasts_S8x4096_S8x4096x1 (constant (F := Ideal) S_ .f32 0x00000000#32) reducesTo_S8x4096x1_S8x4096_d2 h_S_ fun _ => zero32) bcast_S8x4096_S8x4096x4096_0_1
  have hS := sel_holds (ref_mask L) (add_holds hR hT) _ fun i => zeros _ bcast_S_S8x4096x4096 i
  have hE := guard_holds (ref_call3_v0 L hx) (ref_call3_v1 L hx) (broadcastInDim S8x4096x4096 ![] bcast_S_S8x4096x4096 (constant (F := Ideal) S_ .f32 0x00000000#32)) _
    fun i => infs _ bcast_S_S8x4096x4096 i
  have hE' := guard_holds (ref_call0_v0 L hx) (ref_call0_v1 L hx) (broadcastInDim S8x4096x4096 ![] bcast_S_S8x4096x4096 (constant (F := Ideal) S_ .f32 0x00000000#32)) _
    fun i => infs _ bcast_S_S8x4096x4096 i
  exact (scale_holds (add_holds (neg_holds (mul_holds (neg_holds hG) hE)) (neg_holds (neg_holds (mul_holds (neg_holds hS) hE')))) bcast_S_S8x4096x4096).congr
    fun h t s _ _ _ => inp_Z x (fun t c => x t (1024 + c)) (fun t c => x t (2048 + c)) o h t s

/-! ## The gradients -/

include hx ho in
theorem ref_dq : Holds (m := 4096) (n := 1024)
    (truncf .bf16 (shapeCast _ (transpose S4096x8x128 [1, 0, 2] (Host.dotGeneral (φ₁ := .f32) (φ₂ := .f32) dot_S8x4096x4096_S8x4096x128_S8x4096x128_2_1_1_2_0_0 none (res_main_v55 L) (res_main_v7 L)) transposes_S8x4096x128_S4096x8x128_1_0_2) shapeCasts_S4096x8x128_S4096x1024) bitsLt_bf16_f32 : FVec Ideal S4096x1024 .bf16)
    ((inpOf x o).DQ 4096) := by
  refine (unheads_holds (dot_21_holds _ (ref_v55 L hx ho) (ref_v7 L hx)) transposes_S8x4096x128_S4096x8x128_1_0_2 shapeCasts_S4096x8x128_S4096x1024).congr
    fun t c _ _ => Finset.sum_congr rfl fun s _ => ?_
  show _ * x s (1024 + (128 * (c / 128) + c % 128)) = _ * x s (1024 + c)
  rw [Nat.div_add_mod]

include hx ho in
theorem ref_dk : Holds (m := 4096) (n := 1024)
    (truncf .bf16 (shapeCast _ (transpose S4096x8x128 [1, 0, 2] (Host.dotGeneral (φ₁ := .f32) (φ₂ := .f32) dot_S8x4096x4096_S8x4096x128_S8x4096x128_1_1_2_2_0_0 none (res_main_v55 L) (res_main_v5 L)) transposes_S8x4096x128_S4096x8x128_1_0_2) shapeCasts_S4096x8x128_S4096x1024) bitsLt_bf16_f32 : FVec Ideal S4096x1024 .bf16)
    ((inpOf x o).DK 4096) := by
  refine (unheads_holds (dot_11_holds _ (ref_v55 L hx ho) (ref_v5 L hx)) transposes_S8x4096x128_S4096x8x128_1_0_2 shapeCasts_S4096x8x128_S4096x1024).congr
    fun t c _ _ => Finset.sum_congr rfl fun s _ => ?_
  show _ * x s (128 * (c / 128) + c % 128) = _ * x s c
  rw [Nat.div_add_mod]

theorem swap_holds {y : (⟨3, ![8, 128, 4096]⟩ : Shape).Idx → EReal} {f : ℕ → ℕ → ℕ → ℝ} (hy : Holds3 (g := 8) (m := 128) (n := 4096) y f) (w) :
    Holds3 (g := 8) (m := 4096) (n := 128) (transpose ⟨3, ![8, 4096, 128]⟩ [0, 2, 1] y w) (fun h t d => f h d t) := fun h t d =>
  (transpose_apply [0, 2, 1] y w (ix3 h t d) (ix3 h d t) (fun b => by
    match b with
    | ⟨0, _⟩ => rfl
    | ⟨1, _⟩ => rfl
    | ⟨2, _⟩ => rfl)).trans (hy h d t)

include hx ho in
theorem ref_dv : Holds (m := 4096) (n := 1024)
    (truncf .bf16 (shapeCast _ (transpose S4096x8x128 [1, 0, 2] (transpose S8x4096x128 [0, 2, 1] (Host.dotGeneral (φ₁ := .f32) (φ₂ := .f32) dot_S8x4096x128_S8x4096x4096_S8x128x4096_1_1_2_2_0_0 none (res_main_v36 L) (res_main_v30_0 L)) transposes_S8x128x4096_S8x4096x128_0_2_1) transposes_S8x4096x128_S4096x8x128_1_0_2) shapeCasts_S4096x8x128_S4096x1024) bitsLt_bf16_f32 : FVec Ideal S4096x1024 .bf16)
    ((inpOf x o).DV 4096) := by
  refine (unheads_holds (swap_holds (dot_11_holds _ (ref_v36 L ho) (ref_v30 L hx (o := o))) transposes_S8x128x4096_S8x4096x128_0_2_1) transposes_S8x4096x128_S4096x8x128_1_0_2 shapeCasts_S4096x8x128_S4096x1024).congr
    fun t c _ _ => Finset.sum_congr rfl fun s _ => ?_
  show o s (128 * (c / 128) + c % 128) * _ = _ * o s c
  rw [Nat.div_add_mod]
  exact mul_comm _ _

end Ref

end Cert.RefVal

end
-- ==== Proof.KerVal.lean ====
module

public import proofs.«01_k».proof.Proof.Stages
public import proofs.«01_k».proof.Proof.Gen.KernelIdeal.Frame
public import Idealize.ShloMosaic.Lib.StableHlo.Run

/-!
The arrays that the kernel's program computes before the kernel, over the reals, when its inputs are real numbers.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx Idealize.ShloMosaic.StableHlo
open scoped BigOperators

abbrev neg3 (x : FVec Ideal S8x4096x4096 .f32) : FVec Ideal S8x4096x4096 .f32 := Host.negf x
abbrev zeroS : FVec Ideal S_ .f32 := constant S_ .f32 0x00000000#32
/-- The array of zeros. -/
abbrev zeros3 : FVec Ideal S8x4096x4096 .f32 := broadcastInDim S8x4096x4096 ![] bcast_S_S8x4096x4096 (constant S_ .f32 0x00000000#32)

/-- The logarithm of one minus the logistic function, as the program computes it. -/
abbrev lsT (x : FVec Ideal S8x4096x4096 .f32) : FVec Ideal S8x4096x4096 .f32 :=
  Host.negf (select (cmpf .une (subf x zeros3) (subf x zeros3)) (addf x zeros3)
    (addf (maximumf x zeros3) (Host.log1p (Host.exp (Host.negf (Host.absf (subf x zeros3)))))))

theorem lsT_holds {x : FVec Ideal S8x4096x4096 .f32} {f : ℕ → ℕ → ℕ → ℝ} (hx : Holds3 (g := 8) (m := 4096) (n := 4096) x f) :
    Holds3 (g := 8) (m := 4096) (n := 4096) (lsT x) (fun h t s => -sp (f h t s)) :=
  neg_holds (sp_holds hx zeros3 fun i => zeros _ _ i)

abbrev headsT (o : ℕ) (hs : S4096x3072.Slices ![0, o] S4096x1024) (x : FVec Ideal S4096x3072 .bf16) : FVec Ideal S8x4096x128 .f32 :=
  transpose S8x4096x128 [1, 0, 2] (shapeCast S4096x8x128 (extf .f32 (extractStridedSlice S4096x1024 ![0, o] x hs) bitsLt_bf16_f32) shapeCasts_S4096x1024_S4096x8x128)
    transposes_S4096x8x128_S8x4096x128_1_0_2

abbrev scoresT (x : FVec Ideal S4096x3072 .bf16) : FVec Ideal S8x4096x4096 .f32 :=
  mulf (Host.dotGeneral (φ₁ := .f32) (φ₂ := .f32) dot_S8x4096x128_S8x4096x128_S8x4096x4096_2_2_1_1_0_0 none (headsT 0 slices_S4096x3072_S4096x1024_0_0 x)
    (headsT 1024 slices_S4096x3072_S4096x1024_0_1024 x)) (broadcastInDim S8x4096x4096 ![] bcast_S_S8x4096x4096 (constant S_ .f32 0x3DB504F3#32))

abbrev maskT : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

theorem scoresT_holds {x : ℕ → ℕ → ℝ} {A : FVec Ideal S4096x3072 .bf16} (hx : Holds (m := 4096) (n := 3072) A x) :
    Holds3 (g := 8) (m := 4096) (n := 4096) (scoresT A) (scores x) := by
  refine scale_holds (dot_22_holds _ (x := fun h t d => x t (128 * h + d)) (y := fun h t d => x t (1024 + (128 * h + d))) ?_ ?_) _
  · exact (heads_holds (cut_holds (n := 3072) hx 0 slices_S4096x3072_S4096x1024_0_0 (by omega)) _ _).congr fun h t d _ _ _ => by rw [zero_add]
  · exact heads_holds (cut_holds (n := 3072) hx 1024 slices_S4096x3072_S4096x1024_0_1024 (by omega)) _ _

variable (W : Valuation τ sig (Elt Ideal))

/-! ## What each stretch of operations leaves -/

set_option maxHeartbeats 2000000 in
theorem ops0_v10 : after hostOps0 W (Proc.devRef .tc main_v10) = scoresT (W (Proc.devRef .tc main_arg0)) := by
  simp only [hostOps0]
  after_results_simp
  rfl
theorem ops0_v16 : after hostOps0 W (Proc.devRef .tc main_v16) = maskT := by
  simp only [hostOps0]
  after_results_simp
theorem ops0_v17 : after hostOps0 W (Proc.devRef .tc main_v17) = neg3 (after hostOps0 W (Proc.devRef .tc main_v10)) := by
  simp only [hostOps0]
  after_results_simp

theorem ops1_v18 : after hostOps0_1 W (Proc.devRef .tc main_v18) = lsT (neg3 (W (Proc.devRef .tc main_v17))) := by
  simp only [hostOps0_1, TRef.binary, TRef.nullary, TRef.ternary, TRef.unary, TRef.toBuf, TRef.ofBuf, cast_eq]
  after_results_simp
theorem ops1_v10 : after hostOps0_1 W (Proc.devRef .tc main_v10) = W (Proc.devRef .tc main_v10) := by
  simp only [hostOps0_1, TRef.binary, TRef.nullary, TRef.ternary, TRef.unary, TRef.toBuf, TRef.ofBuf, cast_eq]
  after_results_simp
theorem ops1_v16 : after hostOps0_1 W (Proc.devRef .tc main_v16) = W (Proc.devRef .tc main_v16) := by
  simp only [hostOps0_1, TRef.binary, TRef.nullary, TRef.ternary, TRef.unary, TRef.toBuf, TRef.ofBuf, cast_eq]
  after_results_simp

theorem ops3_v19 : after hostOps0_3 (after hostOps0_2 W) (Proc.devRef .tc main_v19)
    = select (broadcastInDim S8x4096x4096 ![1, 2] bcast_S4096x4096_S8x4096x4096_1_2 (W (Proc.devRef .tc main_v16))) (W (Proc.devRef .tc main_v18)) zeros3 := by
  simp only [hostOps0_3, hostOps0_2, TRef.binary, TRef.nullary, TRef.ternary, TRef.unary, TRef.toBuf, TRef.ofBuf, cast_eq]
  after_results_simp
  rfl
theorem ops3_v10 : after hostOps0_3 (after hostOps0_2 W) (Proc.devRef .tc main_v10) = W (Proc.devRef .tc main_v10) := by
  simp only [hostOps0_3, hostOps0_2, TRef.binary, TRef.nullary, TRef.ternary, TRef.unary, TRef.toBuf, TRef.ofBuf, cast_eq]
  after_results_simp
theorem ops3_v16 : after hostOps0_3 (after hostOps0_2 W) (Proc.devRef .tc main_v16) = W (Proc.devRef .tc main_v16) := by
  simp only [hostOps0_3, hostOps0_2, TRef.binary, TRef.nullary, TRef.ternary, TRef.unary, TRef.toBuf, TRef.ofBuf, cast_eq]
  after_results_simp

/-- The sums over the columns after each. -/
abbrev afterT (x : FVec Ideal S8x4096x4096 .f32) : FVec Ideal S8x4096x4096 .f32 :=
  subf (broadcastInDim S8x4096x4096 ![0, 1, 2] bcast_S8x4096x1_S8x4096x4096_0_1_2 (broadcastInDim S8x4096x1 ![0, 1] bcast_S8x4096_S8x4096x1_0_1
      (Host.reduceAdd (F := Ideal) (φ := .f32) x (constant S_ .f32 0x00000000#32) reducesTo_S8x4096x4096_S8x4096_d2 h_S_)))
    (Host.reduceWindowAdd (F := Ideal) (φ := .f32) ![1, 1, 4096] ![1, 1, 1] ![0, 0, 4095] ![0, 0, 0] x
      (broadcastInDim S_ ![] bcast_S_S_ (constant S_ .f32 0x00000000#32))
      reduceWindows_S8x4096x4096_S8x4096x4096_w1s1p0_0_w1s1p0_0_w4096s1p4095_0 h_S_)

theorem afterT_holds {x : FVec Ideal S8x4096x4096 .f32} {f : ℕ → ℕ → ℕ → ℝ} (hx : Holds3 (g := 8) (m := 4096) (n := 4096) x f) :
    Holds3 (g := 8) (m := 4096) (n := 4096) (afterT x) (fun h t s => ∑ c ∈ Finset.range 4096, f h t c - ∑ c ∈ Finset.range (s + 1), f h t c) :=
  sub_holds (rows1_holds (total_holds hx _ _ (by decide) _ fun _ => zero32) _ _) (cumsum_holds hx 4095 rfl _ _ _ fun i => zero_init _ i)

theorem ops6_v24 : after hostOps0_6 (after hostOps0_5 (after hostOps0_4 W)) (Proc.devRef .tc main_v24) = afterT (W (Proc.devRef .tc main_v19)) := by
  simp only [hostOps0_6, hostOps0_5, hostOps0_4, TRef.binary, TRef.nullary, TRef.ternary, TRef.unary, TRef.toBuf, TRef.ofBuf, cast_eq]
  after_results_simp
theorem ops6_v10 : after hostOps0_6 (after hostOps0_5 (after hostOps0_4 W)) (Proc.devRef .tc main_v10) = W (Proc.devRef .tc main_v10) := by
  simp only [hostOps0_6, hostOps0_5, hostOps0_4, TRef.binary, TRef.nullary, TRef.ternary, TRef.unary, TRef.toBuf, TRef.ofBuf, cast_eq]
  after_results_simp
theorem ops6_v16 : after hostOps0_6 (after hostOps0_5 (after hostOps0_4 W)) (Proc.devRef .tc main_v16) = W (Proc.devRef .tc main_v16) := by
  simp only [hostOps0_6, hostOps0_5, hostOps0_4, TRef.binary, TRef.nullary, TRef.ternary, TRef.unary, TRef.toBuf, TRef.ofBuf, cast_eq]
  after_results_simp

theorem ops8_v27 : after hostOps0_8 (after hostOps0_7 W) (Proc.devRef .tc main_v27)
    = Host.exp (addf (lsT (neg3 (W (Proc.devRef .tc main_v10)))) (W (Proc.devRef .tc main_v24))) := by
  simp only [hostOps0_8, hostOps0_7, TRef.binary, TRef.nullary, TRef.ternary, TRef.unary, TRef.toBuf, TRef.ofBuf, cast_eq]
  after_results_simp
theorem ops8_cst : after hostOps0_8 (after hostOps0_7 W) (Proc.devRef .tc main_cst_2) = zeroS := by
  simp only [hostOps0_8, hostOps0_7, TRef.binary, TRef.nullary, TRef.ternary, TRef.unary, TRef.toBuf, TRef.ofBuf, cast_eq]
  after_results_simp
theorem ops8_v10 : after hostOps0_8 (after hostOps0_7 W) (Proc.devRef .tc main_v10) = W (Proc.devRef .tc main_v10) := by
  simp only [hostOps0_8, hostOps0_7, TRef.binary, TRef.nullary, TRef.ternary, TRef.unary, TRef.toBuf, TRef.ofBuf, cast_eq]
  after_results_simp
theorem ops8_v16 : after hostOps0_8 (after hostOps0_7 W) (Proc.devRef .tc main_v16) = W (Proc.devRef .tc main_v16) := by
  simp only [hostOps0_8, hostOps0_7, TRef.binary, TRef.nullary, TRef.ternary, TRef.unary, TRef.toBuf, TRef.ofBuf, cast_eq]
  after_results_simp

theorem ops10_v28 : after hostOps0_10 (after hostOps0_9 W) (Proc.devRef .tc main_v28)
    = select (broadcastInDim S8x4096x4096 ![1, 2] bcast_S4096x4096_S8x4096x4096_1_2 (W (Proc.devRef .tc main_v16))) (W (Proc.devRef .tc main_v27))
        (broadcastInDim S8x4096x4096 ![] bcast_S_S8x4096x4096 (W (Proc.devRef .tc main_cst_2))) := by
  simp only [hostOps0_10, hostOps0_9, TRef.binary, TRef.nullary, TRef.ternary, TRef.unary, TRef.toBuf, TRef.ofBuf, cast_eq]
  after_results_simp
  rfl
theorem ops10_v29 : after hostOps0_10 (after hostOps0_9 W) (Proc.devRef .tc main_v29) = lsT (neg3 (W (Proc.devRef .tc main_v10))) := by
  simp only [hostOps0_10, hostOps0_9, TRef.binary, TRef.nullary, TRef.ternary, TRef.unary, TRef.toBuf, TRef.ofBuf, cast_eq]
  after_results_simp

/-- Two arrays, one after the other. -/
abbrev pairT (a b : FVec Ideal S1x8x4096x4096 .f32) : FVec Ideal S2x8x4096x4096 .bf16 :=
  truncf .bf16 (concatenate S2x8x4096x4096 0 [⟨S1x8x4096x4096, a⟩, ⟨S1x8x4096x4096, b⟩]
    concatenates_S1x8x4096x4096_S1x8x4096x4096_S2x8x4096x4096_d0 : FVec Ideal S2x8x4096x4096 .f32) bitsLt_bf16_f32
abbrev leadT (a : FVec Ideal S8x4096x4096 .f32) : FVec Ideal S1x8x4096x4096 .f32 :=
  broadcastInDim S1x8x4096x4096 ![1, 2, 3] bcast_S8x4096x4096_S1x8x4096x4096_1_2_3 a
abbrev exp3 (x : FVec Ideal S8x4096x4096 .f32) : FVec Ideal S8x4096x4096 .f32 := Host.exp x

theorem ops11_v31 : after (hostOps0_11.take 3) W (Proc.devRef .tc main_v31) = leadT (W (Proc.devRef .tc main_v28)) := by
  simp only [hostOps0_11, List.take]
  after_results_simp
theorem ops11_v32 : after (hostOps0_11.take 3) W (Proc.devRef .tc main_v32) = leadT (exp3 (W (Proc.devRef .tc main_v29))) := by
  simp only [hostOps0_11, List.take]
  after_results_simp
theorem ops11_v34' : after hostOps0_11 W (Proc.devRef .tc main_v34)
    = pairT (after (hostOps0_11.take 3) W (Proc.devRef .tc main_v31)) (after (hostOps0_11.take 3) W (Proc.devRef .tc main_v32)) := by
  simp only [hostOps0_11]
  after_results_simp
  rfl
theorem ops11_v34 : after hostOps0_11 W (Proc.devRef .tc main_v34)
    = pairT (leadT (W (Proc.devRef .tc main_v28))) (leadT (exp3 (W (Proc.devRef .tc main_v29)))) := by
  rw [ops11_v34', ops11_v31, ops11_v32]
theorem ops11_v35 : after hostOps0_11 W (Proc.devRef .tc main_v35) = W (Proc.devRef .tc main_arg2) := by
  simp only [hostOps0_11]
  after_results_simp
  rfl
theorem ops11_arg2 : after hostOps0_11 W (Proc.devRef .tc main_arg2) = W (Proc.devRef .tc main_arg2) := by
  simp only [hostOps0_11]
  after_results_simp

end Cert.KernelIdeal.Sb

end
-- ==== Proof.BodyDef.lean ====
module

public import proofs.«01_k».proof.Proof.Body
import all proofs.«01_k».proof.Proof.Body
public import proofs.«01_k».proof.Proof.TripVal

/-!
The arithmetic of the block on the diagonal for each of the four heads, from what the loop over the blocks left of it
leaves, and what the body of the kernel leaves of it at a grid point.
-/

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.ValueIdx
open scoped BigOperators

section Any

variable {F : FTy → Type} [FloatOps F]

/-- A head's columns of a block of 256 rows. -/
abbrev ldQ {sp : Space} {φ : EltTy} (v : View sig .tc sp S256x512 φ) (off : Fin 2 → ℕ) (inb : ∀ a, off a + S256x128.size a ≤ S256x512.size a)
    (f : v.ty.Contents (Elt F)) : S256x128.Idx → Elt F φ :=
  View.readAt (Elt F) v (Rect.unit (s := S256x512) off S256x128.size inb).toLoadRect f

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ)))
  (fk : Buf (Elt F) (dkM.view.loc (c : Thread nD τ))) (fv : Buf (Elt F) (dvM.view.loc (c : Thread nD τ)))
  (fu : Buf (Elt F) (duM.view.loc (c : Thread nD τ)))
  (fdq : Buf (Elt F) (dqM.view.loc (c : Thread nD τ))) (fdkv : Buf (Elt F) (dkvM.view.loc (c : Thread nD τ)))

/-- The word that says whether the row block is the first. -/
def firstW : BitVec 1 := Scalar.cmpi .ne (Scalar.extui (Scalar.cmpi .eq (BitVec.ofNat 32 (i 1).val) 0#32)) 0#32

/-- The accumulators at the point's start: zero at the first row block. -/
def fk0 : Buf (Elt F) (dkM.view.loc (c : Thread nD τ)) :=
  if firstW i = 1#1 then dkM.view.writes (Elt F) fk [⟨Rect.unit (s := S4096x512) ![0, 0] S4096x512.size inb_S4096x512_S4096x512_0_0, k0_pay71⟩] else fk
def fv0 : Buf (Elt F) (dvM.view.loc (c : Thread nD τ)) :=
  if firstW i = 1#1 then dvM.view.writes (Elt F) fv [⟨Rect.unit (s := S4096x512) ![0, 0] S4096x512.size inb_S4096x512_S4096x512_0_0, k0_pay72⟩] else fv

/-- What the loop leaves. -/
def midSt : TripSt F c :=
  stAt c i XS arg2 harg2 arg3 harg3 arg4 harg4 arg5 harg5 g3 g4 (BitVec.ofNat 32 (i 0).val) (BitVec.ofNat 32 (i 1).val)
    (ldQ arg2.view ![0, 0] inb_S256x512_S256x128_0_0 g2) (ldQ arg2.view ![0, 128] inb_S256x512_S256x128_0_128 g2)
    (ldQ arg2.view ![0, 256] inb_S256x512_S256x128_0_256 g2) (ldQ arg2.view ![0, 384] inb_S256x512_S256x128_0_384 g2)
    (ldQ arg5.view ![0, 0] inb_S256x512_S256x128_0_0 g5) (ldQ arg5.view ![0, 128] inb_S256x512_S256x128_0_128 g5)
    (ldQ arg5.view ![0, 256] inb_S256x512_S256x128_0_256 g5) (ldQ arg5.view ![0, 384] inb_S256x512_S256x128_0_384 g5)
    k0_pay73 acc00 (fk0 c i fk) (fv0 c i fv) (k0_t1_loop i).trips

abbrev tA0 : FVec F S256x256 .bf16 := stT c i XS (Ring.sl 2 (k0_t1_loop i).trips) 0 (Ring.bk 16 (k0_t1_loop i).trips) (k0_off97 i) (k0_off97_inb i)
abbrev tA1 : FVec F S256x256 .bf16 := stT c i XS (Ring.sl 2 (k0_t1_loop i).trips) 2 (Ring.bk 16 (k0_t1_loop i).trips) (k0_off98 i) (k0_off98_inb i)
abbrev tA2 : FVec F S256x256 .bf16 := stT c i XS (Ring.sl 2 (k0_t1_loop i).trips) 4 (Ring.bk 16 (k0_t1_loop i).trips) (k0_off99 i) (k0_off99_inb i)
abbrev tA3 : FVec F S256x256 .bf16 := stT c i XS (Ring.sl 2 (k0_t1_loop i).trips) 6 (Ring.bk 16 (k0_t1_loop i).trips) (k0_off100 i) (k0_off100_inb i)
abbrev tB0 : FVec F S256x256 .bf16 := stT c i XS (Ring.sl 2 (k0_t1_loop i).trips) 1 (Ring.bk 16 (k0_t1_loop i).trips) (k0_off101 i) (k0_off101_inb i)
abbrev tB1 : FVec F S256x256 .bf16 := stT c i XS (Ring.sl 2 (k0_t1_loop i).trips) 3 (Ring.bk 16 (k0_t1_loop i).trips) (k0_off102 i) (k0_off102_inb i)
abbrev tB2 : FVec F S256x256 .bf16 := stT c i XS (Ring.sl 2 (k0_t1_loop i).trips) 5 (Ring.bk 16 (k0_t1_loop i).trips) (k0_off103 i) (k0_off103_inb i)
abbrev tB3 : FVec F S256x256 .bf16 := stT c i XS (Ring.sl 2 (k0_t1_loop i).trips) 7 (Ring.bk 16 (k0_t1_loop i).trips) (k0_off104 i) (k0_off104_inb i)

/-- The gradient of the scores of the diagonal block, head by head. -/
def zD0 (M : TripSt F c) : FVec F S256x256 .bf16 := dzD M.1.2.1
  (gB (ldQ arg5.view ![0, 0] inb_S256x512_S256x128_0_0 g5) (ldB arg4.view (k0_off93 i) (k0_off93_inb i) g4) (tA0 c i XS)) (tB0 c i XS)
def zD1 (M : TripSt F c) : FVec F S256x256 .bf16 := dzD M.1.2.2.2.1
  (gB (ldQ arg5.view ![0, 128] inb_S256x512_S256x128_0_128 g5) (ldB arg4.view (k0_off94 i) (k0_off94_inb i) g4) (tA1 c i XS)) (tB1 c i XS)
def zD2 (M : TripSt F c) : FVec F S256x256 .bf16 := dzD M.1.2.2.2.2.2.1
  (gB (ldQ arg5.view ![0, 256] inb_S256x512_S256x128_0_256 g5) (ldB arg4.view (k0_off95 i) (k0_off95_inb i) g4) (tA2 c i XS)) (tB2 c i XS)
def zD3 (M : TripSt F c) : FVec F S256x256 .bf16 := dzD M.1.2.2.2.2.2.2.2
  (gB (ldQ arg5.view ![0, 384] inb_S256x512_S256x128_0_384 g5) (ldB arg4.view (k0_off96 i) (k0_off96_inb i) g4) (tA3 c i XS)) (tB3 c i XS)

/-- The accumulators after the diagonal block. -/
def dkEnd (M : TripSt F c) : Buf (Elt F) (dkM.view.loc (c : Thread nD τ)) :=
  dkM.view.writes (Elt F) M.2.1
    [⟨Rect.unit (s := S4096x512) (k0_off96 i) S256x128.size (k0_off96_inb i), kvB (ldQ arg2.view ![0, 384] inb_S256x512_S256x128_0_384 g2) (zD3 c i XS arg4 arg5 g4 g5 M) (ldB dkM.view (k0_off96 i) (k0_off96_inb i) M.2.1)⟩,
     ⟨Rect.unit (s := S4096x512) (k0_off95 i) S256x128.size (k0_off95_inb i), kvB (ldQ arg2.view ![0, 256] inb_S256x512_S256x128_0_256 g2) (zD2 c i XS arg4 arg5 g4 g5 M) (ldB dkM.view (k0_off95 i) (k0_off95_inb i) M.2.1)⟩,
     ⟨Rect.unit (s := S4096x512) (k0_off94 i) S256x128.size (k0_off94_inb i), kvB (ldQ arg2.view ![0, 128] inb_S256x512_S256x128_0_128 g2) (zD1 c i XS arg4 arg5 g4 g5 M) (ldB dkM.view (k0_off94 i) (k0_off94_inb i) M.2.1)⟩,
     ⟨Rect.unit (s := S4096x512) (k0_off93 i) S256x128.size (k0_off93_inb i), kvB (ldQ arg2.view ![0, 0] inb_S256x512_S256x128_0_0 g2) (zD0 c i XS arg4 arg5 g4 g5 M) (ldB dkM.view (k0_off93 i) (k0_off93_inb i) M.2.1)⟩]
def dvEnd (M : TripSt F c) : Buf (Elt F) (dvM.view.loc (c : Thread nD τ)) :=
  dvM.view.writes (Elt F) M.2.2
    [⟨Rect.unit (s := S4096x512) (k0_off96 i) S256x128.size (k0_off96_inb i), kvB (ldQ arg5.view ![0, 384] inb_S256x512_S256x128_0_384 g5) (tA3 c i XS) (ldB dvM.view (k0_off96 i) (k0_off96_inb i) M.2.2)⟩,
     ⟨Rect.unit (s := S4096x512) (k0_off95 i) S256x128.size (k0_off95_inb i), kvB (ldQ arg5.view ![0, 256] inb_S256x512_S256x128_0_256 g5) (tA2 c i XS) (ldB dvM.view (k0_off95 i) (k0_off95_inb i) M.2.2)⟩,
     ⟨Rect.unit (s := S4096x512) (k0_off94 i) S256x128.size (k0_off94_inb i), kvB (ldQ arg5.view ![0, 128] inb_S256x512_S256x128_0_128 g5) (tA1 c i XS) (ldB dvM.view (k0_off94 i) (k0_off94_inb i) M.2.2)⟩,
     ⟨Rect.unit (s := S4096x512) (k0_off93 i) S256x128.size (k0_off93_inb i), kvB (ldQ arg5.view ![0, 0] inb_S256x512_S256x128_0_0 g5) (tA0 c i XS) (ldB dvM.view (k0_off93 i) (k0_off93_inb i) M.2.2)⟩]

/-- The queries' gradient of the row block, all four heads. -/
def dqEnd (M : TripSt F c) : Buf (Elt F) (dqM.view.loc (c : Thread nD τ)) :=
  dqM.view.writes (Elt F) fdq
    [⟨Rect.unit (s := S256x512) ![0, 384] S256x128.size inb_S256x512_S256x128_0_384, shapeCast S256x128 (truncf .bf16 (dqB M.1.2.2.2.2.2.2.1 (ldB arg3.view (k0_off96 i) (k0_off96_inb i) g3) (zD3 c i XS arg4 arg5 g4 g5 M)) bitsLt_bf16_f32) shapeCasts_S256x128_S256x128⟩,
     ⟨Rect.unit (s := S256x512) ![0, 256] S256x128.size inb_S256x512_S256x128_0_256, shapeCast S256x128 (truncf .bf16 (dqB M.1.2.2.2.2.1 (ldB arg3.view (k0_off95 i) (k0_off95_inb i) g3) (zD2 c i XS arg4 arg5 g4 g5 M)) bitsLt_bf16_f32) shapeCasts_S256x128_S256x128⟩,
     ⟨Rect.unit (s := S256x512) ![0, 128] S256x128.size inb_S256x512_S256x128_0_128, shapeCast S256x128 (truncf .bf16 (dqB M.1.2.2.1 (ldB arg3.view (k0_off94 i) (k0_off94_inb i) g3) (zD1 c i XS arg4 arg5 g4 g5 M)) bitsLt_bf16_f32) shapeCasts_S256x128_S256x128⟩,
     ⟨Rect.unit (s := S256x512) ![0, 0] S256x128.size inb_S256x512_S256x128_0_0, shapeCast S256x128 (truncf .bf16 (dqB M.1.1 (ldB arg3.view (k0_off93 i) (k0_off93_inb i) g3) (zD0 c i XS arg4 arg5 g4 g5 M)) bitsLt_bf16_f32) shapeCasts_S256x128_S256x128⟩]

/-- The gradients' array after the row block's part of the queries' gradient is copied out. -/
def duQ (M : TripSt F c) : Buf (Elt F) (duM.view.loc (c : Thread nD τ)) :=
  View.write (Elt F) (duM.slice (Rect.unit (s := S4096x6656) (k0_off105 i) S256x512.size (k0_off105_inb i)) (fun _ => rfl)).view fu
    (View.read (Elt F) dqM.view (dqEnd c i XS arg3 arg4 arg5 g3 g4 g5 fdq M)) Finset.univ

/-- The accumulators rounded, in the buffer they are copied out from. -/
def dkvEnd (M : TripSt F c) : Buf (Elt F) (dkvM.view.loc (c : Thread nD τ)) :=
  dkvM.view.writes (Elt F) fdkv
    [⟨Rect.unit (s := S2x4096x512) ![1, 0, 0] S1x4096x512.size inb_S2x4096x512_S1x4096x512_1_0_0, k0_pay70 (View.readAt (Elt F) dvM.view (Rect.unit (s := S4096x512) ![0, 0] S4096x512.size inb_S4096x512_S4096x512_0_0).toLoadRect (dvEnd c i XS arg5 g5 M))⟩,
     ⟨Rect.unit (s := S2x4096x512) ![0, 0, 0] S1x4096x512.size inb_S2x4096x512_S1x4096x512_0_0_0, k0_pay69 (View.readAt (Elt F) dkM.view (Rect.unit (s := S4096x512) ![0, 0] S4096x512.size inb_S4096x512_S4096x512_0_0).toLoadRect (dkEnd c i XS arg2 arg4 arg5 g2 g4 g5 M))⟩]

def duK (fu : Buf (Elt F) (duM.view.loc (c : Thread nD τ))) (hc : k0_cond5 i = 1#1) (f : Buf (Elt F) (dkvM.view.loc (c : Thread nD τ))) : Buf (Elt F) (duM.view.loc (c : Thread nD τ)) :=
  View.write (Elt F) (duM.slice (Rect.unit (s := S4096x6656) (k0_off106 i 2560#32) S4096x512.size (k0_off106_inb i hc 0)) (fun _ => rfl)).view fu
    (View.read (Elt F) ((dkvM.slice (Rect.unit (s := S2x4096x512) ![0, 0, 0] S1x4096x512.size inb_S2x4096x512_S1x4096x512_0_0_0) (fun _ => rfl)).squeeze S4096x512 squeezes_S1x4096x512_S4096x512).view f) Finset.univ

def duV (fu : Buf (Elt F) (duM.view.loc (c : Thread nD τ))) (hc : k0_cond5 i = 1#1) (f : Buf (Elt F) (dkvM.view.loc (c : Thread nD τ))) : Buf (Elt F) (duM.view.loc (c : Thread nD τ)) :=
  View.write (Elt F) (duM.slice (Rect.unit (s := S4096x6656) (k0_off106 i 3584#32) S4096x512.size (k0_off106_inb i hc 1)) (fun _ => rfl)).view fu
    (View.read (Elt F) ((dkvM.slice (Rect.unit (s := S2x4096x512) ![1, 0, 0] S1x4096x512.size inb_S2x4096x512_S1x4096x512_1_0_0) (fun _ => rfl)).squeeze S4096x512 squeezes_S1x4096x512_S4096x512).view f) Finset.univ

abbrev bodyW : BodySt F c := (bodyRun c i XS arg2 harg2 arg3 harg3 arg4 harg4 arg5 harg5 g2 g3 g4 g5 (fk, fv, fu, fdq, fdkv)).1
abbrev midW : TripSt F c := midSt c i XS arg2 harg2 arg3 harg3 arg4 harg4 arg5 harg5 g2 g3 g4 g5 fk fv

end Any

end Cert.KernelIdeal.Sb
-- ==== Proof.BodyVal.lean ====
module

public import proofs.«01_k».proof.Proof.Body
import all proofs.«01_k».proof.Proof.Body
public import proofs.«01_k».proof.Proof.BodyDef

/-!
What the kernel's body leaves at a grid point, in the terms of the module on its arithmetic.
-/

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.ValueIdx
open scoped BigOperators

section Any

variable {F : FTy → Type} [FloatOps F]

variable (c : Dev nD) (i : grid0.Coords) (XS : Buf (Elt F) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g2 : Buf (Elt F) (arg2.view.loc (c : Thread nD τ)))
  (g3 : Buf (Elt F) (arg3.view.loc (c : Thread nD τ))) (g4 : Buf (Elt F) (arg4.view.loc (c : Thread nD τ)))
  (g5 : Buf (Elt F) (arg5.view.loc (c : Thread nD τ)))
  (fk : Buf (Elt F) (dkM.view.loc (c : Thread nD τ))) (fv : Buf (Elt F) (dvM.view.loc (c : Thread nD τ)))
  (fu : Buf (Elt F) (duM.view.loc (c : Thread nD τ)))
  (fdq : Buf (Elt F) (dqM.view.loc (c : Thread nD τ))) (fdkv : Buf (Elt F) (dkvM.view.loc (c : Thread nD τ)))

theorem body_dk : (bodyW c i XS arg2 harg2 arg3 harg3 arg4 harg4 arg5 harg5 g2 g3 g4 g5 fk fv fu fdq fdkv).1 =
    dkEnd c i XS arg2 arg4 arg5 g2 g4 g5 (midW c i XS arg2 harg2 arg3 harg3 arg4 harg4 arg5 harg5 g2 g3 g4 g5 fk fv) := rfl
theorem body_dv : (bodyW c i XS arg2 harg2 arg3 harg3 arg4 harg4 arg5 harg5 g2 g3 g4 g5 fk fv fu fdq fdkv).2.1 =
    dvEnd c i XS arg5 g5 (midW c i XS arg2 harg2 arg3 harg3 arg4 harg4 arg5 harg5 g2 g3 g4 g5 fk fv) := rfl
theorem body_du : (bodyW c i XS arg2 harg2 arg3 harg3 arg4 harg4 arg5 harg5 g2 g3 g4 g5 fk fv fu fdq fdkv).2.2.1 =
    (let M := midW c i XS arg2 harg2 arg3 harg3 arg4 harg4 arg5 harg5 g2 g3 g4 g5 fk fv
     if hc : k0_cond5 i = 1#1 then
       duV c i (duK c i (duQ c i XS arg3 arg4 arg5 g3 g4 g5 fu fdq M) hc (dkvEnd c i XS arg2 arg4 arg5 g2 g4 g5 fdkv M)) hc (dkvEnd c i XS arg2 arg4 arg5 g2 g4 g5 fdkv M)
     else duQ c i XS arg3 arg4 arg5 g3 g4 g5 fu fdq M) := rfl

end Any

end Cert.KernelIdeal.Sb
-- ==== Proof.Loop.lean ====
module

public import proofs.«01_k».proof.Proof.Sums
public import proofs.«01_k».proof.Proof.BodyDef

/-!
The sums at one grid point: what its windows hold of the inputs, what the loop over the column blocks left of the
diagonal leaves after every trip, and what the diagonal block adds.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

theorem ldQ_apply {F : FTy → Type} [FloatOps F] {sp : Space} {φ : EltTy} (v : View sig .tc sp S256x512 φ) (off : Fin 2 → ℕ) (inb) (f : v.ty.Contents (Elt F))
    (p : Fin 4) (e : off = ![0, 128 * p.val]) (r : Fin 256) (d : Fin 128) :
    ldQ v off inb f (ix2 r d) = View.read (Elt F) v f (ix2 r (⟨128 * p.val + d.val, by omega⟩ : Fin 512)) := by
  subst e
  refine congrArg (View.read (Elt F) v f) ?_
  funext a; apply Fin.ext
  match a with
  | ⟨0, _⟩ => show 0 + 1 * r.val = r.val; omega
  | ⟨1, _⟩ => show 128 * p.val + 1 * d.val = 128 * p.val + d.val; omega

section Point

variable (c : Dev nD) (i : grid0.Coords) (XS : Buf (Elt Ideal) (savedM.view.loc (c : Thread nD τ)))
  (arg2 : Memref sig .tc .vmem S256x512 .bf16) (harg2 : arg2.IsWhole)
  (arg3 : Memref sig .tc .vmem S4096x512 .bf16) (harg3 : arg3.IsWhole)
  (arg4 : Memref sig .tc .vmem S4096x512 .bf16) (harg4 : arg4.IsWhole)
  (arg5 : Memref sig .tc .vmem S256x512 .bf16) (harg5 : arg5.IsWhole)
  (g2 : Buf (Elt Ideal) (arg2.view.loc (c : Thread nD τ)))
  (g3 : Buf (Elt Ideal) (arg3.view.loc (c : Thread nD τ))) (g4 : Buf (Elt Ideal) (arg4.view.loc (c : Thread nD τ)))
  (g5 : Buf (Elt Ideal) (arg5.view.loc (c : Thread nD τ)))

/-- The windows of a grid point hold the inputs at its group of heads and its row block. -/
structure Point (X : Inp) : Prop where
  hq : Holds (m := 256) (n := 512) (View.read (Elt Ideal) arg2.view g2) (fun r u => X.q (256 * (i 1).val + r) (512 * (i 0).val + u))
  hk : Holds (m := 4096) (n := 512) (View.read (Elt Ideal) arg3.view g3) (fun r u => X.k r (512 * (i 0).val + u))
  hv : Holds (m := 4096) (n := 512) (View.read (Elt Ideal) arg4.view g4) (fun r u => X.v r (512 * (i 0).val + u))
  ho : Holds (m := 256) (n := 512) (View.read (Elt Ideal) arg5.view g5) (fun r u => X.o (256 * (i 1).val + r) (512 * (i 0).val + u))
  ha : ∀ (h : Fin 8) (r s : Fin 4096), View.read (Elt Ideal) savedM.view XS (ix4 (0 : Fin 2) h r s) = (X.a h.val r.val s.val : EReal)
  hb : ∀ (h : Fin 8) (r s : Fin 4096), View.read (Elt Ideal) savedM.view XS (ix4 (1 : Fin 2) h r s) = (X.b h.val r.val s.val : EReal)

variable {c i XS arg2 arg3 arg4 arg5 g2 g3 g4 g5} {X : Inp}

/-- The blocks of head `p` of the group, at column block `j`. -/
theorem blocks_of (P : Point c i XS arg2 arg3 arg4 arg5 g2 g3 g4 g5 X) (p : Fin 4) (j : Fin 16) (s : Fin 2) (tA tB : Fin 8)
    (hA : tA.val = 2 * p.val) (hB : tB.val = 2 * p.val + 1)
    (oQ : Fin 2 → ℕ) (iQ) (eQ : oQ = ![0, 128 * p.val]) (oK : Fin 2 → ℕ) (iK) (eK : oK = kvOff j p)
    (oA : Fin 5 → ℕ) (iA) (eA : oA = stOff s tA) (oB : Fin 5 → ℕ) (iB) (eB : oB = stOff s tB) :
    Blocks X (4 * (i 0).val + p.val) (i 1).val j.val (ldQ arg2.view oQ iQ g2) (ldQ arg5.view oQ iQ g5) (ldB arg3.view oK iK g3)
      (ldB arg4.view oK iK g4) (stT c i XS s tA j oA iA) (stT c i XS s tB j oB iB) where
  hQ := fun r d => (ldQ_apply arg2.view oQ iQ g2 p eQ r d).trans ((P.hq _ _).trans (by
    show ((X.q _ (512 * (i 0).val + (128 * p.val + d.val)) : ℝ) : EReal) = _
    rw [show 512 * (i 0).val + (128 * p.val + d.val) = 128 * (4 * (i 0).val + p.val) + d.val by omega]))
  hD := fun r d => (ldQ_apply arg5.view oQ iQ g5 p eQ r d).trans ((P.ho _ _).trans (by
    show ((X.o _ (512 * (i 0).val + (128 * p.val + d.val)) : ℝ) : EReal) = _
    rw [show 512 * (i 0).val + (128 * p.val + d.val) = 128 * (4 * (i 0).val + p.val) + d.val by omega]))
  hK := (ldB_holds arg3.view oK iK g3 j p eK P.hk).congr fun r d hr hd => by
    rw [show 512 * (i 0).val + (128 * p.val + d) = 128 * (4 * (i 0).val + p.val) + d by omega]
  hV := (ldB_holds arg4.view oK iK g4 j p eK P.hv).congr fun r d hr hd => by
    rw [show 512 * (i 0).val + (128 * p.val + d) = 128 * (4 * (i 0).val + p.val) + d by omega]
  hA := stT_holds c i XS s tA j oA iA eA fun r u => by
    have h0 : (i 0).val < 2 := (i 0).isLt
    have h1 : (i 1).val < 16 := (i 1).isLt
    have hp := p.isLt
    rw [show (⟨tA.val % 2, by omega⟩ : Fin 2) = 0 from Fin.ext (by show tA.val % 2 = 0; omega),
      show (⟨4 * (i 0).val + tA.val / 2, by omega⟩ : Fin 8) = ⟨4 * (i 0).val + p.val, by omega⟩ from Fin.ext (by show 4 * (i 0).val + tA.val / 2 = 4 * (i 0).val + p.val; omega)]
    exact P.ha _ _ _
  hB := stT_holds c i XS s tB j oB iB eB fun r u => by
    have h0 : (i 0).val < 2 := (i 0).isLt
    have h1 : (i 1).val < 16 := (i 1).isLt
    have hp := p.isLt
    rw [show (⟨tB.val % 2, by omega⟩ : Fin 2) = 1 from Fin.ext (by show tB.val % 2 = 1; omega),
      show (⟨4 * (i 0).val + tB.val / 2, by omega⟩ : Fin 8) = ⟨4 * (i 0).val + p.val, by omega⟩ from Fin.ext (by show 4 * (i 0).val + tB.val / 2 = 4 * (i 0).val + p.val; omega)]
    exact P.hb _ _ _

/-- The carried values before column block `k`, and the accumulators: the row blocks above, and this one for the columns
    before block `k`. -/
structure Inv (X : Inp) (c : Dev nD) (g n k : ℕ) (st : TripSt Ideal c) : Prop where
  c0 : Carried X (4 * g + 0) n k st.1.1 st.1.2.1
  c1 : Carried X (4 * g + 1) n k st.1.2.2.1 st.1.2.2.2.1
  c2 : Carried X (4 * g + 2) n k st.1.2.2.2.2.1 st.1.2.2.2.2.2.1
  c3 : Carried X (4 * g + 3) n k st.1.2.2.2.2.2.2.1 st.1.2.2.2.2.2.2.2
  hk : Holds (m := 4096) (n := 512) (View.read (Elt Ideal) dkM.view st.2.1) (fun s u => X.DK (if s < 256 * k then 256 * (n + 1) else 256 * n) s (512 * g + u))
  hv : Holds (m := 4096) (n := 512) (View.read (Elt Ideal) dvM.view st.2.2) (fun s u => X.DV (if s < 256 * k then 256 * (n + 1) else 256 * n) s (512 * g + u))

/-- A head's block of an accumulator, in the head's own columns. -/
theorem old_holds {sp : Space} (v : View sig .tc sp S4096x512 .f32) (f : v.ty.Contents (Elt Ideal)) (n g k : ℕ) (j : Fin 16) (hj : j.val = k) (p : Fin 4)
    (off : Fin 2 → ℕ) (inb) (e : off = kvOff j p) (D : ℕ → ℕ → ℕ → ℝ)
    (hx : Holds (m := 4096) (n := 512) (View.read (Elt Ideal) v f) (fun s u => D (if s < 256 * k then 256 * (n + 1) else 256 * n) s (512 * g + u))) :
    Holds (m := 256) (n := 128) (ldB (F := Ideal) v off inb f) (fun r d => D (256 * n) (256 * j.val + r) (128 * (4 * g + p.val) + d)) :=
  (ldB_holds32 v off inb f j p e hx).congr fun r d hr hd => by
    rw [if_neg (by omega), show 512 * g + (128 * p.val + d) = 128 * (4 * g + p.val) + d by omega]

/-- Four heads' blocks written into an accumulator, each in the head's own columns. -/
theorem new_holds {sp : Space} (v : View sig .tc sp S4096x512 .f32) (f : v.ty.Contents (Elt Ideal)) (n g k : ℕ) (j : Fin 16) (hj : j.val = k)
    (o0 o1 o2 o3 : Fin 2 → ℕ) (i0 i1 i2 i3) (e0 : o0 = kvOff j 0) (e1 : o1 = kvOff j 1) (e2 : o2 = kvOff j 2) (e3 : o3 = kvOff j 3)
    (w0 w1 w2 w3 : FVec Ideal S256x128 .f32) (D : ℕ → ℕ → ℕ → ℝ)
    (hx : Holds (m := 4096) (n := 512) (View.read (Elt Ideal) v f) (fun s u => D (if s < 256 * k then 256 * (n + 1) else 256 * n) s (512 * g + u)))
    (h0 : Holds (m := 256) (n := 128) w0 (fun r d => D (256 * (n + 1)) (256 * j.val + r) (128 * (4 * g + 0) + d)))
    (h1 : Holds (m := 256) (n := 128) w1 (fun r d => D (256 * (n + 1)) (256 * j.val + r) (128 * (4 * g + 1) + d)))
    (h2 : Holds (m := 256) (n := 128) w2 (fun r d => D (256 * (n + 1)) (256 * j.val + r) (128 * (4 * g + 2) + d)))
    (h3 : Holds (m := 256) (n := 128) w3 (fun r d => D (256 * (n + 1)) (256 * j.val + r) (128 * (4 * g + 3) + d))) :
    Holds (m := 4096) (n := 512) (View.read (Elt Ideal) v (v.writes (Elt Ideal) f
        [⟨Rect.unit (s := S4096x512) o3 S256x128.size i3, w3⟩, ⟨Rect.unit (s := S4096x512) o2 S256x128.size i2, w2⟩,
         ⟨Rect.unit (s := S4096x512) o1 S256x128.size i1, w1⟩, ⟨Rect.unit (s := S4096x512) o0 S256x128.size i0, w0⟩]))
      (fun s u => D (if s < 256 * (k + 1) then 256 * (n + 1) else 256 * n) s (512 * g + u)) :=
  (writes_holds v f j o0 o1 o2 o3 i0 i1 i2 i3 e0 e1 e2 e3 w0 w1 w2 w3 (y := fun s u => D (256 * (n + 1)) s (512 * g + u)) hx
    (h0.congr fun r d _ _ => by rw [show 128 * (4 * g + 0) + d = 512 * g + d by omega])
    (h1.congr fun r d _ _ => by rw [show 128 * (4 * g + 1) + d = 512 * g + (128 + d) by omega])
    (h2.congr fun r d _ _ => by rw [show 128 * (4 * g + 2) + d = 512 * g + (256 + d) by omega])
    (h3.congr fun r d _ _ => by rw [show 128 * (4 * g + 3) + d = 512 * g + (384 + d) by omega])).congr fun s u hs hu => by
    by_cases h : s / 256 = j.val
    · rw [if_pos h, if_pos (by omega)]
    · rw [if_neg h]
      by_cases h' : s < 256 * k
      · rw [if_pos h', if_pos (by omega)]
      · rw [if_neg h', if_neg (by omega)]

/-- One trip keeps the invariant. -/
theorem inv_trip (P : Point c i XS arg2 arg3 arg4 arg5 g2 g3 g4 g5 X) (arg0 arg1 : BitVec 32) (k : Fin (k0_t1_loop i).trips)
    (st : TripSt Ideal c) (h : Inv X c (i 0).val (i 1).val k.val st) :
    Inv X c (i 0).val (i 1).val (k.val + 1)
      (tripRun c i XS arg2 harg2 arg3 harg3 arg4 harg4 arg5 harg5 g3 g4 arg0 arg1
        (ldQ arg2.view ![0, 0] inb_S256x512_S256x128_0_0 g2) (ldQ arg2.view ![0, 128] inb_S256x512_S256x128_0_128 g2)
        (ldQ arg2.view ![0, 256] inb_S256x512_S256x128_0_256 g2) (ldQ arg2.view ![0, 384] inb_S256x512_S256x128_0_384 g2)
        (ldQ arg5.view ![0, 0] inb_S256x512_S256x128_0_0 g5) (ldQ arg5.view ![0, 128] inb_S256x512_S256x128_0_128 g5)
        (ldQ arg5.view ![0, 256] inb_S256x512_S256x128_0_256 g5) (ldQ arg5.view ![0, 384] inb_S256x512_S256x128_0_384 g5)
        k0_pay73 k st).1 := by
  obtain ⟨⟨a17, a18, a19, a20, a21, a22, a23, a24⟩, fk, fv⟩ := st
  rw [trip_eq]
  have hk1 : k.val < (i 1).val := lt_of_lt_of_eq k.isLt (trips1_eq i)
  have h16 : (i 1).val < 16 := (i 1).isLt
  have hj : (Ring.bk 16 k.val).val = k.val := Ring.bk_val (by omega)
  have b0 := blocks_of P 0 (Ring.bk 16 k.val) (Ring.sl 2 k.val) 0 1 rfl rfl ![0, 0] inb_S256x512_S256x128_0_0 rfl
    (k0_off25 i k) (k0_off25_inb i k) (off25_eq i k) (k0_off29 i k) (k0_off29_inb i k) (off29_eq i k) (k0_off33 i k) (k0_off33_inb i k) (off33_eq i k)
  have b1 := blocks_of P 1 (Ring.bk 16 k.val) (Ring.sl 2 k.val) 2 3 rfl rfl ![0, 128] inb_S256x512_S256x128_0_128 rfl
    (k0_off26 i k) (k0_off26_inb i k) (off26_eq i k) (k0_off30 i k) (k0_off30_inb i k) (off30_eq i k) (k0_off34 i k) (k0_off34_inb i k) (off34_eq i k)
  have b2 := blocks_of P 2 (Ring.bk 16 k.val) (Ring.sl 2 k.val) 4 5 rfl rfl ![0, 256] inb_S256x512_S256x128_0_256 rfl
    (k0_off27 i k) (k0_off27_inb i k) (off27_eq i k) (k0_off31 i k) (k0_off31_inb i k) (off31_eq i k) (k0_off35 i k) (k0_off35_inb i k) (off35_eq i k)
  have b3 := blocks_of P 3 (Ring.bk 16 k.val) (Ring.sl 2 k.val) 6 7 rfl rfl ![0, 384] inb_S256x512_S256x128_0_384 rfl
    (k0_off28 i k) (k0_off28_inb i k) (off28_eq i k) (k0_off32 i k) (k0_off32_inb i k) (off32_eq i k) (k0_off36 i k) (k0_off36_inb i k) (off36_eq i k)
  obtain ⟨c0, c1, c2, c3, hk, hv⟩ := h
  rw [← hj] at c0 c1 c2 c3
  have hlt : (Ring.bk 16 k.val).val < (i 1).val := by omega
  constructor
  · have e := carried_next b0 c0 hlt; rw [hj] at e; exact e
  · have e := carried_next b1 c1 hlt; rw [hj] at e; exact e
  · have e := carried_next b2 c2 hlt; rw [hj] at e; exact e
  · have e := carried_next b3 c3 hlt; rw [hj] at e; exact e
  · exact new_holds dkM.view fk (i 1).val (i 0).val k.val (Ring.bk 16 k.val) hj _ _ _ _ _ _ _ _ (off25_eq i k) (off26_eq i k) (off27_eq i k) (off28_eq i k) _ _ _ _ X.DK hk
      (dk_holds b0 (zL_holds b0 c0 hlt) (old_holds dkM.view fk _ _ k.val _ hj 0 _ _ (off25_eq i k) X.DK hk))
      (dk_holds b1 (zL_holds b1 c1 hlt) (old_holds dkM.view fk _ _ k.val _ hj 1 _ _ (off26_eq i k) X.DK hk))
      (dk_holds b2 (zL_holds b2 c2 hlt) (old_holds dkM.view fk _ _ k.val _ hj 2 _ _ (off27_eq i k) X.DK hk))
      (dk_holds b3 (zL_holds b3 c3 hlt) (old_holds dkM.view fk _ _ k.val _ hj 3 _ _ (off28_eq i k) X.DK hk))
  · exact new_holds dvM.view fv (i 1).val (i 0).val k.val (Ring.bk 16 k.val) hj _ _ _ _ _ _ _ _ (off25_eq i k) (off26_eq i k) (off27_eq i k) (off28_eq i k) _ _ _ _ X.DV hv
      (dv_holds b0 (old_holds dvM.view fv _ _ k.val _ hj 0 _ _ (off25_eq i k) X.DV hv))
      (dv_holds b1 (old_holds dvM.view fv _ _ k.val _ hj 1 _ _ (off26_eq i k) X.DV hv))
      (dv_holds b2 (old_holds dvM.view fv _ _ k.val _ hj 2 _ _ (off27_eq i k) X.DV hv))
      (dv_holds b3 (old_holds dvM.view fv _ _ k.val _ hj 3 _ _ (off28_eq i k) X.DV hv))

end Point

end Cert.KernelIdeal.Sb
-- ==== Proof.Diag.lean ====
module

public import proofs.«01_k».proof.Proof.Loop

/-!
The sums at one grid point, from the accumulators it starts with to what it leaves: the loop over the column blocks left
of the diagonal, and the block on the diagonal.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

theorem firstW_eq : ∀ i : grid0.Coords, firstW i = if (i 1).val = 0 then 1#1 else 0#1 := by decide +kernel
theorem cond5_eq : ∀ i : grid0.Coords, k0_cond5 i = if (i 1).val = 15 then 1#1 else 0#1 := by decide +kernel

section Point

variable {c : Dev nD} {i : grid0.Coords} {XS : Buf (Elt Ideal) (savedM.view.loc (c : Thread nD τ))}
  {arg2 : Memref sig .tc .vmem S256x512 .bf16} (harg2 : arg2.IsWhole)
  {arg3 : Memref sig .tc .vmem S4096x512 .bf16} (harg3 : arg3.IsWhole)
  {arg4 : Memref sig .tc .vmem S4096x512 .bf16} (harg4 : arg4.IsWhole)
  {arg5 : Memref sig .tc .vmem S256x512 .bf16} (harg5 : arg5.IsWhole)
  {g2 : Buf (Elt Ideal) (arg2.view.loc (c : Thread nD τ))}
  {g3 : Buf (Elt Ideal) (arg3.view.loc (c : Thread nD τ))} {g4 : Buf (Elt Ideal) (arg4.view.loc (c : Thread nD τ))}
  {g5 : Buf (Elt Ideal) (arg5.view.loc (c : Thread nD τ))}
  {fk : Buf (Elt Ideal) (dkM.view.loc (c : Thread nD τ))} {fv : Buf (Elt Ideal) (dvM.view.loc (c : Thread nD τ))} {X : Inp}

/-- An accumulator holds the sums over the row blocks above. -/
def Above (D : ℕ → ℕ → ℕ → ℝ) (g n : ℕ) (x : S4096x512.Idx → EReal) : Prop :=
  Holds (m := 4096) (n := 512) x (fun s u => D (256 * n) s (512 * g + u))

theorem zero_word : (Scalar.ofBits (F := Ideal) .f32 0x00000000#32 : EReal) = 0 := Ideal.ofBits_zero_f32

/-- An accumulator filled with zeros holds the empty sums. -/
theorem above_zero {sp : Space} (v : View sig .tc sp S4096x512 .f32) (f : v.ty.Contents (Elt Ideal)) (w : FVec Ideal S4096x512 .f32)
    (hw : ∀ r u, w (ix2 r u) = 0) (D : ℕ → ℕ → ℕ → ℝ) (hD : ∀ s u, D 0 s u = 0) (g n : ℕ) (hn : n = 0) :
    Above D g n (View.read (Elt Ideal) v (v.writes (Elt Ideal) f [⟨Rect.unit (s := S4096x512) ![0, 0] S4096x512.size inb_S4096x512_S4096x512_0_0, w⟩])) := by
  subst hn
  intro s u
  refine (View.read_writes_cons_unit_of_mem v f inb_S4096x512_S4096x512_0_0 w [] (ix2 s u) (ix2 s u) rfl
    (Fin.forall_fin_two.mpr ⟨by show s.val = 0 + s.val; omega, by show u.val = 0 + u.val; omega⟩)).trans ((hw s u).trans ?_)
  show (0 : EReal) = ((D (256 * 0) s.val (512 * g + u.val) : ℝ) : EReal)
  rw [Nat.mul_zero, hD]
  exact EReal.coe_zero.symm

theorem fk0_above (h : (i 1).val ≠ 0 → Above X.DK (i 0).val (i 1).val (View.read (Elt Ideal) dkM.view fk)) :
    Above X.DK (i 0).val (i 1).val (View.read (Elt Ideal) dkM.view (fk0 c i fk)) := by
  unfold fk0
  by_cases hn : (i 1).val = 0
  · rw [if_pos (by rw [firstW_eq, if_pos hn])]
    exact above_zero dkM.view fk _ (fun _ _ => zero_word) X.DK (fun s u => by simp [Inp.DK]) _ _ hn
  · rw [if_neg (by rw [firstW_eq, if_neg hn]; decide)]
    exact h hn

theorem fv0_above (h : (i 1).val ≠ 0 → Above X.DV (i 0).val (i 1).val (View.read (Elt Ideal) dvM.view fv)) :
    Above X.DV (i 0).val (i 1).val (View.read (Elt Ideal) dvM.view (fv0 c i fv)) := by
  unfold fv0
  by_cases hn : (i 1).val = 0
  · rw [if_pos (by rw [firstW_eq, if_pos hn])]
    exact above_zero dvM.view fv _ (fun _ _ => zero_word) X.DV (fun s u => by simp [Inp.DV]) _ _ hn
  · rw [if_neg (by rw [firstW_eq, if_neg hn]; decide)]
    exact h hn

theorem carried_zero (h n : ℕ) (dq : FVec Ideal S256x128 .f32) (cg : FVec Ideal S256x1 .f32)
    (h1 : ∀ r d, dq (ix2 r d) = 0) (h2 : ∀ r d, cg (ix2 r d) = 0) : Carried X h n 0 dq cg where
  hq := fun r d => (h1 r d).trans (by simp [Inp.DQ])
  hc := fun r d => (h2 r d).trans (by simp)

/-- The invariant at the loop's start. -/
theorem inv_zero (hk : Above X.DK (i 0).val (i 1).val (View.read (Elt Ideal) dkM.view fk))
    (hv : Above X.DV (i 0).val (i 1).val (View.read (Elt Ideal) dvM.view fv)) :
    Inv X c (i 0).val (i 1).val 0 (acc00, fk, fv) where
  c0 := carried_zero _ _ _ _ (fun _ _ => zero_word) (fun _ _ => zero_word)
  c1 := carried_zero _ _ _ _ (fun _ _ => zero_word) (fun _ _ => zero_word)
  c2 := carried_zero _ _ _ _ (fun _ _ => zero_word) (fun _ _ => zero_word)
  c3 := carried_zero _ _ _ _ (fun _ _ => zero_word) (fun _ _ => zero_word)
  hk := Holds.congr hk fun s u _ _ => by rw [if_neg (by omega)]
  hv := Holds.congr hv fun s u _ _ => by rw [if_neg (by omega)]

/-- The invariant after the loop. -/
theorem inv_mid (P : Point c i XS arg2 arg3 arg4 arg5 g2 g3 g4 g5 X)
    (hk : (i 1).val ≠ 0 → Above X.DK (i 0).val (i 1).val (View.read (Elt Ideal) dkM.view fk))
    (hv : (i 1).val ≠ 0 → Above X.DV (i 0).val (i 1).val (View.read (Elt Ideal) dvM.view fv)) :
    Inv X c (i 0).val (i 1).val (i 1).val (midSt c i XS arg2 harg2 arg3 harg3 arg4 harg4 arg5 harg5 g2 g3 g4 g5 fk fv) := by
  suffices h : ∀ k, k ≤ (k0_t1_loop i).trips → Inv X c (i 0).val (i 1).val k
      (stAt c i XS arg2 harg2 arg3 harg3 arg4 harg4 arg5 harg5 g3 g4 (BitVec.ofNat 32 (i 0).val) (BitVec.ofNat 32 (i 1).val)
        (ldQ arg2.view ![0, 0] inb_S256x512_S256x128_0_0 g2) (ldQ arg2.view ![0, 128] inb_S256x512_S256x128_0_128 g2)
        (ldQ arg2.view ![0, 256] inb_S256x512_S256x128_0_256 g2) (ldQ arg2.view ![0, 384] inb_S256x512_S256x128_0_384 g2)
        (ldQ arg5.view ![0, 0] inb_S256x512_S256x128_0_0 g5) (ldQ arg5.view ![0, 128] inb_S256x512_S256x128_0_128 g5)
        (ldQ arg5.view ![0, 256] inb_S256x512_S256x128_0_256 g5) (ldQ arg5.view ![0, 384] inb_S256x512_S256x128_0_384 g5)
        k0_pay73 acc00 (fk0 c i fk) (fv0 c i fv) k) by
    have e := h _ le_rfl
    rw [trips1_eq i] at e
    unfold midSt
    rw [trips1_eq i]
    exact e
  intro k
  induction k with
  | zero => exact fun _ => inv_zero (fk0_above hk) (fv0_above hv)
  | succ k ih =>
    intro hle
    have hlt : k < (k0_t1_loop i).trips := hle
    rw [stAt, dif_pos hlt]
    exact inv_trip harg2 harg3 harg4 harg5 P _ _ ⟨k, hlt⟩ _ (ih (Nat.le_of_lt hlt))

/-- What the diagonal block adds to the accumulators, and the queries' gradient it completes. -/
structure PointEnds (X : Inp) (g n : ℕ) (xk xv : S4096x512.Idx → EReal) (xq : S256x512.Idx → EReal) : Prop where
  hk : Holds (m := 4096) (n := 512) xk (fun s u => X.DK (if s < 256 * (n + 1) then 256 * (n + 1) else 256 * n) s (512 * g + u))
  hv : Holds (m := 4096) (n := 512) xv (fun s u => X.DV (if s < 256 * (n + 1) then 256 * (n + 1) else 256 * n) s (512 * g + u))
  hq : Holds (m := 256) (n := 512) xq (fun r u => X.DQ (256 * (n + 1)) (256 * n + r) (512 * g + u))

/-- Four heads' blocks written side by side. -/
theorem rows_holds {sp : Space} (v : View sig .tc sp S256x512 .bf16) (f : v.ty.Contents (Elt Ideal))
    (w0 w1 w2 w3 : FVec Ideal S256x128 .bf16) {y : ℕ → ℕ → ℝ}
    (h0 : Holds (m := 256) (n := 128) w0 (fun r d => y r d))
    (h1 : Holds (m := 256) (n := 128) w1 (fun r d => y r (128 + d)))
    (h2 : Holds (m := 256) (n := 128) w2 (fun r d => y r (256 + d)))
    (h3 : Holds (m := 256) (n := 128) w3 (fun r d => y r (384 + d))) :
    Holds (m := 256) (n := 512) (View.read (Elt Ideal) v (v.writes (Elt Ideal) f
        [⟨Rect.unit (s := S256x512) ![0, 384] S256x128.size inb_S256x512_S256x128_0_384, w3⟩,
         ⟨Rect.unit (s := S256x512) ![0, 256] S256x128.size inb_S256x512_S256x128_0_256, w2⟩,
         ⟨Rect.unit (s := S256x512) ![0, 128] S256x128.size inb_S256x512_S256x128_0_128, w1⟩,
         ⟨Rect.unit (s := S256x512) ![0, 0] S256x128.size inb_S256x512_S256x128_0_0, w0⟩])) y := by
  intro r c
  have hc := c.isLt
  have hr : r.val = 0 + r.val := (Nat.zero_add _).symm
  by_cases c3 : 384 ≤ c.val
  · refine (View.read_writes_cons_unit_of_mem v f inb_S256x512_S256x128_0_384 w3 _ (ix2 r c) (ix2 r ⟨c.val - 384, by omega⟩) rfl
      (Fin.forall_fin_two.mpr ⟨hr, by show c.val = 384 + (c.val - 384); omega⟩)).trans ((h3 _ _).trans ?_)
    show ((y r.val (384 + (c.val - 384)) : ℝ) : EReal) = _
    rw [Nat.add_sub_cancel' c3]
  rw [View.read_writes_cons_unit_of_not_mem v f inb_S256x512_S256x128_0_384 w3 _ (ix2 r c) rfl 1 (Or.inl (by show c.val < 384; omega))]
  by_cases c2 : 256 ≤ c.val
  · refine (View.read_writes_cons_unit_of_mem v f inb_S256x512_S256x128_0_256 w2 _ (ix2 r c) (ix2 r ⟨c.val - 256, by omega⟩) rfl
      (Fin.forall_fin_two.mpr ⟨hr, by show c.val = 256 + (c.val - 256); omega⟩)).trans ((h2 _ _).trans ?_)
    show ((y r.val (256 + (c.val - 256)) : ℝ) : EReal) = _
    rw [Nat.add_sub_cancel' c2]
  rw [View.read_writes_cons_unit_of_not_mem v f inb_S256x512_S256x128_0_256 w2 _ (ix2 r c) rfl 1 (Or.inl (by show c.val < 256; omega))]
  by_cases c1 : 128 ≤ c.val
  · refine (View.read_writes_cons_unit_of_mem v f inb_S256x512_S256x128_0_128 w1 _ (ix2 r c) (ix2 r ⟨c.val - 128, by omega⟩) rfl
      (Fin.forall_fin_two.mpr ⟨hr, by show c.val = 128 + (c.val - 128); omega⟩)).trans ((h1 _ _).trans ?_)
    show ((y r.val (128 + (c.val - 128)) : ℝ) : EReal) = _
    rw [Nat.add_sub_cancel' c1]
  rw [View.read_writes_cons_unit_of_not_mem v f inb_S256x512_S256x128_0_128 w1 _ (ix2 r c) rfl 1 (Or.inl (by show c.val < 128; omega))]
  exact (View.read_writes_cons_unit_of_mem v f inb_S256x512_S256x128_0_0 w0 _ (ix2 r c) (ix2 r ⟨c.val, by omega⟩) rfl
      (Fin.forall_fin_two.mpr ⟨hr, by show c.val = 0 + c.val; omega⟩)).trans (h0 _ _)

theorem cast_holds {w : FVec Ideal S256x128 .f32} {y : ℕ → ℕ → ℝ} (h : Holds (m := 256) (n := 128) w y) :
    Holds (m := 256) (n := 128) (shapeCast S256x128 (truncf .bf16 w bitsLt_bf16_f32) shapeCasts_S256x128_S256x128) y := by
  intro r d
  rw [shapeCast_self]
  exact h r d

/-- The end of a grid point, from the end of its loop. -/
theorem ends_of (P : Point c i XS arg2 arg3 arg4 arg5 g2 g3 g4 g5 X) (M : TripSt Ideal c) (fdq : Buf (Elt Ideal) (dqM.view.loc (c : Thread nD τ)))
    (h : Inv X c (i 0).val (i 1).val (i 1).val M) :
    PointEnds X (i 0).val (i 1).val (View.read (Elt Ideal) dkM.view (dkEnd c i XS arg2 arg4 arg5 g2 g4 g5 M))
      (View.read (Elt Ideal) dvM.view (dvEnd c i XS arg5 g5 M)) (View.read (Elt Ideal) dqM.view (dqEnd c i XS arg3 arg4 arg5 g3 g4 g5 fdq M)) := by
  have ht := trips1_eq i
  have h16 : (i 1).val < 16 := (i 1).isLt
  have hj : (Ring.bk 16 (k0_t1_loop i).trips).val = (i 1).val := (Ring.bk_val (by omega)).trans ht
  have e93 : k0_off93 i = kvOff (Ring.bk 16 (k0_t1_loop i).trips) 0 := (off93_eq i).trans (by unfold kvOff; rw [hj])
  have e94 : k0_off94 i = kvOff (Ring.bk 16 (k0_t1_loop i).trips) 1 := (off94_eq i).trans (by unfold kvOff; rw [hj])
  have e95 : k0_off95 i = kvOff (Ring.bk 16 (k0_t1_loop i).trips) 2 := (off95_eq i).trans (by unfold kvOff; rw [hj])
  have e96 : k0_off96 i = kvOff (Ring.bk 16 (k0_t1_loop i).trips) 3 := (off96_eq i).trans (by unfold kvOff; rw [hj])
  have b0 := blocks_of P 0 (Ring.bk 16 (k0_t1_loop i).trips) (Ring.sl 2 (k0_t1_loop i).trips) 0 1 rfl rfl ![0, 0] inb_S256x512_S256x128_0_0 rfl
    (k0_off93 i) (k0_off93_inb i) e93 (k0_off97 i) (k0_off97_inb i) (off97_eq i) (k0_off101 i) (k0_off101_inb i) (off101_eq i)
  have b1 := blocks_of P 1 (Ring.bk 16 (k0_t1_loop i).trips) (Ring.sl 2 (k0_t1_loop i).trips) 2 3 rfl rfl ![0, 128] inb_S256x512_S256x128_0_128 rfl
    (k0_off94 i) (k0_off94_inb i) e94 (k0_off98 i) (k0_off98_inb i) (off98_eq i) (k0_off102 i) (k0_off102_inb i) (off102_eq i)
  have b2 := blocks_of P 2 (Ring.bk 16 (k0_t1_loop i).trips) (Ring.sl 2 (k0_t1_loop i).trips) 4 5 rfl rfl ![0, 256] inb_S256x512_S256x128_0_256 rfl
    (k0_off95 i) (k0_off95_inb i) e95 (k0_off99 i) (k0_off99_inb i) (off99_eq i) (k0_off103 i) (k0_off103_inb i) (off103_eq i)
  have b3 := blocks_of P 3 (Ring.bk 16 (k0_t1_loop i).trips) (Ring.sl 2 (k0_t1_loop i).trips) 6 7 rfl rfl ![0, 384] inb_S256x512_S256x128_0_384 rfl
    (k0_off96 i) (k0_off96_inb i) e96 (k0_off100 i) (k0_off100_inb i) (off100_eq i) (k0_off104 i) (k0_off104_inb i) (off104_eq i)
  obtain ⟨c0, c1, c2, c3, hk, hv⟩ := h
  have o0 := old_holds dkM.view M.2.1 _ _ _ _ hj 0 _ (k0_off93_inb i) e93 X.DK hk
  have o1 := old_holds dkM.view M.2.1 _ _ _ _ hj 1 _ (k0_off94_inb i) e94 X.DK hk
  have o2 := old_holds dkM.view M.2.1 _ _ _ _ hj 2 _ (k0_off95_inb i) e95 X.DK hk
  have o3 := old_holds dkM.view M.2.1 _ _ _ _ hj 3 _ (k0_off96_inb i) e96 X.DK hk
  have p0 := old_holds dvM.view M.2.2 _ _ _ _ hj 0 _ (k0_off93_inb i) e93 X.DV hv
  have p1 := old_holds dvM.view M.2.2 _ _ _ _ hj 1 _ (k0_off94_inb i) e94 X.DV hv
  have p2 := old_holds dvM.view M.2.2 _ _ _ _ hj 2 _ (k0_off95_inb i) e95 X.DV hv
  have p3 := old_holds dvM.view M.2.2 _ _ _ _ hj 3 _ (k0_off96_inb i) e96 X.DV hv
  rw [hj] at b0 b1 b2 b3 o0 o1 o2 o3 p0 p1 p2 p3
  have z0 := zD_holds b0 c0
  have z1 := zD_holds b1 c1
  have z2 := zD_holds b2 c2
  have z3 := zD_holds b3 c3
  constructor
  · refine new_holds dkM.view M.2.1 (i 1).val (i 0).val (i 1).val (Ring.bk 16 (k0_t1_loop i).trips) hj _ _ _ _ _ _ _ _ e93 e94 e95 e96 _ _ _ _ X.DK hk ?_ ?_ ?_ ?_
    · rw [hj]; exact dk_holds b0 z0 o0
    · rw [hj]; exact dk_holds b1 z1 o1
    · rw [hj]; exact dk_holds b2 z2 o2
    · rw [hj]; exact dk_holds b3 z3 o3
  · refine new_holds dvM.view M.2.2 (i 1).val (i 0).val (i 1).val (Ring.bk 16 (k0_t1_loop i).trips) hj _ _ _ _ _ _ _ _ e93 e94 e95 e96 _ _ _ _ X.DV hv ?_ ?_ ?_ ?_
    · rw [hj]; exact dv_holds b0 p0
    · rw [hj]; exact dv_holds b1 p1
    · rw [hj]; exact dv_holds b2 p2
    · rw [hj]; exact dv_holds b3 p3
  · refine rows_holds dqM.view fdq _ _ _ _ (y := fun r u => X.DQ (256 * ((i 1).val + 1)) (256 * (i 1).val + r) (512 * (i 0).val + u)) ?_ ?_ ?_ ?_
    · exact (cast_holds (dq_holds b0 c0 z0)).congr fun r d _ _ => by rw [show 128 * (4 * (i 0).val + ((0 : Fin 4) : ℕ)) + d = 512 * (i 0).val + d by show 128 * (4 * (i 0).val + 0) + d = _; omega]
    · exact (cast_holds (dq_holds b1 c1 z1)).congr fun r d _ _ => by rw [show 128 * (4 * (i 0).val + ((1 : Fin 4) : ℕ)) + d = 512 * (i 0).val + (128 + d) by show 128 * (4 * (i 0).val + 1) + d = _; omega]
    · exact (cast_holds (dq_holds b2 c2 z2)).congr fun r d _ _ => by rw [show 128 * (4 * (i 0).val + ((2 : Fin 4) : ℕ)) + d = 512 * (i 0).val + (256 + d) by show 128 * (4 * (i 0).val + 2) + d = _; omega]
    · exact (cast_holds (dq_holds b3 c3 z3)).congr fun r d _ _ => by rw [show 128 * (4 * (i 0).val + ((3 : Fin 4) : ℕ)) + d = 512 * (i 0).val + (384 + d) by show 128 * (4 * (i 0).val + 3) + d = _; omega]

end Point

/-! The sums beyond the diagonal are empty. -/

theorem Inp.DQ_full (X : Inp) (S t c : ℕ) (h : t ≤ S) (hS : S ≤ 4096) : X.DQ S t c = X.DQ 4096 t c :=
  Finset.sum_subset (Finset.range_subset_range.mpr hS) fun s _ hs => by
    rw [Finset.mem_range] at hs
    rw [Inp.Z, if_neg (by omega), zero_mul]

theorem Inp.DK_above (X : Inp) (T T' s c : ℕ) (h : T' ≤ s + 1) (hT : T ≤ T') : X.DK T s c = X.DK T' s c :=
  Finset.sum_subset (Finset.range_subset_range.mpr hT) fun t ht hs => by
    rw [Finset.mem_range] at ht
    rw [Inp.Z, if_neg (by omega), zero_mul]

theorem Inp.DV_above (X : Inp) (ha : ∀ h t s, t < s → X.a h t s = 0) (T T' s c : ℕ) (h : T' ≤ s) (hT : T ≤ T') : X.DV T s c = X.DV T' s c :=
  Finset.sum_subset (Finset.range_subset_range.mpr hT) fun t ht hs => by
    rw [Finset.mem_range] at ht
    rw [ha _ _ _ (by omega), zero_mul]

theorem PointEnds.above_k {X : Inp} {g n : ℕ} {xk xv : S4096x512.Idx → EReal} {xq : S256x512.Idx → EReal} (h : PointEnds X g n xk xv xq) :
    Above X.DK g (n + 1) xk :=
  h.hk.congr fun s u _ _ => by
    by_cases hs : s < 256 * (n + 1)
    · rw [if_pos hs]
    · rw [if_neg hs]; exact X.DK_above _ _ _ _ (by omega) (by omega)

theorem PointEnds.above_v {X : Inp} (ha : ∀ h t s, t < s → X.a h t s = 0) {g n : ℕ} {xk xv : S4096x512.Idx → EReal} {xq : S256x512.Idx → EReal}
    (h : PointEnds X g n xk xv xq) : Above X.DV g (n + 1) xv :=
  h.hv.congr fun s u _ _ => by
    by_cases hs : s < 256 * (n + 1)
    · rw [if_pos hs]
    · rw [if_neg hs]; exact X.DV_above ha _ _ _ _ (by omega) (by omega)

end Cert.KernelIdeal.Sb
-- ==== Proof.Du.lean ====
module

public import proofs.«01_k».proof.Proof.Diag

/-!
What a grid point's copies out leave in the gradients' array.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

/-- The gradients' array once the queries' gradient is written by the first `Nq` grid points and the keys' and the values'
    by the first `Nk` and `Nv`: the sums over all the rows and columns there, `U` elsewhere. -/
def duSpec (X : Inp) (U : S4096x6656.Idx → EReal) (Nq Nk Nv : ℕ) (r : Fin 4096) (u : Fin 6656) : EReal :=
  if 1536 ≤ u.val ∧ u.val < 2560 ∧ 16 * ((u.val - 1536) / 512) + r.val / 256 < Nq then (X.DQ 4096 r.val (u.val - 1536) : EReal)
  else if 2560 ≤ u.val ∧ u.val < 3584 ∧ 16 * ((u.val - 2560) / 512) + 15 < Nk then (X.DK 4096 r.val (u.val - 2560) : EReal)
  else if 3584 ≤ u.val ∧ u.val < 4608 ∧ 16 * ((u.val - 3584) / 512) + 15 < Nv then (X.DV 4096 r.val (u.val - 3584) : EReal)
  else U (ix2 r u)

section Copies

variable {c : Dev nD} {X : Inp} {U : S4096x6656.Idx → EReal}

/-- A block copied into the gradients' array, read outside it. -/
theorem put_not_mem {off : Fin 2 → ℕ} {sz : Fin 2 → ℕ} (inb hq) (f : Buf (Elt Ideal) (duM.view.loc (c : Thread nD τ)))
    (w) (o0 o1 : ℕ) (e : off = ![o0, o1]) (r : Fin 4096) (u : Fin 6656)
    (h : r.val < o0 ∨ o0 + sz 0 ≤ r.val ∨ u.val < o1 ∨ o1 + sz 1 ≤ u.val) :
    View.read (Elt Ideal) duM.view (View.write (Elt Ideal) (duM.slice (Rect.unit (s := S4096x6656) off sz inb) hq).view f w Finset.univ) (ix2 r u)
      = View.read (Elt Ideal) duM.view f (ix2 r u) := by
  by_cases h' : r.val < o0 ∨ o0 + sz 0 ≤ r.val
  · exact View.read_writes_cons_unit_of_not_mem duM.view f inb w [] (ix2 r u) e 0 h'
  · exact View.read_writes_cons_unit_of_not_mem duM.view f inb w [] (ix2 r u) e 1 (by
      show u.val < o1 ∨ o1 + sz 1 ≤ u.val
      omega)

variable {i : grid0.Coords}

/-- The queries' gradient of a row block copied out. -/
theorem q_out (f : Buf (Elt Ideal) (duM.view.loc (c : Thread nD τ))) (w : S256x512.Idx → EReal) (Nk Nv : ℕ)
    (hf : ∀ r u, View.read (Elt Ideal) duM.view f (ix2 r u) = duSpec X U (16 * (i 0).val + (i 1).val) Nk Nv r u)
    (hw : Holds (m := 256) (n := 512) w (fun r u => X.DQ (256 * ((i 1).val + 1)) (256 * (i 1).val + r) (512 * (i 0).val + u)))
    (r : Fin 4096) (u : Fin 6656) :
    View.read (Elt Ideal) duM.view (View.write (Elt Ideal)
      (duM.slice (Rect.unit (s := S4096x6656) (k0_off105 i) S256x512.size (k0_off105_inb i)) (fun _ => rfl)).view f w Finset.univ) (ix2 r u)
      = duSpec X U (16 * (i 0).val + (i 1).val + 1) Nk Nv r u := by
  have h0 : (i 0).val < 2 := (i 0).isLt
  have h1 : (i 1).val < 16 := (i 1).isLt
  have hr := r.isLt
  have hu := u.isLt
  by_cases h : 256 * (i 1).val ≤ r.val ∧ r.val < 256 * (i 1).val + 256 ∧ 1536 + 512 * (i 0).val ≤ u.val ∧ u.val < 1536 + 512 * (i 0).val + 512
  · obtain ⟨ha, hb, hc, hd⟩ := h
    refine (View.read_writes_cons_unit_of_mem duM.view f (k0_off105_inb i) w [] (ix2 r u)
      (ix2 (⟨r.val - 256 * (i 1).val, by omega⟩ : Fin 256) (⟨u.val - (1536 + 512 * (i 0).val), by omega⟩ : Fin 512)) (off105_eq i)
      (Fin.forall_fin_two.mpr ⟨by show r.val = 256 * (i 1).val + (r.val - 256 * (i 1).val); omega,
        by show u.val = 1536 + 512 * (i 0).val + (u.val - (1536 + 512 * (i 0).val)); omega⟩)).trans ((hw _ _).trans ?_)
    show ((X.DQ (256 * ((i 1).val + 1)) (256 * (i 1).val + (r.val - 256 * (i 1).val)) (512 * (i 0).val + (u.val - (1536 + 512 * (i 0).val))) : ℝ) : EReal) = _
    rw [duSpec, if_pos (by omega), show 256 * (i 1).val + (r.val - 256 * (i 1).val) = r.val by omega,
      show 512 * (i 0).val + (u.val - (1536 + 512 * (i 0).val)) = u.val - 1536 by omega, X.DQ_full _ _ _ (by omega) (by omega)]
  · refine (put_not_mem (k0_off105_inb i) _ f w _ _ (off105_eq i) r u (by
      show r.val < 256 * (i 1).val ∨ 256 * (i 1).val + 256 ≤ r.val ∨ u.val < 1536 + 512 * (i 0).val ∨ 1536 + 512 * (i 0).val + 512 ≤ u.val
      omega)).trans ((hf r u).trans ?_)
    have he : (1536 ≤ u.val ∧ u.val < 2560 ∧ 16 * ((u.val - 1536) / 512) + r.val / 256 < 16 * (i 0).val + (i 1).val) ↔
        (1536 ≤ u.val ∧ u.val < 2560 ∧ 16 * ((u.val - 1536) / 512) + r.val / 256 < 16 * (i 0).val + (i 1).val + 1) := by omega
    simp only [duSpec, he]

/-- An accumulator's half of the buffer it is copied out from. -/
theorem half_read (f : Buf (Elt Ideal) (dkvM.view.loc (c : Thread nD τ))) (p : Fin 2) (off : Fin 3 → ℕ) (e : off = ![p.val, 0, 0]) (inb hq) (s : Fin 4096) (u : Fin 512) :
    View.read (Elt Ideal) ((dkvM.slice (Rect.unit (s := S2x4096x512) off S1x4096x512.size inb) hq).squeeze S4096x512 squeezes_S1x4096x512_S4096x512).view f (ix2 s u)
      = View.read (Elt Ideal) dkvM.view f (ix3 p s u) := by
  subst e
  refine congrArg (View.read (Elt Ideal) dkvM.view f) ?_
  funext a; apply Fin.ext
  match a with
  | ⟨0, _⟩ =>
    show p.val + 1 * ((Shape.reshapeEquiv (squeezes_S1x4096x512_S4096x512).numel_eq (ix2 s u)) 0).val = p.val
    rw [reshapeEquiv_ix2_1ab]
    show p.val + 1 * 0 = p.val
    omega
  | ⟨1, _⟩ =>
    show 0 + 1 * ((Shape.reshapeEquiv (squeezes_S1x4096x512_S4096x512).numel_eq (ix2 s u)) 1).val = s.val
    rw [reshapeEquiv_ix2_1ab]
    show 0 + 1 * s.val = s.val
    omega
  | ⟨2, _⟩ =>
    show 0 + 1 * ((Shape.reshapeEquiv (squeezes_S1x4096x512_S4096x512).numel_eq (ix2 s u)) 2).val = u.val
    rw [reshapeEquiv_ix2_1ab]
    show 0 + 1 * u.val = u.val
    omega

theorem whole_read {sp : Space} (v : View sig .tc sp S4096x512 .f32) (f : v.ty.Contents (Elt Ideal)) (s : Fin 4096) (u : Fin 512) :
    View.readAt (Elt Ideal) v (Rect.unit (s := S4096x512) ![0, 0] S4096x512.size inb_S4096x512_S4096x512_0_0).toLoadRect f (ix2 s u)
      = View.read (Elt Ideal) v f (ix2 s u) := by
  refine congrArg (View.read (Elt Ideal) v f) ?_
  funext a; apply Fin.ext
  match a with
  | ⟨0, _⟩ => show 0 + 1 * s.val = s.val; omega
  | ⟨1, _⟩ => show 0 + 1 * u.val = u.val; omega

/-- The two halves of the buffer, from the accumulators. -/
theorem halves (f : Buf (Elt Ideal) (dkvM.view.loc (c : Thread nD τ))) (fk fv : FVec Ideal S4096x512 .f32) (s : Fin 4096) (u : Fin 512) :
    View.read (Elt Ideal) dkvM.view (dkvM.view.writes (Elt Ideal) f
      [⟨Rect.unit (s := S2x4096x512) ![1, 0, 0] S1x4096x512.size inb_S2x4096x512_S1x4096x512_1_0_0, k0_pay70 (F := Ideal) fv⟩,
       ⟨Rect.unit (s := S2x4096x512) ![0, 0, 0] S1x4096x512.size inb_S2x4096x512_S1x4096x512_0_0_0, k0_pay69 (F := Ideal) fk⟩]) (ix3 (0 : Fin 2) s u) = fk (ix2 s u)
    ∧ View.read (Elt Ideal) dkvM.view (dkvM.view.writes (Elt Ideal) f
      [⟨Rect.unit (s := S2x4096x512) ![1, 0, 0] S1x4096x512.size inb_S2x4096x512_S1x4096x512_1_0_0, k0_pay70 (F := Ideal) fv⟩,
       ⟨Rect.unit (s := S2x4096x512) ![0, 0, 0] S1x4096x512.size inb_S2x4096x512_S1x4096x512_0_0_0, k0_pay69 (F := Ideal) fk⟩]) (ix3 (1 : Fin 2) s u) = fv (ix2 s u) := by
  constructor
  · refine (View.read_writes_cons_unit_of_not_mem dkvM.view f inb_S2x4096x512_S1x4096x512_1_0_0 _ _ (ix3 (0 : Fin 2) s u) rfl 0 (Or.inl (by show 0 < 1; omega))).trans ?_
    refine (View.read_writes_cons_unit_of_mem dkvM.view f inb_S2x4096x512_S1x4096x512_0_0_0 _ [] (ix3 (0 : Fin 2) s u) (ix3 (0 : Fin 1) s u) rfl ?_).trans
      (shapeCast_ab_1ab_apply _ shapeCasts_S4096x512_S1x4096x512 (0 : Fin 1) s u)
    intro a
    match a with
    | ⟨0, _⟩ => rfl
    | ⟨1, _⟩ => show s.val = 0 + s.val; omega
    | ⟨2, _⟩ => show u.val = 0 + u.val; omega
  · refine (View.read_writes_cons_unit_of_mem dkvM.view f inb_S2x4096x512_S1x4096x512_1_0_0 _ _ (ix3 (1 : Fin 2) s u) (ix3 (0 : Fin 1) s u) rfl ?_).trans
      (shapeCast_ab_1ab_apply _ shapeCasts_S4096x512_S1x4096x512 (0 : Fin 1) s u)
    intro a
    match a with
    | ⟨0, _⟩ => rfl
    | ⟨1, _⟩ => show s.val = 0 + s.val; omega
    | ⟨2, _⟩ => show u.val = 0 + u.val; omega

/-- The values' gradient of a group of heads copied out. -/
theorem v_out (hc : k0_cond5 i = 1#1) (f : Buf (Elt Ideal) (duM.view.loc (c : Thread nD τ))) (wv : S4096x512.Idx → EReal) (Nq Nk : ℕ)
    (hf : ∀ r u, View.read (Elt Ideal) duM.view f (ix2 r u) = duSpec X U Nq Nk (16 * (i 0).val + 15) r u)
    (hv : Above X.DV (i 0).val 16 wv) (r : Fin 4096) (u : Fin 6656) :
    View.read (Elt Ideal) duM.view (View.write (Elt Ideal)
      (duM.slice (Rect.unit (s := S4096x6656) (k0_off106 i 3584#32) S4096x512.size (k0_off106_inb i hc 1)) (fun _ => rfl)).view f wv Finset.univ) (ix2 r u)
      = duSpec X U Nq Nk (16 * (i 0).val + 15 + 1) r u := by
  have h0 : (i 0).val < 2 := (i 0).isLt
  have hr := r.isLt
  have hu := u.isLt
  by_cases h : 3584 + 512 * (i 0).val ≤ u.val ∧ u.val < 3584 + 512 * (i 0).val + 512
  · obtain ⟨hc', hd⟩ := h
    refine (View.read_writes_cons_unit_of_mem duM.view f (k0_off106_inb i hc 1) wv [] (ix2 r u)
      (ix2 r (⟨u.val - (3584 + 512 * (i 0).val), by omega⟩ : Fin 512)) (off106_dv_eq i)
      (Fin.forall_fin_two.mpr ⟨by show r.val = 0 + r.val; omega,
        by show u.val = 3584 + 512 * (i 0).val + (u.val - (3584 + 512 * (i 0).val)); omega⟩)).trans ((hv _ _).trans ?_)
    show ((X.DV (256 * 16) r.val (512 * (i 0).val + (u.val - (3584 + 512 * (i 0).val))) : ℝ) : EReal) = _
    rw [duSpec, if_neg (by omega), if_neg (by omega), if_pos (by omega),
      show 512 * (i 0).val + (u.val - (3584 + 512 * (i 0).val)) = u.val - 3584 by omega]
  · refine (put_not_mem (k0_off106_inb i hc 1) _ f wv _ _ (off106_dv_eq i) r u (by
      show r.val < 0 ∨ 0 + 4096 ≤ r.val ∨ u.val < 3584 + 512 * (i 0).val ∨ 3584 + 512 * (i 0).val + 512 ≤ u.val
      omega)).trans ((hf r u).trans ?_)
    have e2 : (3584 ≤ u.val ∧ u.val < 4608 ∧ 16 * ((u.val - 3584) / 512) + 15 < 16 * (i 0).val + 15) ↔
        (3584 ≤ u.val ∧ u.val < 4608 ∧ 16 * ((u.val - 3584) / 512) + 15 < 16 * (i 0).val + 15 + 1) := by omega
    simp only [duSpec, e2]

/-- The keys' gradient of a group of heads copied out. -/
theorem k_out (hc : k0_cond5 i = 1#1) (f : Buf (Elt Ideal) (duM.view.loc (c : Thread nD τ))) (wk : S4096x512.Idx → EReal) (Nq Nv : ℕ)
    (hf : ∀ r u, View.read (Elt Ideal) duM.view f (ix2 r u) = duSpec X U Nq (16 * (i 0).val + 15) Nv r u)
    (hk : Above X.DK (i 0).val 16 wk) (r : Fin 4096) (u : Fin 6656) :
    View.read (Elt Ideal) duM.view (View.write (Elt Ideal)
      (duM.slice (Rect.unit (s := S4096x6656) (k0_off106 i 2560#32) S4096x512.size (k0_off106_inb i hc 0)) (fun _ => rfl)).view f wk Finset.univ) (ix2 r u)
      = duSpec X U Nq (16 * (i 0).val + 15 + 1) Nv r u := by
  have h0 : (i 0).val < 2 := (i 0).isLt
  have hr := r.isLt
  have hu := u.isLt
  by_cases h : 2560 + 512 * (i 0).val ≤ u.val ∧ u.val < 2560 + 512 * (i 0).val + 512
  · obtain ⟨hc', hd⟩ := h
    refine (View.read_writes_cons_unit_of_mem duM.view f (k0_off106_inb i hc 0) wk [] (ix2 r u)
      (ix2 r (⟨u.val - (2560 + 512 * (i 0).val), by omega⟩ : Fin 512)) (off106_dk_eq i)
      (Fin.forall_fin_two.mpr ⟨by show r.val = 0 + r.val; omega,
        by show u.val = 2560 + 512 * (i 0).val + (u.val - (2560 + 512 * (i 0).val)); omega⟩)).trans ((hk _ _).trans ?_)
    show ((X.DK (256 * 16) r.val (512 * (i 0).val + (u.val - (2560 + 512 * (i 0).val))) : ℝ) : EReal) = _
    rw [duSpec, if_neg (by omega), if_pos (by omega),
      show 512 * (i 0).val + (u.val - (2560 + 512 * (i 0).val)) = u.val - 2560 by omega]
  · refine (put_not_mem (k0_off106_inb i hc 0) _ f wk _ _ (off106_dk_eq i) r u (by
      show r.val < 0 ∨ 0 + 4096 ≤ r.val ∨ u.val < 2560 + 512 * (i 0).val ∨ 2560 + 512 * (i 0).val + 512 ≤ u.val
      omega)).trans ((hf r u).trans ?_)
    have e1 : (2560 ≤ u.val ∧ u.val < 3584 ∧ 16 * ((u.val - 2560) / 512) + 15 < 16 * (i 0).val + 15) ↔
        (2560 ≤ u.val ∧ u.val < 3584 ∧ 16 * ((u.val - 2560) / 512) + 15 < 16 * (i 0).val + 15 + 1) := by omega
    simp only [duSpec, e1]

/-- A point that is not its group's last copies no key or value gradient out. -/
theorem duSpec_skip (Nq N : ℕ) (h : N % 16 ≠ 15) (r : Fin 4096) (u : Fin 6656) : duSpec X U Nq N N r u = duSpec X U Nq (N + 1) (N + 1) r u := by
  have e1 : (2560 ≤ u.val ∧ u.val < 3584 ∧ 16 * ((u.val - 2560) / 512) + 15 < N) ↔
        (2560 ≤ u.val ∧ u.val < 3584 ∧ 16 * ((u.val - 2560) / 512) + 15 < N + 1) := by omega
  have e2 : (3584 ≤ u.val ∧ u.val < 4608 ∧ 16 * ((u.val - 3584) / 512) + 15 < N) ↔
        (3584 ≤ u.val ∧ u.val < 4608 ∧ 16 * ((u.val - 3584) / 512) + 15 < N + 1) := by omega
  simp only [duSpec, e1, e2]

end Copies

end Cert.KernelIdeal.Sb
-- ==== Proof.Grid.lean ====
module

public import proofs.«01_k».proof.Proof.BodyVal
public import proofs.«01_k».proof.Proof.Du
public import proofs.«01_k».proof.Proof.Run
import all proofs.«01_k».proof.Proof.Run

/-!
The grid: what the points leave, one after the other, and the gradients' array after the last.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

section Step

variable {c : Dev nD} {i : grid0.Coords} {XS : Buf (Elt Ideal) (savedM.view.loc (c : Thread nD τ))}
  {arg2 : Memref sig .tc .vmem S256x512 .bf16} {harg2 : arg2.IsWhole}
  {arg3 : Memref sig .tc .vmem S4096x512 .bf16} {harg3 : arg3.IsWhole}
  {arg4 : Memref sig .tc .vmem S4096x512 .bf16} {harg4 : arg4.IsWhole}
  {arg5 : Memref sig .tc .vmem S256x512 .bf16} {harg5 : arg5.IsWhole}
  {g2 : Buf (Elt Ideal) (arg2.view.loc (c : Thread nD τ))}
  {g3 : Buf (Elt Ideal) (arg3.view.loc (c : Thread nD τ))} {g4 : Buf (Elt Ideal) (arg4.view.loc (c : Thread nD τ))}
  {g5 : Buf (Elt Ideal) (arg5.view.loc (c : Thread nD τ))} {X : Inp} {U : S4096x6656.Idx → EReal}

/-- The state before grid point `N`: the accumulators hold the sums of the group's row blocks so far, and the gradients' array what
    was copied out. -/
structure GridInv (c : Dev nD) (X : Inp) (U : S4096x6656.Idx → EReal) (N : ℕ) (σ : BodySt Ideal c) : Prop where
  hk : N % 16 ≠ 0 → Above X.DK (N / 16) (N % 16) (View.read (Elt Ideal) dkM.view σ.1)
  hv : N % 16 ≠ 0 → Above X.DV (N / 16) (N % 16) (View.read (Elt Ideal) dvM.view σ.2.1)
  hu : ∀ r u, View.read (Elt Ideal) duM.view σ.2.2.1 (ix2 r u) = duSpec X U N N N r u

/-- One grid point. -/
theorem grid_step (hX : ∀ h t s, t < s → X.a h t s = 0) (P : Point c i XS arg2 arg3 arg4 arg5 g2 g3 g4 g5 X) (σ : BodySt Ideal c)
    (h : GridInv c X U (16 * (i 0).val + (i 1).val) σ) :
    GridInv c X U (16 * (i 0).val + (i 1).val + 1) (bodyRun c i XS arg2 harg2 arg3 harg3 arg4 harg4 arg5 harg5 g2 g3 g4 g5 σ).1 := by
  have h0 : (i 0).val < 2 := (i 0).isLt
  have h1 : (i 1).val < 16 := (i 1).isLt
  obtain ⟨fk, fv, fu, fdq, fdkv⟩ := σ
  obtain ⟨hk, hv, hu⟩ := h
  rw [show (16 * (i 0).val + (i 1).val) % 16 = (i 1).val by omega, show (16 * (i 0).val + (i 1).val) / 16 = (i 0).val by omega] at hk hv
  have hM := inv_mid harg2 harg3 harg4 harg5 P hk hv
  have E := ends_of P _ fdq hM
  have hq := q_out (c := c) fu _ _ _ hu E.hq
  constructor
  · intro hn
    rw [show (16 * (i 0).val + (i 1).val + 1) / 16 = (i 0).val by omega, show (16 * (i 0).val + (i 1).val + 1) % 16 = (i 1).val + 1 by omega]
    rw [show (bodyRun c i XS arg2 harg2 arg3 harg3 arg4 harg4 arg5 harg5 g2 g3 g4 g5 (fk, fv, fu, fdq, fdkv)).1.1 = _ from
      body_dk c i XS arg2 harg2 arg3 harg3 arg4 harg4 arg5 harg5 g2 g3 g4 g5 fk fv fu fdq fdkv]
    exact E.above_k
  · intro hn
    rw [show (16 * (i 0).val + (i 1).val + 1) / 16 = (i 0).val by omega, show (16 * (i 0).val + (i 1).val + 1) % 16 = (i 1).val + 1 by omega]
    rw [show (bodyRun c i XS arg2 harg2 arg3 harg3 arg4 harg4 arg5 harg5 g2 g3 g4 g5 (fk, fv, fu, fdq, fdkv)).1.2.1 = _ from
      body_dv c i XS arg2 harg2 arg3 harg3 arg4 harg4 arg5 harg5 g2 g3 g4 g5 fk fv fu fdq fdkv]
    exact E.above_v hX
  · intro r u
    rw [show (bodyRun c i XS arg2 harg2 arg3 harg3 arg4 harg4 arg5 harg5 g2 g3 g4 g5 (fk, fv, fu, fdq, fdkv)).1.2.2.1 = _ from
      body_du c i XS arg2 harg2 arg3 harg3 arg4 harg4 arg5 harg5 g2 g3 g4 g5 fk fv fu fdq fdkv]
    by_cases h15 : (i 1).val = 15
    · have hc : k0_cond5 i = 1#1 := by rw [cond5_eq, if_pos h15]
      refine (congrArg (fun f => View.read (Elt Ideal) duM.view f (ix2 r u)) (dif_pos hc)).trans ?_
      have hak := E.above_k
      have hav := E.above_v hX
      rw [h15] at hq hak hav ⊢
      refine v_out (c := c) hc _ _ _ _ (k_out (c := c) hc _ _ _ _ hq ?_) ?_ r u
      · intro s w
        refine (half_read (c := c) _ 0 _ rfl _ _ s w).trans (((halves (c := c) _ _ _ s w).1).trans ((whole_read dkM.view _ s w).trans (hak s w)))
      · intro s w
        refine (half_read (c := c) _ 1 _ rfl _ _ s w).trans (((halves (c := c) _ _ _ s w).2).trans ((whole_read dvM.view _ s w).trans (hav s w)))
    · have hc : ¬ k0_cond5 i = 1#1 := by rw [cond5_eq, if_neg h15]; decide
      refine (congrArg (fun f => View.read (Elt Ideal) duM.view f (ix2 r u)) (dif_neg hc)).trans ?_
      refine (hq r u).trans ?_
      exact duSpec_skip _ _ (by omega) r u

end Step

theorem coords_lin : ∀ t : Fin cfg0.N, 16 * (grid0.coords t 0).val + (grid0.coords t 1).val = t.val := by decide +kernel

variable (m : (ℓ : Loc nD τ sig) → Buf (Elt Ideal) ℓ)

/-- The points one after the other. -/
theorem grid_all (c : Dev nD) (X : Inp) (hX : ∀ h t s, t < s → X.a h t s = 0)
    (hP : ∀ t : Fin cfg0.N, Point c (grid0.coords t) (XS m c) (st0_0 t) (st0_1 t) (st0_2 t) (st0_3 t)
      ((st0_0 t).view.rep (iblk m c 0 t)) ((st0_1 t).view.rep (iblk m c 1 t)) ((st0_2 t).view.rep (iblk m c 2 t)) ((st0_3 t).view.rep (iblk m c 3 t)) X)
    (σ : BodySt Ideal c) : ∀ N, N ≤ cfg0.N → GridInv c X (View.read (Elt Ideal) duM.view σ.2.2.1) N (stGrid m c σ N) := by
  intro N
  induction N with
  | zero =>
    intro _
    rw [stGrid_zero]
    refine ⟨fun h => absurd rfl h, fun h => absurd rfl h, fun r u => ?_⟩
    rw [duSpec, if_neg (by omega), if_neg (by omega), if_neg (by omega)]
  | succ N ih =>
    intro hN
    have h := ih (by omega)
    rw [show stGrid m c σ (N + 1) = _ from stGrid_succ m c σ ⟨N, by omega⟩]
    have e := coords_lin ⟨N, by omega⟩
    rw [show N = _ from e.symm] at h
    rw [show N + 1 = _ from congrArg (· + 1) e.symm]
    have := grid_step (harg2 := hs0 ⟨N, by omega⟩) (harg3 := hs1 ⟨N, by omega⟩) (harg4 := hs2 ⟨N, by omega⟩) (harg5 := hs3 ⟨N, by omega⟩) hX (hP ⟨N, by omega⟩) _ h
    unfold stepAt
    rw [e] at this ⊢
    exact this

/-- The gradients' array at the end. -/
theorem grid_end (c : Dev nD) (X : Inp) (hX : ∀ h t s, t < s → X.a h t s = 0)
    (hP : ∀ t : Fin cfg0.N, Point c (grid0.coords t) (XS m c) (st0_0 t) (st0_1 t) (st0_2 t) (st0_3 t)
      ((st0_0 t).view.rep (iblk m c 0 t)) ((st0_1 t).view.rep (iblk m c 1 t)) ((st0_2 t).view.rep (iblk m c 2 t)) ((st0_3 t).view.rep (iblk m c 3 t)) X)
    (σ : BodySt Ideal c) (r : Fin 4096) (u : Fin 6656) :
    View.read (Elt Ideal) duM.view (stGrid m c σ cfg0.N).2.2.1 (ix2 r u) =
      if 1536 ≤ u.val ∧ u.val < 2560 then (X.DQ 4096 r.val (u.val - 1536) : EReal)
      else if 2560 ≤ u.val ∧ u.val < 3584 then (X.DK 4096 r.val (u.val - 2560) : EReal)
      else if 3584 ≤ u.val ∧ u.val < 4608 then (X.DV 4096 r.val (u.val - 3584) : EReal)
      else View.read (Elt Ideal) duM.view σ.2.2.1 (ix2 r u) := by
  refine ((grid_all m c X hX hP σ cfg0.N le_rfl).hu r u).trans ?_
  have hN : cfg0.N = 32 := by decide +kernel
  have hr := r.isLt
  rw [hN]
  have e1 : (1536 ≤ u.val ∧ u.val < 2560 ∧ 16 * ((u.val - 1536) / 512) + r.val / 256 < 32) ↔ (1536 ≤ u.val ∧ u.val < 2560) := by omega
  have e2 : (2560 ≤ u.val ∧ u.val < 3584 ∧ 16 * ((u.val - 2560) / 512) + 15 < 32) ↔ (2560 ≤ u.val ∧ u.val < 3584) := by omega
  have e3 : (3584 ≤ u.val ∧ u.val < 4608 ∧ 16 * ((u.val - 3584) / 512) + 15 < 32) ↔ (3584 ≤ u.val ∧ u.val < 4608) := by omega
  simp only [duSpec, e1, e2, e3]

end Cert.KernelIdeal.Sb
-- ==== Proof.KerIn.lean ====
module

public import proofs.«01_k».proof.Proof.KerVal
public import proofs.«01_k».proof.Proof.Grid

/-!
What the kernel reads, over the reals: the saved weights and stop probabilities, and the blocks staged at a grid point.
-/

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx Idealize.ShloMosaic.StableHlo
open scoped BigOperators

variable (m : (ℓ : Loc nD τ sig) → Buf (Elt Ideal) ℓ) (c : Dev nD)

/-! ## The saved arrays -/

/-- The weights, as the program computes them from the scores. -/
abbrev weightsT (z : FVec Ideal S8x4096x4096 .f32) : FVec Ideal S8x4096x4096 .f32 :=
  select (broadcastInDim S8x4096x4096 ![1, 2] bcast_S4096x4096_S8x4096x4096_1_2 maskT)
    (Host.exp (addf (lsT (neg3 z)) (afterT (select (broadcastInDim S8x4096x4096 ![1, 2] bcast_S4096x4096_S8x4096x4096_1_2 maskT) (lsT (neg3 (neg3 z))) zeros3)))) zeros3

theorem V_v34 : V m c main_v34 = pairT (leadT (weightsT (scoresT (m (c, Proc.devRef .tc main_arg0)))))
    (leadT (exp3 (lsT (neg3 (scoresT (m (c, Proc.devRef .tc main_arg0))))))) := by
  show after (List.flatten [hostOps0, hostOps0_1, hostOps0_2, hostOps0_3, hostOps0_4, hostOps0_5, hostOps0_6, hostOps0_7, hostOps0_8, hostOps0_9, hostOps0_10, hostOps0_11])
    (fun b => m (c, b)) (Proc.devRef .tc main_v34) = _
  simp only [List.flatten_cons, List.flatten_nil, List.append_nil, after_append]
  rw [ops11_v34, ops10_v28, ops10_v29, ops8_v27, ops8_cst, ops8_v10, ops8_v16, ops6_v24, ops6_v10, ops6_v16, ops3_v19, ops3_v10, ops3_v16, ops1_v18, ops1_v10, ops1_v16,
    ops0_v17, ops0_v10, ops0_v16]

theorem V_v35 : V m c main_v35 = m (c, Proc.devRef .tc main_arg2) := by
  rw [← V_main_arg2 m c]
  show after (List.flatten [hostOps0, hostOps0_1, hostOps0_2, hostOps0_3, hostOps0_4, hostOps0_5, hostOps0_6, hostOps0_7, hostOps0_8, hostOps0_9, hostOps0_10, hostOps0_11])
    (fun b => m (c, b)) (Proc.devRef .tc main_v35) = after (List.flatten [hostOps0, hostOps0_1, hostOps0_2, hostOps0_3, hostOps0_4, hostOps0_5, hostOps0_6, hostOps0_7, hostOps0_8, hostOps0_9, hostOps0_10, hostOps0_11])
    (fun b => m (c, b)) (Proc.devRef .tc main_arg2)
  simp only [List.flatten_cons, List.flatten_nil, List.append_nil, after_append]
  rw [ops11_v35, ops11_arg2]

theorem weightsT_holds {z : FVec Ideal S8x4096x4096 .f32} {f : ℕ → ℕ → ℕ → ℝ} (hz : Holds3 (g := 8) (m := 4096) (n := 4096) z f) :
    Holds3 (g := 8) (m := 4096) (n := 4096) (weightsT z) (fun h t s => if s < t then wf f h t s else 0) := by
  have hM : Mask (g := 8) (m := 4096) (n := 4096) (broadcastInDim S8x4096x4096 ![1, 2] bcast_S4096x4096_S8x4096x4096_1_2 maskT) := mask_holds _ _ _ _ _
  have hL : Holds3 (g := 8) (m := 4096) (n := 4096) (lsT (neg3 (neg3 z))) (fun h t s => -sp (f h t s)) :=
    (lsT_holds (neg_holds (neg_holds hz))).congr fun h t s _ _ _ => by rw [neg_neg]
  have hl := sel_holds hM hL zeros3 fun i => zeros _ _ i
  exact sel_holds hM (exp_holds (add_holds (lsT_holds (neg_holds hz)) (afterT_holds hl))) zeros3 fun i => zeros _ _ i

theorem stops_holds {z : FVec Ideal S8x4096x4096 .f32} {f : ℕ → ℕ → ℕ → ℝ} (hz : Holds3 (g := 8) (m := 4096) (n := 4096) z f) :
    Holds3 (g := 8) (m := 4096) (n := 4096) (exp3 (lsT (neg3 z))) (fun h t s => Real.exp (-sp (-f h t s))) :=
  exp_holds (lsT_holds (neg_holds hz))

theorem leadT_at (a : FVec Ideal S8x4096x4096 .f32) (h : Fin 8) (r s : Fin 4096) : leadT a (ix4 (0 : Fin 1) h r s) = a (ix3 h r s) :=
  broadcastInDim_apply ![1, 2, 3] _ a (ix4 (0 : Fin 1) h r s) (ix3 h r s) (fun b => by
    match b with
    | ⟨0, _⟩ => rfl
    | ⟨1, _⟩ => rfl
    | ⟨2, _⟩ => rfl)

theorem pairT_fst (a b : FVec Ideal S1x8x4096x4096 .f32) (h : Fin 8) (r s : Fin 4096) : pairT a b (ix4 (0 : Fin 2) h r s) = a (ix4 (0 : Fin 1) h r s) :=
  concatenate_pair_apply_left 0 a b concatenates_S1x8x4096x4096_S1x8x4096x4096_S2x8x4096x4096_d0 (ix4 (0 : Fin 2) h r s) rfl (ix4 (0 : Fin 1) h r s) (fun b => by
    match b with
    | ⟨0, _⟩ => rfl
    | ⟨1, _⟩ => rfl
    | ⟨2, _⟩ => rfl
    | ⟨3, _⟩ => rfl)

theorem pairT_snd (a b : FVec Ideal S1x8x4096x4096 .f32) (h : Fin 8) (r s : Fin 4096) : pairT a b (ix4 (1 : Fin 2) h r s) = b (ix4 (0 : Fin 1) h r s) :=
  concatenate_pair_apply_right 0 a b concatenates_S1x8x4096x4096_S1x8x4096x4096_S2x8x4096x4096_d0 (ix4 (1 : Fin 2) h r s) rfl rfl (ix4 (0 : Fin 1) h r s) (fun b => by
    match b with
    | ⟨0, _⟩ => intro hb; exact absurd rfl hb
    | ⟨1, _⟩ => intro _; rfl
    | ⟨2, _⟩ => intro _; rfl
    | ⟨3, _⟩ => intro _; rfl) rfl

/-! ## The staged blocks -/

theorem coord0_lt (t : Fin cfg0.N) : (grid0.coords t 0).val < 2 := (grid0.coords t 0).isLt
theorem coord1_lt (t : Fin cfg0.N) : (grid0.coords t 1).val < 16 := (grid0.coords t 1).isLt

theorem word_nat (a : ℕ) (h : a < 100) : (BitVec.ofNat 32 a).toNat = a := by rw [BitVec.toNat_ofNat]; exact Nat.mod_eq_of_lt (by omega)
theorem word_add (k a : ℕ) (hk : k < 100) (h : a < 100) : (Scalar.addi (BitVec.ofNat 32 k) (BitVec.ofNat 32 a)).toNat = k + a := by
  show (BitVec.ofNat 32 k + BitVec.ofNat 32 a).toNat = k + a
  rw [BitVec.toNat_add, word_nat _ h, word_nat _ hk]
  exact Nat.mod_eq_of_lt (by omega)

theorem blk0_at (t : Fin cfg0.N) (r : Fin 256) (u : Fin 512) : iblk m c 0 t (ix2 r u)
    = m ((c : Thread nD τ).loc main_arg0) (ix2 (⟨256 * (grid0.coords t 1).val + r.val, by have := coord1_lt t; omega⟩ : Fin 4096) (⟨512 * (grid0.coords t 0).val + u.val, by have := coord0_lt t; omega⟩ : Fin 3072)) := by
  rw [← V_main_arg0 m c]
  have h0 := coord0_lt t
  have h1 := coord1_lt t
  refine Eq.trans (b := V m c main_arg0 ((win0_0.rect t).emb (ix2 r u))) rfl (congrArg _ ?_)
  funext a; apply Fin.ext
  refine (Pipeline.Window.rect_emb_val win0_0 t (ix2 r u) a).trans ?_
  match a with
  | ⟨0, _⟩ =>
    show (BitVec.ofNat 32 (grid0.coords t 1).val).toNat * 256 + r.val = 256 * (grid0.coords t 1).val + r.val
    rw [word_nat _ (by omega)]; omega
  | ⟨1, _⟩ =>
    show (BitVec.ofNat 32 (grid0.coords t 0).val).toNat * 512 + u.val = 512 * (grid0.coords t 0).val + u.val
    rw [word_nat _ (by omega)]; omega

theorem blk1_at (t : Fin cfg0.N) (r : Fin 4096) (u : Fin 512) : iblk m c 1 t (ix2 r u)
    = m ((c : Thread nD τ).loc main_arg0) (ix2 r (⟨1024 + (512 * (grid0.coords t 0).val + u.val), by have := coord0_lt t; omega⟩ : Fin 3072)) := by
  rw [← V_main_arg0 m c]
  have h0 := coord0_lt t
  refine Eq.trans (b := V m c main_arg0 ((win0_1.rect t).emb (ix2 r u))) rfl (congrArg _ ?_)
  funext a; apply Fin.ext
  refine (Pipeline.Window.rect_emb_val win0_1 t (ix2 r u) a).trans ?_
  match a with
  | ⟨0, _⟩ =>
    show 0 * 4096 + r.val = r.val
    omega
  | ⟨1, _⟩ =>
    show (Scalar.addi 2#32 (BitVec.ofNat 32 (grid0.coords t 0).val)).toNat * 512 + u.val = 1024 + (512 * (grid0.coords t 0).val + u.val)
    rw [word_add _ _ (by omega) (by omega)]; omega

theorem blk2_at (t : Fin cfg0.N) (r : Fin 4096) (u : Fin 512) : iblk m c 2 t (ix2 r u)
    = m ((c : Thread nD τ).loc main_arg0) (ix2 r (⟨2048 + (512 * (grid0.coords t 0).val + u.val), by have := coord0_lt t; omega⟩ : Fin 3072)) := by
  rw [← V_main_arg0 m c]
  have h0 := coord0_lt t
  refine Eq.trans (b := V m c main_arg0 ((win0_2.rect t).emb (ix2 r u))) rfl (congrArg _ ?_)
  funext a; apply Fin.ext
  refine (Pipeline.Window.rect_emb_val win0_2 t (ix2 r u) a).trans ?_
  match a with
  | ⟨0, _⟩ =>
    show 0 * 4096 + r.val = r.val
    omega
  | ⟨1, _⟩ =>
    show (Scalar.addi 4#32 (BitVec.ofNat 32 (grid0.coords t 0).val)).toNat * 512 + u.val = 2048 + (512 * (grid0.coords t 0).val + u.val)
    rw [word_add _ _ (by omega) (by omega)]; omega

theorem blk3_at (t : Fin cfg0.N) (r : Fin 256) (u : Fin 512) : iblk m c 3 t (ix2 r u)
    = m ((c : Thread nD τ).loc main_arg1) (ix2 (⟨256 * (grid0.coords t 1).val + r.val, by have := coord1_lt t; omega⟩ : Fin 4096) (⟨512 * (grid0.coords t 0).val + u.val, by have := coord0_lt t; omega⟩ : Fin 1024)) := by
  rw [← V_main_arg1 m c]
  have h0 := coord0_lt t
  have h1 := coord1_lt t
  refine Eq.trans (b := V m c main_arg1 ((win0_3.rect t).emb (ix2 r u))) rfl (congrArg _ ?_)
  funext a; apply Fin.ext
  refine (Pipeline.Window.rect_emb_val win0_3 t (ix2 r u) a).trans ?_
  match a with
  | ⟨0, _⟩ =>
    show (BitVec.ofNat 32 (grid0.coords t 1).val).toNat * 256 + r.val = 256 * (grid0.coords t 1).val + r.val
    rw [word_nat _ (by omega)]; omega
  | ⟨1, _⟩ =>
    show (BitVec.ofNat 32 (grid0.coords t 0).val).toNat * 512 + u.val = 512 * (grid0.coords t 0).val + u.val
    rw [word_nat _ (by omega)]; omega

variable {x o : ℕ → ℕ → ℝ}

/-- At every grid point the kernel finds the inputs' blocks, and their weights and stop probabilities. -/
theorem points (hx : Holds (m := 4096) (n := 3072) (m ((c : Thread nD τ).loc main_arg0)) x)
    (ho : Holds (m := 4096) (n := 1024) (m ((c : Thread nD τ).loc main_arg1)) o) (t : Fin cfg0.N) :
    Point c (grid0.coords t) (XS m c) (st0_0 t) (st0_1 t) (st0_2 t) (st0_3 t)
      ((st0_0 t).view.rep (iblk m c 0 t)) ((st0_1 t).view.rep (iblk m c 1 t)) ((st0_2 t).view.rep (iblk m c 2 t)) ((st0_3 t).view.rep (iblk m c 3 t)) (inpOf x o) where
  hq r u := (congrFun (View.read_rep _ _) (ix2 r u)).trans ((blk0_at m c t r u).trans (hx _ _))
  hk r u := (congrFun (View.read_rep _ _) (ix2 r u)).trans ((blk1_at m c t r u).trans (hx _ _))
  hv r u := (congrFun (View.read_rep _ _) (ix2 r u)).trans ((blk2_at m c t r u).trans (hx _ _))
  ho r u := (congrFun (View.read_rep _ _) (ix2 r u)).trans ((blk3_at m c t r u).trans (ho _ _))
  ha h r s := by
    refine Eq.trans (b := V m c main_v34 (ix4 (0 : Fin 2) h r s)) rfl ?_
    rw [V_v34]
    exact (pairT_fst _ _ h r s).trans ((leadT_at _ h r s).trans (weightsT_holds (scoresT_holds hx) h r s))
  hb h r s := by
    refine Eq.trans (b := V m c main_v34 (ix4 (1 : Fin 2) h r s)) rfl ?_
    rw [V_v34]
    exact (pairT_snd _ _ h r s).trans ((leadT_at _ h r s).trans (stops_holds (scoresT_holds hx) h r s))

end Cert.KernelIdeal.Sb

end
-- ==== Proof.Meet.lean ====
module

public import proofs.«01_k».proof.Defs
public import proofs.«01_k».proof.Proof.RefVal
public import proofs.«01_k».proof.Proof.KerIn

/-!
The kernel and the reference end with the same array: the columns of the gradients of q, k and v, and around them the
columns that were there. The precondition says that the inputs are real numbers.
-/

@[expose] public section

set_option maxRecDepth 16384

noncomputable section

namespace Cert.Meet

open Cert.KernelIdeal.Sb
open Idealize.ShloMosaic Idealize.ShloMosaic.TcCoe Idealize.ShloMosaic.ValueIdx Idealize.ShloMosaic.StableHlo

/-! ## The precondition -/

instance pre_facts : Cert.Pre_finite.Facts := ⟨by decide, by decide, by decide⟩

theorem inf_top : Ideal.ofBits .bf16 0x7F80#16 = (⊤ : EReal) := by simp [Ideal.ofBits, Ideal.ieee]

/-- A number whose absolute value is below infinity is real. -/
theorem real_of_lt (x : EReal) (h : Ideal.cmp .olt (max x (-x)) (⊤ : EReal) = 1#1) : ∃ r : ℝ, x = (r : EReal) := by
  induction x with
  | coe r => exact ⟨r, rfl⟩
  | top => simp [Ideal.cmp] at h
  | bot => simp [Ideal.cmp] at h

section Pre

variable [Cert.Pre_finite.Facts] (a : FVec Ideal Cert.Pre_finite.S4096x3072 .bf16) (b : FVec Ideal Cert.Pre_finite.S4096x1024 .bf16)
  (d : FVec Ideal Cert.Pre_finite.S4096x6656 .bf16) (h : Cert.Pre_finite.fn a b d = fun _ => 1#1)

include h in
theorem pre_fst (i : Cert.Pre_finite.S4096x3072.Idx) : ∃ r : ℝ, a i = (r : EReal) := by
  have hi0 : (i 0).val < 4096 := (i 0).isLt
  have hi1 : (i 1).val < 3072 := (i 1).isLt
  have e := congrFun h (ix2 (⟨(i 0).val, hi0⟩ : Fin 4096) (⟨(i 1).val, by omega⟩ : Fin 4096))
  unfold Cert.Pre_finite.fn at e
  have e' := (concatenate_pair_apply_left 1 _ _ Cert.Pre_finite.Facts.concatenates_S4096x3072_S4096x1024_S4096x4096_d1 _ rfl i (fun b => by
    match b with
    | ⟨0, _⟩ => rfl
    | ⟨1, _⟩ => rfl)).symm.trans e
  refine real_of_lt (a i) ?_
  rw [← inf_top]
  refine Eq.trans ?_ e'
  exact congrArg (Ideal.cmp .olt (max (a i) (-(a i)))) ((broadcastInDim_scalar_apply _ (constant (F := Ideal) Cert.Pre_finite.S_ .bf16 0x7F80#16) i).trans rfl).symm

include h in
theorem pre_snd (i : Cert.Pre_finite.S4096x1024.Idx) : ∃ r : ℝ, b i = (r : EReal) := by
  have hi0 : (i 0).val < 4096 := (i 0).isLt
  have hi1 : (i 1).val < 1024 := (i 1).isLt
  have e := congrFun h (ix2 (⟨(i 0).val, hi0⟩ : Fin 4096) (⟨(i 1).val + 3072, by omega⟩ : Fin 4096))
  unfold Cert.Pre_finite.fn at e
  have e' := (concatenate_pair_apply_right 1 _ _ Cert.Pre_finite.Facts.concatenates_S4096x3072_S4096x1024_S4096x4096_d1 _ rfl rfl i (fun b => by
    match b with
    | ⟨0, _⟩ => intro _; rfl
    | ⟨1, _⟩ => intro hb; exact absurd rfl hb) rfl).symm.trans e
  refine real_of_lt (b i) ?_
  rw [← inf_top]
  refine Eq.trans ?_ e'
  exact congrArg (Ideal.cmp .olt (max (b i) (-(b i)))) ((broadcastInDim_scalar_apply _ (constant (F := Ideal) Cert.Pre_finite.S_ .bf16 0x7F80#16) i).trans rfl).symm

end Pre

/-! ## The reference's result, column by column -/

section Ref

open Cert.ReferenceIdeal Cert.ReferenceIdeal.Gen

/-- The five blocks of columns that the reference puts side by side. -/
abbrev pieces (g : FVec Ideal S4096x6656 .bf16) (p q s : FVec Ideal S4096x1024 .bf16) : List ((t : Shape) × (t.Idx → Ideal .bf16)) :=
  [⟨S4096x1536, extractStridedSlice S4096x1536 ![0, 0] g slices_S4096x6656_S4096x1536_0_0⟩, ⟨S4096x1024, p⟩, ⟨S4096x1024, q⟩, ⟨S4096x1024, s⟩,
    ⟨S4096x2048, extractStridedSlice S4096x2048 ![0, 4608] g slices_S4096x6656_S4096x2048_0_4608⟩]

/-- The array of gradients with three blocks of columns replaced. -/
abbrev outT (g : FVec Ideal S4096x6656 .bf16) (p q s : FVec Ideal S4096x1024 .bf16) : FVec Ideal S4096x6656 .bf16 :=
  concatenate S4096x6656 1 (pieces g p q s) concatenates_S4096x1536_S4096x1024_S4096x1024_S4096x1024_S4096x2048_S4096x6656_d1

variable (g : FVec Ideal S4096x6656 .bf16) (p q s : FVec Ideal S4096x1024 .bf16) (r : Fin 4096) (u : Fin 6656)

theorem outT_below (h : u.val < 1536) : outT g p q s (ix2 r u) = g (ix2 r u) := by
  refine (concatenate_apply_piece 1 (pieces g p q s) concatenates_S4096x1536_S4096x1024_S4096x1024_S4096x1024_S4096x2048_S4096x6656_d1 (ix2 r u) 0 (show 0 < 5 by decide) S4096x1536 _ rfl rfl 0 rfl
    (ix2 r (⟨u.val, h⟩ : Fin 1536)) (fun b => ?_) ?_).trans (extractStridedSlice_apply ![0, 0] g _ _ (ix2 r u) fun b => ?_)
  · match b with
    | ⟨0, _⟩ => intro _; rfl
    | ⟨1, _⟩ => intro hb; exact absurd rfl hb
  · exact Nat.zero_add u.val
  · match b with
    | ⟨0, _⟩ => exact (Nat.zero_add r.val).symm
    | ⟨1, _⟩ => exact (Nat.zero_add u.val).symm

theorem outT_p (v : Fin 1024) (h : 1536 + v.val = u.val) : outT g p q s (ix2 r u) = p (ix2 r v) :=
  concatenate_apply_piece 1 (pieces g p q s) concatenates_S4096x1536_S4096x1024_S4096x1024_S4096x1024_S4096x2048_S4096x6656_d1 (ix2 r u) 1 (show 1 < 5 by decide) S4096x1024 p rfl rfl 1536 rfl
    (ix2 r v) (fun b => by
      match b with
      | ⟨0, _⟩ => intro _; rfl
      | ⟨1, _⟩ => intro hb; exact absurd rfl hb) h

theorem outT_q (v : Fin 1024) (h : 2560 + v.val = u.val) : outT g p q s (ix2 r u) = q (ix2 r v) :=
  concatenate_apply_piece 1 (pieces g p q s) concatenates_S4096x1536_S4096x1024_S4096x1024_S4096x1024_S4096x2048_S4096x6656_d1 (ix2 r u) 2 (show 2 < 5 by decide) S4096x1024 q rfl rfl 2560 rfl
    (ix2 r v) (fun b => by
      match b with
      | ⟨0, _⟩ => intro _; rfl
      | ⟨1, _⟩ => intro hb; exact absurd rfl hb) h

theorem outT_s (v : Fin 1024) (h : 3584 + v.val = u.val) : outT g p q s (ix2 r u) = s (ix2 r v) :=
  concatenate_apply_piece 1 (pieces g p q s) concatenates_S4096x1536_S4096x1024_S4096x1024_S4096x1024_S4096x2048_S4096x6656_d1 (ix2 r u) 3 (show 3 < 5 by decide) S4096x1024 s rfl rfl 3584 rfl
    (ix2 r v) (fun b => by
      match b with
      | ⟨0, _⟩ => intro _; rfl
      | ⟨1, _⟩ => intro hb; exact absurd rfl hb) h

theorem outT_above (h : 4608 ≤ u.val) : outT g p q s (ix2 r u) = g (ix2 r u) := by
  have hu := u.isLt
  refine (concatenate_apply_piece 1 (pieces g p q s) concatenates_S4096x1536_S4096x1024_S4096x1024_S4096x1024_S4096x2048_S4096x6656_d1 (ix2 r u) 4 (show 4 < 5 by decide) S4096x2048 _ rfl rfl 4608 rfl
    (ix2 r (⟨u.val - 4608, by omega⟩ : Fin 2048)) (fun b => ?_) ?_).trans (extractStridedSlice_apply ![0, 4608] g _ _ (ix2 r u) fun b => ?_)
  · match b with
    | ⟨0, _⟩ => intro _; rfl
    | ⟨1, _⟩ => intro hb; exact absurd rfl hb
  · exact Nat.add_sub_cancel' h
  · match b with
    | ⟨0, _⟩ => exact (Nat.zero_add r.val).symm
    | ⟨1, _⟩ => exact (Nat.add_sub_cancel' h).symm

/-- The columns that the three blocks hold, over the reals, and the rest as it was. -/
theorem outT_at {P Q R : ℕ → ℕ → ℝ} (hp : Holds (m := 4096) (n := 1024) p P) (hq : Holds (m := 4096) (n := 1024) q Q) (hs : Holds (m := 4096) (n := 1024) s R) :
    outT g p q s (ix2 r u) =
      if 1536 ≤ u.val ∧ u.val < 2560 then (P r.val (u.val - 1536) : EReal)
      else if 2560 ≤ u.val ∧ u.val < 3584 then (Q r.val (u.val - 2560) : EReal)
      else if 3584 ≤ u.val ∧ u.val < 4608 then (R r.val (u.val - 3584) : EReal)
      else g (ix2 r u) := by
  split_ifs with h1 h2 h3
  · exact (outT_p g p q s r u ⟨u.val - 1536, by omega⟩ (Nat.add_sub_cancel' h1.1)).trans (hp _ _)
  · exact (outT_q g p q s r u ⟨u.val - 2560, by omega⟩ (Nat.add_sub_cancel' h2.1)).trans (hq _ _)
  · exact (outT_s g p q s r u ⟨u.val - 3584, by omega⟩ (Nat.add_sub_cancel' h3.1)).trans (hs _ _)
  · by_cases h : u.val < 1536
    · exact outT_below g p q s r u h
    · exact outT_above g p q s r u (by omega)

end Ref

/-! ## The two results -/

section Both

open Cert.KernelIdeal Cert.KernelIdeal.Gen

variable (m : (ℓ : Loc nD τ sig) → Buf (Elt Ideal) ℓ) (c : Dev nD) {x o : ℕ → ℕ → ℝ}

/-- The kernel's array at the end is the argument's with the three blocks replaced. -/
theorem kernel_out (hx : Holds (m := 4096) (n := 3072) (m ((c : Thread nD τ).loc main_arg0)) x)
    (ho : Holds (m := 4096) (n := 1024) (m ((c : Thread nD τ).loc main_arg1)) o)
    {W : (b : Ref sig .tc) → Buf (Elt Ideal) ((c.tc : Thread nD τ).loc b)} (hW : Ends m c W)
    (p q s : FVec Ideal Cert.ReferenceIdeal.S4096x1024 .bf16) (hp : Holds (m := 4096) (n := 1024) p ((inpOf x o).DQ 4096))
    (hq : Holds (m := 4096) (n := 1024) q ((inpOf x o).DK 4096)) (hs : Holds (m := 4096) (n := 1024) s ((inpOf x o).DV 4096)) :
    W main_v35 = outT (m ((c : Thread nD τ).loc main_arg2)) p q s := by
  obtain ⟨σ, hσ, hW⟩ := hW
  rw [hW]
  funext j
  have hj : j = ix2 (⟨(j 0).val, (j 0).isLt⟩ : Fin 4096) (⟨(j 1).val, (j 1).isLt⟩ : Fin 6656) := by
    funext a
    match a with
    | ⟨0, _⟩ => rfl
    | ⟨1, _⟩ => rfl
  rw [hj]
  generalize (⟨(j 0).val, (j 0).isLt⟩ : Fin 4096) = r
  generalize (⟨(j 1).val, (j 1).isLt⟩ : Fin 6656) = u
  refine Eq.trans (b := View.read (Elt Ideal) duM.view (stGrid m c σ cfg0.N).2.2.1 (ix2 r u)) rfl ?_
  refine (grid_end m c (inpOf x o) (fun h t s hs => inp_future _ _ _ _ h t s hs) (points m c hx ho) σ r u).trans ?_
  refine Eq.trans ?_ (outT_at _ p q s r u hp hq hs).symm
  rw [hσ, V_v35]
  rfl

end Both

end Cert.Meet

end
-- ==== Proof.Memory.lean ====
module

public import proofs.«01_k».proof.Defs
public import proofs.«01_k».proof.Proof.Gen.Kernel16Ideal.Value
public import proofs.«01_k».proof.Proof.Gen.Reference16Ideal.Run
public import proofs.«01_k».proof.Proof.Prod

/-!
The cross-attention's projection of the memory, to keys and values. There is one point.
-/

@[expose] public section

set_option maxRecDepth 16384

noncomputable section

namespace Cert.Memory

open Cert.Kernel16Ideal Cert.Kernel16Ideal.Gen Cert.Kernel16Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S256x2048 .bf16) (h3 : a3.IsWhole)
    (a4 : Memref sig .tc .vmem S2048x1024 .bf16) (h4 : a4.IsWhole)
    (a5 : Memref sig .tc .vmem S256x1024 .bf16) (h5 : a5.IsWhole)
    (a6 : Memref sig .tc .vmem S256x1024 .f32) (h6 : a6.IsWhole)
    (hc0 : cond0_0 i) (hc1 : ¬cond0_1 i) (hc2 : cond0_2 i)
    (x0 : Vec F S256x2048 .bf16) (x1 : Vec F S2048x1024 .bf16) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  unfold k0_pay4
  simp only [View.readCov_unit_zero (S := S256x1024) _ Cert.Prod.origin]
  unfold k0_pay2
  simp only [View.readAt_eq_ld, h3.read_unread, h4.read_unread, View.ld_unit_zero (S := S256x2048) Cert.Prod.origin, View.ld_unit_zero (S := S2048x1024) Cert.Prod.origin, shapeCast_self]

/-- Where the blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

variable (m : (ℓ : Loc nD τ sig) → Buf (Elt Ideal) ℓ)

/-- The result at a row and a column. -/
def whole (c : Dev nD) (R : Fin 256) (C : Fin 1024) : EReal :=
  Cert.Prod.byCols (M := 256) (K := 2048) (N := 1024) (m ((c : Thread nD τ).loc main_arg0)) (m ((c : Thread nD τ).loc main_arg1)) R C

/-- The kernel's result array. -/
theorem kernel_value (c : Dev nD) (i : S256x1024.Idx) : (dats m 0 c).arrAt 2 cfg0.N i = whole m c (i 0) (i 1) :=
  Cert.Prod.by_tiles (tm := 256) (tn := 1024) (by decide) (by decide) (fun i => (dats m 0 c).arrAt 2 cfg0.N i) (whole m c) (fun p q r k R C hR hC => by
    have hN : cfg0.N = 1 := N_0
    obtain ⟨t, ht⟩ : ∃ t : Fin cfg0.N, t.val = p := ⟨⟨p, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 256 + 1 * r.val = _; omega
    · show win0_2.index t (1 : Fin 2) * 1024 + 1 * k.val = _; omega
    rw [flushed2_A, point_value]
    exact Cert.Prod.rows_cols_at (φ₁ := .bf16) (φ₂ := .bf16) _ _ _ _ _ r k R C
      (fun j => ⟨_, rfl, by show win0_0.index t (0 : Fin 2) * 256 + 1 * r.val = _; omega, by show win0_0.index t (1 : Fin 2) * 2048 + 1 * j.val = _; omega⟩)
      (fun j => ⟨_, rfl, by show win0_1.index t (0 : Fin 2) * 2048 + 1 * j.val = _; omega, by show win0_1.index t (1 : Fin 2) * 1024 + 1 * k.val = _; omega⟩)) i

/-- The kernel and the reference give equal results. -/
theorem same_result : Cert.algebraic_Kernel16Ideal_Reference16Ideal := by
  intro m g m' g' _ hargs
  refine ⟨_, run_blocks m g, ?_⟩
  refine (θ_run Cert.Reference16Ideal.defs _ _).mono (fun r h c => ⟨(h c).1.trans ?_, (h c).2⟩) (Cert.Reference16Ideal.Value.run m' g')
  obtain ⟨e0, e1⟩ := hargs c
  rw [e0, e1]
  exact Cert.Prod.eq_of_places (fun R C => Cert.Prod.host_rows_cols (φ₁ := .f32) (φ₂ := .f32) _ _ _ R C) (kernel_value m c)

end Cert.Memory

end
-- ==== Proof.DMemory.lean ====
module

public import proofs.«01_k».proof.Defs
public import proofs.«01_k».proof.Proof.Gen.Kernel17Ideal.Value
public import proofs.«01_k».proof.Proof.Gen.Reference17Ideal.Run
public import proofs.«01_k».proof.Proof.Prod

/-!
The gradient of the memory that the cross-attention's keys and values are projected from.
-/

@[expose] public section

set_option maxRecDepth 16384

noncomputable section

namespace Cert.DMemory

open Cert.Kernel17Ideal Cert.Kernel17Ideal.Gen Cert.Kernel17Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S256x1024 .f32) (h3 : a3.IsWhole)
    (a4 : Memref sig .tc .vmem S1024x1024 .bf16) (h4 : a4.IsWhole)
    (a5 : Memref sig .tc .vmem S256x1024 .f32) (h5 : a5.IsWhole)
    (a6 : Memref sig .tc .vmem S256x1024 .f32) (h6 : a6.IsWhole)
    (hc0 : cond0_0 i) (hc1 : ¬cond0_1 i) (hc2 : cond0_2 i)
    (x0 : Vec F S256x1024 .f32) (x1 : Vec F S1024x1024 .bf16) :
    out0_A_2 c i a3 h3 a4 h4 a5 h5 a6 h6 hc0 hc1 hc2 x0 x1 = k0_pay1 x0 x1 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  simp only [View.readCov_unit_zero (S := S256x1024) _ Cert.Prod.origin]
  unfold k0_pay2
  simp only [View.readAt_eq_ld, h3.read_unread, h4.read_unread, View.ld_unit_zero (S := S256x1024) Cert.Prod.origin, View.ld_unit_zero (S := S1024x1024) Cert.Prod.origin, shapeCast_self]

/-- Where the blocks lie. -/
theorem places : ∀ t : Fin cfg0.N, (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = t.val) ∧ win0_2.flush t = true :=
  (by decide +kernel : ∀ t : Fin grid0.N, _)

variable (m : (ℓ : Loc nD τ sig) → Buf (Elt Ideal) ℓ)

/-- The result at a row and a column. -/
def whole (c : Dev nD) (R : Fin 256) (C : Fin 2048) : EReal :=
  Cert.Prod.byRows (M := 256) (K := 1024) (N := 2048) (m ((c : Thread nD τ).loc main_arg0)) (m ((c : Thread nD τ).loc main_arg1)) R C

/-- The kernel's result array. -/
theorem kernel_value (c : Dev nD) (i : S256x2048.Idx) : (dats m 0 c).arrAt 2 cfg0.N i = whole m c (i 0) (i 1) :=
  Cert.Prod.by_tiles (tm := 256) (tn := 1024) (by decide) (by decide) (fun i => (dats m 0 c).arrAt 2 cfg0.N i) (whole m c) (fun p q r k R C hR hC => by
    have hN : cfg0.N = 2 := N_0
    obtain ⟨t, ht⟩ : ∃ t : Fin cfg0.N, t.val = q := ⟨⟨q, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 256 + 1 * r.val = _; omega
    · show win0_2.index t (1 : Fin 2) * 1024 + 1 * k.val = _; omega
    rw [flushed2_A, point_value]
    exact Cert.Prod.rows_rows_at (φ₁ := .bf16) (φ₂ := .bf16) _ _ _ _ _ r k R C
      (fun j => ⟨_, rfl, by show win0_0.index t (0 : Fin 2) * 256 + 1 * r.val = _; omega, by show win0_0.index t (1 : Fin 2) * 1024 + 1 * j.val = _; omega⟩)
      (fun j => ⟨_, rfl, by show win0_1.index t (0 : Fin 2) * 1024 + 1 * k.val = _; omega, by show win0_1.index t (1 : Fin 2) * 1024 + 1 * j.val = _; omega⟩)) i

/-- The kernel and the reference give equal results. -/
theorem same_result : Cert.algebraic_Kernel17Ideal_Reference17Ideal := by
  intro m g m' g' _ hargs
  refine ⟨_, run_blocks m g, ?_⟩
  refine (θ_run Cert.Reference17Ideal.defs _ _).mono (fun r h c => ⟨(h c).1.trans ?_, (h c).2⟩) (Cert.Reference17Ideal.Value.run m' g')
  obtain ⟨e0, e1⟩ := hargs c
  rw [e0, e1]
  exact Cert.Prod.eq_of_places (fun R C => Cert.Prod.host_rows_rows (φ₁ := .f32) (φ₂ := .f32) _ _ _ R C) (kernel_value m c)

end Cert.DMemory

end
-- ==== Proof.DwMemory.lean ====
module

public import proofs.«01_k».proof.Defs
public import proofs.«01_k».proof.Proof.Gen.Kernel18Ideal.Value
public import proofs.«01_k».proof.Proof.Gen.Reference18Ideal.Run
public import proofs.«01_k».proof.Proof.Prod

/-!
The gradient of the weights by which the cross-attention's keys and values are projected from the memory.
-/

@[expose] public section

set_option maxRecDepth 16384

noncomputable section

namespace Cert.DwMemory

open Cert.Kernel18Ideal Cert.Kernel18Ideal.Gen Cert.Kernel18Ideal.Value
open Idealize.ShloMosaic Idealize.ShloMosaic.TcCoe Idealize.SL.Sem Idealize.ShloMosaic.ValueIdx

/-- What a point leaves. -/
theorem point_value {F : FTy → Type} [FloatOps F] (c : Dev nD) (i : grid0.Coords) (a3 : Memref sig .tc .vmem S256x1024 .bf16) (h3 : a3.IsWhole)
    (a4 : Memref sig .tc .vmem S256x1024 .f32) (h4 : a4.IsWhole)
    (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : cond0_2 i)
    (x0 : Vec F S256x1024 .bf16) (x1 : Vec F S256x1024 .f32) :
    out0_A_2 c i a3 h3 a4 h4 a5 h5 a6 h6 hc0 hc1 hc2 x0 x1 = truncf .bf16 (k0_pay1 x0 x1) bitsLt_bf16_f32 := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero Cert.Prod.origin]
  unfold k0_pay4
  simp only [View.readCov_unit_zero (S := S1024x1024) _ Cert.Prod.origin]
  unfold k0_pay2
  simp only [View.readAt_eq_ld, h3.read_unread, h4.read_unread, View.ld_unit_zero (S := S256x1024) Cert.Prod.origin, shapeCast_self]

/-- Where the blocks lie. -/
theorem places : ∀ t : Fin cfg0.N, (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

variable (m : (ℓ : Loc nD τ sig) → Buf (Elt Ideal) ℓ)

/-- The result at a row and a column. -/
def whole (c : Dev nD) (R : Fin 2048) (C : Fin 1024) : EReal :=
  Cert.Prod.ofCols (K := 256) (M := 2048) (N := 1024) (m ((c : Thread nD τ).loc main_arg0)) (m ((c : Thread nD τ).loc main_arg1)) R C

/-- The kernel's result array. -/
theorem kernel_value (c : Dev nD) (i : S2048x1024.Idx) : (dats m 0 c).arrAt 2 cfg0.N i = whole m c (i 0) (i 1) :=
  Cert.Prod.by_tiles (tm := 1024) (tn := 1024) (by decide) (by decide) (fun i => (dats m 0 c).arrAt 2 cfg0.N i) (whole m c) (fun p q r k R C hR hC => by
    have hN : cfg0.N = 2 := N_0
    obtain ⟨t, ht⟩ : ∃ t : Fin cfg0.N, t.val = p := ⟨⟨p, by omega⟩, rfl⟩
    obtain ⟨⟨p0, p1⟩, ⟨q0, q1⟩, ⟨o0, o1⟩, hf⟩ := places t
    refine Cert.Prod.at_place (e := ((cfg0.win 2).blk t).view.emb) (blocks2 m c t hf) (ix2 r k) (Cert.Prod.ix2_of_val _ _ _ ?_ ?_) ?_
    · show win0_2.index t (0 : Fin 2) * 1024 + 1 * r.val = _; omega
    · show win0_2.index t (1 : Fin 2) * 1024 + 1 * k.val = _; omega
    rw [flushed2_A, point_value]
    exact Cert.Prod.cols_cols_at (φ₁ := .bf16) (φ₂ := .bf16) _ _ _ _ _ r k R C
      (fun j => ⟨_, rfl, by show win0_0.index t (0 : Fin 2) * 256 + 1 * j.val = _; omega, by show win0_0.index t (1 : Fin 2) * 1024 + 1 * r.val = _; omega⟩)
      (fun j => ⟨_, rfl, by show win0_1.index t (0 : Fin 2) * 256 + 1 * j.val = _; omega, by show win0_1.index t (1 : Fin 2) * 1024 + 1 * k.val = _; omega⟩)) i

/-- The kernel and the reference give equal results. -/
theorem same_result : Cert.algebraic_Kernel18Ideal_Reference18Ideal := by
  intro m g m' g' _ hargs
  refine ⟨_, run_blocks m g, ?_⟩
  refine (θ_run Cert.Reference18Ideal.defs _ _).mono (fun r h c => ⟨(h c).1.trans ?_, (h c).2⟩) (Cert.Reference18Ideal.Value.run m' g')
  obtain ⟨e0, e1⟩ := hargs c
  rw [e0, e1]
  exact Cert.Prod.eq_of_places (fun R C => (transpose_ix2_apply (a := 1024) (b := 2048) _ _ R C).trans
    (Cert.Prod.host_cols_cols_swapped (φ₁ := .f32) (φ₂ := .f32) _ _ _ R C)) (kernel_value m c)

end Cert.DwMemory

end
-- ==== Proof.RowNorm.lean ====
module

public import Idealize.ShloMosaic.Lib.ValueIdx
public import Idealize.ShloMosaic.Lib.ValueLayout
public import Idealize.ShloMosaic.Lib.IdealHost
public import Idealize.ShloMosaic.Lib.KernelVsHost

/-!
The normalisation of rows by the root of their mean square: what a kernel's block and the host's array hold at a place.
The kernel and the host take the same sums, quotients and roots, so nothing here asks the entries to be finite.
-/

@[expose] public section

noncomputable section

namespace Cert.RowNorm

open Idealize.ShloMosaic Idealize.ShloMosaic.ValueIdx
open scoped BigOperators

variable {M D : ℕ}

/-- A row's factor, from the sum of its squares. -/
def scale (s : EReal) : EReal := Ideal.rsqrt (Ideal.div s (Ideal.ofBits .f32 0x45000000#32) + Ideal.ofBits .f32 0x358637BD#32)

/-- The factor of the row `r`. -/
def factor (X : (⟨2, ![M, D]⟩ : Shape).Idx → EReal) (r : Fin M) : EReal := scale (∑ k : Fin D, X (ix2 r k) * X (ix2 r k))

/-- Rows with the same entries have the same factor. -/
theorem factor_of {N : ℕ} (X : (⟨2, ![N, D]⟩ : Shape).Idx → EReal) (Y : (⟨2, ![M, D]⟩ : Shape).Idx → EReal) (r : Fin N) (R : Fin M)
    (h : ∀ k, X (ix2 r k) = Y (ix2 R k)) : factor X r = factor Y R :=
  congrArg scale (Finset.sum_congr rfl fun k _ => by rw [h])

/-- A kernel's sum of a row's squares. -/
theorem kernel_sum (X : FVec Ideal ⟨2, ![M, D]⟩ .f32) (w : Shape.Reduces ⟨2, ![M, D]⟩ [1] ⟨1, ![M]⟩) (hφ : FKind.Formats .f32)
    (hacc : 0x00000000#32 = FKind.add.neutral .f32 hφ) (j : (⟨1, ![M]⟩ : Shape).Idx) (r : Fin M) (hj : j = ix1 r) :
    multiReduction .add [1] ⟨1, ![M]⟩ (mulf X X) 0x00000000#32 w hφ hacc j = ∑ k : Fin D, X (ix2 r k) * X (ix2 r k) := by
  subst hj
  refine (Ideal.multiReduction_add_single (mulf X X) _ w hφ hacc _).trans ?_
  refine Finset.sum_congr rfl fun k _ => ?_
  have e : w.lift (ix1 r) k = ix2 r k := by
    funext a; apply Fin.ext
    match a with
    | ⟨0, _⟩ => rfl
    | ⟨1, _⟩ => rfl
  show X (w.lift (ix1 r) k) * X (w.lift (ix1 r) k) = _
  rw [e]
  rfl

/-- The host's factors. -/
theorem host_factor (X : FVec Ideal ⟨2, ![M, D]⟩ .f32) (w : Shape.Reduces ⟨2, ![M, D]⟩ [1] ⟨1, ![M]⟩)
    (w' : Shape.ReducesTo ⟨2, ![M, D]⟩ [1] ⟨1, ![M]⟩) (hu : 0 < (⟨0, ![]⟩ : Shape).numel)
    (b : (⟨1, ![M]⟩ : Shape).BroadcastsInDim ⟨2, ![M, 1]⟩ ![0]) (b' b'' : (⟨0, ![]⟩ : Shape).BroadcastsInDim ⟨2, ![M, 1]⟩ ![])
    (r : Fin M) (u : Fin 1) :
    Host.rsqrt (addf (Host.divf (broadcastInDim ⟨2, ![M, 1]⟩ ![0] b (Host.reduceAdd (mulf X X) (constant ⟨0, ![]⟩ .f32 0x00000000#32) w' hu))
      (broadcastInDim ⟨2, ![M, 1]⟩ ![] b' (constant ⟨0, ![]⟩ .f32 0x45000000#32)))
      (broadcastInDim ⟨2, ![M, 1]⟩ ![] b'' (constant ⟨0, ![]⟩ .f32 0x358637BD#32))) (ix2 r u) = factor X r := by
  have e : broadcastInDim ⟨2, ![M, 1]⟩ ![0] b (Host.reduceAdd (mulf X X) (constant ⟨0, ![]⟩ .f32 0x00000000#32) w' hu) (ix2 r u)
      = ∑ k : Fin D, X (ix2 r k) * X (ix2 r k) := by
    refine (broadcastInDim_apply ![0] b _ (ix2 r u) (ix1 r) fun a => ?_).trans ?_
    · match a with
      | ⟨0, _⟩ =>
        show r.val = if M = 1 then 0 else r.val
        split <;> omega
    rw [← multiReduction_add_eq_hostReduceAdd (mulf X X) 0x00000000#32 w (.inl rfl) rfl _ w' hu Ideal.ofBits_zero_f32]
    exact kernel_sum X w _ _ _ r rfl
  exact congrArg scale e

/-- The host's normalised rows. -/
theorem host_rows (X : FVec Ideal ⟨2, ![M, D]⟩ .f32) (Y : FVec Ideal ⟨2, ![M, 1]⟩ .f32) (g : FVec Ideal ⟨1, ![D]⟩ .f32)
    (b : (⟨2, ![M, 1]⟩ : Shape).BroadcastsInDim ⟨2, ![M, D]⟩ ![0, 1]) (b' : (⟨2, ![1, D]⟩ : Shape).BroadcastsInDim ⟨2, ![M, D]⟩ ![0, 1])
    (b'' : (⟨1, ![D]⟩ : Shape).BroadcastsInDim ⟨2, ![1, D]⟩ ![1]) (hlt : FTy.bits .bf16 < FTy.bits .f32) (r : Fin M) (k : Fin D) :
    truncf .bf16 (mulf (mulf X (broadcastInDim ⟨2, ![M, D]⟩ ![0, 1] b Y))
      (broadcastInDim ⟨2, ![M, D]⟩ ![0, 1] b' (broadcastInDim ⟨2, ![1, D]⟩ ![1] b'' g))) hlt (ix2 r k)
      = (X (ix2 r k) * Y (ix2 r 0) * g (ix1 k) : EReal) := by
  have e : broadcastInDim ⟨2, ![M, D]⟩ ![0, 1] b Y (ix2 r k) = Y (ix2 r 0) :=
    broadcastInDim_apply ![0, 1] b Y (ix2 r k) (ix2 r 0) fun a => by
      match a with
      | ⟨0, _⟩ =>
        show r.val = if M = 1 then 0 else r.val
        split <;> omega
      | ⟨1, _⟩ => rfl
  have e' : broadcastInDim ⟨2, ![M, D]⟩ ![0, 1] b' (broadcastInDim ⟨2, ![1, D]⟩ ![1] b'' g) (ix2 r k) = g (ix1 k) :=
    (broadcastInDim_oneRow_apply b' _ r k).trans (broadcastInDim_apply ![1] b'' g (ix2 0 k) (ix1 k) fun a => by
      match a with
      | ⟨0, _⟩ =>
        show k.val = if D = 1 then 0 else k.val
        split <;> omega)
  exact congrArg₂ (fun x y : EReal => x * y) (congrArg (fun x : EReal => (X (ix2 r k) : EReal) * x) e) e'

end Cert.RowNorm

end
-- ==== Proof.Norm.lean ====
module

public import proofs.«01_k».proof.Defs
public import proofs.«01_k».proof.Proof.Gen.Kernel19Ideal.Value
public import proofs.«01_k».proof.Proof.Gen.Reference19Ideal.Run
public import proofs.«01_k».proof.Proof.Prod
public import proofs.«01_k».proof.Proof.RowNorm

/-!
The norm before a layer's mixer: the normalised rows and their factors.
-/

@[expose] public section

set_option maxRecDepth 16384

noncomputable section

namespace Cert.Norm

open Cert.Kernel19Ideal Cert.Kernel19Ideal.Gen Cert.Kernel19Ideal.Value
open Idealize.ShloMosaic Idealize.ShloMosaic.TcCoe Idealize.SL.Sem Idealize.ShloMosaic.ValueIdx

/-- The factors that a point leaves. -/
theorem point_factor (x0 : Vec Ideal S256x2048 .f32) (x1 : Vec Ideal S1x2048 .f32) (r : Fin 256) (u : Fin 1) :
    out0_3 x0 x1 (ix2 r u) = Cert.RowNorm.factor (M := 256) (D := 2048) x0 r := by
  unfold out0_3
  rw [canon3_eq, View.ld_unit_zero (S := S256x2048) Cert.Prod.origin]
  exact congrArg Cert.RowNorm.scale (Cert.RowNorm.kernel_sum (M := 256) (D := 2048) x0 _ _ _ _ r (funext fun a => by match a with | ⟨0, _⟩ => rfl))

/-- The rows that a point leaves. -/
theorem point_rows (x0 : Vec Ideal S256x2048 .f32) (x1 : Vec Ideal S1x2048 .f32) (r : Fin 256) (k : Fin 2048) :
    out0_2 x0 x1 (ix2 r k) = (x0 (ix2 r k) * Cert.RowNorm.factor (M := 256) (D := 2048) x0 r * x1 (ix2 0 k) : EReal) := by
  unfold out0_2
  rw [canon2_eq, View.ld_unit_zero (S := S256x2048) Cert.Prod.origin, View.ld_unit_zero (S := S1x2048) Cert.Prod.origin]
  refine congrArg₂ (fun x y : EReal => x * y) (congrArg₂ (fun x y : EReal => x * y) (congrArg x0 (Cert.Prod.ix2_of_val _ _ _ rfl rfl)) ?_)
    (congrArg x1 (Cert.Prod.ix2_of_val _ _ _ rfl rfl))
  exact congrArg Cert.RowNorm.scale (Cert.RowNorm.kernel_sum (M := 256) (D := 2048) x0 _ _ _ _ r (funext fun a => by match a with | ⟨0, _⟩ => rfl))

/-- Where the blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) ∧ win0_2.flush t = true ∧ win0_3.flush t = true :=
  (by decide +kernel : ∀ t : Fin grid0.N, _)

variable (m : (ℓ : Loc nD τ sig) → Buf (Elt Ideal) ℓ)

/-- The gains as the launch finds them, a row. -/
theorem gains (c : Dev nD) (k : Fin 2048) : V m c main_v0 (ix2 0 k) = m ((c : Thread nD τ).loc main_arg1) (ix1 k) := by
  have e : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results
    rfl
  rw [e]
  exact shapeCast_a_1a_apply _ _ 0 k

theorem block0 (c : Dev nD) (t : Fin cfg0.N) (r : Fin 256) (k : Fin 2048) (R : Fin 4096) (hR : R.val = t.val * 256 + r.val) :
    iblk m c 0 t (ix2 r k) = m ((c : Thread nD τ).loc main_arg0) (ix2 R k) := by
  obtain ⟨⟨p0, p1⟩, -⟩ := places t
  unfold iblk
  rw [View.read_apply]
  exact (congrFun (V_main_arg0 m c) _).trans (congrArg (m ((c : Thread nD τ).loc main_arg0)) (Cert.Prod.ix2_of_val _ _ _
    (by show win0_0.index t (0 : Fin 2) * 256 + 1 * r.val = _; omega) (by show win0_0.index t (1 : Fin 2) * 2048 + 1 * k.val = _; omega)))

theorem block1 (c : Dev nD) (t : Fin cfg0.N) (k : Fin 2048) :
    iblk m c 1 t (ix2 0 k) = m ((c : Thread nD τ).loc main_arg1) (ix1 k) := by
  obtain ⟨-, ⟨q0, q1⟩, -⟩ := places t
  unfold iblk
  rw [View.read_apply]
  refine Eq.trans (congrArg (V m c main_v0) (Cert.Prod.ix2_of_val _ 0 k ?_ ?_)) (gains m c k)
  · show win0_1.index t (0 : Fin 2) * 1 + 1 * 0 = 0; omega
  · show win0_1.index t (1 : Fin 2) * 2048 + 1 * k.val = _; omega

/-- The factor of a row of the whole array. -/
def factors (c : Dev nD) (R : Fin 4096) (_ : Fin 1) : EReal :=
  Cert.RowNorm.factor (M := 4096) (D := 2048) (m ((c : Thread nD τ).loc main_arg0)) R

/-- The normalised array at a row and a column. -/
def rows (c : Dev nD) (R : Fin 4096) (C : Fin 2048) : EReal :=
  (fun x y z : EReal => x * y * z) (m ((c : Thread nD τ).loc main_arg0) (ix2 R C)) (factors m c R 0)
    (m ((c : Thread nD τ).loc main_arg1) (ix1 C))

/-- The kernel's array of factors. -/
theorem kernel_factors (c : Dev nD) (i : S4096x1.Idx) : (dats m 0 c).arrAt 3 cfg0.N i = factors m c (i 0) (i 1) :=
  Cert.Prod.by_tiles (tm := 256) (tn := 1) (by decide) (by decide) (fun i => (dats m 0 c).arrAt 3 cfg0.N i) (factors m c) (fun p q r k R C hR hC => by
    have hN : cfg0.N = 16 := N_0
    obtain ⟨t, ht⟩ : ∃ t : Fin cfg0.N, t.val = p := ⟨⟨p, by omega⟩, rfl⟩
    obtain ⟨-, -, -, ⟨o0, o1⟩, -, hf⟩ := places t
    refine Cert.Prod.at_place (e := ((cfg0.win 3).blk t).view.emb) (blocks3 m c t hf) (ix2 r k) (Cert.Prod.ix2_of_val _ _ _ ?_ ?_) ?_
    · show win0_3.index t (0 : Fin 2) * 256 + 1 * r.val = _; omega
    · show win0_3.index t (1 : Fin 2) * 1 + 1 * k.val = _; omega
    rw [flushed3]
    exact (point_factor _ _ r k).trans (Cert.RowNorm.factor_of _ _ r R fun j => block0 m c t r j R (by omega))) i

/-- The kernel's normalised array. -/
theorem kernel_rows (c : Dev nD) (i : S4096x2048.Idx) : (dats m 0 c).arrAt 2 cfg0.N i = rows m c (i 0) (i 1) :=
  Cert.Prod.by_tiles (tm := 256) (tn := 2048) (by decide) (by decide) (fun i => (dats m 0 c).arrAt 2 cfg0.N i) (rows m c) (fun p q r k R C hR hC => by
    have hN : cfg0.N = 16 := N_0
    obtain ⟨t, ht⟩ : ∃ t : Fin cfg0.N, t.val = p := ⟨⟨p, by omega⟩, rfl⟩
    obtain ⟨-, -, ⟨o0, o1⟩, -, hf, -⟩ := places t
    obtain rfl : C = k := Fin.ext (by omega)
    refine Cert.Prod.at_place (e := ((cfg0.win 2).blk t).view.emb) (blocks2 m c t hf) (ix2 r C) (Cert.Prod.ix2_of_val _ _ _ ?_ ?_) ?_
    · show win0_2.index t (0 : Fin 2) * 256 + 1 * r.val = _; omega
    · show win0_2.index t (1 : Fin 2) * 2048 + 1 * C.val = _; omega
    rw [flushed2]
    refine (point_rows _ _ r C).trans ?_
    exact congrArg₂ (fun x y : EReal => x * y) (congrArg₂ (fun x y : EReal => x * y) (block0 m c t r C R (by omega))
      (Cert.RowNorm.factor_of _ _ r R fun j => block0 m c t r j R (by omega))) (block1 m c t C)) i

/-- The kernel and the reference give equal results. -/
theorem same_result : Cert.algebraic_Kernel19Ideal_Reference19Ideal := by
  intro m g m' g' _ hargs
  refine ⟨_, _, run_blocks m g, ?_⟩
  refine (θ_run Cert.Reference19Ideal.defs _ _).mono (fun r h c => ⟨(h c).1.trans ?_, (h c).2.1.trans ?_, (h c).2.2⟩) (Cert.Reference19Ideal.Value.run m' g')
  all_goals
    obtain ⟨e0, e1⟩ := hargs c
    rw [e0]
  · rw [e1]
    exact Cert.Prod.eq_of_places (fun R C => (Cert.RowNorm.host_rows (M := 4096) (D := 2048) _ _ _ _ _ _ _ R C).trans
      (congrArg (fun x : EReal => _ * x * _) (Cert.RowNorm.host_factor (M := 4096) (D := 2048) _ (by decide) _ _ _ _ _ R 0))) (kernel_rows m c)
  · exact Cert.Prod.eq_of_places (fun R C => Cert.RowNorm.host_factor (M := 4096) (D := 2048) _ (by decide) _ _ _ _ _ R C) (kernel_factors m c)

end Cert.Norm

end
-- ==== Proof.MemNorm.lean ====
module

public import proofs.«01_k».proof.Defs
public import proofs.«01_k».proof.Proof.Gen.Kernel20Ideal.Value
public import proofs.«01_k».proof.Proof.Gen.Reference20Ideal.Run
public import proofs.«01_k».proof.Proof.Prod
public import proofs.«01_k».proof.Proof.Norm

/-!
The norm of the memory before a layer's cross-attention: one block, which is computed as a block of the mixer's norm is.
-/

@[expose] public section

set_option maxRecDepth 16384

noncomputable section

namespace Cert.MemNorm

open Cert.Kernel20Ideal Cert.Kernel20Ideal.Gen Cert.Kernel20Ideal.Value
open Idealize.ShloMosaic Idealize.ShloMosaic.TcCoe Idealize.SL.Sem Idealize.ShloMosaic.ValueIdx

/-- Where the blocks lie. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) ∧ win0_2.flush t = true ∧ win0_3.flush t = true :=
  (by decide +kernel : ∀ t : Fin grid0.N, _)

variable (m : (ℓ : Loc nD τ sig) → Buf (Elt Ideal) ℓ)

/-- The gains as the launch finds them, a row. -/
theorem gains (c : Dev nD) (k : Fin 2048) : V m c main_v0 (ix2 0 k) = m ((c : Thread nD τ).loc main_arg1) (ix1 k) := by
  have e : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results
    rfl
  rw [e]
  exact shapeCast_a_1a_apply _ _ 0 k

theorem block0 (c : Dev nD) (t : Fin cfg0.N) (r : Fin 256) (k : Fin 2048) (R : Fin 256) (hR : R.val = t.val * 256 + r.val) :
    iblk m c 0 t (ix2 r k) = m ((c : Thread nD τ).loc main_arg0) (ix2 R k) := by
  obtain ⟨⟨p0, p1⟩, -⟩ := places t
  unfold iblk
  rw [View.read_apply]
  exact (congrFun (V_main_arg0 m c) _).trans (congrArg (m ((c : Thread nD τ).loc main_arg0)) (Cert.Prod.ix2_of_val _ _ _
    (by show win0_0.index t (0 : Fin 2) * 256 + 1 * r.val = _; omega) (by show win0_0.index t (1 : Fin 2) * 2048 + 1 * k.val = _; omega)))

theorem block1 (c : Dev nD) (t : Fin cfg0.N) (k : Fin 2048) :
    iblk m c 1 t (ix2 0 k) = m ((c : Thread nD τ).loc main_arg1) (ix1 k) := by
  obtain ⟨-, ⟨q0, q1⟩, -⟩ := places t
  unfold iblk
  rw [View.read_apply]
  refine Eq.trans (congrArg (V m c main_v0) (Cert.Prod.ix2_of_val _ 0 k ?_ ?_)) (gains m c k)
  · show win0_1.index t (0 : Fin 2) * 1 + 1 * 0 = 0; omega
  · show win0_1.index t (1 : Fin 2) * 2048 + 1 * k.val = _; omega

/-- The factor of a row of the whole array. -/
def factors (c : Dev nD) (R : Fin 256) (_ : Fin 1) : EReal :=
  Cert.RowNorm.factor (M := 256) (D := 2048) (m ((c : Thread nD τ).loc main_arg0)) R

/-- The normalised array at a row and a column. -/
def rows (c : Dev nD) (R : Fin 256) (C : Fin 2048) : EReal :=
  (fun x y z : EReal => x * y * z) (m ((c : Thread nD τ).loc main_arg0) (ix2 R C)) (factors m c R 0)
    (m ((c : Thread nD τ).loc main_arg1) (ix1 C))

/-- The kernel's array of factors. -/
theorem kernel_factors (c : Dev nD) (i : S256x1.Idx) : (dats m 0 c).arrAt 3 cfg0.N i = factors m c (i 0) (i 1) :=
  Cert.Prod.by_tiles (tm := 256) (tn := 1) (by decide) (by decide) (fun i => (dats m 0 c).arrAt 3 cfg0.N i) (factors m c) (fun p q r k R C hR hC => by
    have hN : cfg0.N = 1 := N_0
    obtain ⟨t, ht⟩ : ∃ t : Fin cfg0.N, t.val = p := ⟨⟨p, by omega⟩, rfl⟩
    obtain ⟨-, -, -, ⟨o0, o1⟩, -, hf⟩ := places t
    refine Cert.Prod.at_place (e := ((cfg0.win 3).blk t).view.emb) (blocks3 m c t hf) (ix2 r k) (Cert.Prod.ix2_of_val _ _ _ ?_ ?_) ?_
    · show win0_3.index t (0 : Fin 2) * 256 + 1 * r.val = _; omega
    · show win0_3.index t (1 : Fin 2) * 1 + 1 * k.val = _; omega
    rw [flushed3]
    exact (Cert.Norm.point_factor _ (iblk m c 1 t) r k).trans (Cert.RowNorm.factor_of _ _ r R fun j => block0 m c t r j R (by omega))) i

/-- The kernel's normalised array. -/
theorem kernel_rows (c : Dev nD) (i : S256x2048.Idx) : (dats m 0 c).arrAt 2 cfg0.N i = rows m c (i 0) (i 1) :=
  Cert.Prod.by_tiles (tm := 256) (tn := 2048) (by decide) (by decide) (fun i => (dats m 0 c).arrAt 2 cfg0.N i) (rows m c) (fun p q r k R C hR hC => by
    have hN : cfg0.N = 1 := N_0
    obtain ⟨t, ht⟩ : ∃ t : Fin cfg0.N, t.val = p := ⟨⟨p, by omega⟩, rfl⟩
    obtain ⟨-, -, ⟨o0, o1⟩, -, hf, -⟩ := places t
    obtain rfl : C = k := Fin.ext (by omega)
    refine Cert.Prod.at_place (e := ((cfg0.win 2).blk t).view.emb) (blocks2 m c t hf) (ix2 r C) (Cert.Prod.ix2_of_val _ _ _ ?_ ?_) ?_
    · show win0_2.index t (0 : Fin 2) * 256 + 1 * r.val = _; omega
    · show win0_2.index t (1 : Fin 2) * 2048 + 1 * C.val = _; omega
    rw [flushed2]
    refine (Cert.Norm.point_rows _ _ r C).trans ?_
    exact congrArg₂ (fun x y : EReal => x * y) (congrArg₂ (fun x y : EReal => x * y) (block0 m c t r C R (by omega))
      (Cert.RowNorm.factor_of _ _ r R fun j => block0 m c t r j R (by omega))) (block1 m c t C)) i

/-- The kernel and the reference give equal results. -/
theorem same_result : Cert.algebraic_Kernel20Ideal_Reference20Ideal := by
  intro m g m' g' _ hargs
  refine ⟨_, _, run_blocks m g, ?_⟩
  refine (θ_run Cert.Reference20Ideal.defs _ _).mono (fun r h c => ⟨(h c).1.trans ?_, (h c).2.1.trans ?_, (h c).2.2⟩) (Cert.Reference20Ideal.Value.run m' g')
  all_goals
    obtain ⟨e0, e1⟩ := hargs c
    rw [e0]
  · rw [e1]
    exact Cert.Prod.eq_of_places (fun R C => (Cert.RowNorm.host_rows (M := 256) (D := 2048) _ _ _ _ _ _ _ R C).trans
      (congrArg (fun x : EReal => _ * x * _) (Cert.RowNorm.host_factor (M := 256) (D := 2048) _ (by decide) _ _ _ _ _ R 0))) (kernel_rows m c)
  · exact Cert.Prod.eq_of_places (fun R C => Cert.RowNorm.host_factor (M := 256) (D := 2048) _ (by decide) _ _ _ _ _ R C) (kernel_factors m c)

end Cert.MemNorm

end
-- ==== Proof.Adam.lean ====
module

public import proofs.«01_k».proof.Defs
public import proofs.«01_k».proof.Proof.Gen.Kernel21Ideal.Value
public import proofs.«01_k».proof.Proof.Gen.Reference21Ideal.Run
public import proofs.«01_k».proof.Proof.Prod

/-!
The optimiser's step for the small weights: the gradient, the change of the weights and the two moments, place by place.
-/

@[expose] public section

set_option maxRecDepth 16384

noncomputable section

namespace Cert.Adam

open Cert.Kernel21Ideal Cert.Kernel21Ideal.Gen Cert.Kernel21Ideal.Value
open Idealize.ShloMosaic Idealize.ShloMosaic.TcCoe Idealize.SL.Sem Idealize.ShloMosaic.ValueIdx

/-- The first moment. -/
def first (g m : EReal) : EReal := Ideal.ofBits .f32 0x3F666666#32 * m + Ideal.ofBits .f32 0x3DCCCCCD#32 * g

/-- The second moment. -/
def second (g v : EReal) : EReal := Ideal.ofBits .f32 0x3F7FBE77#32 * v + Ideal.ofBits .f32 0x3A83126F#32 * (g * g)

/-- The change of a weight. -/
def change (w m v g : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

section
variable (w m v g : Vec Ideal S512x128 .f32) (j : S512x128.Idx)

theorem point_grad : out0_4 w m v g j = g j := by
  unfold out0_4
  rw [View.canon_unit_zero Cert.Prod.origin, View.ld_unit_zero Cert.Prod.origin]

theorem point_change : out0_5 w m v g j = change (w j) (m j) (v j) (g j) := by
  unfold out0_5
  rw [View.canon_unit_zero Cert.Prod.origin]
  simp only [View.ld_unit_zero (S := S512x128) Cert.Prod.origin]
  rfl

theorem point_first : out0_6 w m v g j = first (g j) (m j) := by
  unfold out0_6
  rw [View.canon_unit_zero Cert.Prod.origin]
  simp only [View.ld_unit_zero (S := S512x128) Cert.Prod.origin]
  rfl

theorem point_second : out0_7 w m v g j = second (g j) (v j) := by
  unfold out0_7
  rw [View.canon_unit_zero Cert.Prod.origin]
  simp only [View.ld_unit_zero (S := S512x128) Cert.Prod.origin]
  rfl

end

/-- Where the blocks lie: the windows move together. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The place of a block's element, from the number of the block. -/
theorem place (e : S2560x128.Idx) {a b : ℕ} (t : Fin cfg0.N) (r : Fin 512) (k : Fin 128) (R : Fin 2560) (hR : R.val = t.val * 512 + r.val)
    (h : a = t.val ∧ b = 0) (h0 : (e 0).val = a * 512 + 1 * r.val) (h1 : (e 1).val = b * 128 + 1 * k.val) : e = ix2 R k :=
  Cert.Prod.ix2_of_val e R k (by rw [h0, h.1]; omega) (by rw [h1, h.2]; omega)

/-- An array whose blocks are known at each place is known. -/
theorem of_points (X : S2560x128.Idx → EReal) (Y : Fin cfg0.N → S512x128.Idx → EReal) (e : Fin cfg0.N → S512x128.Idx → S2560x128.Idx)
    (f : Fin 2560 → Fin 128 → EReal) (h : ∀ t, (fun j => X (e t j)) = Y t)
    (he : ∀ t r k (R : Fin 2560), R.val = t.val * 512 + r.val → e t (ix2 r k) = ix2 R k)
    (hY : ∀ t r k (R : Fin 2560), R.val = t.val * 512 + r.val → Y t (ix2 r k) = f R k) (i : S2560x128.Idx) : X i = f (i 0) (i 1) :=
  Cert.Prod.by_tiles (tm := 512) (tn := 128) (by decide) (by decide) X f (fun p q r k R C hR hC => by
    have hN : cfg0.N = 5 := N_0
    obtain ⟨t, ht⟩ : ∃ t : Fin cfg0.N, t.val = p := ⟨⟨p, by omega⟩, rfl⟩
    obtain rfl : C = k := Fin.ext (by omega)
    exact Cert.Prod.at_place (h t) (ix2 r C) (he t r C R (by omega)) (hY t r C R (by omega))) i

variable (m : (ℓ : Loc nD τ sig) → Buf (Elt Ideal) ℓ)

/-- The blocks that a point reads. -/
theorem block (c : Dev nD) (t : Fin cfg0.N) (r : Fin 512) (k : Fin 128) (R : Fin 2560) (hR : R.val = t.val * 512 + r.val) :
    iblk m c 0 t (ix2 r k) = m ((c : Thread nD τ).loc main_arg0) (ix2 R k) ∧ iblk m c 1 t (ix2 r k) = m ((c : Thread nD τ).loc main_arg1) (ix2 R k)
    ∧ iblk m c 2 t (ix2 r k) = m ((c : Thread nD τ).loc main_arg2) (ix2 R k) ∧ iblk m c 3 t (ix2 r k) = m ((c : Thread nD τ).loc main_arg3) (ix2 R k) := by
  obtain ⟨p0, p1, p2, p3, -⟩ := places t
  unfold iblk
  simp only [View.read_apply]
  exact ⟨(congrFun (V_main_arg0 m c) _).trans (congrArg (m ((c : Thread nD τ).loc main_arg0)) (place _ t r k R hR p0 rfl rfl)),
    (congrFun (V_main_arg1 m c) _).trans (congrArg (m ((c : Thread nD τ).loc main_arg1)) (place _ t r k R hR p1 rfl rfl)),
    (congrFun (V_main_arg2 m c) _).trans (congrArg (m ((c : Thread nD τ).loc main_arg2)) (place _ t r k R hR p2 rfl rfl)),
    (congrFun (V_main_arg3 m c) _).trans (congrArg (m ((c : Thread nD τ).loc main_arg3)) (place _ t r k R hR p3 rfl rfl))⟩

/-- The gradient, the change and the moments at a row and a column. -/
def gradAt (c : Dev nD) (R : Fin 2560) (C : Fin 128) : EReal := m ((c : Thread nD τ).loc main_arg3) (ix2 R C)

def changeAt (c : Dev nD) (R : Fin 2560) (C : Fin 128) : EReal :=
  change (m ((c : Thread nD τ).loc main_arg0) (ix2 R C)) (m ((c : Thread nD τ).loc main_arg1) (ix2 R C))
    (m ((c : Thread nD τ).loc main_arg2) (ix2 R C)) (m ((c : Thread nD τ).loc main_arg3) (ix2 R C))

def firstAt (c : Dev nD) (R : Fin 2560) (C : Fin 128) : EReal :=
  first (m ((c : Thread nD τ).loc main_arg3) (ix2 R C)) (m ((c : Thread nD τ).loc main_arg1) (ix2 R C))

def secondAt (c : Dev nD) (R : Fin 2560) (C : Fin 128) : EReal :=
  second (m ((c : Thread nD τ).loc main_arg3) (ix2 R C)) (m ((c : Thread nD τ).loc main_arg2) (ix2 R C))

theorem kernel_grad (c : Dev nD) (i : S2560x128.Idx) : (dats m 0 c).arrAt 4 cfg0.N i = gradAt m c (i 0) (i 1) :=
  of_points (fun i => (dats m 0 c).arrAt 4 cfg0.N i) (fun t => (dats m 0 c).flushed 4 t) (fun t => ((cfg0.win 4).blk t).view.emb) (gradAt m c)
    (fun t => blocks4 m c t (flush0_4 t))
    (fun t r k R hR => place _ t r k R hR (places t).2.2.2.2.1 rfl rfl)
    (fun t r k R hR => by
      rw [flushed4]
      exact (point_grad _ _ _ _ (ix2 r k)).trans (block m c t r k R hR).2.2.2) i

theorem kernel_change (c : Dev nD) (i : S2560x128.Idx) : (dats m 0 c).arrAt 5 cfg0.N i = changeAt m c (i 0) (i 1) :=
  of_points (fun i => (dats m 0 c).arrAt 5 cfg0.N i) (fun t => (dats m 0 c).flushed 5 t) (fun t => ((cfg0.win 5).blk t).view.emb) (changeAt m c)
    (fun t => blocks5 m c t (flush0_5 t))
    (fun t r k R hR => place _ t r k R hR (places t).2.2.2.2.2.1 rfl rfl)
    (fun t r k R hR => by
      rw [flushed5]
      obtain ⟨e0, e1, e2, e3⟩ := block m c t r k R hR
      refine (point_change _ _ _ _ (ix2 r k)).trans ?_
      rw [e0, e1, e2, e3]
      rfl) i

theorem kernel_first (c : Dev nD) (i : S2560x128.Idx) : (dats m 0 c).arrAt 6 cfg0.N i = firstAt m c (i 0) (i 1) :=
  of_points (fun i => (dats m 0 c).arrAt 6 cfg0.N i) (fun t => (dats m 0 c).flushed 6 t) (fun t => ((cfg0.win 6).blk t).view.emb) (firstAt m c)
    (fun t => blocks6 m c t (flush0_6 t))
    (fun t r k R hR => place _ t r k R hR (places t).2.2.2.2.2.2.1 rfl rfl)
    (fun t r k R hR => by
      rw [flushed6]
      obtain ⟨-, e1, -, e3⟩ := block m c t r k R hR
      refine (point_first _ _ _ _ (ix2 r k)).trans ?_
      rw [e1, e3]
      rfl) i

theorem kernel_second (c : Dev nD) (i : S2560x128.Idx) : (dats m 0 c).arrAt 7 cfg0.N i = secondAt m c (i 0) (i 1) :=
  of_points (fun i => (dats m 0 c).arrAt 7 cfg0.N i) (fun t => (dats m 0 c).flushed 7 t) (fun t => ((cfg0.win 7).blk t).view.emb) (secondAt m c)
    (fun t => blocks7 m c t (flush0_7 t))
    (fun t r k R hR => place _ t r k R hR (places t).2.2.2.2.2.2.2 rfl rfl)
    (fun t r k R hR => by
      rw [flushed7]
      obtain ⟨-, -, e2, e3⟩ := block m c t r k R hR
      refine (point_second _ _ _ _ (ix2 r k)).trans ?_
      rw [e2, e3]
      rfl) i

/-- The kernel and the reference give equal results. -/
theorem same_result : Cert.algebraic_Kernel21Ideal_Reference21Ideal := by
  intro m g m' g' _ hargs
  refine ⟨_, _, _, _, run_blocks m g, ?_⟩
  refine (θ_run Cert.Reference21Ideal.defs _ _).mono (fun r h c => ⟨(h c).1.trans ?_, (h c).2.1.trans ?_, (h c).2.2.1.trans ?_, (h c).2.2.2.1.trans ?_,
    (h c).2.2.2.2⟩) (Cert.Reference21Ideal.Value.run m' g')
  all_goals obtain ⟨e0, e1, e2, e3⟩ := hargs c
  · rw [e3]
    exact Cert.Prod.eq_of_places (fun R C => rfl) (kernel_grad m c)
  · rw [e0, e1, e2, e3]
    exact Cert.Prod.eq_of_places (fun R C => rfl) (kernel_change m c)
  · rw [e1, e3]
    exact Cert.Prod.eq_of_places (fun R C => rfl) (kernel_first m c)
  · rw [e2, e3]
    exact Cert.Prod.eq_of_places (fun R C => rfl) (kernel_second m c)

end Cert.Adam

end
-- ==== Proof.AdamLayers.lean ====
module

public import proofs.«01_k».proof.Defs
public import proofs.«01_k».proof.Proof.Gen.Kernel22Ideal.Value
public import proofs.«01_k».proof.Proof.Gen.Reference22Ideal.Run
public import proofs.«01_k».proof.Proof.Adam

/-!
The optimiser's step for a large weight of both layers: a grid point takes one layer, and of the layers' gradients its own.
-/

@[expose] public section

set_option maxRecDepth 16384

noncomputable section

namespace Cert.AdamLayers

open Cert.Kernel22Ideal Cert.Kernel22Ideal.Gen Cert.Kernel22Ideal.Value
open Idealize.ShloMosaic Idealize.ShloMosaic.TcCoe Idealize.SL.Sem Idealize.ShloMosaic.ValueIdx

theorem origin3 : (![0, 0, 0] : Fin 3 → Nat) = fun _ => 0 := funext fun a => by fin_cases a <;> rfl

/-- A place is known by its three numbers. -/
theorem ix3_of_val {L M N : ℕ} (i : (⟨3, ![L, M, N]⟩ : Shape).Idx) (l : Fin L) (r : Fin M) (k : Fin N) (h0 : (i 0).val = l.val)
    (h1 : (i 1).val = r.val) (h2 : (i 2).val = k.val) : i = ix3 l r k := by
  funext a
  apply Fin.ext
  match a with
  | ⟨0, _⟩ => exact h0
  | ⟨1, _⟩ => exact h1
  | ⟨2, _⟩ => exact h2

/-- A layer's gradient, from the parts of both. -/
def picked (l : ℕ) (a b d e : EReal) : EReal := if l = 0 then a + b else d + e

section
variable (i : grid0.Coords) (w m v : Vec Ideal S1x512x512 .f32) (a b d e : Vec Ideal S512x512 .bf16) (u : Fin 1) (r k : Fin 512)

theorem point_sum : k0_pay5 i a b d e (ix2 r k) = picked (i 0).val (a (ix2 r k)) (b (ix2 r k)) (d (ix2 r k)) (e (ix2 r k)) := by
  have h : (i 0).val < 2 := (i 0).isLt
  obtain h0 | h1 : (i 0).val = 0 ∨ (i 0).val = 1 := by omega
  · unfold k0_pay5
    rw [h0]
    rfl
  · unfold k0_pay5
    rw [h1]
    rfl

theorem point_grad : out0_7 i w m v a b d e (ix3 u r k) = k0_pay5 i a b d e (ix2 r k) := by
  unfold out0_7
  rw [View.canon_unit_zero origin3]
  simp only [View.ld_unit_zero (S := S512x512) Cert.Prod.origin]
  exact shapeCast_ab_1ab_apply _ _ u r k

theorem point_change : out0_8 i w m v a b d e (ix3 u r k)
    = Cert.Adam.change (w (ix3 0 r k)) (m (ix3 0 r k)) (v (ix3 0 r k)) (k0_pay5 i a b d e (ix2 r k)) := by
  unfold out0_8
  rw [View.canon_unit_zero origin3]
  simp only [View.ld_unit_zero (S := S512x512) Cert.Prod.origin, View.ld_unit_zero (S := S1x512x512) origin3]
  rw [← shapeCast_1ab_ab_apply w shapeCasts_S1x512x512_S512x512 r k, ← shapeCast_1ab_ab_apply m shapeCasts_S1x512x512_S512x512 r k,
    ← shapeCast_1ab_ab_apply v shapeCasts_S1x512x512_S512x512 r k]
  unfold k0_pay2
  refine (shapeCast_ab_1ab_apply (a := 512) (b := 512) _ shapeCasts_S512x512_S1x512x512 u r k).trans ?_
  rfl

theorem point_first : out0_9 i w m v a b d e (ix3 u r k) = Cert.Adam.first (k0_pay5 i a b d e (ix2 r k)) (m (ix3 0 r k)) := by
  unfold out0_9
  rw [View.canon_unit_zero origin3]
  simp only [View.ld_unit_zero (S := S512x512) Cert.Prod.origin, View.ld_unit_zero (S := S1x512x512) origin3]
  rw [← shapeCast_1ab_ab_apply m shapeCasts_S1x512x512_S512x512 r k]
  unfold k0_pay3
  refine (shapeCast_ab_1ab_apply (a := 512) (b := 512) _ shapeCasts_S512x512_S1x512x512 u r k).trans ?_
  rfl

theorem point_second : out0_10 i w m v a b d e (ix3 u r k) = Cert.Adam.second (k0_pay5 i a b d e (ix2 r k)) (v (ix3 0 r k)) := by
  unfold out0_10
  rw [View.canon_unit_zero origin3]
  simp only [View.ld_unit_zero (S := S512x512) Cert.Prod.origin, View.ld_unit_zero (S := S1x512x512) origin3]
  rw [← shapeCast_1ab_ab_apply v shapeCasts_S1x512x512_S512x512 r k]
  unfold k0_pay4
  refine (shapeCast_ab_1ab_apply (a := 512) (b := 512) _ shapeCasts_S512x512_S1x512x512 u r k).trans ?_
  rfl

end

/-- Where the blocks lie: a layer's blocks, and the whole of a part. -/
theorem places : ∀ t : Fin cfg0.N, (grid0.coords t 0).val = t.val
    ∧ (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem places_out : ∀ t : Fin cfg0.N, (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- The place of an element of a layer's block. -/
theorem place (e : S2x512x512.Idx) {x y z : ℕ} (t : Fin cfg0.N) (r k : Fin 512) (l : Fin 2) (hl : t.val = l.val)
    (h : x = t.val ∧ y = 0 ∧ z = 0) (h0 : (e 0).val = x * 1 + 1 * 0) (h1 : (e 1).val = y * 512 + 1 * r.val)
    (h2 : (e 2).val = z * 512 + 1 * k.val) : e = ix3 l r k :=
  ix3_of_val e l r k (by omega) (by omega) (by omega)

/-- The place of an element of a part. -/
theorem place2 (e : S512x512.Idx) {x y : ℕ} (r k : Fin 512) (h : x = 0 ∧ y = 0) (h0 : (e 0).val = x * 512 + 1 * r.val)
    (h1 : (e 1).val = y * 512 + 1 * k.val) : e = ix2 r k :=
  Cert.Prod.ix2_of_val e r k (by omega) (by omega)

variable (m : (ℓ : Loc nD τ sig) → Buf (Elt Ideal) ℓ)

/-- The layers' blocks that a point reads. -/
theorem block (c : Dev nD) (t : Fin cfg0.N) (r k : Fin 512) (l : Fin 2) (hl : t.val = l.val) :
    iblk m c 0 t (ix3 0 r k) = m ((c : Thread nD τ).loc main_arg0) (ix3 l r k) ∧ iblk m c 1 t (ix3 0 r k) = m ((c : Thread nD τ).loc main_arg1) (ix3 l r k)
    ∧ iblk m c 2 t (ix3 0 r k) = m ((c : Thread nD τ).loc main_arg2) (ix3 l r k) := by
  obtain ⟨-, p0, p1, p2, -⟩ := places t
  unfold iblk
  simp only [View.read_apply]
  exact ⟨(congrFun (V_main_arg0 m c) _).trans (congrArg (m ((c : Thread nD τ).loc main_arg0)) (place _ t r k l hl p0 rfl rfl rfl)),
    (congrFun (V_main_arg1 m c) _).trans (congrArg (m ((c : Thread nD τ).loc main_arg1)) (place _ t r k l hl p1 rfl rfl rfl)),
    (congrFun (V_main_arg2 m c) _).trans (congrArg (m ((c : Thread nD τ).loc main_arg2)) (place _ t r k l hl p2 rfl rfl rfl))⟩

/-- The gradient at a layer, a row and a column. -/
def gradAt (c : Dev nD) (l : Fin 2) (r k : Fin 512) : EReal :=
  picked l.val (m ((c : Thread nD τ).loc main_arg3) (ix2 r k)) (m ((c : Thread nD τ).loc main_arg4) (ix2 r k))
    (m ((c : Thread nD τ).loc main_arg5) (ix2 r k)) (m ((c : Thread nD τ).loc main_arg6) (ix2 r k))

/-- The gradient that a point takes. -/
theorem block_grad (c : Dev nD) (t : Fin cfg0.N) (r k : Fin 512) (l : Fin 2) (hl : t.val = l.val) :
    k0_pay5 (grid0.coords t) (iblk m c 3 t) (iblk m c 4 t) (iblk m c 5 t) (iblk m c 6 t) (ix2 r k) = gradAt m c l r k := by
  obtain ⟨hc, -, -, -, p3, p4, p5, p6⟩ := places t
  rw [point_sum, hc, hl]
  unfold iblk gradAt
  simp only [View.read_apply]
  have e3 := (congrFun (V_main_arg3 m c) _).trans (congrArg (m ((c : Thread nD τ).loc main_arg3)) (place2 (((cfg0.win 3).blk t).view.emb (ix2 r k)) r k p3 rfl rfl))
  have e4 := (congrFun (V_main_arg4 m c) _).trans (congrArg (m ((c : Thread nD τ).loc main_arg4)) (place2 (((cfg0.win 4).blk t).view.emb (ix2 r k)) r k p4 rfl rfl))
  have e5 := (congrFun (V_main_arg5 m c) _).trans (congrArg (m ((c : Thread nD τ).loc main_arg5)) (place2 (((cfg0.win 5).blk t).view.emb (ix2 r k)) r k p5 rfl rfl))
  have e6 := (congrFun (V_main_arg6 m c) _).trans (congrArg (m ((c : Thread nD τ).loc main_arg6)) (place2 (((cfg0.win 6).blk t).view.emb (ix2 r k)) r k p6 rfl rfl))
  rw [← e3, ← e4, ← e5, ← e6]
  rfl

def changeAt (c : Dev nD) (l : Fin 2) (r k : Fin 512) : EReal :=
  Cert.Adam.change (m ((c : Thread nD τ).loc main_arg0) (ix3 l r k)) (m ((c : Thread nD τ).loc main_arg1) (ix3 l r k))
    (m ((c : Thread nD τ).loc main_arg2) (ix3 l r k)) (gradAt m c l r k)

def firstAt (c : Dev nD) (l : Fin 2) (r k : Fin 512) : EReal :=
  Cert.Adam.first (gradAt m c l r k) (m ((c : Thread nD τ).loc main_arg1) (ix3 l r k))

def secondAt (c : Dev nD) (l : Fin 2) (r k : Fin 512) : EReal :=
  Cert.Adam.second (gradAt m c l r k) (m ((c : Thread nD τ).loc main_arg2) (ix3 l r k))

/-- The point of a layer. -/
theorem point_of (l : Fin 2) : ∃ t : Fin cfg0.N, t.val = l.val := by
  have hN : cfg0.N = 2 := N_0
  exact ⟨⟨l.val, by omega⟩, rfl⟩

theorem kernel_grad (c : Dev nD) (l : Fin 2) (r k : Fin 512) : (dats m 0 c).arrAt 7 cfg0.N (ix3 l r k) = gradAt m c l r k := by
  obtain ⟨t, hl⟩ := point_of l
  refine Cert.Prod.at_place (e := ((cfg0.win 7).blk t).view.emb) (blocks7 m c t (flush0_7 t)) (ix3 0 r k)
    (place _ t r k l hl (places_out t).1 rfl rfl rfl) ?_
  rw [flushed7]
  exact (point_grad _ _ _ _ _ _ _ _ 0 r k).trans (block_grad m c t r k l hl)

theorem kernel_change (c : Dev nD) (l : Fin 2) (r k : Fin 512) : (dats m 0 c).arrAt 8 cfg0.N (ix3 l r k) = changeAt m c l r k := by
  obtain ⟨t, hl⟩ := point_of l
  refine Cert.Prod.at_place (e := ((cfg0.win 8).blk t).view.emb) (blocks8 m c t (flush0_8 t)) (ix3 0 r k)
    (place _ t r k l hl (places_out t).2.1 rfl rfl rfl) ?_
  rw [flushed8]
  obtain ⟨e0, e1, e2⟩ := block m c t r k l hl
  refine (point_change _ _ _ _ _ _ _ _ 0 r k).trans ?_
  rw [e0, e1, e2, block_grad m c t r k l hl]
  rfl

theorem kernel_first (c : Dev nD) (l : Fin 2) (r k : Fin 512) : (dats m 0 c).arrAt 9 cfg0.N (ix3 l r k) = firstAt m c l r k := by
  obtain ⟨t, hl⟩ := point_of l
  refine Cert.Prod.at_place (e := ((cfg0.win 9).blk t).view.emb) (blocks9 m c t (flush0_9 t)) (ix3 0 r k)
    (place _ t r k l hl (places_out t).2.2.1 rfl rfl rfl) ?_
  rw [flushed9]
  obtain ⟨-, e1, -⟩ := block m c t r k l hl
  refine (point_first _ _ _ _ _ _ _ _ 0 r k).trans ?_
  rw [e1, block_grad m c t r k l hl]
  rfl

theorem kernel_second (c : Dev nD) (l : Fin 2) (r k : Fin 512) : (dats m 0 c).arrAt 10 cfg0.N (ix3 l r k) = secondAt m c l r k := by
  obtain ⟨t, hl⟩ := point_of l
  refine Cert.Prod.at_place (e := ((cfg0.win 10).blk t).view.emb) (blocks10 m c t (flush0_10 t)) (ix3 0 r k)
    (place _ t r k l hl (places_out t).2.2.2 rfl rfl rfl) ?_
  rw [flushed10]
  obtain ⟨-, -, e2⟩ := block m c t r k l hl
  refine (point_second _ _ _ _ _ _ _ _ 0 r k).trans ?_
  rw [e2, block_grad m c t r k l hl]
  rfl

/-- The host's gradients of both layers. -/
theorem host_grad (a b d e : FVec Ideal S512x512 .f32) (h : S512x512.BroadcastsInDim S1x512x512 ![1, 2])
    (hc : Shape.Concatenates [S1x512x512, S1x512x512] S2x512x512 0) (l : Fin 2) (r k : Fin 512) :
    concatenate S2x512x512 0 [⟨S1x512x512, broadcastInDim S1x512x512 ![1, 2] h (addf a b)⟩, ⟨S1x512x512, broadcastInDim S1x512x512 ![1, 2] h (addf d e)⟩] hc
      (ix3 l r k) = picked l.val (a (ix2 r k)) (b (ix2 r k)) (d (ix2 r k)) (e (ix2 r k)) := by
  have hb (x : FVec Ideal S512x512 .f32) : broadcastInDim S1x512x512 ![1, 2] h x (ix3 0 r k) = x (ix2 r k) :=
    broadcastInDim_apply ![1, 2] h x (ix3 0 r k) (ix2 r k) fun b => by
      match b with
      | ⟨0, _⟩ => rfl
      | ⟨1, _⟩ => rfl
  match l with
  | ⟨0, _⟩ =>
    refine (concatenate_pair_apply_left 0 _ _ hc _ rfl (ix3 (0 : Fin 1) r k) fun b => ?_).trans (hb _)
    match b with
    | ⟨0, _⟩ => rfl
    | ⟨1, _⟩ => rfl
    | ⟨2, _⟩ => rfl
  | ⟨1, _⟩ =>
    refine (concatenate_pair_apply_right 0 _ _ hc _ rfl rfl (ix3 (0 : Fin 1) r k) (fun b hne => ?_) rfl).trans (hb _)
    match b with
    | ⟨0, _⟩ => exact absurd rfl hne
    | ⟨1, _⟩ => rfl
    | ⟨2, _⟩ => rfl

/-- Two arrays with the same value at each place are equal. -/
theorem eq_of_places {X Y : S2x512x512.Idx → EReal} {f : Fin 2 → Fin 512 → Fin 512 → EReal} (hX : ∀ l r k, X (ix3 l r k) = f l r k)
    (hY : ∀ l r k, Y (ix3 l r k) = f l r k) : X = Y := by
  funext i
  obtain ⟨l, r, k, rfl⟩ : ∃ l r k, i = ix3 l r k := ⟨i 0, i 1, i 2, ix3_of_val i _ _ _ rfl rfl rfl⟩
  exact (hX _ _ _).trans (hY _ _ _).symm

/-- The kernel and the reference give equal results. -/
theorem same_result : Cert.algebraic_Kernel22Ideal_Reference22Ideal := by
  intro m g m' g' _ hargs
  refine ⟨_, _, _, _, run_blocks m g, ?_⟩
  refine (θ_run Cert.Reference22Ideal.defs _ _).mono (fun r h c => ⟨(h c).1.trans ?_, (h c).2.1.trans ?_, (h c).2.2.1.trans ?_, (h c).2.2.2.1.trans ?_,
    (h c).2.2.2.2⟩) (Cert.Reference22Ideal.Value.run m' g')
  all_goals
    obtain ⟨e0, e1, e2, e3, e4, e5, e6⟩ := hargs c
    rw [e3, e4, e5, e6]
  · exact eq_of_places (fun l r k => host_grad _ _ _ _ _ _ l r k) (kernel_grad m c)
  · rw [e0, e1, e2]
    exact eq_of_places (fun l r k => congrArg (Cert.Adam.change _ _ _) (host_grad _ _ _ _ _ _ l r k)) (kernel_change m c)
  · rw [e1]
    exact eq_of_places (fun l r k => congrArg (fun x => Cert.Adam.first x _) (host_grad _ _ _ _ _ _ l r k)) (kernel_first m c)
  · rw [e2]
    exact eq_of_places (fun l r k => congrArg (fun x => Cert.Adam.second x _) (host_grad _ _ _ _ _ _ l r k)) (kernel_second m c)

end Cert.AdamLayers

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Kernel15Ideal.Value
public import proofs.«01_k».proof.Proof.Gen.Kernel15.Frame
public import proofs.«01_k».proof.Proof.Gen.Reference15Ideal.Run
public import proofs.«01_k».proof.Proof.Gen.Kernel16Ideal.Value
public import proofs.«01_k».proof.Proof.Gen.Kernel16.Frame
public import proofs.«01_k».proof.Proof.Gen.Reference16Ideal.Run
public import proofs.«01_k».proof.Proof.Gen.Kernel17Ideal.Value
public import proofs.«01_k».proof.Proof.Gen.Kernel17.Frame
public import proofs.«01_k».proof.Proof.Gen.Reference17Ideal.Run
public import proofs.«01_k».proof.Proof.Gen.Kernel18Ideal.Value
public import proofs.«01_k».proof.Proof.Gen.Kernel18.Frame
public import proofs.«01_k».proof.Proof.Gen.Reference18Ideal.Run
public import proofs.«01_k».proof.Proof.Gen.Kernel19Ideal.Value
public import proofs.«01_k».proof.Proof.Gen.Kernel19.Frame
public import proofs.«01_k».proof.Proof.Gen.Reference19Ideal.Run
public import proofs.«01_k».proof.Proof.Gen.Kernel20Ideal.Value
public import proofs.«01_k».proof.Proof.Gen.Kernel20.Frame
public import proofs.«01_k».proof.Proof.Gen.Reference20Ideal.Run
public import proofs.«01_k».proof.Proof.Gen.Kernel21Ideal.Value
public import proofs.«01_k».proof.Proof.Gen.Kernel21.Frame
public import proofs.«01_k».proof.Proof.Gen.Reference21Ideal.Run
public import proofs.«01_k».proof.Proof.Gen.Kernel22Ideal.Value
public import proofs.«01_k».proof.Proof.Gen.Kernel22.Frame
public import proofs.«01_k».proof.Proof.Gen.Reference22Ideal.Run
public import proofs.«01_k».proof.Proof.DwIn
public import proofs.«01_k».proof.Proof.DIn
public import proofs.«01_k».proof.Proof.DwOut
public import proofs.«01_k».proof.Proof.DOut
public import proofs.«01_k».proof.Proof.InConv
public import proofs.«01_k».proof.Proof.InQkv
public import proofs.«01_k».proof.Proof.InGates
public import proofs.«01_k».proof.Proof.OutProj
public import proofs.«01_k».proof.Proof.DCross
public import proofs.«01_k».proof.Proof.DwCross
public import proofs.«01_k».proof.Proof.DwQuery
public import proofs.«01_k».proof.Proof.DQuery
public import proofs.«01_k».proof.Proof.Query
public import proofs.«01_k».proof.Proof.Cross
public import proofs.«01_k».proof.Proof.Run
public import proofs.«01_k».proof.Proof.Same
public import proofs.«01_k».proof.Proof.Meet
public import proofs.«01_k».proof.Proof.Memory
public import proofs.«01_k».proof.Proof.DMemory
public import proofs.«01_k».proof.Proof.DwMemory
public import proofs.«01_k».proof.Proof.Norm
public import proofs.«01_k».proof.Proof.MemNorm
public import proofs.«01_k».proof.Proof.Adam
public import proofs.«01_k».proof.Proof.AdamLayers

/-!
The claims: one run of the kernel's program, over any float instance, serves both frames and, over the reals, the
equality with the reference.
-/

@[expose] public section

set_option maxRecDepth 16384

noncomputable section

namespace Cert.Proof

open Cert.KernelIdeal.Sb
open Idealize.ShloMosaic Idealize.ShloMosaic.StableHlo Idealize.SL.Sem

theorem frame_kernel : Cert.quiescent_Kernel := fun m ρ _ => by
  rw [edefs, emain]
  exact Cert.KernelIdeal.Sb.run_frame (F := Bits) m ρ

theorem frame_ideal : Cert.quiescent_KernelIdeal := fun m ρ _ => Cert.KernelIdeal.Sb.run_frame (F := Ideal) m ρ

/-- The reference is host operations alone and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- From real inputs the kernel ends with the reference's array: both hold the sums that define the gradients. -/
theorem same_result : Cert.algebraic_KernelIdeal_ReferenceIdeal := fun m ρ m' ρ' hpre hm => by
  refine ⟨_, ?_, Cert.ReferenceIdeal.Value.run (F := Ideal) m' ρ'⟩
  refine (θ_run Cert.KernelIdeal.defs _ _).mono (fun r h c => ?_) (Cert.KernelIdeal.Sb.run_values (F := Ideal) m ρ)
  obtain ⟨⟨W, hW, hr⟩, hargs⟩ := h.1 c
  have h0 := real2_holds (m := 4096) (n := 3072) _ (Cert.Meet.pre_fst _ _ _ (hpre c))
  have h1 := real2_holds (m := 4096) (n := 1024) _ (Cert.Meet.pre_snd _ _ _ (hpre c))
  have e0 : launchContents m' c (Proc.devRef .tc Cert.ReferenceIdeal.main_arg0) = m ((c.tc : Thread Cert.KernelIdeal.nD Cert.KernelIdeal.τ).loc Cert.KernelIdeal.main_arg0) := (hm c).1
  have e1 : launchContents m' c (Proc.devRef .tc Cert.ReferenceIdeal.main_arg1) = m ((c.tc : Thread Cert.KernelIdeal.nD Cert.KernelIdeal.τ).loc Cert.KernelIdeal.main_arg1) := (hm c).2.1
  have e2 : launchContents m' c (Proc.devRef .tc Cert.ReferenceIdeal.main_arg2) = m ((c.tc : Thread Cert.KernelIdeal.nD Cert.KernelIdeal.τ).loc Cert.KernelIdeal.main_arg2) := (hm c).2.2
  refine ⟨?_, hargs⟩
  rw [e2]
  exact hr.trans (Cert.Meet.kernel_out m c h0 h1 hW _ _ _ (Cert.RefVal.ref_dq _ (e0.symm ▸ h0) (e1.symm ▸ h1)) (Cert.RefVal.ref_dk _ (e0.symm ▸ h0) (e1.symm ▸ h1))
    (Cert.RefVal.ref_dv _ (e0.symm ▸ h0) (e1.symm ▸ h1)))

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_reference19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem frame_reference20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

theorem frame_reference21 : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem frame_reference22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts, Cert.Meet.pre_facts,
  frame_kernel, frame_ideal, frame_reference, frame_reference_finite,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  trivial, same_result, trivial, Cert.DwIn.same_result, trivial, Cert.DIn.same_result,
  trivial, Cert.DwOut.same_result, trivial, Cert.DOut.same_result, trivial, Cert.InConv.same_result, trivial, Cert.InQkv.same_result,
  trivial, Cert.InGates.same_result, trivial, Cert.OutProj.same_result, trivial, Cert.DCross.same_result, trivial, Cert.DwCross.same_result,
  trivial, Cert.DwQuery.same_result, trivial, Cert.DQuery.same_result, trivial, Cert.Query.same_result, trivial, Cert.Cross.same_result,
  trivial, Cert.Memory.same_result, trivial, Cert.DMemory.same_result, trivial, Cert.DwMemory.same_result, trivial, Cert.Norm.same_result,
  trivial, Cert.MemNorm.same_result, trivial, Cert.Adam.same_result, trivial, Cert.AdamLayers.same_result⟩

end Cert.Proof

end
